-- ==== Defs.lean ====
def Pre_InKernel (m : (ℓ : Loc Cert.InKernel.nD Cert.InKernel.τ Cert.InKernel.sig) → Buf (Elt Bits) ℓ) : Prop :=
  True

def Pre_InKernelIdeal (m : (ℓ : Loc Cert.InKernelIdeal.nD Cert.InKernelIdeal.τ Cert.InKernelIdeal.sig) → Buf (Elt Ideal) ℓ) : Prop :=
  True

def Pre_InKernelIdeal_in_finite [hPre_in_finite : Cert.Pre_in_finite.Facts] (m : (ℓ : Loc Cert.InKernelIdeal.nD Cert.InKernelIdeal.τ Cert.InKernelIdeal.sig) → Buf (Elt Ideal) ℓ) : Prop :=
  ∀ c : Dev Cert.InKernelIdeal.nD,
    (Cert.Pre_in_finite.fn (F := Ideal) (m ((c.tc : Thread Cert.InKernelIdeal.nD Cert.InKernelIdeal.τ).loc Cert.InKernelIdeal.main_arg0)) (m ((c.tc : Thread Cert.InKernelIdeal.nD Cert.InKernelIdeal.τ).loc Cert.InKernelIdeal.main_arg1)) (m ((c.tc : Thread Cert.InKernelIdeal.nD Cert.InKernelIdeal.τ).loc Cert.InKernelIdeal.main_arg2)) (m ((c.tc : Thread Cert.InKernelIdeal.nD Cert.InKernelIdeal.τ).loc Cert.InKernelIdeal.main_arg3)) (m ((c.tc : Thread Cert.InKernelIdeal.nD Cert.InKernelIdeal.τ).loc Cert.InKernelIdeal.main_arg4))) = (fun _ => 1#1)

def Pre_InReferenceIdeal (m : (ℓ : Loc Cert.InReferenceIdeal.nD Cert.InReferenceIdeal.τ Cert.InReferenceIdeal.sig) → Buf (Elt Ideal) ℓ) : Prop :=
  True

def Pre_InReferenceIdeal_in_finite [hPre_in_finite : Cert.Pre_in_finite.Facts] (m : (ℓ : Loc Cert.InReferenceIdeal.nD Cert.InReferenceIdeal.τ Cert.InReferenceIdeal.sig) → Buf (Elt Ideal) ℓ) : Prop :=
  ∀ c : Dev Cert.InReferenceIdeal.nD,
    (Cert.Pre_in_finite.fn (F := Ideal) (m ((c.tc : Thread Cert.InReferenceIdeal.nD Cert.InReferenceIdeal.τ).loc Cert.InReferenceIdeal.main_arg0)) (m ((c.tc : Thread Cert.InReferenceIdeal.nD Cert.InReferenceIdeal.τ).loc Cert.InReferenceIdeal.main_arg1)) (m ((c.tc : Thread Cert.InReferenceIdeal.nD Cert.InReferenceIdeal.τ).loc Cert.InReferenceIdeal.main_arg2)) (m ((c.tc : Thread Cert.InReferenceIdeal.nD Cert.InReferenceIdeal.τ).loc Cert.InReferenceIdeal.main_arg3)) (m ((c.tc : Thread Cert.InReferenceIdeal.nD Cert.InReferenceIdeal.τ).loc Cert.InReferenceIdeal.main_arg4))) = (fun _ => 1#1)

def Pre_GateKernel (m : (ℓ : Loc Cert.GateKernel.nD Cert.GateKernel.τ Cert.GateKernel.sig) → Buf (Elt Bits) ℓ) : Prop :=
  True

def Pre_GateKernelIdeal (m : (ℓ : Loc Cert.GateKernelIdeal.nD Cert.GateKernelIdeal.τ Cert.GateKernelIdeal.sig) → Buf (Elt Ideal) ℓ) : Prop :=
  True

def Pre_GateKernelIdeal_gate_finite [hPre_gate_finite : Cert.Pre_gate_finite.Facts] (m : (ℓ : Loc Cert.GateKernelIdeal.nD Cert.GateKernelIdeal.τ Cert.GateKernelIdeal.sig) → Buf (Elt Ideal) ℓ) : Prop :=
  ∀ c : Dev Cert.GateKernelIdeal.nD,
    (Cert.Pre_gate_finite.fn (F := Ideal) (m ((c.tc : Thread Cert.GateKernelIdeal.nD Cert.GateKernelIdeal.τ).loc Cert.GateKernelIdeal.main_arg0)) (m ((c.tc : Thread Cert.GateKernelIdeal.nD Cert.GateKernelIdeal.τ).loc Cert.GateKernelIdeal.main_arg1)) (m ((c.tc : Thread Cert.GateKernelIdeal.nD Cert.GateKernelIdeal.τ).loc Cert.GateKernelIdeal.main_arg2)) (m ((c.tc : Thread Cert.GateKernelIdeal.nD Cert.GateKernelIdeal.τ).loc Cert.GateKernelIdeal.main_arg3)) (m ((c.tc : Thread Cert.GateKernelIdeal.nD Cert.GateKernelIdeal.τ).loc Cert.GateKernelIdeal.main_arg4)) (m ((c.tc : Thread Cert.GateKernelIdeal.nD Cert.GateKernelIdeal.τ).loc Cert.GateKernelIdeal.main_arg5)) (m ((c.tc : Thread Cert.GateKernelIdeal.nD Cert.GateKernelIdeal.τ).loc Cert.GateKernelIdeal.main_arg6)) (m ((c.tc : Thread Cert.GateKernelIdeal.nD Cert.GateKernelIdeal.τ).loc Cert.GateKernelIdeal.main_arg7)) (m ((c.tc : Thread Cert.GateKernelIdeal.nD Cert.GateKernelIdeal.τ).loc Cert.GateKernelIdeal.main_arg8)) (m ((c.tc : Thread Cert.GateKernelIdeal.nD Cert.GateKernelIdeal.τ).loc Cert.GateKernelIdeal.main_arg9)) (m ((c.tc : Thread Cert.GateKernelIdeal.nD Cert.GateKernelIdeal.τ).loc Cert.GateKernelIdeal.main_arg10))) = (fun _ => 1#1)

def Pre_GateReferenceIdeal (m : (ℓ : Loc Cert.GateReferenceIdeal.nD Cert.GateReferenceIdeal.τ Cert.GateReferenceIdeal.sig) → Buf (Elt Ideal) ℓ) : Prop :=
  True

def Pre_GateReferenceIdeal_gate_finite [hPre_gate_finite : Cert.Pre_gate_finite.Facts] (m : (ℓ : Loc Cert.GateReferenceIdeal.nD Cert.GateReferenceIdeal.τ Cert.GateReferenceIdeal.sig) → Buf (Elt Ideal) ℓ) : Prop :=
  ∀ c : Dev Cert.GateReferenceIdeal.nD,
    (Cert.Pre_gate_finite.fn (F := Ideal) (m ((c.tc : Thread Cert.GateReferenceIdeal.nD Cert.GateReferenceIdeal.τ).loc Cert.GateReferenceIdeal.main_arg0)) (m ((c.tc : Thread Cert.GateReferenceIdeal.nD Cert.GateReferenceIdeal.τ).loc Cert.GateReferenceIdeal.main_arg1)) (m ((c.tc : Thread Cert.GateReferenceIdeal.nD Cert.GateReferenceIdeal.τ).loc Cert.GateReferenceIdeal.main_arg2)) (m ((c.tc : Thread Cert.GateReferenceIdeal.nD Cert.GateReferenceIdeal.τ).loc Cert.GateReferenceIdeal.main_arg3)) (m ((c.tc : Thread Cert.GateReferenceIdeal.nD Cert.GateReferenceIdeal.τ).loc Cert.GateReferenceIdeal.main_arg4)) (m ((c.tc : Thread Cert.GateReferenceIdeal.nD Cert.GateReferenceIdeal.τ).loc Cert.GateReferenceIdeal.main_arg5)) (m ((c.tc : Thread Cert.GateReferenceIdeal.nD Cert.GateReferenceIdeal.τ).loc Cert.GateReferenceIdeal.main_arg6)) (m ((c.tc : Thread Cert.GateReferenceIdeal.nD Cert.GateReferenceIdeal.τ).loc Cert.GateReferenceIdeal.main_arg7)) (m ((c.tc : Thread Cert.GateReferenceIdeal.nD Cert.GateReferenceIdeal.τ).loc Cert.GateReferenceIdeal.main_arg8)) (m ((c.tc : Thread Cert.GateReferenceIdeal.nD Cert.GateReferenceIdeal.τ).loc Cert.GateReferenceIdeal.main_arg9)) (m ((c.tc : Thread Cert.GateReferenceIdeal.nD Cert.GateReferenceIdeal.τ).loc Cert.GateReferenceIdeal.main_arg10))) = (fun _ => 1#1)

def Pre_MemKernel (m : (ℓ : Loc Cert.MemKernel.nD Cert.MemKernel.τ Cert.MemKernel.sig) → Buf (Elt Bits) ℓ) : Prop :=
  True

def Pre_MemKernelIdeal (m : (ℓ : Loc Cert.MemKernelIdeal.nD Cert.MemKernelIdeal.τ Cert.MemKernelIdeal.sig) → Buf (Elt Ideal) ℓ) : Prop :=
  True

def Pre_MemReferenceIdeal (m : (ℓ : Loc Cert.MemReferenceIdeal.nD Cert.MemReferenceIdeal.τ Cert.MemReferenceIdeal.sig) → Buf (Elt Ideal) ℓ) : Prop :=
  True

def Pre_ProjKernel (m : (ℓ : Loc Cert.ProjKernel.nD Cert.ProjKernel.τ Cert.ProjKernel.sig) → Buf (Elt Bits) ℓ) : Prop :=
  True

def Pre_ProjKernelIdeal (m : (ℓ : Loc Cert.ProjKernelIdeal.nD Cert.ProjKernelIdeal.τ Cert.ProjKernelIdeal.sig) → Buf (Elt Ideal) ℓ) : Prop :=
  True

def Pre_ProjReferenceIdeal (m : (ℓ : Loc Cert.ProjReferenceIdeal.nD Cert.ProjReferenceIdeal.τ Cert.ProjReferenceIdeal.sig) → Buf (Elt Ideal) ℓ) : Prop :=
  True

def Pre_KeysKernel (m : (ℓ : Loc Cert.KeysKernel.nD Cert.KeysKernel.τ Cert.KeysKernel.sig) → Buf (Elt Bits) ℓ) : Prop :=
  True

def Pre_KeysKernelIdeal (m : (ℓ : Loc Cert.KeysKernelIdeal.nD Cert.KeysKernelIdeal.τ Cert.KeysKernelIdeal.sig) → Buf (Elt Ideal) ℓ) : Prop :=
  True

def Pre_KeysReferenceIdeal (m : (ℓ : Loc Cert.KeysReferenceIdeal.nD Cert.KeysReferenceIdeal.τ Cert.KeysReferenceIdeal.sig) → Buf (Elt Ideal) ℓ) : Prop :=
  True

def quiescent_InKernel [hInKernel : Cert.InKernel.Facts] : Prop :=
  ∀ (m : (ℓ : Loc Cert.InKernel.nD Cert.InKernel.τ Cert.InKernel.sig) → Buf (Elt Bits) ℓ) (g : Dev Cert.InKernel.nD → PrngReg), Pre_InKernel m →
    θ_run (Cert.InKernel.defs (F := Bits)) (onTc (τ := Cert.InKernel.τ) (Cert.InKernel.main (F := Bits))) ⟨m, fun _ => 0, g⟩ (fun r => (∀ c : Dev Cert.InKernel.nD,
      r.2.mem ((c.tc : Thread Cert.InKernel.nD Cert.InKernel.τ).loc Cert.InKernel.main_arg0) = m ((c.tc : Thread Cert.InKernel.nD Cert.InKernel.τ).loc Cert.InKernel.main_arg0)
      ∧ r.2.mem ((c.tc : Thread Cert.InKernel.nD Cert.InKernel.τ).loc Cert.InKernel.main_arg1) = m ((c.tc : Thread Cert.InKernel.nD Cert.InKernel.τ).loc Cert.InKernel.main_arg1)
      ∧ r.2.mem ((c.tc : Thread Cert.InKernel.nD Cert.InKernel.τ).loc Cert.InKernel.main_arg2) = m ((c.tc : Thread Cert.InKernel.nD Cert.InKernel.τ).loc Cert.InKernel.main_arg2)
      ∧ r.2.mem ((c.tc : Thread Cert.InKernel.nD Cert.InKernel.τ).loc Cert.InKernel.main_arg3) = m ((c.tc : Thread Cert.InKernel.nD Cert.InKernel.τ).loc Cert.InKernel.main_arg3)
      ∧ r.2.mem ((c.tc : Thread Cert.InKernel.nD Cert.InKernel.τ).loc Cert.InKernel.main_arg4) = m ((c.tc : Thread Cert.InKernel.nD Cert.InKernel.τ).loc Cert.InKernel.main_arg4))
      ∧ r.2.sem = fun _ => 0)

def quiescent_InKernelIdeal [hInKernelIdeal : Cert.InKernelIdeal.Facts] : Prop :=
  ∀ (m : (ℓ : Loc Cert.InKernelIdeal.nD Cert.InKernelIdeal.τ Cert.InKernelIdeal.sig) → Buf (Elt Ideal) ℓ) (g : Dev Cert.InKernelIdeal.nD → PrngReg), Pre_InKernelIdeal m →
    θ_run (Cert.InKernelIdeal.defs (F := Ideal)) (onTc (τ := Cert.InKernelIdeal.τ) (Cert.InKernelIdeal.main (F := Ideal))) ⟨m, fun _ => 0, g⟩ (fun r => (∀ c : Dev Cert.InKernelIdeal.nD,
      r.2.mem ((c.tc : Thread Cert.InKernelIdeal.nD Cert.InKernelIdeal.τ).loc Cert.InKernelIdeal.main_arg0) = m ((c.tc : Thread Cert.InKernelIdeal.nD Cert.InKernelIdeal.τ).loc Cert.InKernelIdeal.main_arg0)
      ∧ r.2.mem ((c.tc : Thread Cert.InKernelIdeal.nD Cert.InKernelIdeal.τ).loc Cert.InKernelIdeal.main_arg1) = m ((c.tc : Thread Cert.InKernelIdeal.nD Cert.InKernelIdeal.τ).loc Cert.InKernelIdeal.main_arg1)
      ∧ r.2.mem ((c.tc : Thread Cert.InKernelIdeal.nD Cert.InKernelIdeal.τ).loc Cert.InKernelIdeal.main_arg2) = m ((c.tc : Thread Cert.InKernelIdeal.nD Cert.InKernelIdeal.τ).loc Cert.InKernelIdeal.main_arg2)
      ∧ r.2.mem ((c.tc : Thread Cert.InKernelIdeal.nD Cert.InKernelIdeal.τ).loc Cert.InKernelIdeal.main_arg3) = m ((c.tc : Thread Cert.InKernelIdeal.nD Cert.InKernelIdeal.τ).loc Cert.InKernelIdeal.main_arg3)
      ∧ r.2.mem ((c.tc : Thread Cert.InKernelIdeal.nD Cert.InKernelIdeal.τ).loc Cert.InKernelIdeal.main_arg4) = m ((c.tc : Thread Cert.InKernelIdeal.nD Cert.InKernelIdeal.τ).loc Cert.InKernelIdeal.main_arg4))
      ∧ r.2.sem = fun _ => 0)

def quiescent_InKernelIdeal_pre_in_finite [hInKernelIdeal : Cert.InKernelIdeal.Facts] [hPre_in_finite : Cert.Pre_in_finite.Facts] : Prop :=
  ∀ (m : (ℓ : Loc Cert.InKernelIdeal.nD Cert.InKernelIdeal.τ Cert.InKernelIdeal.sig) → Buf (Elt Ideal) ℓ) (g : Dev Cert.InKernelIdeal.nD → PrngReg), Pre_InKernelIdeal_in_finite m →
    θ_run (Cert.InKernelIdeal.defs (F := Ideal)) (onTc (τ := Cert.InKernelIdeal.τ) (Cert.InKernelIdeal.main (F := Ideal))) ⟨m, fun _ => 0, g⟩ (fun r => (∀ c : Dev Cert.InKernelIdeal.nD,
      r.2.mem ((c.tc : Thread Cert.InKernelIdeal.nD Cert.InKernelIdeal.τ).loc Cert.InKernelIdeal.main_arg0) = m ((c.tc : Thread Cert.InKernelIdeal.nD Cert.InKernelIdeal.τ).loc Cert.InKernelIdeal.main_arg0)
      ∧ r.2.mem ((c.tc : Thread Cert.InKernelIdeal.nD Cert.InKernelIdeal.τ).loc Cert.InKernelIdeal.main_arg1) = m ((c.tc : Thread Cert.InKernelIdeal.nD Cert.InKernelIdeal.τ).loc Cert.InKernelIdeal.main_arg1)
      ∧ r.2.mem ((c.tc : Thread Cert.InKernelIdeal.nD Cert.InKernelIdeal.τ).loc Cert.InKernelIdeal.main_arg2) = m ((c.tc : Thread Cert.InKernelIdeal.nD Cert.InKernelIdeal.τ).loc Cert.InKernelIdeal.main_arg2)
      ∧ r.2.mem ((c.tc : Thread Cert.InKernelIdeal.nD Cert.InKernelIdeal.τ).loc Cert.InKernelIdeal.main_arg3) = m ((c.tc : Thread Cert.InKernelIdeal.nD Cert.InKernelIdeal.τ).loc Cert.InKernelIdeal.main_arg3)
      ∧ r.2.mem ((c.tc : Thread Cert.InKernelIdeal.nD Cert.InKernelIdeal.τ).loc Cert.InKernelIdeal.main_arg4) = m ((c.tc : Thread Cert.InKernelIdeal.nD Cert.InKernelIdeal.τ).loc Cert.InKernelIdeal.main_arg4))
      ∧ r.2.sem = fun _ => 0)

def quiescent_InReferenceIdeal [hInReferenceIdeal : Cert.InReferenceIdeal.Facts] : Prop :=
  ∀ (m : (ℓ : Loc Cert.InReferenceIdeal.nD Cert.InReferenceIdeal.τ Cert.InReferenceIdeal.sig) → Buf (Elt Ideal) ℓ) (g : Dev Cert.InReferenceIdeal.nD → PrngReg), Pre_InReferenceIdeal m →
    θ_run (Cert.InReferenceIdeal.defs (F := Ideal)) (onTc (τ := Cert.InReferenceIdeal.τ) (Cert.InReferenceIdeal.main (F := Ideal))) ⟨m, fun _ => 0, g⟩ (fun r => (∀ c : Dev Cert.InReferenceIdeal.nD,
      r.2.mem ((c.tc : Thread Cert.InReferenceIdeal.nD Cert.InReferenceIdeal.τ).loc Cert.InReferenceIdeal.main_arg0) = m ((c.tc : Thread Cert.InReferenceIdeal.nD Cert.InReferenceIdeal.τ).loc Cert.InReferenceIdeal.main_arg0)
      ∧ r.2.mem ((c.tc : Thread Cert.InReferenceIdeal.nD Cert.InReferenceIdeal.τ).loc Cert.InReferenceIdeal.main_arg1) = m ((c.tc : Thread Cert.InReferenceIdeal.nD Cert.InReferenceIdeal.τ).loc Cert.InReferenceIdeal.main_arg1)
      ∧ r.2.mem ((c.tc : Thread Cert.InReferenceIdeal.nD Cert.InReferenceIdeal.τ).loc Cert.InReferenceIdeal.main_arg2) = m ((c.tc : Thread Cert.InReferenceIdeal.nD Cert.InReferenceIdeal.τ).loc Cert.InReferenceIdeal.main_arg2)
      ∧ r.2.mem ((c.tc : Thread Cert.InReferenceIdeal.nD Cert.InReferenceIdeal.τ).loc Cert.InReferenceIdeal.main_arg3) = m ((c.tc : Thread Cert.InReferenceIdeal.nD Cert.InReferenceIdeal.τ).loc Cert.InReferenceIdeal.main_arg3)
      ∧ r.2.mem ((c.tc : Thread Cert.InReferenceIdeal.nD Cert.InReferenceIdeal.τ).loc Cert.InReferenceIdeal.main_arg4) = m ((c.tc : Thread Cert.InReferenceIdeal.nD Cert.InReferenceIdeal.τ).loc Cert.InReferenceIdeal.main_arg4))
      ∧ r.2.sem = fun _ => 0)

def quiescent_InReferenceIdeal_pre_in_finite [hInReferenceIdeal : Cert.InReferenceIdeal.Facts] [hPre_in_finite : Cert.Pre_in_finite.Facts] : Prop :=
  ∀ (m : (ℓ : Loc Cert.InReferenceIdeal.nD Cert.InReferenceIdeal.τ Cert.InReferenceIdeal.sig) → Buf (Elt Ideal) ℓ) (g : Dev Cert.InReferenceIdeal.nD → PrngReg), Pre_InReferenceIdeal_in_finite m →
    θ_run (Cert.InReferenceIdeal.defs (F := Ideal)) (onTc (τ := Cert.InReferenceIdeal.τ) (Cert.InReferenceIdeal.main (F := Ideal))) ⟨m, fun _ => 0, g⟩ (fun r => (∀ c : Dev Cert.InReferenceIdeal.nD,
      r.2.mem ((c.tc : Thread Cert.InReferenceIdeal.nD Cert.InReferenceIdeal.τ).loc Cert.InReferenceIdeal.main_arg0) = m ((c.tc : Thread Cert.InReferenceIdeal.nD Cert.InReferenceIdeal.τ).loc Cert.InReferenceIdeal.main_arg0)
      ∧ r.2.mem ((c.tc : Thread Cert.InReferenceIdeal.nD Cert.InReferenceIdeal.τ).loc Cert.InReferenceIdeal.main_arg1) = m ((c.tc : Thread Cert.InReferenceIdeal.nD Cert.InReferenceIdeal.τ).loc Cert.InReferenceIdeal.main_arg1)
      ∧ r.2.mem ((c.tc : Thread Cert.InReferenceIdeal.nD Cert.InReferenceIdeal.τ).loc Cert.InReferenceIdeal.main_arg2) = m ((c.tc : Thread Cert.InReferenceIdeal.nD Cert.InReferenceIdeal.τ).loc Cert.InReferenceIdeal.main_arg2)
      ∧ r.2.mem ((c.tc : Thread Cert.InReferenceIdeal.nD Cert.InReferenceIdeal.τ).loc Cert.InReferenceIdeal.main_arg3) = m ((c.tc : Thread Cert.InReferenceIdeal.nD Cert.InReferenceIdeal.τ).loc Cert.InReferenceIdeal.main_arg3)
      ∧ r.2.mem ((c.tc : Thread Cert.InReferenceIdeal.nD Cert.InReferenceIdeal.τ).loc Cert.InReferenceIdeal.main_arg4) = m ((c.tc : Thread Cert.InReferenceIdeal.nD Cert.InReferenceIdeal.τ).loc Cert.InReferenceIdeal.main_arg4))
      ∧ r.2.sem = fun _ => 0)

def quiescent_GateKernel [hGateKernel : Cert.GateKernel.Facts] : Prop :=
  ∀ (m : (ℓ : Loc Cert.GateKernel.nD Cert.GateKernel.τ Cert.GateKernel.sig) → Buf (Elt Bits) ℓ) (g : Dev Cert.GateKernel.nD → PrngReg), Pre_GateKernel m →
    θ_run (Cert.GateKernel.defs (F := Bits)) (onTc (τ := Cert.GateKernel.τ) (Cert.GateKernel.main (F := Bits))) ⟨m, fun _ => 0, g⟩ (fun r => (∀ c : Dev Cert.GateKernel.nD,
      r.2.mem ((c.tc : Thread Cert.GateKernel.nD Cert.GateKernel.τ).loc Cert.GateKernel.main_arg0) = m ((c.tc : Thread Cert.GateKernel.nD Cert.GateKernel.τ).loc Cert.GateKernel.main_arg0)
      ∧ r.2.mem ((c.tc : Thread Cert.GateKernel.nD Cert.GateKernel.τ).loc Cert.GateKernel.main_arg1) = m ((c.tc : Thread Cert.GateKernel.nD Cert.GateKernel.τ).loc Cert.GateKernel.main_arg1)
      ∧ r.2.mem ((c.tc : Thread Cert.GateKernel.nD Cert.GateKernel.τ).loc Cert.GateKernel.main_arg2) = m ((c.tc : Thread Cert.GateKernel.nD Cert.GateKernel.τ).loc Cert.GateKernel.main_arg2)
      ∧ r.2.mem ((c.tc : Thread Cert.GateKernel.nD Cert.GateKernel.τ).loc Cert.GateKernel.main_arg3) = m ((c.tc : Thread Cert.GateKernel.nD Cert.GateKernel.τ).loc Cert.GateKernel.main_arg3)
      ∧ r.2.mem ((c.tc : Thread Cert.GateKernel.nD Cert.GateKernel.τ).loc Cert.GateKernel.main_arg4) = m ((c.tc : Thread Cert.GateKernel.nD Cert.GateKernel.τ).loc Cert.GateKernel.main_arg4)
      ∧ r.2.mem ((c.tc : Thread Cert.GateKernel.nD Cert.GateKernel.τ).loc Cert.GateKernel.main_arg5) = m ((c.tc : Thread Cert.GateKernel.nD Cert.GateKernel.τ).loc Cert.GateKernel.main_arg5)
      ∧ r.2.mem ((c.tc : Thread Cert.GateKernel.nD Cert.GateKernel.τ).loc Cert.GateKernel.main_arg6) = m ((c.tc : Thread Cert.GateKernel.nD Cert.GateKernel.τ).loc Cert.GateKernel.main_arg6)
      ∧ r.2.mem ((c.tc : Thread Cert.GateKernel.nD Cert.GateKernel.τ).loc Cert.GateKernel.main_arg7) = m ((c.tc : Thread Cert.GateKernel.nD Cert.GateKernel.τ).loc Cert.GateKernel.main_arg7)
      ∧ r.2.mem ((c.tc : Thread Cert.GateKernel.nD Cert.GateKernel.τ).loc Cert.GateKernel.main_arg8) = m ((c.tc : Thread Cert.GateKernel.nD Cert.GateKernel.τ).loc Cert.GateKernel.main_arg8)
      ∧ r.2.mem ((c.tc : Thread Cert.GateKernel.nD Cert.GateKernel.τ).loc Cert.GateKernel.main_arg9) = m ((c.tc : Thread Cert.GateKernel.nD Cert.GateKernel.τ).loc Cert.GateKernel.main_arg9)
      ∧ r.2.mem ((c.tc : Thread Cert.GateKernel.nD Cert.GateKernel.τ).loc Cert.GateKernel.main_arg10) = m ((c.tc : Thread Cert.GateKernel.nD Cert.GateKernel.τ).loc Cert.GateKernel.main_arg10))
      ∧ r.2.sem = fun _ => 0)

def quiescent_GateKernelIdeal [hGateKernelIdeal : Cert.GateKernelIdeal.Facts] : Prop :=
  ∀ (m : (ℓ : Loc Cert.GateKernelIdeal.nD Cert.GateKernelIdeal.τ Cert.GateKernelIdeal.sig) → Buf (Elt Ideal) ℓ) (g : Dev Cert.GateKernelIdeal.nD → PrngReg), Pre_GateKernelIdeal m →
    θ_run (Cert.GateKernelIdeal.defs (F := Ideal)) (onTc (τ := Cert.GateKernelIdeal.τ) (Cert.GateKernelIdeal.main (F := Ideal))) ⟨m, fun _ => 0, g⟩ (fun r => (∀ c : Dev Cert.GateKernelIdeal.nD,
      r.2.mem ((c.tc : Thread Cert.GateKernelIdeal.nD Cert.GateKernelIdeal.τ).loc Cert.GateKernelIdeal.main_arg0) = m ((c.tc : Thread Cert.GateKernelIdeal.nD Cert.GateKernelIdeal.τ).loc Cert.GateKernelIdeal.main_arg0)
      ∧ r.2.mem ((c.tc : Thread Cert.GateKernelIdeal.nD Cert.GateKernelIdeal.τ).loc Cert.GateKernelIdeal.main_arg1) = m ((c.tc : Thread Cert.GateKernelIdeal.nD Cert.GateKernelIdeal.τ).loc Cert.GateKernelIdeal.main_arg1)
      ∧ r.2.mem ((c.tc : Thread Cert.GateKernelIdeal.nD Cert.GateKernelIdeal.τ).loc Cert.GateKernelIdeal.main_arg2) = m ((c.tc : Thread Cert.GateKernelIdeal.nD Cert.GateKernelIdeal.τ).loc Cert.GateKernelIdeal.main_arg2)
      ∧ r.2.mem ((c.tc : Thread Cert.GateKernelIdeal.nD Cert.GateKernelIdeal.τ).loc Cert.GateKernelIdeal.main_arg3) = m ((c.tc : Thread Cert.GateKernelIdeal.nD Cert.GateKernelIdeal.τ).loc Cert.GateKernelIdeal.main_arg3)
      ∧ r.2.mem ((c.tc : Thread Cert.GateKernelIdeal.nD Cert.GateKernelIdeal.τ).loc Cert.GateKernelIdeal.main_arg4) = m ((c.tc : Thread Cert.GateKernelIdeal.nD Cert.GateKernelIdeal.τ).loc Cert.GateKernelIdeal.main_arg4)
      ∧ r.2.mem ((c.tc : Thread Cert.GateKernelIdeal.nD Cert.GateKernelIdeal.τ).loc Cert.GateKernelIdeal.main_arg5) = m ((c.tc : Thread Cert.GateKernelIdeal.nD Cert.GateKernelIdeal.τ).loc Cert.GateKernelIdeal.main_arg5)
      ∧ r.2.mem ((c.tc : Thread Cert.GateKernelIdeal.nD Cert.GateKernelIdeal.τ).loc Cert.GateKernelIdeal.main_arg6) = m ((c.tc : Thread Cert.GateKernelIdeal.nD Cert.GateKernelIdeal.τ).loc Cert.GateKernelIdeal.main_arg6)
      ∧ r.2.mem ((c.tc : Thread Cert.GateKernelIdeal.nD Cert.GateKernelIdeal.τ).loc Cert.GateKernelIdeal.main_arg7) = m ((c.tc : Thread Cert.GateKernelIdeal.nD Cert.GateKernelIdeal.τ).loc Cert.GateKernelIdeal.main_arg7)
      ∧ r.2.mem ((c.tc : Thread Cert.GateKernelIdeal.nD Cert.GateKernelIdeal.τ).loc Cert.GateKernelIdeal.main_arg8) = m ((c.tc : Thread Cert.GateKernelIdeal.nD Cert.GateKernelIdeal.τ).loc Cert.GateKernelIdeal.main_arg8)
      ∧ r.2.mem ((c.tc : Thread Cert.GateKernelIdeal.nD Cert.GateKernelIdeal.τ).loc Cert.GateKernelIdeal.main_arg9) = m ((c.tc : Thread Cert.GateKernelIdeal.nD Cert.GateKernelIdeal.τ).loc Cert.GateKernelIdeal.main_arg9)
      ∧ r.2.mem ((c.tc : Thread Cert.GateKernelIdeal.nD Cert.GateKernelIdeal.τ).loc Cert.GateKernelIdeal.main_arg10) = m ((c.tc : Thread Cert.GateKernelIdeal.nD Cert.GateKernelIdeal.τ).loc Cert.GateKernelIdeal.main_arg10))
      ∧ r.2.sem = fun _ => 0)

def quiescent_GateKernelIdeal_pre_gate_finite [hGateKernelIdeal : Cert.GateKernelIdeal.Facts] [hPre_gate_finite : Cert.Pre_gate_finite.Facts] : Prop :=
  ∀ (m : (ℓ : Loc Cert.GateKernelIdeal.nD Cert.GateKernelIdeal.τ Cert.GateKernelIdeal.sig) → Buf (Elt Ideal) ℓ) (g : Dev Cert.GateKernelIdeal.nD → PrngReg), Pre_GateKernelIdeal_gate_finite m →
    θ_run (Cert.GateKernelIdeal.defs (F := Ideal)) (onTc (τ := Cert.GateKernelIdeal.τ) (Cert.GateKernelIdeal.main (F := Ideal))) ⟨m, fun _ => 0, g⟩ (fun r => (∀ c : Dev Cert.GateKernelIdeal.nD,
      r.2.mem ((c.tc : Thread Cert.GateKernelIdeal.nD Cert.GateKernelIdeal.τ).loc Cert.GateKernelIdeal.main_arg0) = m ((c.tc : Thread Cert.GateKernelIdeal.nD Cert.GateKernelIdeal.τ).loc Cert.GateKernelIdeal.main_arg0)
      ∧ r.2.mem ((c.tc : Thread Cert.GateKernelIdeal.nD Cert.GateKernelIdeal.τ).loc Cert.GateKernelIdeal.main_arg1) = m ((c.tc : Thread Cert.GateKernelIdeal.nD Cert.GateKernelIdeal.τ).loc Cert.GateKernelIdeal.main_arg1)
      ∧ r.2.mem ((c.tc : Thread Cert.GateKernelIdeal.nD Cert.GateKernelIdeal.τ).loc Cert.GateKernelIdeal.main_arg2) = m ((c.tc : Thread Cert.GateKernelIdeal.nD Cert.GateKernelIdeal.τ).loc Cert.GateKernelIdeal.main_arg2)
      ∧ r.2.mem ((c.tc : Thread Cert.GateKernelIdeal.nD Cert.GateKernelIdeal.τ).loc Cert.GateKernelIdeal.main_arg3) = m ((c.tc : Thread Cert.GateKernelIdeal.nD Cert.GateKernelIdeal.τ).loc Cert.GateKernelIdeal.main_arg3)
      ∧ r.2.mem ((c.tc : Thread Cert.GateKernelIdeal.nD Cert.GateKernelIdeal.τ).loc Cert.GateKernelIdeal.main_arg4) = m ((c.tc : Thread Cert.GateKernelIdeal.nD Cert.GateKernelIdeal.τ).loc Cert.GateKernelIdeal.main_arg4)
      ∧ r.2.mem ((c.tc : Thread Cert.GateKernelIdeal.nD Cert.GateKernelIdeal.τ).loc Cert.GateKernelIdeal.main_arg5) = m ((c.tc : Thread Cert.GateKernelIdeal.nD Cert.GateKernelIdeal.τ).loc Cert.GateKernelIdeal.main_arg5)
      ∧ r.2.mem ((c.tc : Thread Cert.GateKernelIdeal.nD Cert.GateKernelIdeal.τ).loc Cert.GateKernelIdeal.main_arg6) = m ((c.tc : Thread Cert.GateKernelIdeal.nD Cert.GateKernelIdeal.τ).loc Cert.GateKernelIdeal.main_arg6)
      ∧ r.2.mem ((c.tc : Thread Cert.GateKernelIdeal.nD Cert.GateKernelIdeal.τ).loc Cert.GateKernelIdeal.main_arg7) = m ((c.tc : Thread Cert.GateKernelIdeal.nD Cert.GateKernelIdeal.τ).loc Cert.GateKernelIdeal.main_arg7)
      ∧ r.2.mem ((c.tc : Thread Cert.GateKernelIdeal.nD Cert.GateKernelIdeal.τ).loc Cert.GateKernelIdeal.main_arg8) = m ((c.tc : Thread Cert.GateKernelIdeal.nD Cert.GateKernelIdeal.τ).loc Cert.GateKernelIdeal.main_arg8)
      ∧ r.2.mem ((c.tc : Thread Cert.GateKernelIdeal.nD Cert.GateKernelIdeal.τ).loc Cert.GateKernelIdeal.main_arg9) = m ((c.tc : Thread Cert.GateKernelIdeal.nD Cert.GateKernelIdeal.τ).loc Cert.GateKernelIdeal.main_arg9)
      ∧ r.2.mem ((c.tc : Thread Cert.GateKernelIdeal.nD Cert.GateKernelIdeal.τ).loc Cert.GateKernelIdeal.main_arg10) = m ((c.tc : Thread Cert.GateKernelIdeal.nD Cert.GateKernelIdeal.τ).loc Cert.GateKernelIdeal.main_arg10))
      ∧ r.2.sem = fun _ => 0)

def quiescent_GateReferenceIdeal [hGateReferenceIdeal : Cert.GateReferenceIdeal.Facts] : Prop :=
  ∀ (m : (ℓ : Loc Cert.GateReferenceIdeal.nD Cert.GateReferenceIdeal.τ Cert.GateReferenceIdeal.sig) → Buf (Elt Ideal) ℓ) (g : Dev Cert.GateReferenceIdeal.nD → PrngReg), Pre_GateReferenceIdeal m →
    θ_run (Cert.GateReferenceIdeal.defs (F := Ideal)) (onTc (τ := Cert.GateReferenceIdeal.τ) (Cert.GateReferenceIdeal.main (F := Ideal))) ⟨m, fun _ => 0, g⟩ (fun r => (∀ c : Dev Cert.GateReferenceIdeal.nD,
      r.2.mem ((c.tc : Thread Cert.GateReferenceIdeal.nD Cert.GateReferenceIdeal.τ).loc Cert.GateReferenceIdeal.main_arg0) = m ((c.tc : Thread Cert.GateReferenceIdeal.nD Cert.GateReferenceIdeal.τ).loc Cert.GateReferenceIdeal.main_arg0)
      ∧ r.2.mem ((c.tc : Thread Cert.GateReferenceIdeal.nD Cert.GateReferenceIdeal.τ).loc Cert.GateReferenceIdeal.main_arg1) = m ((c.tc : Thread Cert.GateReferenceIdeal.nD Cert.GateReferenceIdeal.τ).loc Cert.GateReferenceIdeal.main_arg1)
      ∧ r.2.mem ((c.tc : Thread Cert.GateReferenceIdeal.nD Cert.GateReferenceIdeal.τ).loc Cert.GateReferenceIdeal.main_arg2) = m ((c.tc : Thread Cert.GateReferenceIdeal.nD Cert.GateReferenceIdeal.τ).loc Cert.GateReferenceIdeal.main_arg2)
      ∧ r.2.mem ((c.tc : Thread Cert.GateReferenceIdeal.nD Cert.GateReferenceIdeal.τ).loc Cert.GateReferenceIdeal.main_arg3) = m ((c.tc : Thread Cert.GateReferenceIdeal.nD Cert.GateReferenceIdeal.τ).loc Cert.GateReferenceIdeal.main_arg3)
      ∧ r.2.mem ((c.tc : Thread Cert.GateReferenceIdeal.nD Cert.GateReferenceIdeal.τ).loc Cert.GateReferenceIdeal.main_arg4) = m ((c.tc : Thread Cert.GateReferenceIdeal.nD Cert.GateReferenceIdeal.τ).loc Cert.GateReferenceIdeal.main_arg4)
      ∧ r.2.mem ((c.tc : Thread Cert.GateReferenceIdeal.nD Cert.GateReferenceIdeal.τ).loc Cert.GateReferenceIdeal.main_arg5) = m ((c.tc : Thread Cert.GateReferenceIdeal.nD Cert.GateReferenceIdeal.τ).loc Cert.GateReferenceIdeal.main_arg5)
      ∧ r.2.mem ((c.tc : Thread Cert.GateReferenceIdeal.nD Cert.GateReferenceIdeal.τ).loc Cert.GateReferenceIdeal.main_arg6) = m ((c.tc : Thread Cert.GateReferenceIdeal.nD Cert.GateReferenceIdeal.τ).loc Cert.GateReferenceIdeal.main_arg6)
      ∧ r.2.mem ((c.tc : Thread Cert.GateReferenceIdeal.nD Cert.GateReferenceIdeal.τ).loc Cert.GateReferenceIdeal.main_arg7) = m ((c.tc : Thread Cert.GateReferenceIdeal.nD Cert.GateReferenceIdeal.τ).loc Cert.GateReferenceIdeal.main_arg7)
      ∧ r.2.mem ((c.tc : Thread Cert.GateReferenceIdeal.nD Cert.GateReferenceIdeal.τ).loc Cert.GateReferenceIdeal.main_arg8) = m ((c.tc : Thread Cert.GateReferenceIdeal.nD Cert.GateReferenceIdeal.τ).loc Cert.GateReferenceIdeal.main_arg8)
      ∧ r.2.mem ((c.tc : Thread Cert.GateReferenceIdeal.nD Cert.GateReferenceIdeal.τ).loc Cert.GateReferenceIdeal.main_arg9) = m ((c.tc : Thread Cert.GateReferenceIdeal.nD Cert.GateReferenceIdeal.τ).loc Cert.GateReferenceIdeal.main_arg9)
      ∧ r.2.mem ((c.tc : Thread Cert.GateReferenceIdeal.nD Cert.GateReferenceIdeal.τ).loc Cert.GateReferenceIdeal.main_arg10) = m ((c.tc : Thread Cert.GateReferenceIdeal.nD Cert.GateReferenceIdeal.τ).loc Cert.GateReferenceIdeal.main_arg10))
      ∧ r.2.sem = fun _ => 0)

def quiescent_GateReferenceIdeal_pre_gate_finite [hGateReferenceIdeal : Cert.GateReferenceIdeal.Facts] [hPre_gate_finite : Cert.Pre_gate_finite.Facts] : Prop :=
  ∀ (m : (ℓ : Loc Cert.GateReferenceIdeal.nD Cert.GateReferenceIdeal.τ Cert.GateReferenceIdeal.sig) → Buf (Elt Ideal) ℓ) (g : Dev Cert.GateReferenceIdeal.nD → PrngReg), Pre_GateReferenceIdeal_gate_finite m →
    θ_run (Cert.GateReferenceIdeal.defs (F := Ideal)) (onTc (τ := Cert.GateReferenceIdeal.τ) (Cert.GateReferenceIdeal.main (F := Ideal))) ⟨m, fun _ => 0, g⟩ (fun r => (∀ c : Dev Cert.GateReferenceIdeal.nD,
      r.2.mem ((c.tc : Thread Cert.GateReferenceIdeal.nD Cert.GateReferenceIdeal.τ).loc Cert.GateReferenceIdeal.main_arg0) = m ((c.tc : Thread Cert.GateReferenceIdeal.nD Cert.GateReferenceIdeal.τ).loc Cert.GateReferenceIdeal.main_arg0)
      ∧ r.2.mem ((c.tc : Thread Cert.GateReferenceIdeal.nD Cert.GateReferenceIdeal.τ).loc Cert.GateReferenceIdeal.main_arg1) = m ((c.tc : Thread Cert.GateReferenceIdeal.nD Cert.GateReferenceIdeal.τ).loc Cert.GateReferenceIdeal.main_arg1)
      ∧ r.2.mem ((c.tc : Thread Cert.GateReferenceIdeal.nD Cert.GateReferenceIdeal.τ).loc Cert.GateReferenceIdeal.main_arg2) = m ((c.tc : Thread Cert.GateReferenceIdeal.nD Cert.GateReferenceIdeal.τ).loc Cert.GateReferenceIdeal.main_arg2)
      ∧ r.2.mem ((c.tc : Thread Cert.GateReferenceIdeal.nD Cert.GateReferenceIdeal.τ).loc Cert.GateReferenceIdeal.main_arg3) = m ((c.tc : Thread Cert.GateReferenceIdeal.nD Cert.GateReferenceIdeal.τ).loc Cert.GateReferenceIdeal.main_arg3)
      ∧ r.2.mem ((c.tc : Thread Cert.GateReferenceIdeal.nD Cert.GateReferenceIdeal.τ).loc Cert.GateReferenceIdeal.main_arg4) = m ((c.tc : Thread Cert.GateReferenceIdeal.nD Cert.GateReferenceIdeal.τ).loc Cert.GateReferenceIdeal.main_arg4)
      ∧ r.2.mem ((c.tc : Thread Cert.GateReferenceIdeal.nD Cert.GateReferenceIdeal.τ).loc Cert.GateReferenceIdeal.main_arg5) = m ((c.tc : Thread Cert.GateReferenceIdeal.nD Cert.GateReferenceIdeal.τ).loc Cert.GateReferenceIdeal.main_arg5)
      ∧ r.2.mem ((c.tc : Thread Cert.GateReferenceIdeal.nD Cert.GateReferenceIdeal.τ).loc Cert.GateReferenceIdeal.main_arg6) = m ((c.tc : Thread Cert.GateReferenceIdeal.nD Cert.GateReferenceIdeal.τ).loc Cert.GateReferenceIdeal.main_arg6)
      ∧ r.2.mem ((c.tc : Thread Cert.GateReferenceIdeal.nD Cert.GateReferenceIdeal.τ).loc Cert.GateReferenceIdeal.main_arg7) = m ((c.tc : Thread Cert.GateReferenceIdeal.nD Cert.GateReferenceIdeal.τ).loc Cert.GateReferenceIdeal.main_arg7)
      ∧ r.2.mem ((c.tc : Thread Cert.GateReferenceIdeal.nD Cert.GateReferenceIdeal.τ).loc Cert.GateReferenceIdeal.main_arg8) = m ((c.tc : Thread Cert.GateReferenceIdeal.nD Cert.GateReferenceIdeal.τ).loc Cert.GateReferenceIdeal.main_arg8)
      ∧ r.2.mem ((c.tc : Thread Cert.GateReferenceIdeal.nD Cert.GateReferenceIdeal.τ).loc Cert.GateReferenceIdeal.main_arg9) = m ((c.tc : Thread Cert.GateReferenceIdeal.nD Cert.GateReferenceIdeal.τ).loc Cert.GateReferenceIdeal.main_arg9)
      ∧ r.2.mem ((c.tc : Thread Cert.GateReferenceIdeal.nD Cert.GateReferenceIdeal.τ).loc Cert.GateReferenceIdeal.main_arg10) = m ((c.tc : Thread Cert.GateReferenceIdeal.nD Cert.GateReferenceIdeal.τ).loc Cert.GateReferenceIdeal.main_arg10))
      ∧ r.2.sem = fun _ => 0)

def quiescent_MemKernel [hMemKernel : Cert.MemKernel.Facts] : Prop :=
  ∀ (m : (ℓ : Loc Cert.MemKernel.nD Cert.MemKernel.τ Cert.MemKernel.sig) → Buf (Elt Bits) ℓ) (g : Dev Cert.MemKernel.nD → PrngReg), Pre_MemKernel m →
    θ_run (Cert.MemKernel.defs (F := Bits)) (onTc (τ := Cert.MemKernel.τ) (Cert.MemKernel.main (F := Bits))) ⟨m, fun _ => 0, g⟩ (fun r => (∀ c : Dev Cert.MemKernel.nD,
      r.2.mem ((c.tc : Thread Cert.MemKernel.nD Cert.MemKernel.τ).loc Cert.MemKernel.main_arg0) = m ((c.tc : Thread Cert.MemKernel.nD Cert.MemKernel.τ).loc Cert.MemKernel.main_arg0)
      ∧ r.2.mem ((c.tc : Thread Cert.MemKernel.nD Cert.MemKernel.τ).loc Cert.MemKernel.main_arg1) = m ((c.tc : Thread Cert.MemKernel.nD Cert.MemKernel.τ).loc Cert.MemKernel.main_arg1)
      ∧ r.2.mem ((c.tc : Thread Cert.MemKernel.nD Cert.MemKernel.τ).loc Cert.MemKernel.main_arg2) = m ((c.tc : Thread Cert.MemKernel.nD Cert.MemKernel.τ).loc Cert.MemKernel.main_arg2)
      ∧ r.2.mem ((c.tc : Thread Cert.MemKernel.nD Cert.MemKernel.τ).loc Cert.MemKernel.main_arg3) = m ((c.tc : Thread Cert.MemKernel.nD Cert.MemKernel.τ).loc Cert.MemKernel.main_arg3))
      ∧ r.2.sem = fun _ => 0)

def quiescent_MemKernelIdeal [hMemKernelIdeal : Cert.MemKernelIdeal.Facts] : Prop :=
  ∀ (m : (ℓ : Loc Cert.MemKernelIdeal.nD Cert.MemKernelIdeal.τ Cert.MemKernelIdeal.sig) → Buf (Elt Ideal) ℓ) (g : Dev Cert.MemKernelIdeal.nD → PrngReg), Pre_MemKernelIdeal m →
    θ_run (Cert.MemKernelIdeal.defs (F := Ideal)) (onTc (τ := Cert.MemKernelIdeal.τ) (Cert.MemKernelIdeal.main (F := Ideal))) ⟨m, fun _ => 0, g⟩ (fun r => (∀ c : Dev Cert.MemKernelIdeal.nD,
      r.2.mem ((c.tc : Thread Cert.MemKernelIdeal.nD Cert.MemKernelIdeal.τ).loc Cert.MemKernelIdeal.main_arg0) = m ((c.tc : Thread Cert.MemKernelIdeal.nD Cert.MemKernelIdeal.τ).loc Cert.MemKernelIdeal.main_arg0)
      ∧ r.2.mem ((c.tc : Thread Cert.MemKernelIdeal.nD Cert.MemKernelIdeal.τ).loc Cert.MemKernelIdeal.main_arg1) = m ((c.tc : Thread Cert.MemKernelIdeal.nD Cert.MemKernelIdeal.τ).loc Cert.MemKernelIdeal.main_arg1)
      ∧ r.2.mem ((c.tc : Thread Cert.MemKernelIdeal.nD Cert.MemKernelIdeal.τ).loc Cert.MemKernelIdeal.main_arg2) = m ((c.tc : Thread Cert.MemKernelIdeal.nD Cert.MemKernelIdeal.τ).loc Cert.MemKernelIdeal.main_arg2)
      ∧ r.2.mem ((c.tc : Thread Cert.MemKernelIdeal.nD Cert.MemKernelIdeal.τ).loc Cert.MemKernelIdeal.main_arg3) = m ((c.tc : Thread Cert.MemKernelIdeal.nD Cert.MemKernelIdeal.τ).loc Cert.MemKernelIdeal.main_arg3))
      ∧ r.2.sem = fun _ => 0)

def quiescent_MemReferenceIdeal [hMemReferenceIdeal : Cert.MemReferenceIdeal.Facts] : Prop :=
  ∀ (m : (ℓ : Loc Cert.MemReferenceIdeal.nD Cert.MemReferenceIdeal.τ Cert.MemReferenceIdeal.sig) → Buf (Elt Ideal) ℓ) (g : Dev Cert.MemReferenceIdeal.nD → PrngReg), Pre_MemReferenceIdeal m →
    θ_run (Cert.MemReferenceIdeal.defs (F := Ideal)) (onTc (τ := Cert.MemReferenceIdeal.τ) (Cert.MemReferenceIdeal.main (F := Ideal))) ⟨m, fun _ => 0, g⟩ (fun r => (∀ c : Dev Cert.MemReferenceIdeal.nD,
      r.2.mem ((c.tc : Thread Cert.MemReferenceIdeal.nD Cert.MemReferenceIdeal.τ).loc Cert.MemReferenceIdeal.main_arg0) = m ((c.tc : Thread Cert.MemReferenceIdeal.nD Cert.MemReferenceIdeal.τ).loc Cert.MemReferenceIdeal.main_arg0)
      ∧ r.2.mem ((c.tc : Thread Cert.MemReferenceIdeal.nD Cert.MemReferenceIdeal.τ).loc Cert.MemReferenceIdeal.main_arg1) = m ((c.tc : Thread Cert.MemReferenceIdeal.nD Cert.MemReferenceIdeal.τ).loc Cert.MemReferenceIdeal.main_arg1)
      ∧ r.2.mem ((c.tc : Thread Cert.MemReferenceIdeal.nD Cert.MemReferenceIdeal.τ).loc Cert.MemReferenceIdeal.main_arg2) = m ((c.tc : Thread Cert.MemReferenceIdeal.nD Cert.MemReferenceIdeal.τ).loc Cert.MemReferenceIdeal.main_arg2)
      ∧ r.2.mem ((c.tc : Thread Cert.MemReferenceIdeal.nD Cert.MemReferenceIdeal.τ).loc Cert.MemReferenceIdeal.main_arg3) = m ((c.tc : Thread Cert.MemReferenceIdeal.nD Cert.MemReferenceIdeal.τ).loc Cert.MemReferenceIdeal.main_arg3))
      ∧ r.2.sem = fun _ => 0)

def quiescent_ProjKernel [hProjKernel : Cert.ProjKernel.Facts] : Prop :=
  ∀ (m : (ℓ : Loc Cert.ProjKernel.nD Cert.ProjKernel.τ Cert.ProjKernel.sig) → Buf (Elt Bits) ℓ) (g : Dev Cert.ProjKernel.nD → PrngReg), Pre_ProjKernel m →
    θ_run (Cert.ProjKernel.defs (F := Bits)) (onTc (τ := Cert.ProjKernel.τ) (Cert.ProjKernel.main (F := Bits))) ⟨m, fun _ => 0, g⟩ (fun r => (∀ c : Dev Cert.ProjKernel.nD,
      r.2.mem ((c.tc : Thread Cert.ProjKernel.nD Cert.ProjKernel.τ).loc Cert.ProjKernel.main_arg0) = m ((c.tc : Thread Cert.ProjKernel.nD Cert.ProjKernel.τ).loc Cert.ProjKernel.main_arg0)
      ∧ r.2.mem ((c.tc : Thread Cert.ProjKernel.nD Cert.ProjKernel.τ).loc Cert.ProjKernel.main_arg1) = m ((c.tc : Thread Cert.ProjKernel.nD Cert.ProjKernel.τ).loc Cert.ProjKernel.main_arg1)
      ∧ r.2.mem ((c.tc : Thread Cert.ProjKernel.nD Cert.ProjKernel.τ).loc Cert.ProjKernel.main_arg2) = m ((c.tc : Thread Cert.ProjKernel.nD Cert.ProjKernel.τ).loc Cert.ProjKernel.main_arg2))
      ∧ r.2.sem = fun _ => 0)

def quiescent_ProjKernelIdeal [hProjKernelIdeal : Cert.ProjKernelIdeal.Facts] : Prop :=
  ∀ (m : (ℓ : Loc Cert.ProjKernelIdeal.nD Cert.ProjKernelIdeal.τ Cert.ProjKernelIdeal.sig) → Buf (Elt Ideal) ℓ) (g : Dev Cert.ProjKernelIdeal.nD → PrngReg), Pre_ProjKernelIdeal m →
    θ_run (Cert.ProjKernelIdeal.defs (F := Ideal)) (onTc (τ := Cert.ProjKernelIdeal.τ) (Cert.ProjKernelIdeal.main (F := Ideal))) ⟨m, fun _ => 0, g⟩ (fun r => (∀ c : Dev Cert.ProjKernelIdeal.nD,
      r.2.mem ((c.tc : Thread Cert.ProjKernelIdeal.nD Cert.ProjKernelIdeal.τ).loc Cert.ProjKernelIdeal.main_arg0) = m ((c.tc : Thread Cert.ProjKernelIdeal.nD Cert.ProjKernelIdeal.τ).loc Cert.ProjKernelIdeal.main_arg0)
      ∧ r.2.mem ((c.tc : Thread Cert.ProjKernelIdeal.nD Cert.ProjKernelIdeal.τ).loc Cert.ProjKernelIdeal.main_arg1) = m ((c.tc : Thread Cert.ProjKernelIdeal.nD Cert.ProjKernelIdeal.τ).loc Cert.ProjKernelIdeal.main_arg1)
      ∧ r.2.mem ((c.tc : Thread Cert.ProjKernelIdeal.nD Cert.ProjKernelIdeal.τ).loc Cert.ProjKernelIdeal.main_arg2) = m ((c.tc : Thread Cert.ProjKernelIdeal.nD Cert.ProjKernelIdeal.τ).loc Cert.ProjKernelIdeal.main_arg2))
      ∧ r.2.sem = fun _ => 0)

def quiescent_ProjReferenceIdeal [hProjReferenceIdeal : Cert.ProjReferenceIdeal.Facts] : Prop :=
  ∀ (m : (ℓ : Loc Cert.ProjReferenceIdeal.nD Cert.ProjReferenceIdeal.τ Cert.ProjReferenceIdeal.sig) → Buf (Elt Ideal) ℓ) (g : Dev Cert.ProjReferenceIdeal.nD → PrngReg), Pre_ProjReferenceIdeal m →
    θ_run (Cert.ProjReferenceIdeal.defs (F := Ideal)) (onTc (τ := Cert.ProjReferenceIdeal.τ) (Cert.ProjReferenceIdeal.main (F := Ideal))) ⟨m, fun _ => 0, g⟩ (fun r => (∀ c : Dev Cert.ProjReferenceIdeal.nD,
      r.2.mem ((c.tc : Thread Cert.ProjReferenceIdeal.nD Cert.ProjReferenceIdeal.τ).loc Cert.ProjReferenceIdeal.main_arg0) = m ((c.tc : Thread Cert.ProjReferenceIdeal.nD Cert.ProjReferenceIdeal.τ).loc Cert.ProjReferenceIdeal.main_arg0)
      ∧ r.2.mem ((c.tc : Thread Cert.ProjReferenceIdeal.nD Cert.ProjReferenceIdeal.τ).loc Cert.ProjReferenceIdeal.main_arg1) = m ((c.tc : Thread Cert.ProjReferenceIdeal.nD Cert.ProjReferenceIdeal.τ).loc Cert.ProjReferenceIdeal.main_arg1)
      ∧ r.2.mem ((c.tc : Thread Cert.ProjReferenceIdeal.nD Cert.ProjReferenceIdeal.τ).loc Cert.ProjReferenceIdeal.main_arg2) = m ((c.tc : Thread Cert.ProjReferenceIdeal.nD Cert.ProjReferenceIdeal.τ).loc Cert.ProjReferenceIdeal.main_arg2))
      ∧ r.2.sem = fun _ => 0)

def quiescent_KeysKernel [hKeysKernel : Cert.KeysKernel.Facts] : Prop :=
  ∀ (m : (ℓ : Loc Cert.KeysKernel.nD Cert.KeysKernel.τ Cert.KeysKernel.sig) → Buf (Elt Bits) ℓ) (g : Dev Cert.KeysKernel.nD → PrngReg), Pre_KeysKernel m →
    θ_run (Cert.KeysKernel.defs (F := Bits)) (onTc (τ := Cert.KeysKernel.τ) (Cert.KeysKernel.main (F := Bits))) ⟨m, fun _ => 0, g⟩ (fun r => (∀ c : Dev Cert.KeysKernel.nD,
      r.2.mem ((c.tc : Thread Cert.KeysKernel.nD Cert.KeysKernel.τ).loc Cert.KeysKernel.main_arg0) = m ((c.tc : Thread Cert.KeysKernel.nD Cert.KeysKernel.τ).loc Cert.KeysKernel.main_arg0)
      ∧ r.2.mem ((c.tc : Thread Cert.KeysKernel.nD Cert.KeysKernel.τ).loc Cert.KeysKernel.main_arg1) = m ((c.tc : Thread Cert.KeysKernel.nD Cert.KeysKernel.τ).loc Cert.KeysKernel.main_arg1)
      ∧ r.2.mem ((c.tc : Thread Cert.KeysKernel.nD Cert.KeysKernel.τ).loc Cert.KeysKernel.main_arg2) = m ((c.tc : Thread Cert.KeysKernel.nD Cert.KeysKernel.τ).loc Cert.KeysKernel.main_arg2))
      ∧ r.2.sem = fun _ => 0)

def quiescent_KeysKernelIdeal [hKeysKernelIdeal : Cert.KeysKernelIdeal.Facts] : Prop :=
  ∀ (m : (ℓ : Loc Cert.KeysKernelIdeal.nD Cert.KeysKernelIdeal.τ Cert.KeysKernelIdeal.sig) → Buf (Elt Ideal) ℓ) (g : Dev Cert.KeysKernelIdeal.nD → PrngReg), Pre_KeysKernelIdeal m →
    θ_run (Cert.KeysKernelIdeal.defs (F := Ideal)) (onTc (τ := Cert.KeysKernelIdeal.τ) (Cert.KeysKernelIdeal.main (F := Ideal))) ⟨m, fun _ => 0, g⟩ (fun r => (∀ c : Dev Cert.KeysKernelIdeal.nD,
      r.2.mem ((c.tc : Thread Cert.KeysKernelIdeal.nD Cert.KeysKernelIdeal.τ).loc Cert.KeysKernelIdeal.main_arg0) = m ((c.tc : Thread Cert.KeysKernelIdeal.nD Cert.KeysKernelIdeal.τ).loc Cert.KeysKernelIdeal.main_arg0)
      ∧ r.2.mem ((c.tc : Thread Cert.KeysKernelIdeal.nD Cert.KeysKernelIdeal.τ).loc Cert.KeysKernelIdeal.main_arg1) = m ((c.tc : Thread Cert.KeysKernelIdeal.nD Cert.KeysKernelIdeal.τ).loc Cert.KeysKernelIdeal.main_arg1)
      ∧ r.2.mem ((c.tc : Thread Cert.KeysKernelIdeal.nD Cert.KeysKernelIdeal.τ).loc Cert.KeysKernelIdeal.main_arg2) = m ((c.tc : Thread Cert.KeysKernelIdeal.nD Cert.KeysKernelIdeal.τ).loc Cert.KeysKernelIdeal.main_arg2))
      ∧ r.2.sem = fun _ => 0)

def quiescent_KeysReferenceIdeal [hKeysReferenceIdeal : Cert.KeysReferenceIdeal.Facts] : Prop :=
  ∀ (m : (ℓ : Loc Cert.KeysReferenceIdeal.nD Cert.KeysReferenceIdeal.τ Cert.KeysReferenceIdeal.sig) → Buf (Elt Ideal) ℓ) (g : Dev Cert.KeysReferenceIdeal.nD → PrngReg), Pre_KeysReferenceIdeal m →
    θ_run (Cert.KeysReferenceIdeal.defs (F := Ideal)) (onTc (τ := Cert.KeysReferenceIdeal.τ) (Cert.KeysReferenceIdeal.main (F := Ideal))) ⟨m, fun _ => 0, g⟩ (fun r => (∀ c : Dev Cert.KeysReferenceIdeal.nD,
      r.2.mem ((c.tc : Thread Cert.KeysReferenceIdeal.nD Cert.KeysReferenceIdeal.τ).loc Cert.KeysReferenceIdeal.main_arg0) = m ((c.tc : Thread Cert.KeysReferenceIdeal.nD Cert.KeysReferenceIdeal.τ).loc Cert.KeysReferenceIdeal.main_arg0)
      ∧ r.2.mem ((c.tc : Thread Cert.KeysReferenceIdeal.nD Cert.KeysReferenceIdeal.τ).loc Cert.KeysReferenceIdeal.main_arg1) = m ((c.tc : Thread Cert.KeysReferenceIdeal.nD Cert.KeysReferenceIdeal.τ).loc Cert.KeysReferenceIdeal.main_arg1)
      ∧ r.2.mem ((c.tc : Thread Cert.KeysReferenceIdeal.nD Cert.KeysReferenceIdeal.τ).loc Cert.KeysReferenceIdeal.main_arg2) = m ((c.tc : Thread Cert.KeysReferenceIdeal.nD Cert.KeysReferenceIdeal.τ).loc Cert.KeysReferenceIdeal.main_arg2))
      ∧ r.2.sem = fun _ => 0)

def preserves_InKernel_InKernelIdeal : Prop :=
  True

def algebraic_InKernelIdeal_InReferenceIdeal_pre_in_finite [hInKernelIdeal : Cert.InKernelIdeal.Facts] [hInReferenceIdeal : Cert.InReferenceIdeal.Facts] [hPre_in_finite : Cert.Pre_in_finite.Facts] : Prop :=
  ∀ (m : (ℓ : Loc Cert.InKernelIdeal.nD Cert.InKernelIdeal.τ Cert.InKernelIdeal.sig) → Buf (Elt Ideal) ℓ) (g : Dev Cert.InKernelIdeal.nD → PrngReg)
    (m' : (ℓ : Loc Cert.InReferenceIdeal.nD Cert.InReferenceIdeal.τ Cert.InReferenceIdeal.sig) → Buf (Elt Ideal) ℓ) (g' : Dev Cert.InReferenceIdeal.nD → PrngReg), Pre_InKernelIdeal_in_finite m →
    (∀ c : Dev Cert.InKernelIdeal.nD,
      m' ((c.tc : Thread Cert.InReferenceIdeal.nD Cert.InReferenceIdeal.τ).loc Cert.InReferenceIdeal.main_arg0) = m ((c.tc : Thread Cert.InKernelIdeal.nD Cert.InKernelIdeal.τ).loc Cert.InKernelIdeal.main_arg0)
      ∧ m' ((c.tc : Thread Cert.InReferenceIdeal.nD Cert.InReferenceIdeal.τ).loc Cert.InReferenceIdeal.main_arg1) = m ((c.tc : Thread Cert.InKernelIdeal.nD Cert.InKernelIdeal.τ).loc Cert.InKernelIdeal.main_arg1)
      ∧ m' ((c.tc : Thread Cert.InReferenceIdeal.nD Cert.InReferenceIdeal.τ).loc Cert.InReferenceIdeal.main_arg2) = m ((c.tc : Thread Cert.InKernelIdeal.nD Cert.InKernelIdeal.τ).loc Cert.InKernelIdeal.main_arg2)
      ∧ m' ((c.tc : Thread Cert.InReferenceIdeal.nD Cert.InReferenceIdeal.τ).loc Cert.InReferenceIdeal.main_arg3) = m ((c.tc : Thread Cert.InKernelIdeal.nD Cert.InKernelIdeal.τ).loc Cert.InKernelIdeal.main_arg3)
      ∧ m' ((c.tc : Thread Cert.InReferenceIdeal.nD Cert.InReferenceIdeal.τ).loc Cert.InReferenceIdeal.main_arg4) = m ((c.tc : Thread Cert.InKernelIdeal.nD Cert.InKernelIdeal.τ).loc Cert.InKernelIdeal.main_arg4)) →
    ∃ (v0 : (c : Dev Cert.InKernelIdeal.nD) → Buf (Elt Ideal) ((c.tc : Thread Cert.InKernelIdeal.nD Cert.InKernelIdeal.τ).loc Cert.InKernelIdeal.main_v12_0)) (v1 : (c : Dev Cert.InKernelIdeal.nD) → Buf (Elt Ideal) ((c.tc : Thread Cert.InKernelIdeal.nD Cert.InKernelIdeal.τ).loc Cert.InKernelIdeal.main_v12_1)) (v2 : (c : Dev Cert.InKernelIdeal.nD) → Buf (Elt Ideal) ((c.tc : Thread Cert.InKernelIdeal.nD Cert.InKernelIdeal.τ).loc Cert.InKernelIdeal.main_v12_2)),
      θ_run (Cert.InKernelIdeal.defs (F := Ideal)) (onTc (τ := Cert.InKernelIdeal.τ) (Cert.InKernelIdeal.main (F := Ideal))) ⟨m, fun _ => 0, g⟩ (fun r => ∀ c : Dev Cert.InKernelIdeal.nD,
          r.2.mem ((c.tc : Thread Cert.InKernelIdeal.nD Cert.InKernelIdeal.τ).loc Cert.InKernelIdeal.main_v12_0) = v0 c
          ∧ r.2.mem ((c.tc : Thread Cert.InKernelIdeal.nD Cert.InKernelIdeal.τ).loc Cert.InKernelIdeal.main_v12_1) = v1 c
          ∧ r.2.mem ((c.tc : Thread Cert.InKernelIdeal.nD Cert.InKernelIdeal.τ).loc Cert.InKernelIdeal.main_v12_2) = v2 c
          ∧ r.2.mem ((c.tc : Thread Cert.InKernelIdeal.nD Cert.InKernelIdeal.τ).loc Cert.InKernelIdeal.main_arg0) = m ((c.tc : Thread Cert.InKernelIdeal.nD Cert.InKernelIdeal.τ).loc Cert.InKernelIdeal.main_arg0)
          ∧ r.2.mem ((c.tc : Thread Cert.InKernelIdeal.nD Cert.InKernelIdeal.τ).loc Cert.InKernelIdeal.main_arg1) = m ((c.tc : Thread Cert.InKernelIdeal.nD Cert.InKernelIdeal.τ).loc Cert.InKernelIdeal.main_arg1)
          ∧ r.2.mem ((c.tc : Thread Cert.InKernelIdeal.nD Cert.InKernelIdeal.τ).loc Cert.InKernelIdeal.main_arg2) = m ((c.tc : Thread Cert.InKernelIdeal.nD Cert.InKernelIdeal.τ).loc Cert.InKernelIdeal.main_arg2)
          ∧ r.2.mem ((c.tc : Thread Cert.InKernelIdeal.nD Cert.InKernelIdeal.τ).loc Cert.InKernelIdeal.main_arg3) = m ((c.tc : Thread Cert.InKernelIdeal.nD Cert.InKernelIdeal.τ).loc Cert.InKernelIdeal.main_arg3)
          ∧ r.2.mem ((c.tc : Thread Cert.InKernelIdeal.nD Cert.InKernelIdeal.τ).loc Cert.InKernelIdeal.main_arg4) = m ((c.tc : Thread Cert.InKernelIdeal.nD Cert.InKernelIdeal.τ).loc Cert.InKernelIdeal.main_arg4))
      ∧ θ_run (Cert.InReferenceIdeal.defs (F := Ideal)) (onTc (τ := Cert.InReferenceIdeal.τ) (Cert.InReferenceIdeal.main (F := Ideal))) ⟨m', fun _ => 0, g'⟩ (fun r => ∀ c : Dev Cert.InReferenceIdeal.nD,
          r.2.mem ((c.tc : Thread Cert.InReferenceIdeal.nD Cert.InReferenceIdeal.τ).loc Cert.InReferenceIdeal.main_v45) = v0 c
          ∧ r.2.mem ((c.tc : Thread Cert.InReferenceIdeal.nD Cert.InReferenceIdeal.τ).loc Cert.InReferenceIdeal.main_v47) = v1 c
          ∧ r.2.mem ((c.tc : Thread Cert.InReferenceIdeal.nD Cert.InReferenceIdeal.τ).loc Cert.InReferenceIdeal.main_v44) = v2 c
          ∧ r.2.mem ((c.tc : Thread Cert.InReferenceIdeal.nD Cert.InReferenceIdeal.τ).loc Cert.InReferenceIdeal.main_arg0) = m' ((c.tc : Thread Cert.InReferenceIdeal.nD Cert.InReferenceIdeal.τ).loc Cert.InReferenceIdeal.main_arg0)
          ∧ r.2.mem ((c.tc : Thread Cert.InReferenceIdeal.nD Cert.InReferenceIdeal.τ).loc Cert.InReferenceIdeal.main_arg1) = m' ((c.tc : Thread Cert.InReferenceIdeal.nD Cert.InReferenceIdeal.τ).loc Cert.InReferenceIdeal.main_arg1)
          ∧ r.2.mem ((c.tc : Thread Cert.InReferenceIdeal.nD Cert.InReferenceIdeal.τ).loc Cert.InReferenceIdeal.main_arg2) = m' ((c.tc : Thread Cert.InReferenceIdeal.nD Cert.InReferenceIdeal.τ).loc Cert.InReferenceIdeal.main_arg2)
          ∧ r.2.mem ((c.tc : Thread Cert.InReferenceIdeal.nD Cert.InReferenceIdeal.τ).loc Cert.InReferenceIdeal.main_arg3) = m' ((c.tc : Thread Cert.InReferenceIdeal.nD Cert.InReferenceIdeal.τ).loc Cert.InReferenceIdeal.main_arg3)
          ∧ r.2.mem ((c.tc : Thread Cert.InReferenceIdeal.nD Cert.InReferenceIdeal.τ).loc Cert.InReferenceIdeal.main_arg4) = m' ((c.tc : Thread Cert.InReferenceIdeal.nD Cert.InReferenceIdeal.τ).loc Cert.InReferenceIdeal.main_arg4))

def preserves_GateKernel_GateKernelIdeal : Prop :=
  IdealRules.named_const.Statement Cert.GateKernelIdeal.κ "mask" .f32 0xF149F2CA#32 ⊥

def algebraic_GateKernelIdeal_GateReferenceIdeal_pre_gate_finite [hGateKernelIdeal : Cert.GateKernelIdeal.Facts] [hGateReferenceIdeal : Cert.GateReferenceIdeal.Facts] [hPre_gate_finite : Cert.Pre_gate_finite.Facts] : Prop :=
  ∀ (m : (ℓ : Loc Cert.GateKernelIdeal.nD Cert.GateKernelIdeal.τ Cert.GateKernelIdeal.sig) → Buf (Elt Ideal) ℓ) (g : Dev Cert.GateKernelIdeal.nD → PrngReg)
    (m' : (ℓ : Loc Cert.GateReferenceIdeal.nD Cert.GateReferenceIdeal.τ Cert.GateReferenceIdeal.sig) → Buf (Elt Ideal) ℓ) (g' : Dev Cert.GateReferenceIdeal.nD → PrngReg), Pre_GateKernelIdeal_gate_finite m →
    (∀ c : Dev Cert.GateKernelIdeal.nD,
      m' ((c.tc : Thread Cert.GateReferenceIdeal.nD Cert.GateReferenceIdeal.τ).loc Cert.GateReferenceIdeal.main_arg0) = m ((c.tc : Thread Cert.GateKernelIdeal.nD Cert.GateKernelIdeal.τ).loc Cert.GateKernelIdeal.main_arg0)
      ∧ m' ((c.tc : Thread Cert.GateReferenceIdeal.nD Cert.GateReferenceIdeal.τ).loc Cert.GateReferenceIdeal.main_arg1) = m ((c.tc : Thread Cert.GateKernelIdeal.nD Cert.GateKernelIdeal.τ).loc Cert.GateKernelIdeal.main_arg1)
      ∧ m' ((c.tc : Thread Cert.GateReferenceIdeal.nD Cert.GateReferenceIdeal.τ).loc Cert.GateReferenceIdeal.main_arg2) = m ((c.tc : Thread Cert.GateKernelIdeal.nD Cert.GateKernelIdeal.τ).loc Cert.GateKernelIdeal.main_arg2)
      ∧ m' ((c.tc : Thread Cert.GateReferenceIdeal.nD Cert.GateReferenceIdeal.τ).loc Cert.GateReferenceIdeal.main_arg3) = m ((c.tc : Thread Cert.GateKernelIdeal.nD Cert.GateKernelIdeal.τ).loc Cert.GateKernelIdeal.main_arg3)
      ∧ m' ((c.tc : Thread Cert.GateReferenceIdeal.nD Cert.GateReferenceIdeal.τ).loc Cert.GateReferenceIdeal.main_arg4) = m ((c.tc : Thread Cert.GateKernelIdeal.nD Cert.GateKernelIdeal.τ).loc Cert.GateKernelIdeal.main_arg4)
      ∧ m' ((c.tc : Thread Cert.GateReferenceIdeal.nD Cert.GateReferenceIdeal.τ).loc Cert.GateReferenceIdeal.main_arg5) = m ((c.tc : Thread Cert.GateKernelIdeal.nD Cert.GateKernelIdeal.τ).loc Cert.GateKernelIdeal.main_arg5)
      ∧ m' ((c.tc : Thread Cert.GateReferenceIdeal.nD Cert.GateReferenceIdeal.τ).loc Cert.GateReferenceIdeal.main_arg6) = m ((c.tc : Thread Cert.GateKernelIdeal.nD Cert.GateKernelIdeal.τ).loc Cert.GateKernelIdeal.main_arg6)
      ∧ m' ((c.tc : Thread Cert.GateReferenceIdeal.nD Cert.GateReferenceIdeal.τ).loc Cert.GateReferenceIdeal.main_arg7) = m ((c.tc : Thread Cert.GateKernelIdeal.nD Cert.GateKernelIdeal.τ).loc Cert.GateKernelIdeal.main_arg7)
      ∧ m' ((c.tc : Thread Cert.GateReferenceIdeal.nD Cert.GateReferenceIdeal.τ).loc Cert.GateReferenceIdeal.main_arg8) = m ((c.tc : Thread Cert.GateKernelIdeal.nD Cert.GateKernelIdeal.τ).loc Cert.GateKernelIdeal.main_arg8)
      ∧ m' ((c.tc : Thread Cert.GateReferenceIdeal.nD Cert.GateReferenceIdeal.τ).loc Cert.GateReferenceIdeal.main_arg9) = m ((c.tc : Thread Cert.GateKernelIdeal.nD Cert.GateKernelIdeal.τ).loc Cert.GateKernelIdeal.main_arg9)
      ∧ m' ((c.tc : Thread Cert.GateReferenceIdeal.nD Cert.GateReferenceIdeal.τ).loc Cert.GateReferenceIdeal.main_arg10) = m ((c.tc : Thread Cert.GateKernelIdeal.nD Cert.GateKernelIdeal.τ).loc Cert.GateKernelIdeal.main_arg10)) →
    ∃ (v0 : (c : Dev Cert.GateKernelIdeal.nD) → Buf (Elt Ideal) ((c.tc : Thread Cert.GateKernelIdeal.nD Cert.GateKernelIdeal.τ).loc Cert.GateKernelIdeal.main_v36_0)) (v1 : (c : Dev Cert.GateKernelIdeal.nD) → Buf (Elt Ideal) ((c.tc : Thread Cert.GateKernelIdeal.nD Cert.GateKernelIdeal.τ).loc Cert.GateKernelIdeal.main_v36_3)) (v2 : (c : Dev Cert.GateKernelIdeal.nD) → Buf (Elt Ideal) ((c.tc : Thread Cert.GateKernelIdeal.nD Cert.GateKernelIdeal.τ).loc Cert.GateKernelIdeal.main_v36_4)) (v3 : (c : Dev Cert.GateKernelIdeal.nD) → Buf (Elt Ideal) ((c.tc : Thread Cert.GateKernelIdeal.nD Cert.GateKernelIdeal.τ).loc Cert.GateKernelIdeal.main_v36_5)) (v4 : (c : Dev Cert.GateKernelIdeal.nD) → Buf (Elt Ideal) ((c.tc : Thread Cert.GateKernelIdeal.nD Cert.GateKernelIdeal.τ).loc Cert.GateKernelIdeal.main_v36_6)),
      θ_run (Cert.GateKernelIdeal.defs (F := Ideal)) (onTc (τ := Cert.GateKernelIdeal.τ) (Cert.GateKernelIdeal.main (F := Ideal))) ⟨m, fun _ => 0, g⟩ (fun r => ∀ c : Dev Cert.GateKernelIdeal.nD,
          r.2.mem ((c.tc : Thread Cert.GateKernelIdeal.nD Cert.GateKernelIdeal.τ).loc Cert.GateKernelIdeal.main_v36_0) = v0 c
          ∧ r.2.mem ((c.tc : Thread Cert.GateKernelIdeal.nD Cert.GateKernelIdeal.τ).loc Cert.GateKernelIdeal.main_v36_3) = v1 c
          ∧ r.2.mem ((c.tc : Thread Cert.GateKernelIdeal.nD Cert.GateKernelIdeal.τ).loc Cert.GateKernelIdeal.main_v36_4) = v2 c
          ∧ r.2.mem ((c.tc : Thread Cert.GateKernelIdeal.nD Cert.GateKernelIdeal.τ).loc Cert.GateKernelIdeal.main_v36_5) = v3 c
          ∧ r.2.mem ((c.tc : Thread Cert.GateKernelIdeal.nD Cert.GateKernelIdeal.τ).loc Cert.GateKernelIdeal.main_v36_6) = v4 c
          ∧ r.2.mem ((c.tc : Thread Cert.GateKernelIdeal.nD Cert.GateKernelIdeal.τ).loc Cert.GateKernelIdeal.main_arg0) = m ((c.tc : Thread Cert.GateKernelIdeal.nD Cert.GateKernelIdeal.τ).loc Cert.GateKernelIdeal.main_arg0)
          ∧ r.2.mem ((c.tc : Thread Cert.GateKernelIdeal.nD Cert.GateKernelIdeal.τ).loc Cert.GateKernelIdeal.main_arg1) = m ((c.tc : Thread Cert.GateKernelIdeal.nD Cert.GateKernelIdeal.τ).loc Cert.GateKernelIdeal.main_arg1)
          ∧ r.2.mem ((c.tc : Thread Cert.GateKernelIdeal.nD Cert.GateKernelIdeal.τ).loc Cert.GateKernelIdeal.main_arg2) = m ((c.tc : Thread Cert.GateKernelIdeal.nD Cert.GateKernelIdeal.τ).loc Cert.GateKernelIdeal.main_arg2)
          ∧ r.2.mem ((c.tc : Thread Cert.GateKernelIdeal.nD Cert.GateKernelIdeal.τ).loc Cert.GateKernelIdeal.main_arg3) = m ((c.tc : Thread Cert.GateKernelIdeal.nD Cert.GateKernelIdeal.τ).loc Cert.GateKernelIdeal.main_arg3)
          ∧ r.2.mem ((c.tc : Thread Cert.GateKernelIdeal.nD Cert.GateKernelIdeal.τ).loc Cert.GateKernelIdeal.main_arg4) = m ((c.tc : Thread Cert.GateKernelIdeal.nD Cert.GateKernelIdeal.τ).loc Cert.GateKernelIdeal.main_arg4)
          ∧ r.2.mem ((c.tc : Thread Cert.GateKernelIdeal.nD Cert.GateKernelIdeal.τ).loc Cert.GateKernelIdeal.main_arg5) = m ((c.tc : Thread Cert.GateKernelIdeal.nD Cert.GateKernelIdeal.τ).loc Cert.GateKernelIdeal.main_arg5)
          ∧ r.2.mem ((c.tc : Thread Cert.GateKernelIdeal.nD Cert.GateKernelIdeal.τ).loc Cert.GateKernelIdeal.main_arg6) = m ((c.tc : Thread Cert.GateKernelIdeal.nD Cert.GateKernelIdeal.τ).loc Cert.GateKernelIdeal.main_arg6)
          ∧ r.2.mem ((c.tc : Thread Cert.GateKernelIdeal.nD Cert.GateKernelIdeal.τ).loc Cert.GateKernelIdeal.main_arg7) = m ((c.tc : Thread Cert.GateKernelIdeal.nD Cert.GateKernelIdeal.τ).loc Cert.GateKernelIdeal.main_arg7)
          ∧ r.2.mem ((c.tc : Thread Cert.GateKernelIdeal.nD Cert.GateKernelIdeal.τ).loc Cert.GateKernelIdeal.main_arg8) = m ((c.tc : Thread Cert.GateKernelIdeal.nD Cert.GateKernelIdeal.τ).loc Cert.GateKernelIdeal.main_arg8)
          ∧ r.2.mem ((c.tc : Thread Cert.GateKernelIdeal.nD Cert.GateKernelIdeal.τ).loc Cert.GateKernelIdeal.main_arg9) = m ((c.tc : Thread Cert.GateKernelIdeal.nD Cert.GateKernelIdeal.τ).loc Cert.GateKernelIdeal.main_arg9)
          ∧ r.2.mem ((c.tc : Thread Cert.GateKernelIdeal.nD Cert.GateKernelIdeal.τ).loc Cert.GateKernelIdeal.main_arg10) = m ((c.tc : Thread Cert.GateKernelIdeal.nD Cert.GateKernelIdeal.τ).loc Cert.GateKernelIdeal.main_arg10))
      ∧ θ_run (Cert.GateReferenceIdeal.defs (F := Ideal)) (onTc (τ := Cert.GateReferenceIdeal.τ) (Cert.GateReferenceIdeal.main (F := Ideal))) ⟨m', fun _ => 0, g'⟩ (fun r => ∀ c : Dev Cert.GateReferenceIdeal.nD,
          r.2.mem ((c.tc : Thread Cert.GateReferenceIdeal.nD Cert.GateReferenceIdeal.τ).loc Cert.GateReferenceIdeal.main_v177) = v0 c
          ∧ r.2.mem ((c.tc : Thread Cert.GateReferenceIdeal.nD Cert.GateReferenceIdeal.τ).loc Cert.GateReferenceIdeal.main_v178) = v1 c
          ∧ r.2.mem ((c.tc : Thread Cert.GateReferenceIdeal.nD Cert.GateReferenceIdeal.τ).loc Cert.GateReferenceIdeal.main_v179) = v2 c
          ∧ r.2.mem ((c.tc : Thread Cert.GateReferenceIdeal.nD Cert.GateReferenceIdeal.τ).loc Cert.GateReferenceIdeal.main_v148) = v3 c
          ∧ r.2.mem ((c.tc : Thread Cert.GateReferenceIdeal.nD Cert.GateReferenceIdeal.τ).loc Cert.GateReferenceIdeal.main_v147) = v4 c
          ∧ r.2.mem ((c.tc : Thread Cert.GateReferenceIdeal.nD Cert.GateReferenceIdeal.τ).loc Cert.GateReferenceIdeal.main_arg0) = m' ((c.tc : Thread Cert.GateReferenceIdeal.nD Cert.GateReferenceIdeal.τ).loc Cert.GateReferenceIdeal.main_arg0)
          ∧ r.2.mem ((c.tc : Thread Cert.GateReferenceIdeal.nD Cert.GateReferenceIdeal.τ).loc Cert.GateReferenceIdeal.main_arg1) = m' ((c.tc : Thread Cert.GateReferenceIdeal.nD Cert.GateReferenceIdeal.τ).loc Cert.GateReferenceIdeal.main_arg1)
          ∧ r.2.mem ((c.tc : Thread Cert.GateReferenceIdeal.nD Cert.GateReferenceIdeal.τ).loc Cert.GateReferenceIdeal.main_arg2) = m' ((c.tc : Thread Cert.GateReferenceIdeal.nD Cert.GateReferenceIdeal.τ).loc Cert.GateReferenceIdeal.main_arg2)
          ∧ r.2.mem ((c.tc : Thread Cert.GateReferenceIdeal.nD Cert.GateReferenceIdeal.τ).loc Cert.GateReferenceIdeal.main_arg3) = m' ((c.tc : Thread Cert.GateReferenceIdeal.nD Cert.GateReferenceIdeal.τ).loc Cert.GateReferenceIdeal.main_arg3)
          ∧ r.2.mem ((c.tc : Thread Cert.GateReferenceIdeal.nD Cert.GateReferenceIdeal.τ).loc Cert.GateReferenceIdeal.main_arg4) = m' ((c.tc : Thread Cert.GateReferenceIdeal.nD Cert.GateReferenceIdeal.τ).loc Cert.GateReferenceIdeal.main_arg4)
          ∧ r.2.mem ((c.tc : Thread Cert.GateReferenceIdeal.nD Cert.GateReferenceIdeal.τ).loc Cert.GateReferenceIdeal.main_arg5) = m' ((c.tc : Thread Cert.GateReferenceIdeal.nD Cert.GateReferenceIdeal.τ).loc Cert.GateReferenceIdeal.main_arg5)
          ∧ r.2.mem ((c.tc : Thread Cert.GateReferenceIdeal.nD Cert.GateReferenceIdeal.τ).loc Cert.GateReferenceIdeal.main_arg6) = m' ((c.tc : Thread Cert.GateReferenceIdeal.nD Cert.GateReferenceIdeal.τ).loc Cert.GateReferenceIdeal.main_arg6)
          ∧ r.2.mem ((c.tc : Thread Cert.GateReferenceIdeal.nD Cert.GateReferenceIdeal.τ).loc Cert.GateReferenceIdeal.main_arg7) = m' ((c.tc : Thread Cert.GateReferenceIdeal.nD Cert.GateReferenceIdeal.τ).loc Cert.GateReferenceIdeal.main_arg7)
          ∧ r.2.mem ((c.tc : Thread Cert.GateReferenceIdeal.nD Cert.GateReferenceIdeal.τ).loc Cert.GateReferenceIdeal.main_arg8) = m' ((c.tc : Thread Cert.GateReferenceIdeal.nD Cert.GateReferenceIdeal.τ).loc Cert.GateReferenceIdeal.main_arg8)
          ∧ r.2.mem ((c.tc : Thread Cert.GateReferenceIdeal.nD Cert.GateReferenceIdeal.τ).loc Cert.GateReferenceIdeal.main_arg9) = m' ((c.tc : Thread Cert.GateReferenceIdeal.nD Cert.GateReferenceIdeal.τ).loc Cert.GateReferenceIdeal.main_arg9)
          ∧ r.2.mem ((c.tc : Thread Cert.GateReferenceIdeal.nD Cert.GateReferenceIdeal.τ).loc Cert.GateReferenceIdeal.main_arg10) = m' ((c.tc : Thread Cert.GateReferenceIdeal.nD Cert.GateReferenceIdeal.τ).loc Cert.GateReferenceIdeal.main_arg10))

def preserves_MemKernel_MemKernelIdeal : Prop :=
  True

def algebraic_MemKernelIdeal_MemReferenceIdeal [hMemKernelIdeal : Cert.MemKernelIdeal.Facts] [hMemReferenceIdeal : Cert.MemReferenceIdeal.Facts] : Prop :=
  ∀ (m : (ℓ : Loc Cert.MemKernelIdeal.nD Cert.MemKernelIdeal.τ Cert.MemKernelIdeal.sig) → Buf (Elt Ideal) ℓ) (g : Dev Cert.MemKernelIdeal.nD → PrngReg)
    (m' : (ℓ : Loc Cert.MemReferenceIdeal.nD Cert.MemReferenceIdeal.τ Cert.MemReferenceIdeal.sig) → Buf (Elt Ideal) ℓ) (g' : Dev Cert.MemReferenceIdeal.nD → PrngReg), Pre_MemKernelIdeal m →
    (∀ c : Dev Cert.MemKernelIdeal.nD,
      m' ((c.tc : Thread Cert.MemReferenceIdeal.nD Cert.MemReferenceIdeal.τ).loc Cert.MemReferenceIdeal.main_arg0) = m ((c.tc : Thread Cert.MemKernelIdeal.nD Cert.MemKernelIdeal.τ).loc Cert.MemKernelIdeal.main_arg0)
      ∧ m' ((c.tc : Thread Cert.MemReferenceIdeal.nD Cert.MemReferenceIdeal.τ).loc Cert.MemReferenceIdeal.main_arg1) = m ((c.tc : Thread Cert.MemKernelIdeal.nD Cert.MemKernelIdeal.τ).loc Cert.MemKernelIdeal.main_arg1)
      ∧ m' ((c.tc : Thread Cert.MemReferenceIdeal.nD Cert.MemReferenceIdeal.τ).loc Cert.MemReferenceIdeal.main_arg2) = m ((c.tc : Thread Cert.MemKernelIdeal.nD Cert.MemKernelIdeal.τ).loc Cert.MemKernelIdeal.main_arg2)
      ∧ m' ((c.tc : Thread Cert.MemReferenceIdeal.nD Cert.MemReferenceIdeal.τ).loc Cert.MemReferenceIdeal.main_arg3) = m ((c.tc : Thread Cert.MemKernelIdeal.nD Cert.MemKernelIdeal.τ).loc Cert.MemKernelIdeal.main_arg3)) →
    ∃ (v0 : (c : Dev Cert.MemKernelIdeal.nD) → Buf (Elt Ideal) ((c.tc : Thread Cert.MemKernelIdeal.nD Cert.MemKernelIdeal.τ).loc Cert.MemKernelIdeal.main_v4_0)) (v1 : (c : Dev Cert.MemKernelIdeal.nD) → Buf (Elt Ideal) ((c.tc : Thread Cert.MemKernelIdeal.nD Cert.MemKernelIdeal.τ).loc Cert.MemKernelIdeal.main_v4_1)),
      θ_run (Cert.MemKernelIdeal.defs (F := Ideal)) (onTc (τ := Cert.MemKernelIdeal.τ) (Cert.MemKernelIdeal.main (F := Ideal))) ⟨m, fun _ => 0, g⟩ (fun r => ∀ c : Dev Cert.MemKernelIdeal.nD,
          r.2.mem ((c.tc : Thread Cert.MemKernelIdeal.nD Cert.MemKernelIdeal.τ).loc Cert.MemKernelIdeal.main_v4_0) = v0 c
          ∧ r.2.mem ((c.tc : Thread Cert.MemKernelIdeal.nD Cert.MemKernelIdeal.τ).loc Cert.MemKernelIdeal.main_v4_1) = v1 c
          ∧ r.2.mem ((c.tc : Thread Cert.MemKernelIdeal.nD Cert.MemKernelIdeal.τ).loc Cert.MemKernelIdeal.main_arg0) = m ((c.tc : Thread Cert.MemKernelIdeal.nD Cert.MemKernelIdeal.τ).loc Cert.MemKernelIdeal.main_arg0)
          ∧ r.2.mem ((c.tc : Thread Cert.MemKernelIdeal.nD Cert.MemKernelIdeal.τ).loc Cert.MemKernelIdeal.main_arg1) = m ((c.tc : Thread Cert.MemKernelIdeal.nD Cert.MemKernelIdeal.τ).loc Cert.MemKernelIdeal.main_arg1)
          ∧ r.2.mem ((c.tc : Thread Cert.MemKernelIdeal.nD Cert.MemKernelIdeal.τ).loc Cert.MemKernelIdeal.main_arg2) = m ((c.tc : Thread Cert.MemKernelIdeal.nD Cert.MemKernelIdeal.τ).loc Cert.MemKernelIdeal.main_arg2)
          ∧ r.2.mem ((c.tc : Thread Cert.MemKernelIdeal.nD Cert.MemKernelIdeal.τ).loc Cert.MemKernelIdeal.main_arg3) = m ((c.tc : Thread Cert.MemKernelIdeal.nD Cert.MemKernelIdeal.τ).loc Cert.MemKernelIdeal.main_arg3))
      ∧ θ_run (Cert.MemReferenceIdeal.defs (F := Ideal)) (onTc (τ := Cert.MemReferenceIdeal.τ) (Cert.MemReferenceIdeal.main (F := Ideal))) ⟨m', fun _ => 0, g'⟩ (fun r => ∀ c : Dev Cert.MemReferenceIdeal.nD,
          r.2.mem ((c.tc : Thread Cert.MemReferenceIdeal.nD Cert.MemReferenceIdeal.τ).loc Cert.MemReferenceIdeal.main_v25) = v0 c
          ∧ r.2.mem ((c.tc : Thread Cert.MemReferenceIdeal.nD Cert.MemReferenceIdeal.τ).loc Cert.MemReferenceIdeal.main_v24) = v1 c
          ∧ r.2.mem ((c.tc : Thread Cert.MemReferenceIdeal.nD Cert.MemReferenceIdeal.τ).loc Cert.MemReferenceIdeal.main_arg0) = m' ((c.tc : Thread Cert.MemReferenceIdeal.nD Cert.MemReferenceIdeal.τ).loc Cert.MemReferenceIdeal.main_arg0)
          ∧ r.2.mem ((c.tc : Thread Cert.MemReferenceIdeal.nD Cert.MemReferenceIdeal.τ).loc Cert.MemReferenceIdeal.main_arg1) = m' ((c.tc : Thread Cert.MemReferenceIdeal.nD Cert.MemReferenceIdeal.τ).loc Cert.MemReferenceIdeal.main_arg1)
          ∧ r.2.mem ((c.tc : Thread Cert.MemReferenceIdeal.nD Cert.MemReferenceIdeal.τ).loc Cert.MemReferenceIdeal.main_arg2) = m' ((c.tc : Thread Cert.MemReferenceIdeal.nD Cert.MemReferenceIdeal.τ).loc Cert.MemReferenceIdeal.main_arg2)
          ∧ r.2.mem ((c.tc : Thread Cert.MemReferenceIdeal.nD Cert.MemReferenceIdeal.τ).loc Cert.MemReferenceIdeal.main_arg3) = m' ((c.tc : Thread Cert.MemReferenceIdeal.nD Cert.MemReferenceIdeal.τ).loc Cert.MemReferenceIdeal.main_arg3))

def preserves_ProjKernel_ProjKernelIdeal : Prop :=
  True

def algebraic_ProjKernelIdeal_ProjReferenceIdeal [hProjKernelIdeal : Cert.ProjKernelIdeal.Facts] [hProjReferenceIdeal : Cert.ProjReferenceIdeal.Facts] : Prop :=
  ∀ (m : (ℓ : Loc Cert.ProjKernelIdeal.nD Cert.ProjKernelIdeal.τ Cert.ProjKernelIdeal.sig) → Buf (Elt Ideal) ℓ) (g : Dev Cert.ProjKernelIdeal.nD → PrngReg)
    (m' : (ℓ : Loc Cert.ProjReferenceIdeal.nD Cert.ProjReferenceIdeal.τ Cert.ProjReferenceIdeal.sig) → Buf (Elt Ideal) ℓ) (g' : Dev Cert.ProjReferenceIdeal.nD → PrngReg), Pre_ProjKernelIdeal m →
    (∀ c : Dev Cert.ProjKernelIdeal.nD,
      m' ((c.tc : Thread Cert.ProjReferenceIdeal.nD Cert.ProjReferenceIdeal.τ).loc Cert.ProjReferenceIdeal.main_arg0) = m ((c.tc : Thread Cert.ProjKernelIdeal.nD Cert.ProjKernelIdeal.τ).loc Cert.ProjKernelIdeal.main_arg0)
      ∧ m' ((c.tc : Thread Cert.ProjReferenceIdeal.nD Cert.ProjReferenceIdeal.τ).loc Cert.ProjReferenceIdeal.main_arg1) = m ((c.tc : Thread Cert.ProjKernelIdeal.nD Cert.ProjKernelIdeal.τ).loc Cert.ProjKernelIdeal.main_arg1)
      ∧ m' ((c.tc : Thread Cert.ProjReferenceIdeal.nD Cert.ProjReferenceIdeal.τ).loc Cert.ProjReferenceIdeal.main_arg2) = m ((c.tc : Thread Cert.ProjKernelIdeal.nD Cert.ProjKernelIdeal.τ).loc Cert.ProjKernelIdeal.main_arg2)) →
    ∃ (v0 : (c : Dev Cert.ProjKernelIdeal.nD) → Buf (Elt Ideal) ((c.tc : Thread Cert.ProjKernelIdeal.nD Cert.ProjKernelIdeal.τ).loc Cert.ProjKernelIdeal.main_v4_0)) (v1 : (c : Dev Cert.ProjKernelIdeal.nD) → Buf (Elt Ideal) ((c.tc : Thread Cert.ProjKernelIdeal.nD Cert.ProjKernelIdeal.τ).loc Cert.ProjKernelIdeal.main_v4_1)) (v2 : (c : Dev Cert.ProjKernelIdeal.nD) → Buf (Elt Ideal) ((c.tc : Thread Cert.ProjKernelIdeal.nD Cert.ProjKernelIdeal.τ).loc Cert.ProjKernelIdeal.main_v4_2)),
      θ_run (Cert.ProjKernelIdeal.defs (F := Ideal)) (onTc (τ := Cert.ProjKernelIdeal.τ) (Cert.ProjKernelIdeal.main (F := Ideal))) ⟨m, fun _ => 0, g⟩ (fun r => ∀ c : Dev Cert.ProjKernelIdeal.nD,
          r.2.mem ((c.tc : Thread Cert.ProjKernelIdeal.nD Cert.ProjKernelIdeal.τ).loc Cert.ProjKernelIdeal.main_v4_0) = v0 c
          ∧ r.2.mem ((c.tc : Thread Cert.ProjKernelIdeal.nD Cert.ProjKernelIdeal.τ).loc Cert.ProjKernelIdeal.main_v4_1) = v1 c
          ∧ r.2.mem ((c.tc : Thread Cert.ProjKernelIdeal.nD Cert.ProjKernelIdeal.τ).loc Cert.ProjKernelIdeal.main_v4_2) = v2 c
          ∧ r.2.mem ((c.tc : Thread Cert.ProjKernelIdeal.nD Cert.ProjKernelIdeal.τ).loc Cert.ProjKernelIdeal.main_arg0) = m ((c.tc : Thread Cert.ProjKernelIdeal.nD Cert.ProjKernelIdeal.τ).loc Cert.ProjKernelIdeal.main_arg0)
          ∧ r.2.mem ((c.tc : Thread Cert.ProjKernelIdeal.nD Cert.ProjKernelIdeal.τ).loc Cert.ProjKernelIdeal.main_arg1) = m ((c.tc : Thread Cert.ProjKernelIdeal.nD Cert.ProjKernelIdeal.τ).loc Cert.ProjKernelIdeal.main_arg1)
          ∧ r.2.mem ((c.tc : Thread Cert.ProjKernelIdeal.nD Cert.ProjKernelIdeal.τ).loc Cert.ProjKernelIdeal.main_arg2) = m ((c.tc : Thread Cert.ProjKernelIdeal.nD Cert.ProjKernelIdeal.τ).loc Cert.ProjKernelIdeal.main_arg2))
      ∧ θ_run (Cert.ProjReferenceIdeal.defs (F := Ideal)) (onTc (τ := Cert.ProjReferenceIdeal.τ) (Cert.ProjReferenceIdeal.main (F := Ideal))) ⟨m', fun _ => 0, g'⟩ (fun r => ∀ c : Dev Cert.ProjReferenceIdeal.nD,
          r.2.mem ((c.tc : Thread Cert.ProjReferenceIdeal.nD Cert.ProjReferenceIdeal.τ).loc Cert.ProjReferenceIdeal.main_v19) = v0 c
          ∧ r.2.mem ((c.tc : Thread Cert.ProjReferenceIdeal.nD Cert.ProjReferenceIdeal.τ).loc Cert.ProjReferenceIdeal.main_v21) = v1 c
          ∧ r.2.mem ((c.tc : Thread Cert.ProjReferenceIdeal.nD Cert.ProjReferenceIdeal.τ).loc Cert.ProjReferenceIdeal.main_v22) = v2 c
          ∧ r.2.mem ((c.tc : Thread Cert.ProjReferenceIdeal.nD Cert.ProjReferenceIdeal.τ).loc Cert.ProjReferenceIdeal.main_arg0) = m' ((c.tc : Thread Cert.ProjReferenceIdeal.nD Cert.ProjReferenceIdeal.τ).loc Cert.ProjReferenceIdeal.main_arg0)
          ∧ r.2.mem ((c.tc : Thread Cert.ProjReferenceIdeal.nD Cert.ProjReferenceIdeal.τ).loc Cert.ProjReferenceIdeal.main_arg1) = m' ((c.tc : Thread Cert.ProjReferenceIdeal.nD Cert.ProjReferenceIdeal.τ).loc Cert.ProjReferenceIdeal.main_arg1)
          ∧ r.2.mem ((c.tc : Thread Cert.ProjReferenceIdeal.nD Cert.ProjReferenceIdeal.τ).loc Cert.ProjReferenceIdeal.main_arg2) = m' ((c.tc : Thread Cert.ProjReferenceIdeal.nD Cert.ProjReferenceIdeal.τ).loc Cert.ProjReferenceIdeal.main_arg2))

def preserves_KeysKernel_KeysKernelIdeal : Prop :=
  True

def algebraic_KeysKernelIdeal_KeysReferenceIdeal [hKeysKernelIdeal : Cert.KeysKernelIdeal.Facts] [hKeysReferenceIdeal : Cert.KeysReferenceIdeal.Facts] : Prop :=
  ∀ (m : (ℓ : Loc Cert.KeysKernelIdeal.nD Cert.KeysKernelIdeal.τ Cert.KeysKernelIdeal.sig) → Buf (Elt Ideal) ℓ) (g : Dev Cert.KeysKernelIdeal.nD → PrngReg)
    (m' : (ℓ : Loc Cert.KeysReferenceIdeal.nD Cert.KeysReferenceIdeal.τ Cert.KeysReferenceIdeal.sig) → Buf (Elt Ideal) ℓ) (g' : Dev Cert.KeysReferenceIdeal.nD → PrngReg), Pre_KeysKernelIdeal m →
    (∀ c : Dev Cert.KeysKernelIdeal.nD,
      m' ((c.tc : Thread Cert.KeysReferenceIdeal.nD Cert.KeysReferenceIdeal.τ).loc Cert.KeysReferenceIdeal.main_arg0) = m ((c.tc : Thread Cert.KeysKernelIdeal.nD Cert.KeysKernelIdeal.τ).loc Cert.KeysKernelIdeal.main_arg0)
      ∧ m' ((c.tc : Thread Cert.KeysReferenceIdeal.nD Cert.KeysReferenceIdeal.τ).loc Cert.KeysReferenceIdeal.main_arg1) = m ((c.tc : Thread Cert.KeysKernelIdeal.nD Cert.KeysKernelIdeal.τ).loc Cert.KeysKernelIdeal.main_arg1)
      ∧ m' ((c.tc : Thread Cert.KeysReferenceIdeal.nD Cert.KeysReferenceIdeal.τ).loc Cert.KeysReferenceIdeal.main_arg2) = m ((c.tc : Thread Cert.KeysKernelIdeal.nD Cert.KeysKernelIdeal.τ).loc Cert.KeysKernelIdeal.main_arg2)) →
    ∃ (v0 : (c : Dev Cert.KeysKernelIdeal.nD) → Buf (Elt Ideal) ((c.tc : Thread Cert.KeysKernelIdeal.nD Cert.KeysKernelIdeal.τ).loc Cert.KeysKernelIdeal.main_v3)),
      θ_run (Cert.KeysKernelIdeal.defs (F := Ideal)) (onTc (τ := Cert.KeysKernelIdeal.τ) (Cert.KeysKernelIdeal.main (F := Ideal))) ⟨m, fun _ => 0, g⟩ (fun r => ∀ c : Dev Cert.KeysKernelIdeal.nD,
          r.2.mem ((c.tc : Thread Cert.KeysKernelIdeal.nD Cert.KeysKernelIdeal.τ).loc Cert.KeysKernelIdeal.main_v3) = v0 c
          ∧ r.2.mem ((c.tc : Thread Cert.KeysKernelIdeal.nD Cert.KeysKernelIdeal.τ).loc Cert.KeysKernelIdeal.main_arg0) = m ((c.tc : Thread Cert.KeysKernelIdeal.nD Cert.KeysKernelIdeal.τ).loc Cert.KeysKernelIdeal.main_arg0)
          ∧ r.2.mem ((c.tc : Thread Cert.KeysKernelIdeal.nD Cert.KeysKernelIdeal.τ).loc Cert.KeysKernelIdeal.main_arg1) = m ((c.tc : Thread Cert.KeysKernelIdeal.nD Cert.KeysKernelIdeal.τ).loc Cert.KeysKernelIdeal.main_arg1)
          ∧ r.2.mem ((c.tc : Thread Cert.KeysKernelIdeal.nD Cert.KeysKernelIdeal.τ).loc Cert.KeysKernelIdeal.main_arg2) = m ((c.tc : Thread Cert.KeysKernelIdeal.nD Cert.KeysKernelIdeal.τ).loc Cert.KeysKernelIdeal.main_arg2))
      ∧ θ_run (Cert.KeysReferenceIdeal.defs (F := Ideal)) (onTc (τ := Cert.KeysReferenceIdeal.τ) (Cert.KeysReferenceIdeal.main (F := Ideal))) ⟨m', fun _ => 0, g'⟩ (fun r => ∀ c : Dev Cert.KeysReferenceIdeal.nD,
          r.2.mem ((c.tc : Thread Cert.KeysReferenceIdeal.nD Cert.KeysReferenceIdeal.τ).loc Cert.KeysReferenceIdeal.main_v17) = v0 c
          ∧ r.2.mem ((c.tc : Thread Cert.KeysReferenceIdeal.nD Cert.KeysReferenceIdeal.τ).loc Cert.KeysReferenceIdeal.main_arg0) = m' ((c.tc : Thread Cert.KeysReferenceIdeal.nD Cert.KeysReferenceIdeal.τ).loc Cert.KeysReferenceIdeal.main_arg0)
          ∧ r.2.mem ((c.tc : Thread Cert.KeysReferenceIdeal.nD Cert.KeysReferenceIdeal.τ).loc Cert.KeysReferenceIdeal.main_arg1) = m' ((c.tc : Thread Cert.KeysReferenceIdeal.nD Cert.KeysReferenceIdeal.τ).loc Cert.KeysReferenceIdeal.main_arg1)
          ∧ r.2.mem ((c.tc : Thread Cert.KeysReferenceIdeal.nD Cert.KeysReferenceIdeal.τ).loc Cert.KeysReferenceIdeal.main_arg2) = m' ((c.tc : Thread Cert.KeysReferenceIdeal.nD Cert.KeysReferenceIdeal.τ).loc Cert.KeysReferenceIdeal.main_arg2))

def Claim : Prop :=
  ∃ (hInKernel : Cert.InKernel.Facts) (hInKernelIdeal : Cert.InKernelIdeal.Facts) (hInReferenceIdeal : Cert.InReferenceIdeal.Facts) (hGateKernel : Cert.GateKernel.Facts) (hGateKernelIdeal : Cert.GateKernelIdeal.Facts) (hGateReferenceIdeal : Cert.GateReferenceIdeal.Facts) (hMemKernel : Cert.MemKernel.Facts) (hMemKernelIdeal : Cert.MemKernelIdeal.Facts) (hMemReferenceIdeal : Cert.MemReferenceIdeal.Facts) (hProjKernel : Cert.ProjKernel.Facts) (hProjKernelIdeal : Cert.ProjKernelIdeal.Facts) (hProjReferenceIdeal : Cert.ProjReferenceIdeal.Facts) (hKeysKernel : Cert.KeysKernel.Facts) (hKeysKernelIdeal : Cert.KeysKernelIdeal.Facts) (hKeysReferenceIdeal : Cert.KeysReferenceIdeal.Facts) (hPre_in_finite : Cert.Pre_in_finite.Facts) (hPre_gate_finite : Cert.Pre_gate_finite.Facts),
    quiescent_InKernel (hInKernel := hInKernel)
    ∧ quiescent_InKernelIdeal (hInKernelIdeal := hInKernelIdeal)
    ∧ quiescent_InKernelIdeal_pre_in_finite (hInKernelIdeal := hInKernelIdeal) (hPre_in_finite := hPre_in_finite)
    ∧ quiescent_InReferenceIdeal (hInReferenceIdeal := hInReferenceIdeal)
    ∧ quiescent_InReferenceIdeal_pre_in_finite (hInReferenceIdeal := hInReferenceIdeal) (hPre_in_finite := hPre_in_finite)
    ∧ quiescent_GateKernel (hGateKernel := hGateKernel)
    ∧ quiescent_GateKernelIdeal (hGateKernelIdeal := hGateKernelIdeal)
    ∧ quiescent_GateKernelIdeal_pre_gate_finite (hGateKernelIdeal := hGateKernelIdeal) (hPre_gate_finite := hPre_gate_finite)
    ∧ quiescent_GateReferenceIdeal (hGateReferenceIdeal := hGateReferenceIdeal)
    ∧ quiescent_GateReferenceIdeal_pre_gate_finite (hGateReferenceIdeal := hGateReferenceIdeal) (hPre_gate_finite := hPre_gate_finite)
    ∧ quiescent_MemKernel (hMemKernel := hMemKernel)
    ∧ quiescent_MemKernelIdeal (hMemKernelIdeal := hMemKernelIdeal)
    ∧ quiescent_MemReferenceIdeal (hMemReferenceIdeal := hMemReferenceIdeal)
    ∧ quiescent_ProjKernel (hProjKernel := hProjKernel)
    ∧ quiescent_ProjKernelIdeal (hProjKernelIdeal := hProjKernelIdeal)
    ∧ quiescent_ProjReferenceIdeal (hProjReferenceIdeal := hProjReferenceIdeal)
    ∧ quiescent_KeysKernel (hKeysKernel := hKeysKernel)
    ∧ quiescent_KeysKernelIdeal (hKeysKernelIdeal := hKeysKernelIdeal)
    ∧ quiescent_KeysReferenceIdeal (hKeysReferenceIdeal := hKeysReferenceIdeal)
    ∧ preserves_InKernel_InKernelIdeal
    ∧ algebraic_InKernelIdeal_InReferenceIdeal_pre_in_finite (hInKernelIdeal := hInKernelIdeal) (hInReferenceIdeal := hInReferenceIdeal) (hPre_in_finite := hPre_in_finite)
    ∧ preserves_GateKernel_GateKernelIdeal
    ∧ algebraic_GateKernelIdeal_GateReferenceIdeal_pre_gate_finite (hGateKernelIdeal := hGateKernelIdeal) (hGateReferenceIdeal := hGateReferenceIdeal) (hPre_gate_finite := hPre_gate_finite)
    ∧ preserves_MemKernel_MemKernelIdeal
    ∧ algebraic_MemKernelIdeal_MemReferenceIdeal (hMemKernelIdeal := hMemKernelIdeal) (hMemReferenceIdeal := hMemReferenceIdeal)
    ∧ preserves_ProjKernel_ProjKernelIdeal
    ∧ algebraic_ProjKernelIdeal_ProjReferenceIdeal (hProjKernelIdeal := hProjKernelIdeal) (hProjReferenceIdeal := hProjReferenceIdeal)
    ∧ preserves_KeysKernel_KeysKernelIdeal
    ∧ algebraic_KeysKernelIdeal_KeysReferenceIdeal (hKeysKernelIdeal := hKeysKernelIdeal) (hKeysReferenceIdeal := hKeysReferenceIdeal)
-- ==== Pre_gate_finite.lean ====
abbrev S2x2048x1024 : Shape := ⟨3, ![2, 2048, 1024]⟩
abbrev S2x2048x768 : Shape := ⟨3, ![2, 2048, 768]⟩
abbrev S2x256x512 : Shape := ⟨3, ![2, 256, 512]⟩
abbrev S1x512 : Shape := ⟨2, ![1, 512]⟩
abbrev S1x4x128x128 : Shape := ⟨4, ![1, 4, 128, 128]⟩
abbrev S1x4x128 : Shape := ⟨3, ![1, 4, 128]⟩
abbrev S1x4 : Shape := ⟨2, ![1, 4]⟩
abbrev S32x4 : Shape := ⟨2, ![32, 4]⟩
abbrev S128x256 : Shape := ⟨2, ![128, 256]⟩
abbrev S_ : Shape := ⟨0, ![]⟩

class Facts : Prop where
  bcast_S_S2x2048x1024 : S_.BroadcastsInDim S2x2048x1024 (![] : Fin 0 → Fin S2x2048x1024.rank)
  reducesTo_S2x2048x1024_S_d0_1_2 : S2x2048x1024.ReducesTo [0, 1, 2] S_
  h_S_ : 0 < S_.numel
  bcast_S_S1x512 : S_.BroadcastsInDim S1x512 (![] : Fin 0 → Fin S1x512.rank)
  reducesTo_S1x512_S_d0_1 : S1x512.ReducesTo [0, 1] S_
  bcast_S_S1x4x128x128 : S_.BroadcastsInDim S1x4x128x128 (![] : Fin 0 → Fin S1x4x128x128.rank)
  reducesTo_S1x4x128x128_S_d0_1_2_3 : S1x4x128x128.ReducesTo [0, 1, 2, 3] S_
  bcast_S_S1x4x128 : S_.BroadcastsInDim S1x4x128 (![] : Fin 0 → Fin S1x4x128.rank)
  reducesTo_S1x4x128_S_d0_1_2 : S1x4x128.ReducesTo [0, 1, 2] S_

variable [Facts]

def fn_part1 {F : FTy → Type} [FloatOps F] (main_arg6 : FVec F S1x4x128x128 .f32) (main_arg7 : FVec F S1x4x128 .f32) (main_v13 : IVec S_ 1) (main_v16 : IVec S1x512 1) : IVec S_ 1 :=
  let main_c_5 : IVec S_ 1 := constantI S_ 1 1#1
  let main_v17 : IVec S_ 1 := (fun x v => Host.reduce IntOp.andi x v reducesTo_S1x512_S_d0_1 h_S_) main_v16 main_c_5
  let main_v18 : IVec S_ 1 := andi main_v13 main_v17
  let main_v19 : FVec F S1x4x128x128 .f32 := Host.absf main_arg6
  let main_cst_6 : FVec F S_ .f32 := constant S_ .f32 0x7F800000#32
  let main_v20 : FVec F S1x4x128x128 .f32 := broadcastInDim S1x4x128x128 ![] bcast_S_S1x4x128x128 main_cst_6
  let main_v21 : IVec S1x4x128x128 1 := cmpf .olt main_v19 main_v20
  let main_c_7 : IVec S_ 1 := constantI S_ 1 1#1
  let main_v22 : IVec S_ 1 := (fun x v => Host.reduce IntOp.andi x v reducesTo_S1x4x128x128_S_d0_1_2_3 h_S_) main_v21 main_c_7
  let main_v23 : IVec S_ 1 := andi main_v18 main_v22
  let main_v24 : FVec F S1x4x128 .f32 := Host.absf main_arg7
  let main_cst_8 : FVec F S_ .f32 := constant S_ .f32 0x7F800000#32
  let main_v25 : FVec F S1x4x128 .f32 := broadcastInDim S1x4x128 ![] bcast_S_S1x4x128 main_cst_8
  let main_v26 : IVec S1x4x128 1 := cmpf .olt main_v24 main_v25
  let main_c_9 : IVec S_ 1 := constantI S_ 1 1#1
  let main_v27 : IVec S_ 1 := (fun x v => Host.reduce IntOp.andi x v reducesTo_S1x4x128_S_d0_1_2 h_S_) main_v26 main_c_9
  let main_v28 : IVec S_ 1 := andi main_v23 main_v27
  main_v28

def fn {F : FTy → Type} [FloatOps F] (main_arg0 : FVec F S2x2048x1024 .f32) (main_arg1 : FVec F S2x2048x1024 .f32) (main_arg2 : FVec F S2x2048x768 .f32) (main_arg3 : FVec F S2x256x512 .f32) (main_arg4 : FVec F S1x512 .f32) (main_arg5 : FVec F S1x512 .f32) (main_arg6 : FVec F S1x4x128x128 .f32) (main_arg7 : FVec F S1x4x128 .f32) (main_arg8 : FVec F S1x4 .f32) (main_arg9 : FVec F S32x4 .f32) (main_arg10 : IVec S128x256 32) : IVec S_ 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_c : IVec S_ 1 := constantI S_ 1 1#1
  let main_v3 : IVec S_ 1 := (fun x v => Host.reduce IntOp.andi x v reducesTo_S2x2048x1024_S_d0_1_2 h_S_) main_v2 main_c
  let main_v4 : FVec F S2x2048x1024 .f32 := Host.absf main_arg1
  let main_cst_0 : FVec F S_ .f32 := constant S_ .f32 0x7F800000#32
  let main_v5 : FVec F S2x2048x1024 .f32 := broadcastInDim S2x2048x1024 ![] bcast_S_S2x2048x1024 main_cst_0
  let main_v6 : IVec S2x2048x1024 1 := cmpf .olt main_v4 main_v5
  let main_c_1 : IVec S_ 1 := constantI S_ 1 1#1
  let main_v7 : IVec S_ 1 := (fun x v => Host.reduce IntOp.andi x v reducesTo_S2x2048x1024_S_d0_1_2 h_S_) main_v6 main_c_1
  let main_v8 : IVec S_ 1 := andi main_v3 main_v7
  let main_v9 : FVec F S1x512 .f32 := Host.absf main_arg4
  let main_cst_2 : FVec F S_ .f32 := constant S_ .f32 0x7F800000#32
  let main_v10 : FVec F S1x512 .f32 := broadcastInDim S1x512 ![] bcast_S_S1x512 main_cst_2
  let main_v11 : IVec S1x512 1 := cmpf .olt main_v9 main_v10
  let main_c_3 : IVec S_ 1 := constantI S_ 1 1#1
  let main_v12 : IVec S_ 1 := (fun x v => Host.reduce IntOp.andi x v reducesTo_S1x512_S_d0_1 h_S_) main_v11 main_c_3
  let main_v13 : IVec S_ 1 := andi main_v8 main_v12
  let main_v14 : FVec F S1x512 .f32 := Host.absf main_arg5
  let main_cst_4 : FVec F S_ .f32 := constant S_ .f32 0x7F800000#32
  let main_v15 : FVec F S1x512 .f32 := broadcastInDim S1x512 ![] bcast_S_S1x512 main_cst_4
  let main_v16 : IVec S1x512 1 := cmpf .olt main_v14 main_v15
  fn_part1 (F := F) main_arg6 main_arg7 main_v13 main_v16
-- ==== Pre_in_finite.lean ====
abbrev S2x2048x1024 : Shape := ⟨3, ![2, 2048, 1024]⟩
abbrev S2x2048x2816 : Shape := ⟨3, ![2, 2048, 2816]⟩
abbrev S1x1024 : Shape := ⟨2, ![1, 1024]⟩
abbrev S1x1024x2816 : Shape := ⟨3, ![1, 1024, 2816]⟩
abbrev S_ : Shape := ⟨0, ![]⟩

class Facts : Prop where
  bcast_S_S2x2048x1024 : S_.BroadcastsInDim S2x2048x1024 (![] : Fin 0 → Fin S2x2048x1024.rank)
  reducesTo_S2x2048x1024_S_d0_1_2 : S2x2048x1024.ReducesTo [0, 1, 2] S_
  h_S_ : 0 < S_.numel
  bcast_S_S2x2048x2816 : S_.BroadcastsInDim S2x2048x2816 (![] : Fin 0 → Fin S2x2048x2816.rank)
  reducesTo_S2x2048x2816_S_d0_1_2 : S2x2048x2816.ReducesTo [0, 1, 2] S_
  bcast_S_S1x1024 : S_.BroadcastsInDim S1x1024 (![] : Fin 0 → Fin S1x1024.rank)
  reducesTo_S1x1024_S_d0_1 : S1x1024.ReducesTo [0, 1] S_
  bcast_S_S1x1024x2816 : S_.BroadcastsInDim S1x1024x2816 (![] : Fin 0 → Fin S1x1024x2816.rank)
  reducesTo_S1x1024x2816_S_d0_1_2 : S1x1024x2816.ReducesTo [0, 1, 2] S_

variable [Facts]

def fn_part1 {F : FTy → Type} [FloatOps F] (main_v13 : IVec S_ 1) (main_v16 : IVec S1x1024x2816 1) : IVec S_ 1 :=
  let main_c_5 : IVec S_ 1 := constantI S_ 1 1#1
  let main_v17 : IVec S_ 1 := (fun x v => Host.reduce IntOp.andi x v reducesTo_S1x1024x2816_S_d0_1_2 h_S_) main_v16 main_c_5
  let main_v18 : IVec S_ 1 := andi main_v13 main_v17
  main_v18

def fn {F : FTy → Type} [FloatOps F] (main_arg0 : FVec F S2x2048x1024 .f32) (main_arg1 : FVec F S2x2048x1024 .f32) (main_arg2 : FVec F S2x2048x2816 .f32) (main_arg3 : FVec F S1x1024 .f32) (main_arg4 : FVec F S1x1024x2816 .f32) : IVec S_ 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_c : IVec S_ 1 := constantI S_ 1 1#1
  let main_v3 : IVec S_ 1 := (fun x v => Host.reduce IntOp.andi x v reducesTo_S2x2048x1024_S_d0_1_2 h_S_) main_v2 main_c
  let main_v4 : FVec F S2x2048x2816 .f32 := Host.absf main_arg2
  let main_cst_0 : FVec F S_ .f32 := constant S_ .f32 0x7F800000#32
  let main_v5 : FVec F S2x2048x2816 .f32 := broadcastInDim S2x2048x2816 ![] bcast_S_S2x2048x2816 main_cst_0
  let main_v6 : IVec S2x2048x2816 1 := cmpf .olt main_v4 main_v5
  let main_c_1 : IVec S_ 1 := constantI S_ 1 1#1
  let main_v7 : IVec S_ 1 := (fun x v => Host.reduce IntOp.andi x v reducesTo_S2x2048x2816_S_d0_1_2 h_S_) main_v6 main_c_1
  let main_v8 : IVec S_ 1 := andi main_v3 main_v7
  let main_v9 : FVec F S1x1024 .f32 := Host.absf main_arg3
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_c_3 : IVec S_ 1 := constantI S_ 1 1#1
  let main_v12 : IVec S_ 1 := (fun x v => Host.reduce IntOp.andi x v reducesTo_S1x1024_S_d0_1 h_S_) main_v11 main_c_3
  let main_v13 : IVec S_ 1 := andi main_v8 main_v12
  let main_v14 : FVec F S1x1024x2816 .f32 := Host.absf main_arg4
  let main_cst_4 : FVec F S_ .f32 := constant S_ .f32 0x7F800000#32
  let main_v15 : FVec F S1x1024x2816 .f32 := broadcastInDim S1x1024x2816 ![] bcast_S_S1x1024x2816 main_cst_4
  let main_v16 : IVec S1x1024x2816 1 := cmpf .olt main_v14 main_v15
  fn_part1 (F := F) main_v13 main_v16
-- ==== InKernel.lean ====
abbrev S2x2048x1024 : Shape := ⟨3, ![2, 2048, 1024]⟩
abbrev S2x2048x2816 : Shape := ⟨3, ![2, 2048, 2816]⟩
abbrev S1x1024 : Shape := ⟨2, ![1, 1024]⟩
abbrev S1x1024x2816 : Shape := ⟨3, ![1, 1024, 2816]⟩
abbrev S4096x2816 : Shape := ⟨2, ![4096, 2816]⟩
abbrev S4096x1024 : Shape := ⟨2, ![4096, 1024]⟩
abbrev S4096x768 : Shape := ⟨2, ![4096, 768]⟩
abbrev S1024x2816 : Shape := ⟨2, ![1024, 2816]⟩
abbrev S2816x1024 : Shape := ⟨2, ![2816, 1024]⟩
abbrev S512x1024 : Shape := ⟨2, ![512, 1024]⟩
abbrev S512x768 : Shape := ⟨2, ![512, 768]⟩
abbrev S_ : Shape := ⟨0, ![]⟩
abbrev S512 : Shape := ⟨1, ![512]⟩
abbrev S512x1 : Shape := ⟨2, ![512, 1]⟩
abbrev S1024x1024 : Shape := ⟨2, ![1024, 1024]⟩
abbrev S768x1024 : Shape := ⟨2, ![768, 1024]⟩
abbrev S1024 : Shape := ⟨1, ![1024]⟩

abbrev nBuf : Space → Nat
  | .hbm => 20
  | .vmem => 16
  | .smem => 0
  | _ => 0

abbrev bufTy : (tb : Table) → Fin (tcTables nBuf tb) → BufTy
  | .hbm, ⟨0, _⟩ => ⟨S2x2048x1024, .f32⟩
  | .hbm, ⟨1, _⟩ => ⟨S2x2048x1024, .f32⟩
  | .hbm, ⟨2, _⟩ => ⟨S2x2048x2816, .f32⟩
  | .hbm, ⟨3, _⟩ => ⟨S1x1024, .f32⟩
  | .hbm, ⟨4, _⟩ => ⟨S1x1024x2816, .f32⟩
  | .hbm, ⟨5, _⟩ => ⟨S4096x2816, .f32⟩
  | .hbm, ⟨6, _⟩ => ⟨S4096x1024, .f32⟩
  | .hbm, ⟨7, _⟩ => ⟨S4096x768, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S4096x1024, .bf16⟩
  | .hbm, ⟨12, _⟩ => ⟨S4096x768, .bf16⟩
  | .hbm, ⟨13, _⟩ => ⟨S4096x1024, .bf16⟩
  | .hbm, ⟨14, _⟩ => ⟨S1024x2816, .f32⟩
  | .hbm, ⟨15, _⟩ => ⟨S2816x1024, .f32⟩
  | .hbm, ⟨16, _⟩ => ⟨S2816x1024, .bf16⟩
  | .hbm, ⟨17, _⟩ => ⟨S4096x1024, .f32⟩
  | .hbm, ⟨18, _⟩ => ⟨S2816x1024, .f32⟩
  | .hbm, ⟨19, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .bf16⟩
  | .local _ .vmem, ⟨5, _⟩ => ⟨S512x1024, .bf16⟩
  | .local _ .vmem, ⟨6, _⟩ => ⟨S512x768, .bf16⟩
  | .local _ .vmem, ⟨7, _⟩ => ⟨S512x768, .bf16⟩
  | .local _ .vmem, ⟨8, _⟩ => ⟨S512x1024, .bf16⟩
  | .local _ .vmem, ⟨9, _⟩ => ⟨S512x1024, .bf16⟩
  | .local _ .vmem, ⟨10, _⟩ => ⟨S1x1024, .f32⟩
  | .local _ .vmem, ⟨11, _⟩ => ⟨S2816x1024, .bf16⟩
  | .local _ .vmem, ⟨12, _⟩ => ⟨S512x1024, .f32⟩
  | .local _ .vmem, ⟨13, _⟩ => ⟨S512x1024, .f32⟩
  | .local _ .vmem, ⟨14, _⟩ => ⟨S1x1024, .f32⟩
  | .local _ .vmem, ⟨15, _⟩ => ⟨S2816x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12_0 : Ref sig .tc := ⟨.hbm, 17, rfl⟩
abbrev main_v12_1 : Ref sig .tc := ⟨.hbm, 18, rfl⟩
abbrev main_v12_2 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== InReferenceIdeal.lean ====
abbrev S2x2048x1024 : Shape := ⟨3, ![2, 2048, 1024]⟩
abbrev S2x2048x2816 : Shape := ⟨3, ![2, 2048, 2816]⟩
abbrev S1x1024 : Shape := ⟨2, ![1, 1024]⟩
abbrev S1x1024x2816 : Shape := ⟨3, ![1, 1024, 2816]⟩
abbrev S1024 : Shape := ⟨1, ![1024]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S1024x2816 : Shape := ⟨2, ![1024, 2816]⟩
abbrev S2816x1024 : Shape := ⟨2, ![2816, 1024]⟩
abbrev S4096x1024 : Shape := ⟨2, ![4096, 1024]⟩

abbrev nBuf : Space → Nat
  | .hbm => 62
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S2x2048x1024, .f32⟩
  | .hbm, ⟨2, _⟩ => ⟨S2x2048x2816, .f32⟩
  | .hbm, ⟨3, _⟩ => ⟨S1x1024, .f32⟩
  | .hbm, ⟨4, _⟩ => ⟨S1x1024x2816, .f32⟩
  | .hbm, ⟨5, _⟩ => ⟨S1024, .f32⟩
  | .hbm, ⟨6, _⟩ => ⟨S2x2048x1024, .f32⟩
  | .hbm, ⟨7, _⟩ => ⟨S_, .f32⟩
  | .hbm, ⟨8, _⟩ => ⟨S2x2048, .f32⟩
  | .hbm, ⟨9, _⟩ => ⟨S2x2048x1, .f32⟩
  | .hbm, ⟨10, _⟩ => ⟨S_, .f32⟩
  | .hbm, ⟨11, _⟩ => ⟨S2x2048x1, .f32⟩
  | .hbm, ⟨12, _⟩ => ⟨S2x2048x1, .f32⟩
  | .hbm, ⟨13, _⟩ => ⟨S_, .f32⟩
  | .hbm, ⟨14, _⟩ => ⟨S2x2048x1, .f32⟩
  | .hbm, ⟨15, _⟩ => ⟨S2x2048x1, .f32⟩
  | .hbm, ⟨16, _⟩ => ⟨S2x2048x1, .f32⟩
  | .hbm, ⟨17, _⟩ => ⟨S2x2048x1, .f32⟩
  | .hbm, ⟨18, _⟩ => ⟨S_, .f32⟩
  | .hbm, ⟨19, _⟩ => ⟨S2x2048x1, .f32⟩
  | .hbm, ⟨20, _⟩ => ⟨S2x2048x1, .f32⟩
  | .hbm, ⟨21, _⟩ => ⟨S2x2048x1024, .f32⟩
  | .hbm, ⟨22, _⟩ => ⟨S2x2048x1024, .f32⟩
  | .hbm, ⟨23, _⟩ => ⟨S1x1x1024, .f32⟩
  | .hbm, ⟨24, _⟩ => ⟨S2x2048x1024, .f32⟩
  | .hbm, ⟨25, _⟩ => ⟨S2x2048x1024, .f32⟩
  | .hbm, ⟨26, _⟩ => ⟨S1024x2816, .f32⟩
  | .hbm, ⟨27, _⟩ => ⟨S2x2048x2816, .f32⟩
  | .hbm, ⟨28, _⟩ => ⟨S2816x1024, .f32⟩
  | .hbm, ⟨29, _⟩ => ⟨S1024x2816, .f32⟩
  | .hbm, ⟨30, _⟩ => ⟨S2x2048x1024, .f32⟩
  | .hbm, ⟨31, _⟩ => ⟨S1x1024x2816, .f32⟩
  | .hbm, ⟨32, _⟩ => ⟨S2x2048x1024, .f32⟩
  | .hbm, ⟨33, _⟩ => ⟨S_, .f32⟩
  | .hbm, ⟨34, _⟩ => ⟨S1024, .f32⟩
  | .hbm, ⟨35, _⟩ => ⟨S1x1x1024, .f32⟩
  | .hbm, ⟨36, _⟩ => ⟨S2x2048x1024, .f32⟩
  | .hbm, ⟨37, _⟩ => ⟨S2x2048x1024, .f32⟩
  | .hbm, ⟨38, _⟩ => ⟨S_, .f32⟩
  | .hbm, ⟨39, _⟩ => ⟨S1024, .f32⟩
  | .hbm, ⟨40, _⟩ => ⟨S2x2048x1024, .f32⟩
  | .hbm, ⟨41, _⟩ => ⟨S_, .f32⟩
  | .hbm, ⟨42, _⟩ => ⟨S2x2048, .f32⟩
  | .hbm, ⟨43, _⟩ => ⟨S2x2048x1, .f32⟩
  | .hbm, ⟨44, _⟩ => ⟨S2x2048x1024, .f32⟩
  | .hbm, ⟨45, _⟩ => ⟨S2x2048x1024, .f32⟩
  | .hbm, ⟨46, _⟩ => ⟨S2x2048x1024, .f32⟩
  | .hbm, ⟨47, _⟩ => ⟨S2x2048x1, .f32⟩
  | .hbm, ⟨48, _⟩ => ⟨S_, .f32⟩
  | .hbm, ⟨49, _⟩ => ⟨S2x2048x1, .f32⟩
  | .hbm, ⟨50, _⟩ => ⟨S2x2048x1, .f32⟩
  | .hbm, ⟨51, _⟩ => ⟨S_, .f32⟩
  | .hbm, ⟨52, _⟩ => ⟨S2x2048, .f32⟩
  | .hbm, ⟨53, _⟩ => ⟨S2x2048x1024, .f32⟩
  | .hbm, ⟨54, _⟩ => ⟨S2x2048x1024, .f32⟩
  | .hbm, ⟨55, _⟩ => ⟨S2x2048x1024, .f32⟩
  | .hbm, ⟨56, _⟩ => ⟨S2x2048x1024, .f32⟩
  | .hbm, ⟨57, _⟩ => ⟨S2x2048x1024, .f32⟩
  | .hbm, ⟨58, _⟩ => ⟨S1x1024, .f32⟩
  | .hbm, ⟨59, _⟩ => ⟨S4096x1024, .f32⟩
  | .hbm, ⟨60, _⟩ => ⟨S1024x2816, .f32⟩
  | .hbm, ⟨61, _⟩ => ⟨S2816x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_3 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_4 : Ref sig .tc := ⟨.hbm, 38, rfl⟩
abbrev main_v28 : Ref sig .tc := ⟨.hbm, 39, rfl⟩
abbrev main_v29 : Ref sig .tc := ⟨.hbm, 40, rfl⟩
abbrev main_cst_5 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_6 : Ref sig .tc := ⟨.hbm, 48, rfl⟩
abbrev main_v36 : Ref sig .tc := ⟨.hbm, 49, rfl⟩
abbrev main_v37 : Ref sig .tc := ⟨.hbm, 50, rfl⟩
abbrev main_cst_7 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩

abbrev nD : Nat := 1
abbrev τ : Topo := Topo.v7x

variable {F : FTy → Type} [FloatOps F]
-- ==== GateKernel.lean ====
abbrev S2x2048x1024 : Shape := ⟨3, ![2, 2048, 1024]⟩
abbrev S2x2048x768 : Shape := ⟨3, ![2, 2048, 768]⟩
abbrev S2x256x512 : Shape := ⟨3, ![2, 256, 512]⟩
abbrev S1x512 : Shape := ⟨2, ![1, 512]⟩
abbrev S1x4x128x128 : Shape := ⟨4, ![1, 4, 128, 128]⟩
abbrev S1x4x128 : Shape := ⟨3, ![1, 4, 128]⟩
abbrev S1x4 : Shape := ⟨2, ![1, 4]⟩
abbrev S32x4 : Shape := ⟨2, ![32, 4]⟩
abbrev S128x256 : Shape := ⟨2, ![128, 256]⟩
abbrev S_ : Shape := ⟨0, ![]⟩
abbrev S1x128x256 : Shape := ⟨3, ![1, 128, 256]⟩
abbrev S128x256x1 : Shape := ⟨3, ![128, 256, 1]⟩
abbrev S128x256x4 : Shape := ⟨3, ![128, 256, 4]⟩
abbrev S4x128x256 : Shape := ⟨3, ![4, 128, 256]⟩
abbrev S128x128 : Shape := ⟨2, ![128, 128]⟩
abbrev S4x128x128 : Shape := ⟨3, ![4, 128, 128]⟩
abbrev S4x128 : Shape := ⟨2, ![4, 128]⟩
abbrev S4x128x1 : Shape := ⟨3, ![4, 128, 1]⟩
abbrev S4096x1024 : Shape := ⟨2, ![4096, 1024]⟩
abbrev S4 : Shape := ⟨1, ![4]⟩
abbrev S4096x768 : Shape := ⟨2, ![4096, 768]⟩
abbrev S8x128 : Shape := ⟨2, ![8, 128]⟩
abbrev S32x128 : Shape := ⟨2, ![32, 128]⟩
abbrev S256x1024 : Shape := ⟨2, ![256, 1024]⟩
abbrev S1x2048x768 : Shape := ⟨3, ![1, 2048, 768]⟩
abbrev S1x256x512 : Shape := ⟨3, ![1, 256, 512]⟩
abbrev S256x768 : Shape := ⟨2, ![256, 768]⟩
abbrev S384x256 : Shape := ⟨2, ![384, 256]⟩
abbrev S256x512 : Shape := ⟨2, ![256, 512]⟩
abbrev S256x128 : Shape := ⟨2, ![256, 128]⟩
abbrev S128 : Shape := ⟨1, ![128]⟩
abbrev S128x1 : Shape := ⟨2, ![128, 1]⟩
abbrev S1x128 : Shape := ⟨2, ![1, 128]⟩
abbrev S1x128x128 : Shape := ⟨3, ![1, 128, 128]⟩
abbrev S1 : Shape := ⟨1, ![1]⟩
abbrev S1x1 : Shape := ⟨2, ![1, 1]⟩
abbrev S256x256 : Shape := ⟨2, ![256, 256]⟩
abbrev S1x256x128 : Shape := ⟨3, ![1, 256, 128]⟩
abbrev S256 : Shape := ⟨1, ![256]⟩
abbrev S256x1 : Shape := ⟨2, ![256, 1]⟩

abbrev nBuf : Space → Nat
  | .hbm => 69
  | .vmem => 31
  | .smem => 1
  | _ => 0

abbrev bufTy : (tb : Table) → Fin (tcTables nBuf tb) → BufTy
  | .hbm, ⟨0, _⟩ => ⟨S2x2048x1024, .f32⟩
  | .hbm, ⟨1, _⟩ => ⟨S2x2048x1024, .f32⟩
  | .hbm, ⟨2, _⟩ => ⟨S2x2048x768, .f32⟩
  | .hbm, ⟨3, _⟩ => ⟨S2x256x512, .f32⟩
  | .hbm, ⟨4, _⟩ => ⟨S1x512, .f32⟩
  | .hbm, ⟨5, _⟩ => ⟨S1x512, .f32⟩
  | .hbm, ⟨6, _⟩ => ⟨S1x4x128x128, .f32⟩
  | .hbm, ⟨7, _⟩ => ⟨S1x4x128, .f32⟩
  | .hbm, ⟨8, _⟩ => ⟨S1x4, .f32⟩
  | .hbm, ⟨9, _⟩ => ⟨S32x4, .f32⟩
  | .hbm, ⟨10, _⟩ => ⟨S128x256, .i32⟩
  | .hbm, ⟨11, _⟩ => ⟨S128x256, .i32⟩
  | .hbm, ⟨12, _⟩ => ⟨S128x256, .i32⟩
  | .hbm, ⟨13, _⟩ => ⟨S_, .i32⟩
  | .hbm, ⟨14, _⟩ => ⟨S128x256, .i32⟩
  | .hbm, ⟨15, _⟩ => ⟨S128x256, .i32⟩
  | .hbm, ⟨16, _⟩ => ⟨S128x256, .i32⟩
  | .hbm, ⟨17, _⟩ => ⟨S_, .i32⟩
  | .hbm, ⟨18, _⟩ => ⟨S128x256, .i32⟩
  | .hbm, ⟨19, _⟩ => ⟨S128x256, .i1⟩
  | .hbm, ⟨20, _⟩ => ⟨S_, .i32⟩
  | .hbm, ⟨21, _⟩ => ⟨S128x256, .i32⟩
  | .hbm, ⟨22, _⟩ => ⟨S128x256, .i1⟩
  | .hbm, ⟨23, _⟩ => ⟨S128x256, .i1⟩
  | .hbm, ⟨24, _⟩ => ⟨S1x128x256, .i1⟩
  | .hbm, ⟨25, _⟩ => ⟨S_, .i32⟩
  | .hbm, ⟨26, _⟩ => ⟨S128x256, .i32⟩
  | .hbm, ⟨27, _⟩ => ⟨S128x256, .i1⟩
  | .hbm, ⟨28, _⟩ => ⟨S_, .i32⟩
  | .hbm, ⟨29, _⟩ => ⟨S128x256, .i32⟩
  | .hbm, ⟨30, _⟩ => ⟨S128x256, .i32⟩
  | .hbm, ⟨31, _⟩ => ⟨S128x256, .i32⟩
  | .hbm, ⟨32, _⟩ => ⟨S128x256x1, .i32⟩
  | .hbm, ⟨33, _⟩ => ⟨S128x256x4, .f32⟩
  | .hbm, ⟨34, _⟩ => ⟨S4x128x256, .f32⟩
  | .hbm, ⟨35, _⟩ => ⟨S_, .f32⟩
  | .hbm, ⟨36, _⟩ => ⟨S_, .f32⟩
  | .hbm, ⟨37, _⟩ => ⟨S4x128x256, .i1⟩
  | .hbm, ⟨38, _⟩ => ⟨S4x128x256, .f32⟩
  | .hbm, ⟨39, _⟩ => ⟨S4x128x256, .f32⟩
  | .hbm, ⟨40, _⟩ => ⟨S128x128, .i32⟩
  | .hbm, ⟨41, _⟩ => ⟨S128x128, .i32⟩
  | .hbm, ⟨42, _⟩ => ⟨S128x128, .i1⟩
  | .hbm, ⟨43, _⟩ => ⟨S4x128x128, .f32⟩
  | .hbm, ⟨44, _⟩ => ⟨S_, .f32⟩
  | .hbm, ⟨45, _⟩ => ⟨S_, .f32⟩
  | .hbm, ⟨46, _⟩ => ⟨S4x128x128, .i1⟩
  | .hbm, ⟨47, _⟩ => ⟨S4x128x128, .f32⟩
  | .hbm, ⟨48, _⟩ => ⟨S4x128x128, .f32⟩
  | .hbm, ⟨49, _⟩ => ⟨S4x128x128, .bf16⟩
  | .hbm, ⟨50, _⟩ => ⟨S4x128x128, .f32⟩
  | .hbm, ⟨51, _⟩ => ⟨S4x128x128, .bf16⟩
  | .hbm, ⟨52, _⟩ => ⟨S4x128, .f32⟩
  | .hbm, ⟨53, _⟩ => ⟨S4x128x1, .f32⟩
  | .hbm, ⟨54, _⟩ => ⟨S4x128x128, .f32⟩
  | .hbm, ⟨55, _⟩ => ⟨S4096x1024, .f32⟩
  | .hbm, ⟨56, _⟩ => ⟨S4096x1024, .f32⟩
  | .hbm, ⟨57, _⟩ => ⟨S2x2048x768, .bf16⟩
  | .hbm, ⟨58, _⟩ => ⟨S2x256x512, .bf16⟩
  | .hbm, ⟨59, _⟩ => ⟨S4, .f32⟩
  | .hbm, ⟨60, _⟩ => ⟨S4096x1024, .bf16⟩
  | .hbm, ⟨61, _⟩ => ⟨S4096x768, .bf16⟩
  | .hbm, ⟨62, _⟩ => ⟨S2x256x512, .f32⟩
  | .hbm, ⟨63, _⟩ => ⟨S4x128x128, .f32⟩
  | .hbm, ⟨64, _⟩ => ⟨S4x128, .f32⟩
  | .hbm, ⟨65, _⟩ => ⟨S1x512, .f32⟩
  | .hbm, ⟨66, _⟩ => ⟨S1x512, .f32⟩
  | .hbm, ⟨67, _⟩ => ⟨S8x128, .f32⟩
  | .hbm, ⟨68, _⟩ => ⟨S32x128, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x2048x768, .bf16⟩
  | .local _ .vmem, ⟨5, _⟩ => ⟨S1x2048x768, .bf16⟩
  | .local _ .vmem, ⟨6, _⟩ => ⟨S1x256x512, .bf16⟩
  | .local _ .vmem, ⟨7, _⟩ => ⟨S1x256x512, .bf16⟩
  | .local _ .vmem, ⟨8, _⟩ => ⟨S4x128x256, .f32⟩
  | .local _ .vmem, ⟨9, _⟩ => ⟨S1x512, .f32⟩
  | .local _ .vmem, ⟨10, _⟩ => ⟨S1x512, .f32⟩
  | .local _ .vmem, ⟨11, _⟩ => ⟨S4x128x128, .bf16⟩
  | .local _ .vmem, ⟨12, _⟩ => ⟨S4x128x128, .bf16⟩
  | .local _ .vmem, ⟨13, _⟩ => ⟨S4x128x128, .f32⟩
  | .local _ .vmem, ⟨14, _⟩ => ⟨S128x256, .i32⟩
  | .local _ .vmem, ⟨15, _⟩ => ⟨S256x1024, .bf16⟩
  | .local _ .vmem, ⟨16, _⟩ => ⟨S256x1024, .bf16⟩
  | .local _ .vmem, ⟨17, _⟩ => ⟨S256x768, .bf16⟩
  | .local _ .vmem, ⟨18, _⟩ => ⟨S256x768, .bf16⟩
  | .local _ .vmem, ⟨19, _⟩ => ⟨S1x256x512, .f32⟩
  | .local _ .vmem, ⟨20, _⟩ => ⟨S1x256x512, .f32⟩
  | .local _ .vmem, ⟨21, _⟩ => ⟨S4x128x128, .f32⟩
  | .local _ .vmem, ⟨22, _⟩ => ⟨S4x128, .f32⟩
  | .local _ .vmem, ⟨23, _⟩ => ⟨S1x512, .f32⟩
  | .local _ .vmem, ⟨24, _⟩ => ⟨S1x512, .f32⟩
  | .local _ .vmem, ⟨25, _⟩ => ⟨S8x128, .f32⟩
  | .local _ .vmem, ⟨26, _⟩ => ⟨S32x128, .f32⟩
  | .local _ .vmem, ⟨27, _⟩ => ⟨S384x256, .f32⟩
  | .local _ .vmem, ⟨28, _⟩ => ⟨S4x128x256, .f32⟩
  | .local _ .vmem, ⟨29, _⟩ => ⟨S4x128x128, .f32⟩
  | .local _ .vmem, ⟨30, _⟩ => ⟨S8x128, .f32⟩
  | .local _ .smem, ⟨0, _⟩ => ⟨S4, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .smem, ⟨0, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_c : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_c_0 : Ref sig .tc := ⟨.hbm, 17, rfl⟩
abbrev main_v5 : Ref sig .tc := ⟨.hbm, 18, rfl⟩
abbrev main_v6 : Ref sig .tc := ⟨.hbm, 19, rfl⟩
abbrev main_c_1 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_c_2 : Ref sig .tc := ⟨.hbm, 25, rfl⟩
abbrev main_v11 : Ref sig .tc := ⟨.hbm, 26, rfl⟩
abbrev main_v12 : Ref sig .tc := ⟨.hbm, 27, rfl⟩
abbrev main_c_3 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst : Ref sig .tc := ⟨.hbm, 35, rfl⟩
abbrev main_call0_v0 : Ref sig .tc := ⟨.hbm, 36, rfl⟩
abbrev main_call0_v1 : Ref sig .tc := ⟨.hbm, 37, rfl⟩
abbrev main_call0_v2 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_cst_4 : Ref sig .tc := ⟨.hbm, 44, rfl⟩
abbrev main_call1_v0 : Ref sig .tc := ⟨.hbm, 45, rfl⟩
abbrev main_call1_v1 : Ref sig .tc := ⟨.hbm, 46, rfl⟩
abbrev main_call1_v2 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36_0 : Ref sig .tc := ⟨.hbm, 60, rfl⟩
abbrev main_v36_1 : Ref sig .tc := ⟨.hbm, 61, rfl⟩
abbrev main_v36_2 : Ref sig .tc := ⟨.hbm, 62, rfl⟩
abbrev main_v36_3 : Ref sig .tc := ⟨.hbm, 63, rfl⟩
abbrev main_v36_4 : Ref sig .tc := ⟨.hbm, 64, rfl⟩
abbrev main_v36_5 : Ref sig .tc := ⟨.hbm, 65, rfl⟩
abbrev main_v36_6 : Ref sig .tc := ⟨.hbm, 66, rfl⟩
abbrev main_v36_7 : Ref sig .tc := ⟨.hbm, 67, rfl⟩
abbrev main_v36_8 : Ref sig .tc := ⟨.hbm, 68, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg12_1 : Ref sig .tc := ⟨.vmem, 16, rfl⟩
abbrev cc0_stg13_0 : Ref sig .tc := ⟨.vmem, 17, rfl⟩
abbrev cc0_stg13_1 : Ref sig .tc := ⟨.vmem, 18, rfl⟩
abbrev cc0_stg14_0 : Ref sig .tc := ⟨.vmem, 19, rfl⟩
abbrev cc0_stg14_1 : Ref sig .tc := ⟨.vmem, 20, rfl⟩
abbrev cc0_stg15_0 : Ref sig .tc := ⟨.vmem, 21, rfl⟩
abbrev cc0_stg16_0 : Ref sig .tc := ⟨.vmem, 22, rfl⟩
abbrev cc0_stg17_0 : Ref sig .tc := ⟨.vmem, 23, rfl⟩
abbrev cc0_stg18_0 : Ref sig .tc := ⟨.vmem, 24, rfl⟩
abbrev cc0_stg19_0 : Ref sig .tc := ⟨.vmem, 25, rfl⟩
abbrev cc0_stg20_0 : Ref sig .tc := ⟨.vmem, 26, rfl⟩
abbrev cc0_scratch0 : Ref sig .tc := ⟨.vmem, 27, rfl⟩
abbrev cc0_scratch1 : Ref sig .tc := ⟨.vmem, 28, rfl⟩
abbrev cc0_scratch2 : Ref sig .tc := ⟨.vmem, 29, rfl⟩
abbrev cc0_scratch3 : Ref sig .tc := ⟨.vmem, 30, rfl⟩
abbrev cc0_stg5_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem16_0 : DmaSem sig := 23
abbrev cc0_sem17_0 : DmaSem sig := 24
abbrev cc0_sem18_0 : DmaSem sig := 25
abbrev cc0_sem19_0 : DmaSem sig := 26
abbrev cc0_sem20_0 : DmaSem sig := 27

abbrev nD : Nat := 1
abbrev τ : Topo := Topo.v7x

variable {F : FTy → Type} [FloatOps F]

abbrev grid0 : Pipeline.Grid := ⟨2, ![2, 8], ![false, false]⟩

def k0_mult1 (i : grid0.Coords) : BitVec 32 :=
  let c7_i32 : BitVec 32 := 7#32
  let arg1 : BitVec 32 := BitVec.ofNat 32 (i 1).val
  let v0 : BitVec 32 := Scalar.subi c7_i32 arg1
  let c2_i32 : BitVec 32 := 2#32
  let v23 : BitVec 32 := Scalar.muli v0 c2_i32
  let c0_i32_9 : BitVec 32 := 0#32
  let v24 : BitVec 32 := Scalar.addi v23 c0_i32_9
  let c128_i32 : BitVec 32 := 128#32
  let v657 : BitVec 32 := Scalar.muli v24 c128_i32
  v657
def k0_mult2 (i : grid0.Coords) : BitVec 32 :=
  let c7_i32 : BitVec 32 := 7#32
  let arg1 : BitVec 32 := BitVec.ofNat 32 (i 1).val
  let v0 : BitVec 32 := Scalar.subi c7_i32 arg1
  let c2_i32 : BitVec 32 := 2#32
  let v23 : BitVec 32 := Scalar.muli v0 c2_i32
  let c0_i32_9 : BitVec 32 := 0#32
  let v24 : BitVec 32 := Scalar.addi v23 c0_i32_9
  let c1_i32 : BitVec 32 := 1#32
  let v659 : BitVec 32 := Scalar.subi v24 c1_i32
  let c0_i32_325 : BitVec 32 := 0#32
  let v660 : BitVec 32 := Scalar.maxsi v659 c0_i32_325
  let c128_i32_326 : BitVec 32 := 128#32
  let v661 : BitVec 32 := Scalar.muli v660 c128_i32_326
  v661
def k0_off1 (i : grid0.Coords) (c0_i32_9 : BitVec 32) : Fin 3 → Nat :=
  let c0_327 : Index := 0#32
  let c7_i32 : BitVec 32 := 7#32
  let arg1 : BitVec 32 := BitVec.ofNat 32 (i 1).val
  let v0 : BitVec 32 := Scalar.subi c7_i32 arg1
  let c2_i32 : BitVec 32 := 2#32
  let v23 : BitVec 32 := Scalar.muli v0 c2_i32
  let v24 : BitVec 32 := Scalar.addi v23 c0_i32_9
  let c1_i32 : BitVec 32 := 1#32
  let v659 : BitVec 32 := Scalar.subi v24 c1_i32
  let c0_i32_325 : BitVec 32 := 0#32
  let v660 : BitVec 32 := Scalar.maxsi v659 c0_i32_325
  let c128_i32_326 : BitVec 32 := 128#32
  let v661 : BitVec 32 := Scalar.muli v660 c128_i32_326
  let v662 : BitVec 32 := v661
  let v663 : Index := Scalar.indexCast v662
  let c256_328 : Index := 256#32
  ![0, v663.toNat, 256]
def k0_off2 (i : grid0.Coords) (c0_i32_9 : BitVec 32) : Fin 3 → Nat :=
  let c0_329 : Index := 0#32
  let c7_i32 : BitVec 32 := 7#32
  let arg1 : BitVec 32 := BitVec.ofNat 32 (i 1).val
  let v0 : BitVec 32 := Scalar.subi c7_i32 arg1
  let c2_i32 : BitVec 32 := 2#32
  let v23 : BitVec 32 := Scalar.muli v0 c2_i32
  let v24 : BitVec 32 := Scalar.addi v23 c0_i32_9
  let c128_i32 : BitVec 32 := 128#32
  let v657 : BitVec 32 := Scalar.muli v24 c128_i32
  let v658 : BitVec 32 := v657
  let v666 : Index := Scalar.indexCast v658
  let c256_330 : Index := 256#32
  ![0, v666.toNat, 256]
def k0_off3 (i : grid0.Coords) (c0_i32_9 : BitVec 32) : Fin 3 → Nat :=
  let c0_331 : Index := 0#32
  let c7_i32 : BitVec 32 := 7#32
  let arg1 : BitVec 32 := BitVec.ofNat 32 (i 1).val
  let v0 : BitVec 32 := Scalar.subi c7_i32 arg1
  let c2_i32 : BitVec 32 := 2#32
  let v23 : BitVec 32 := Scalar.muli v0 c2_i32
  let v24 : BitVec 32 := Scalar.addi v23 c0_i32_9
  let c1_i32 : BitVec 32 := 1#32
  let v659 : BitVec 32 := Scalar.subi v24 c1_i32
  let c0_i32_325 : BitVec 32 := 0#32
  let v660 : BitVec 32 := Scalar.maxsi v659 c0_i32_325
  let c128_i32_326 : BitVec 32 := 128#32
  let v661 : BitVec 32 := Scalar.muli v660 c128_i32_326
  let v662 : BitVec 32 := v661
  let v670 : Index := Scalar.indexCast v662
  let c384_332 : Index := 384#32
  ![0, v670.toNat, 384]
def k0_off4 (i : grid0.Coords) (c0_i32_9 : BitVec 32) : Fin 3 → Nat :=
  let c0_333 : Index := 0#32
  let c7_i32 : BitVec 32 := 7#32
  let arg1 : BitVec 32 := BitVec.ofNat 32 (i 1).val
  let v0 : BitVec 32 := Scalar.subi c7_i32 arg1
  let c2_i32 : BitVec 32 := 2#32
  let v23 : BitVec 32 := Scalar.muli v0 c2_i32
  let v24 : BitVec 32 := Scalar.addi v23 c0_i32_9
  let c128_i32 : BitVec 32 := 128#32
  let v657 : BitVec 32 := Scalar.muli v24 c128_i32
  let v658 : BitVec 32 := v657
  let v673 : Index := Scalar.indexCast v658
  let c384_334 : Index := 384#32
  ![0, v673.toNat, 384]
def k0_off5 (i : grid0.Coords) (c0_i32_9 : BitVec 32) : Fin 3 → Nat :=
  let c0_343 : Index := 0#32
  let c7_i32 : BitVec 32 := 7#32
  let arg1 : BitVec 32 := BitVec.ofNat 32 (i 1).val
  let v0 : BitVec 32 := Scalar.subi c7_i32 arg1
  let c2_i32 : BitVec 32 := 2#32
  let v23 : BitVec 32 := Scalar.muli v0 c2_i32
  let v24 : BitVec 32 := Scalar.addi v23 c0_i32_9
  let c128_i32 : BitVec 32 := 128#32
  let v657 : BitVec 32 := Scalar.muli v24 c128_i32
  let v658 : BitVec 32 := v657
  let v704 : Index := Scalar.indexCast v658
  let c0_344 : Index := 0#32
  ![0, v704.toNat, 0]
def k0_off6 (i : grid0.Coords) (c0_i32_9 : BitVec 32) : Fin 3 → Nat :=
  let c0_415 : Index := 0#32
  let c7_i32 : BitVec 32 := 7#32
  let arg1 : BitVec 32 := BitVec.ofNat 32 (i 1).val
  let v0 : BitVec 32 := Scalar.subi c7_i32 arg1
  let c2_i32 : BitVec 32 := 2#32
  let v23 : BitVec 32 := Scalar.muli v0 c2_i32
  let v24 : BitVec 32 := Scalar.addi v23 c0_i32_9
  let c128_i32 : BitVec 32 := 128#32
  let v657 : BitVec 32 := Scalar.muli v24 c128_i32
  let v658 : BitVec 32 := v657
  let v859 : Index := Scalar.indexCast v658
  let c128_416 : Index := 128#32
  ![0, v859.toNat, 128]
def k0_mult3 (i : grid0.Coords) : BitVec 32 :=
  let c7_i32 : BitVec 32 := 7#32
  let arg1 : BitVec 32 := BitVec.ofNat 32 (i 1).val
  let v0 : BitVec 32 := Scalar.subi c7_i32 arg1
  let c2_i32_495 : BitVec 32 := 2#32
  let v1026 : BitVec 32 := Scalar.muli v0 c2_i32_495
  let c1_i32_496 : BitVec 32 := 1#32
  let v1027 : BitVec 32 := Scalar.addi v1026 c1_i32_496
  let c128_i32_821 : BitVec 32 := 128#32
  let v1660 : BitVec 32 := Scalar.muli v1027 c128_i32_821
  v1660
def k0_mult4 (i : grid0.Coords) : BitVec 32 :=
  let c7_i32 : BitVec 32 := 7#32
  let arg1 : BitVec 32 := BitVec.ofNat 32 (i 1).val
  let v0 : BitVec 32 := Scalar.subi c7_i32 arg1
  let c2_i32_495 : BitVec 32 := 2#32
  let v1026 : BitVec 32 := Scalar.muli v0 c2_i32_495
  let c1_i32_496 : BitVec 32 := 1#32
  let v1027 : BitVec 32 := Scalar.addi v1026 c1_i32_496
  let c1_i32_822 : BitVec 32 := 1#32
  let v1662 : BitVec 32 := Scalar.subi v1027 c1_i32_822
  let c0_i32_823 : BitVec 32 := 0#32
  let v1663 : BitVec 32 := Scalar.maxsi v1662 c0_i32_823
  let c128_i32_824 : BitVec 32 := 128#32
  let v1664 : BitVec 32 := Scalar.muli v1663 c128_i32_824
  v1664
def k0_mult5 (i : grid0.Coords) : BitVec 32 :=
  let c7_i32 : BitVec 32 := 7#32
  let arg1 : BitVec 32 := BitVec.ofNat 32 (i 1).val
  let v0 : BitVec 32 := Scalar.subi c7_i32 arg1
  let c256_i32 : BitVec 32 := 256#32
  let v2035 : BitVec 32 := Scalar.muli v0 c256_i32
  v2035
def k0_off7 (i : grid0.Coords) : Fin 3 → Nat :=
  let c0_998 : Index := 0#32
  let c7_i32 : BitVec 32 := 7#32
  let arg1 : BitVec 32 := BitVec.ofNat 32 (i 1).val
  let v0 : BitVec 32 := Scalar.subi c7_i32 arg1
  let c256_i32 : BitVec 32 := 256#32
  let v2035 : BitVec 32 := Scalar.muli v0 c256_i32
  let v2036 : BitVec 32 := v2035
  let v2037 : Index := Scalar.indexCast v2036
  let c512_999 : Index := 512#32
  ![0, v2037.toNat, 512]
def k0_off8 (i : grid0.Coords) : Fin 3 → Nat :=
  let c0_1054 : Index := 0#32
  let c7_i32 : BitVec 32 := 7#32
  let arg1 : BitVec 32 := BitVec.ofNat 32 (i 1).val
  let v0 : BitVec 32 := Scalar.subi c7_i32 arg1
  let c256_i32 : BitVec 32 := 256#32
  let v2035 : BitVec 32 := Scalar.muli v0 c256_i32
  let v2036 : BitVec 32 := v2035
  let v2144 : Index := Scalar.indexCast v2036
  let c640_1055 : Index := 640#32
  ![0, v2144.toNat, 640]
def k0_cond3 (i : grid0.Coords) : BitVec 1 :=
  let arg0 : BitVec 32 := BitVec.ofNat 32 (i 0).val
  let c1_i32_1110 : BitVec 32 := 1#32
  let v2251 : BitVec 1 := Scalar.cmpi .eq arg0 c1_i32_1110
  let arg1 : BitVec 32 := BitVec.ofNat 32 (i 1).val
  let c7_i32_1111 : BitVec 32 := 7#32
  let v2252 : BitVec 1 := Scalar.cmpi .eq arg1 c7_i32_1111
  let v2253 : BitVec 1 := Scalar.andi v2251 v2252
  let v2254 : BitVec 32 := Scalar.extui v2253
  let c0_i32_1112 : BitVec 32 := 0#32
  let v2255 : BitVec 1 := Scalar.cmpi .ne v2254 c0_i32_1112
  v2255

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c8_i32_0 : BitVec 32 := 8#32
  let v1 : BitVec 32 := Scalar.addi v0 c8_i32_0
  let c1_i32 : BitVec 32 := 1#32
  let v2 : BitVec 32 := Scalar.subi v1 c1_i32
  let v3 : BitVec 32 := Scalar.subi v2 arg1
  let c0_i32 : BitVec 32 := 0#32
  let c0_i32_1 : BitVec 32 := 0#32
  ![v3.toNat, c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c8_i32_0 : BitVec 32 := 8#32
  let v1 : BitVec 32 := Scalar.addi v0 c8_i32_0
  let c1_i32 : BitVec 32 := 1#32
  let v2 : BitVec 32 := Scalar.subi v1 c1_i32
  let v3 : BitVec 32 := Scalar.subi v2 arg1
  let c0_i32 : BitVec 32 := 0#32
  let c0_i32_1 : BitVec 32 := 0#32
  ![v3.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c8_i32_0 : BitVec 32 := 8#32
  let v1 : BitVec 32 := Scalar.addi v0 c8_i32_0
  let c1_i32 : BitVec 32 := 1#32
  let v2 : BitVec 32 := Scalar.subi v1 c1_i32
  let v3 : BitVec 32 := Scalar.subi v2 arg1
  let c0_i32 : BitVec 32 := 0#32
  let c0_i32_1 : BitVec 32 := 0#32
  ![v3.toNat, c0_i32.toNat]

def cc0_transform_13 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c8_i32_0 : BitVec 32 := 8#32
  let v1 : BitVec 32 := Scalar.addi v0 c8_i32_0
  let c1_i32 : BitVec 32 := 1#32
  let v2 : BitVec 32 := Scalar.subi v1 c1_i32
  let v3 : BitVec 32 := Scalar.subi v2 arg1
  let c0_i32 : BitVec 32 := 0#32
  let c0_i32_1 : BitVec 32 := 0#32
  ![v3.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S4x128x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .smem S4 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S4x128x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S4x128x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S4x128x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S128x256 .i32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S256x768 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x256x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]

abbrev stage0_15 : Fin 1 → Memref sig .tc .vmem S4x128x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S4x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 1 → Memref sig .tc .vmem S1x512 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]

abbrev stage0_18 : Fin 1 → Memref sig .tc .vmem S1x512 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false, false]

abbrev stage0_19 : Fin 1 → Memref sig .tc .vmem S8x128 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false, false]

abbrev stage0_20 : Fin 1 → Memref sig .tc .vmem S32x128 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false, false]
-- ==== GateKernelIdeal.lean ====
variable {F : FTy → Type} [FloatOps F] [Named F]
def κ : String → Option EReal := fun
  | "mask" => some ⊥
  | _ => none
-- ==== GateReferenceIdeal.lean ====
abbrev S2x2048x1024 : Shape := ⟨3, ![2, 2048, 1024]⟩
abbrev S2x2048x768 : Shape := ⟨3, ![2, 2048, 768]⟩
abbrev S2x256x512 : Shape := ⟨3, ![2, 256, 512]⟩
abbrev S1x512 : Shape := ⟨2, ![1, 512]⟩
abbrev S1x4x128x128 : Shape := ⟨4, ![1, 4, 128, 128]⟩
abbrev S1x4x128 : Shape := ⟨3, ![1, 4, 128]⟩
abbrev S1x4 : Shape := ⟨2, ![1, 4]⟩
abbrev S32x4 : Shape := ⟨2, ![32, 4]⟩
abbrev S128x256 : Shape := ⟨2, ![128, 256]⟩
abbrev S2x2048x512 : Shape := ⟨3, ![2, 2048, 512]⟩
abbrev S_ : Shape := ⟨0, ![]⟩
abbrev S512 : Shape := ⟨1, ![512]⟩
abbrev S4x128x128 : Shape := ⟨3, ![4, 128, 128]⟩
abbrev S4x128 : Shape := ⟨2, ![4, 128]⟩
abbrev S2x2048x4x128 : Shape := ⟨4, ![2, 2048, 4, 128]⟩
abbrev S2x2048x4 : Shape := ⟨3, ![2, 2048, 4]⟩
abbrev S2x2048x4x1 : Shape := ⟨4, ![2, 2048, 4, 1]⟩
abbrev S1x1x4x128 : Shape := ⟨4, ![1, 1, 4, 128]⟩
abbrev S2x16x128x4x128 : Shape := ⟨5, ![2, 16, 128, 4, 128]⟩
abbrev S128x128 : Shape := ⟨2, ![128, 128]⟩
abbrev S1x128x128 : Shape := ⟨3, ![1, 128, 128]⟩
abbrev S4x2x16x128x128 : Shape := ⟨5, ![4, 2, 16, 128, 128]⟩
abbrev S128x4 : Shape := ⟨2, ![128, 4]⟩
abbrev S1x1x128x4x1 : Shape := ⟨5, ![1, 1, 128, 4, 1]⟩
abbrev S4096x1024 : Shape := ⟨2, ![4096, 1024]⟩

abbrev nBuf : Space → Nat
  | .hbm => 242
  | .vmem => 0
  | .smem => 0
  | _ => 0

abbrev hbmTy0_0 (i : Nat) : BufTy := match i % 128 with
  | 0 => ⟨S2x2048x1024, .f32⟩
  | 1 => ⟨S2x2048x1024, .f32⟩
  | 2 => ⟨S2x2048x768, .f32⟩
  | 3 => ⟨S2x256x512, .f32⟩
  | 4 => ⟨S1x512, .f32⟩
  | 5 => ⟨S1x512, .f32⟩
  | 6 => ⟨S1x4x128x128, .f32⟩
  | 7 => ⟨S1x4x128, .f32⟩
  | 8 => ⟨S1x4, .f32⟩
  | 9 => ⟨S32x4, .f32⟩
  | 10 => ⟨S128x256, .i32⟩
  | 11 => ⟨S2x2048x512, .f32⟩
  | 12 => ⟨S2x2048x512, .f32⟩
  | 13 => ⟨S2x2048x512, .f32⟩
  | 14 => ⟨S2x2048x512, .f32⟩
  | 15 => ⟨S2x2048x512, .f32⟩
  | 16 => ⟨S_, .f32⟩
  | 17 => ⟨S2x2048x512, .f32⟩
  | 18 => ⟨S2x2048x512, .f32⟩
  | 19 => ⟨S_, .f32⟩
  | 20 => ⟨S2x2048x512, .f32⟩
  | 21 => ⟨S2x2048x512, .f32⟩
  | 22 => ⟨S2x2048x512, .f32⟩
  | 23 => ⟨S_, .f32⟩
  | 24 => ⟨S2x2048x512, .f32⟩
  | 25 => ⟨S2x2048x512, .f32⟩
  | 26 => ⟨S2x2048x512, .f32⟩
  | 27 => ⟨S_, .f32⟩
  | 28 => ⟨S2x2048x512, .f32⟩
  | 29 => ⟨S2x2048x512, .f32⟩
  | 30 => ⟨S_, .f32⟩
  | 31 => ⟨S2x2048x512, .f32⟩
  | 32 => ⟨S2x2048x512, .f32⟩
  | 33 => ⟨S2x2048x512, .f32⟩
  | 34 => ⟨S_, .f32⟩
  | 35 => ⟨S2x2048x512, .f32⟩
  | 36 => ⟨S2x2048x512, .f32⟩
  | 37 => ⟨S_, .f32⟩
  | 38 => ⟨S2x2048x512, .f32⟩
  | 39 => ⟨S2x2048x512, .f32⟩
  | 40 => ⟨S2x2048x512, .f32⟩
  | 41 => ⟨S2x2048x512, .f32⟩
  | 42 => ⟨S2x2048x512, .f32⟩
  | 43 => ⟨S2x2048x512, .f32⟩
  | 44 => ⟨S_, .f32⟩
  | 45 => ⟨S2x2048x512, .f32⟩
  | 46 => ⟨S2x2048x512, .f32⟩
  | 47 => ⟨S_, .f32⟩
  | 48 => ⟨S2x2048x512, .f32⟩
  | 49 => ⟨S2x2048x512, .f32⟩
  | 50 => ⟨S2x2048x512, .f32⟩
  | 51 => ⟨S_, .f32⟩
  | 52 => ⟨S2x2048x512, .f32⟩
  | 53 => ⟨S2x2048x512, .f32⟩
  | 54 => ⟨S2x2048x512, .f32⟩
  | 55 => ⟨S_, .f32⟩
  | 56 => ⟨S2x2048x512, .f32⟩
  | 57 => ⟨S2x2048x512, .f32⟩
  | 58 => ⟨S_, .f32⟩
  | 59 => ⟨S2x2048x512, .f32⟩
  | 60 => ⟨S2x2048x512, .f32⟩
  | 61 => ⟨S2x2048x512, .f32⟩
  | 62 => ⟨S_, .f32⟩
  | 63 => ⟨S2x2048x512, .f32⟩
  | 64 => ⟨S2x2048x512, .f32⟩
  | 65 => ⟨S_, .f32⟩
  | 66 => ⟨S2x2048x512, .f32⟩
  | 67 => ⟨S2x2048x512, .f32⟩
  | 68 => ⟨S2x2048x512, .f32⟩
  | 69 => ⟨S512, .f32⟩
  | 70 => ⟨S512, .f32⟩
  | 71 => ⟨S4x128x128, .f32⟩
  | 72 => ⟨S4x128, .f32⟩
  | 73 => ⟨S2x2048x4x128, .f32⟩
  | 74 => ⟨S_, .f32⟩
  | 75 => ⟨S2x2048x4, .f32⟩
  | 76 => ⟨S2x2048x4x1, .f32⟩
  | 77 => ⟨S_, .f32⟩
  | 78 => ⟨S2x2048x4x1, .f32⟩
  | 79 => ⟨S2x2048x4x1, .f32⟩
  | 80 => ⟨S2x2048x4x128, .f32⟩
  | 81 => ⟨S2x2048x4x128, .f32⟩
  | 82 => ⟨S2x2048x4x128, .f32⟩
  | 83 => ⟨S_, .f32⟩
  | 84 => ⟨S2x2048x4x128, .f32⟩
  | 85 => ⟨S2x2048x4x128, .f32⟩
  | 86 => ⟨S_, .f32⟩
  | 87 => ⟨S2x2048x4, .f32⟩
  | 88 => ⟨S2x2048x4x1, .f32⟩
  | 89 => ⟨S_, .f32⟩
  | 90 => ⟨S2x2048x4x1, .f32⟩
  | 91 => ⟨S2x2048x4x1, .f32⟩
  | 92 => ⟨S2x2048x4x128, .f32⟩
  | 93 => ⟨S2x2048x4x128, .f32⟩
  | 94 => ⟨S_, .f32⟩
  | 95 => ⟨S2x2048x4x1, .f32⟩
  | 96 => ⟨S2x2048x4x1, .f32⟩
  | 97 => ⟨S2x2048x4x1, .f32⟩
  | 98 => ⟨S2x2048x4x1, .f32⟩
  | 99 => ⟨S_, .f32⟩
  | 100 => ⟨S2x2048x4x1, .f32⟩
  | 101 => ⟨S2x2048x4x1, .f32⟩
  | 102 => ⟨S2x2048x4x128, .f32⟩
  | 103 => ⟨S2x2048x4x128, .f32⟩
  | 104 => ⟨S4x128, .f32⟩
  | 105 => ⟨S1x1x4x128, .f32⟩
  | 106 => ⟨S2x2048x4x128, .f32⟩
  | 107 => ⟨S2x2048x4x128, .f32⟩
  | 108 => ⟨S4x128, .f32⟩
  | 109 => ⟨S1x1x4x128, .f32⟩
  | 110 => ⟨S2x2048x4x128, .f32⟩
  | 111 => ⟨S2x2048x4x128, .f32⟩
  | 112 => ⟨S2x16x128x4x128, .f32⟩
  | 113 => ⟨S_, .f32⟩
  | 114 => ⟨S128x128, .f32⟩
  | 115 => ⟨S128x128, .i32⟩
  | 116 => ⟨S_, .i32⟩
  | 117 => ⟨S128x128, .i32⟩
  | 118 => ⟨S128x128, .i32⟩
  | 119 => ⟨S128x128, .i32⟩
  | 120 => ⟨S128x128, .i1⟩
  | 121 => ⟨S_, .f32⟩
  | 122 => ⟨S128x128, .f32⟩
  | 123 => ⟨S128x128, .f32⟩
  | 124 => ⟨S1x128x128, .f32⟩
  | 125 => ⟨S4x128x128, .f32⟩
  | 126 => ⟨S4x128x128, .f32⟩
  | 127 => ⟨S4x2x16x128x128, .f32⟩
  | _ => ⟨S2x2048x1024, .f32⟩

abbrev hbmTy0_1 (i : Nat) : BufTy := match i % 128 with
  | 0 => ⟨S2x16x128x4x128, .f32⟩
  | 1 => ⟨S128x4, .f32⟩
  | 2 => ⟨S1x1x128x4x1, .f32⟩
  | 3 => ⟨S2x16x128x4x128, .f32⟩
  | 4 => ⟨S2x16x128x4x128, .f32⟩
  | 5 => ⟨S2x2048x512, .f32⟩
  | 6 => ⟨S2x2048x512, .f32⟩
  | 7 => ⟨S2x2048x512, .f32⟩
  | 8 => ⟨S2x2048x512, .f32⟩
  | 9 => ⟨S2x2048x512, .f32⟩
  | 10 => ⟨S2x16x128x4x128, .f32⟩
  | 11 => ⟨S_, .f32⟩
  | 12 => ⟨S128x4, .f32⟩
  | 13 => ⟨S1x1x128x4x1, .f32⟩
  | 14 => ⟨S_, .f32⟩
  | 15 => ⟨S128x4, .f32⟩
  | 16 => ⟨S4x128, .f32⟩
  | 17 => ⟨S4x2x16x128x128, .f32⟩
  | 18 => ⟨S4x128x128, .f32⟩
  | 19 => ⟨S4x2x16x128x128, .f32⟩
  | 20 => ⟨S2x16x128x4x128, .f32⟩
  | 21 => ⟨S4x128x128, .f32⟩
  | 22 => ⟨S4x128x128, .f32⟩
  | 23 => ⟨S2x2048x4x128, .f32⟩
  | 24 => ⟨S_, .f32⟩
  | 25 => ⟨S4x128, .f32⟩
  | 26 => ⟨S1x1x4x128, .f32⟩
  | 27 => ⟨S_, .f32⟩
  | 28 => ⟨S4x128, .f32⟩
  | 29 => ⟨S512, .f32⟩
  | 30 => ⟨S2x2048x4x128, .f32⟩
  | 31 => ⟨S_, .f32⟩
  | 32 => ⟨S4x128, .f32⟩
  | 33 => ⟨S1x1x4x128, .f32⟩
  | 34 => ⟨S2x2048x4x128, .f32⟩
  | 35 => ⟨S2x2048x4x128, .f32⟩
  | 36 => ⟨S_, .f32⟩
  | 37 => ⟨S4x128, .f32⟩
  | 38 => ⟨S512, .f32⟩
  | 39 => ⟨S2x2048x4x128, .f32⟩
  | 40 => ⟨S_, .f32⟩
  | 41 => ⟨S2x2048x4, .f32⟩
  | 42 => ⟨S2x2048x4x1, .f32⟩
  | 43 => ⟨S2x2048x4x128, .f32⟩
  | 44 => ⟨S2x2048x4x128, .f32⟩
  | 45 => ⟨S2x2048x4x1, .f32⟩
  | 46 => ⟨S2x2048x4x128, .f32⟩
  | 47 => ⟨S_, .f32⟩
  | 48 => ⟨S2x2048x4, .f32⟩
  | 49 => ⟨S2x2048x4x1, .f32⟩
  | 50 => ⟨S_, .f32⟩
  | 51 => ⟨S2x2048x4x1, .f32⟩
  | 52 => ⟨S2x2048x4x1, .f32⟩
  | 53 => ⟨S_, .f32⟩
  | 54 => ⟨S2x2048x4, .f32⟩
  | 55 => ⟨S2x2048x4x128, .f32⟩
  | 56 => ⟨S2x2048x4x128, .f32⟩
  | 57 => ⟨S2x2048x4x128, .f32⟩
  | 58 => ⟨S_, .f32⟩
  | 59 => ⟨S2x2048x4, .f32⟩
  | 60 => ⟨S2x2048x4x1, .f32⟩
  | 61 => ⟨S2x2048x4x128, .f32⟩
  | 62 => ⟨S2x2048x4x1, .f32⟩
  | 63 => ⟨S_, .f32⟩
  | 64 => ⟨S2x2048x4x1, .f32⟩
  | 65 => ⟨S2x2048x4x1, .f32⟩
  | 66 => ⟨S_, .f32⟩
  | 67 => ⟨S2x2048x4, .f32⟩
  | 68 => ⟨S2x2048x4x128, .f32⟩
  | 69 => ⟨S2x2048x4x128, .f32⟩
  | 70 => ⟨S2x2048x512, .f32⟩
  | 71 => ⟨S1x4x128, .f32⟩
  | 72 => ⟨S1x4x128x128, .f32⟩
  | 73 => ⟨S1x512, .f32⟩
  | 74 => ⟨S1x512, .f32⟩
  | 75 => ⟨S2x2048x512, .f32⟩
  | 76 => ⟨S2x2048x512, .f32⟩
  | 77 => ⟨S_, .f32⟩
  | 78 => ⟨S2x2048x512, .f32⟩
  | 79 => ⟨S2x2048x512, .f32⟩
  | 80 => ⟨S2x2048x512, .f32⟩
  | 81 => ⟨S_, .f32⟩
  | 82 => ⟨S2x2048x512, .f32⟩
  | 83 => ⟨S2x2048x512, .f32⟩
  | 84 => ⟨S2x2048x512, .f32⟩
  | 85 => ⟨S_, .f32⟩
  | 86 => ⟨S2x2048x512, .f32⟩
  | 87 => ⟨S2x2048x512, .f32⟩
  | 88 => ⟨S2x2048x512, .f32⟩
  | 89 => ⟨S2x2048x512, .f32⟩
  | 90 => ⟨S2x2048x512, .f32⟩
  | 91 => ⟨S2x2048x512, .f32⟩
  | 92 => ⟨S_, .f32⟩
  | 93 => ⟨S2x2048x512, .f32⟩
  | 94 => ⟨S2x2048x512, .f32⟩
  | 95 => ⟨S2x2048x512, .f32⟩
  | 96 => ⟨S_, .f32⟩
  | 97 => ⟨S2x2048x512, .f32⟩
  | 98 => ⟨S2x2048x512, .f32⟩
  | 99 => ⟨S2x2048x512, .f32⟩
  | 100 => ⟨S_, .f32⟩
  | 101 => ⟨S2x2048x512, .f32⟩
  | 102 => ⟨S2x2048x512, .f32⟩
  | 103 => ⟨S2x2048x512, .f32⟩
  | 104 => ⟨S2x2048x512, .f32⟩
  | 105 => ⟨S_, .f32⟩
  | 106 => ⟨S2x2048x1024, .f32⟩
  | 107 => ⟨S_, .f32⟩
  | 108 => ⟨S2x2048x1024, .f32⟩
  | 109 => ⟨S2x2048x1024, .f32⟩
  | 110 => ⟨S4096x1024, .f32⟩
  | 111 => ⟨S4096x1024, .bf16⟩
  | 112 => ⟨S4x128x128, .f32⟩
  | 113 => ⟨S4x128, .f32⟩
  | _ => ⟨S2x2048x1024, .f32⟩

abbrev hbmTy (i : Nat) : BufTy := match i / 128 with
  | 0 => hbmTy0_0 i
  | 1 => hbmTy0_1 i
  | _ => ⟨S2x2048x1024, .f32⟩

abbrev bufTy : (tb : Table) → Fin (tcTables nBuf tb) → BufTy
  | .hbm, ⟨i, _⟩ => hbmTy i
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_cst : Ref sig .tc := ⟨.hbm, 16, rfl⟩
abbrev main_v5 : Ref sig .tc := ⟨.hbm, 17, rfl⟩
abbrev main_v6 : Ref sig .tc := ⟨.hbm, 18, rfl⟩
abbrev main_cst_0 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_cst_1 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst_2 : Ref sig .tc := ⟨.hbm, 27, rfl⟩
abbrev main_v13 : Ref sig .tc := ⟨.hbm, 28, rfl⟩
abbrev main_v14 : Ref sig .tc := ⟨.hbm, 29, rfl⟩
abbrev main_cst_3 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_4 : Ref sig .tc := ⟨.hbm, 34, rfl⟩
abbrev main_v18 : Ref sig .tc := ⟨.hbm, 35, rfl⟩
abbrev main_v19 : Ref sig .tc := ⟨.hbm, 36, rfl⟩
abbrev main_cst_5 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_cst_6 : Ref sig .tc := ⟨.hbm, 44, rfl⟩
abbrev main_v26 : Ref sig .tc := ⟨.hbm, 45, rfl⟩
abbrev main_v27 : Ref sig .tc := ⟨.hbm, 46, rfl⟩
abbrev main_cst_7 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_cst_8 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_cst_9 : Ref sig .tc := ⟨.hbm, 55, rfl⟩
abbrev main_v34 : Ref sig .tc := ⟨.hbm, 56, rfl⟩
abbrev main_v35 : Ref sig .tc := ⟨.hbm, 57, rfl⟩
abbrev main_cst_10 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_cst_11 : Ref sig .tc := ⟨.hbm, 62, rfl⟩
abbrev main_v39 : Ref sig .tc := ⟨.hbm, 63, rfl⟩
abbrev main_v40 : Ref sig .tc := ⟨.hbm, 64, rfl⟩
abbrev main_cst_12 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_cst_13 : Ref sig .tc := ⟨.hbm, 74, rfl⟩
abbrev main_v49 : Ref sig .tc := ⟨.hbm, 75, rfl⟩
abbrev main_v50 : Ref sig .tc := ⟨.hbm, 76, rfl⟩
abbrev main_cst_14 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_cst_15 : Ref sig .tc := ⟨.hbm, 83, rfl⟩
abbrev main_v56 : Ref sig .tc := ⟨.hbm, 84, rfl⟩
abbrev main_v57 : Ref sig .tc := ⟨.hbm, 85, rfl⟩
abbrev main_cst_16 : Ref sig .tc := ⟨.hbm, 86, rfl⟩
abbrev main_v58 : Ref sig .tc := ⟨.hbm, 87, rfl⟩
abbrev main_v59 : Ref sig .tc := ⟨.hbm, 88, rfl⟩
abbrev main_cst_17 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_cst_18 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_cst_19 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_cst_20 : Ref sig .tc := ⟨.hbm, 113, rfl⟩
abbrev main_v81 : Ref sig .tc := ⟨.hbm, 114, rfl⟩
abbrev main_call0_v0 : Ref sig .tc := ⟨.hbm, 115, rfl⟩
abbrev main_call0_c : Ref sig .tc := ⟨.hbm, 116, rfl⟩
abbrev main_call0_v1 : Ref sig .tc := ⟨.hbm, 117, rfl⟩
abbrev main_call0_v2 : Ref sig .tc := ⟨.hbm, 118, rfl⟩
abbrev main_call0_v3 : Ref sig .tc := ⟨.hbm, 119, rfl⟩
abbrev main_call0_v4 : Ref sig .tc := ⟨.hbm, 120, rfl⟩
abbrev main_call0_cst : Ref sig .tc := ⟨.hbm, 121, rfl⟩
abbrev main_call0_v5 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_v90 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_cst_21 : Ref sig .tc := ⟨.hbm, 139, rfl⟩
abbrev main_v98 : Ref sig .tc := ⟨.hbm, 140, rfl⟩
abbrev main_v99 : Ref sig .tc := ⟨.hbm, 141, rfl⟩
abbrev main_cst_22 : Ref sig .tc := ⟨.hbm, 142, rfl⟩
abbrev main_v100 : Ref sig .tc := ⟨.hbm, 143, rfl⟩
abbrev main_v101 : Ref sig .tc := ⟨.hbm, 144, rfl⟩
abbrev main_v102 : Ref sig .tc := ⟨.hbm, 145, rfl⟩
abbrev main_v103 : Ref sig .tc := ⟨.hbm, 146, rfl⟩
abbrev main_v104 : Ref sig .tc := ⟨.hbm, 147, rfl⟩
abbrev main_v105 : Ref sig .tc := ⟨.hbm, 148, rfl⟩
abbrev main_v106 : Ref sig .tc := ⟨.hbm, 149, rfl⟩
abbrev main_v107 : Ref sig .tc := ⟨.hbm, 150, rfl⟩
abbrev main_v108 : Ref sig .tc := ⟨.hbm, 151, rfl⟩
abbrev main_cst_23 : Ref sig .tc := ⟨.hbm, 152, rfl⟩
abbrev main_v109 : Ref sig .tc := ⟨.hbm, 153, rfl⟩
abbrev main_v110 : Ref sig .tc := ⟨.hbm, 154, rfl⟩
abbrev main_cst_24 : Ref sig .tc := ⟨.hbm, 155, rfl⟩
abbrev main_v111 : Ref sig .tc := ⟨.hbm, 156, rfl⟩
abbrev main_v112 : Ref sig .tc := ⟨.hbm, 157, rfl⟩
abbrev main_v113 : Ref sig .tc := ⟨.hbm, 158, rfl⟩
abbrev main_cst_25 : Ref sig .tc := ⟨.hbm, 159, rfl⟩
abbrev main_v114 : Ref sig .tc := ⟨.hbm, 160, rfl⟩
abbrev main_v115 : Ref sig .tc := ⟨.hbm, 161, rfl⟩
abbrev main_v116 : Ref sig .tc := ⟨.hbm, 162, rfl⟩
abbrev main_v117 : Ref sig .tc := ⟨.hbm, 163, rfl⟩
abbrev main_cst_26 : Ref sig .tc := ⟨.hbm, 164, rfl⟩
abbrev main_v118 : Ref sig .tc := ⟨.hbm, 165, rfl⟩
abbrev main_v119 : Ref sig .tc := ⟨.hbm, 166, rfl⟩
abbrev main_v120 : Ref sig .tc := ⟨.hbm, 167, rfl⟩
abbrev main_cst_27 : Ref sig .tc := ⟨.hbm, 168, rfl⟩
abbrev main_v121 : Ref sig .tc := ⟨.hbm, 169, rfl⟩
abbrev main_v122 : Ref sig .tc := ⟨.hbm, 170, rfl⟩
abbrev main_v123 : Ref sig .tc := ⟨.hbm, 171, rfl⟩
abbrev main_v124 : Ref sig .tc := ⟨.hbm, 172, rfl⟩
abbrev main_v125 : Ref sig .tc := ⟨.hbm, 173, rfl⟩
abbrev main_v126 : Ref sig .tc := ⟨.hbm, 174, rfl⟩
abbrev main_cst_28 : Ref sig .tc := ⟨.hbm, 175, rfl⟩
abbrev main_v127 : Ref sig .tc := ⟨.hbm, 176, rfl⟩
abbrev main_v128 : Ref sig .tc := ⟨.hbm, 177, rfl⟩
abbrev main_cst_29 : Ref sig .tc := ⟨.hbm, 178, rfl⟩
abbrev main_v129 : Ref sig .tc := ⟨.hbm, 179, rfl⟩
abbrev main_v130 : Ref sig .tc := ⟨.hbm, 180, rfl⟩
abbrev main_cst_30 : Ref sig .tc := ⟨.hbm, 181, rfl⟩
abbrev main_v131 : Ref sig .tc := ⟨.hbm, 182, rfl⟩
abbrev main_v132 : Ref sig .tc := ⟨.hbm, 183, rfl⟩
abbrev main_v133 : Ref sig .tc := ⟨.hbm, 184, rfl⟩
abbrev main_v134 : Ref sig .tc := ⟨.hbm, 185, rfl⟩
abbrev main_cst_31 : Ref sig .tc := ⟨.hbm, 186, rfl⟩
abbrev main_v135 : Ref sig .tc := ⟨.hbm, 187, rfl⟩
abbrev main_v136 : Ref sig .tc := ⟨.hbm, 188, rfl⟩
abbrev main_v137 : Ref sig .tc := ⟨.hbm, 189, rfl⟩
abbrev main_v138 : Ref sig .tc := ⟨.hbm, 190, rfl⟩
abbrev main_cst_32 : Ref sig .tc := ⟨.hbm, 191, rfl⟩
abbrev main_v139 : Ref sig .tc := ⟨.hbm, 192, rfl⟩
abbrev main_v140 : Ref sig .tc := ⟨.hbm, 193, rfl⟩
abbrev main_cst_33 : Ref sig .tc := ⟨.hbm, 194, rfl⟩
abbrev main_v141 : Ref sig .tc := ⟨.hbm, 195, rfl⟩
abbrev main_v142 : Ref sig .tc := ⟨.hbm, 196, rfl⟩
abbrev main_v143 : Ref sig .tc := ⟨.hbm, 197, rfl⟩
abbrev main_v144 : Ref sig .tc := ⟨.hbm, 198, rfl⟩
abbrev main_v145 : Ref sig .tc := ⟨.hbm, 199, rfl⟩
abbrev main_v146 : Ref sig .tc := ⟨.hbm, 200, rfl⟩
abbrev main_v147 : Ref sig .tc := ⟨.hbm, 201, rfl⟩
abbrev main_v148 : Ref sig .tc := ⟨.hbm, 202, rfl⟩
abbrev main_v149 : Ref sig .tc := ⟨.hbm, 203, rfl⟩
abbrev main_v150 : Ref sig .tc := ⟨.hbm, 204, rfl⟩
abbrev main_cst_34 : Ref sig .tc := ⟨.hbm, 205, rfl⟩
abbrev main_v151 : Ref sig .tc := ⟨.hbm, 206, rfl⟩
abbrev main_v152 : Ref sig .tc := ⟨.hbm, 207, rfl⟩
abbrev main_v153 : Ref sig .tc := ⟨.hbm, 208, rfl⟩
abbrev main_cst_35 : Ref sig .tc := ⟨.hbm, 209, rfl⟩
abbrev main_v154 : Ref sig .tc := ⟨.hbm, 210, rfl⟩
abbrev main_v155 : Ref sig .tc := ⟨.hbm, 211, rfl⟩
abbrev main_v156 : Ref sig .tc := ⟨.hbm, 212, rfl⟩
abbrev main_cst_36 : Ref sig .tc := ⟨.hbm, 213, rfl⟩
abbrev main_v157 : Ref sig .tc := ⟨.hbm, 214, rfl⟩
abbrev main_v158 : Ref sig .tc := ⟨.hbm, 215, rfl⟩
abbrev main_v159 : Ref sig .tc := ⟨.hbm, 216, rfl⟩
abbrev main_v160 : Ref sig .tc := ⟨.hbm, 217, rfl⟩
abbrev main_v161 : Ref sig .tc := ⟨.hbm, 218, rfl⟩
abbrev main_v162 : Ref sig .tc := ⟨.hbm, 219, rfl⟩
abbrev main_cst_37 : Ref sig .tc := ⟨.hbm, 220, rfl⟩
abbrev main_v163 : Ref sig .tc := ⟨.hbm, 221, rfl⟩
abbrev main_v164 : Ref sig .tc := ⟨.hbm, 222, rfl⟩
abbrev main_v165 : Ref sig .tc := ⟨.hbm, 223, rfl⟩
abbrev main_cst_38 : Ref sig .tc := ⟨.hbm, 224, rfl⟩
abbrev main_v166 : Ref sig .tc := ⟨.hbm, 225, rfl⟩
abbrev main_v167 : Ref sig .tc := ⟨.hbm, 226, rfl⟩
abbrev main_v168 : Ref sig .tc := ⟨.hbm, 227, rfl⟩
abbrev main_cst_39 : Ref sig .tc := ⟨.hbm, 228, rfl⟩
abbrev main_v169 : Ref sig .tc := ⟨.hbm, 229, rfl⟩
abbrev main_v170 : Ref sig .tc := ⟨.hbm, 230, rfl⟩
abbrev main_v171 : Ref sig .tc := ⟨.hbm, 231, rfl⟩
abbrev main_v172 : Ref sig .tc := ⟨.hbm, 232, rfl⟩
abbrev main_cst_40 : Ref sig .tc := ⟨.hbm, 233, rfl⟩
abbrev main_v173 : Ref sig .tc := ⟨.hbm, 234, rfl⟩
abbrev main_cst_41 : Ref sig .tc := ⟨.hbm, 235, rfl⟩
abbrev main_v174 : Ref sig .tc := ⟨.hbm, 236, rfl⟩
abbrev main_v175 : Ref sig .tc := ⟨.hbm, 237, rfl⟩
abbrev main_v176 : Ref sig .tc := ⟨.hbm, 238, rfl⟩
abbrev main_v177 : Ref sig .tc := ⟨.hbm, 239, rfl⟩
abbrev main_v178 : Ref sig .tc := ⟨.hbm, 240, rfl⟩
abbrev main_v179 : Ref sig .tc := ⟨.hbm, 241, rfl⟩

abbrev nD : Nat := 1
abbrev τ : Topo := Topo.v7x

variable {F : FTy → Type} [FloatOps F]
-- ==== MemKernel.lean ====
abbrev S2x256x512 : Shape := ⟨3, ![2, 256, 512]⟩
abbrev S2x256x1024 : Shape := ⟨3, ![2, 256, 1024]⟩
abbrev S1x1024 : Shape := ⟨2, ![1, 1024]⟩
abbrev S1x1024x512 : Shape := ⟨3, ![1, 1024, 512]⟩
abbrev S512x512 : Shape := ⟨2, ![512, 512]⟩
abbrev S512x1024 : Shape := ⟨2, ![512, 1024]⟩
abbrev S1024x512 : Shape := ⟨2, ![1024, 512]⟩
abbrev S512 : Shape := ⟨1, ![512]⟩
abbrev S512x1 : Shape := ⟨2, ![512, 1]⟩
abbrev S1024 : Shape := ⟨1, ![1024]⟩

abbrev nBuf : Space → Nat
  | .hbm => 10
  | .vmem => 6
  | .smem => 0
  | _ => 0

abbrev bufTy : (tb : Table) → Fin (tcTables nBuf tb) → BufTy
  | .hbm, ⟨0, _⟩ => ⟨S2x256x512, .f32⟩
  | .hbm, ⟨1, _⟩ => ⟨S2x256x1024, .f32⟩
  | .hbm, ⟨2, _⟩ => ⟨S1x1024, .f32⟩
  | .hbm, ⟨3, _⟩ => ⟨S1x1024x512, .f32⟩
  | .hbm, ⟨4, _⟩ => ⟨S512x512, .f32⟩
  | .hbm, ⟨5, _⟩ => ⟨S512x1024, .f32⟩
  | .hbm, ⟨6, _⟩ => ⟨S1024x512, .f32⟩
  | .hbm, ⟨7, _⟩ => ⟨S1024x512, .bf16⟩
  | .hbm, ⟨8, _⟩ => ⟨S1024x512, .f32⟩
  | .hbm, ⟨9, _⟩ => ⟨S1x1024, .f32⟩
  | .local _ .vmem, ⟨0, _⟩ => ⟨S512x512, .f32⟩
  | .local _ .vmem, ⟨1, _⟩ => ⟨S512x1024, .f32⟩
  | .local _ .vmem, ⟨2, _⟩ => ⟨S1x1024, .f32⟩
  | .local _ .vmem, ⟨3, _⟩ => ⟨S1024x512, .bf16⟩
  | .local _ .vmem, ⟨4, _⟩ => ⟨S1024x512, .f32⟩
  | .local _ .vmem, ⟨5, _⟩ => ⟨S1x1024, .f32⟩
  | _, _ => ⟨S2x256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S512x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== MemReferenceIdeal.lean ====
abbrev S2x256x512 : Shape := ⟨3, ![2, 256, 512]⟩
abbrev S2x256x1024 : Shape := ⟨3, ![2, 256, 1024]⟩
abbrev S1x1024 : Shape := ⟨2, ![1, 1024]⟩
abbrev S1x1024x512 : Shape := ⟨3, ![1, 1024, 512]⟩
abbrev S1024 : Shape := ⟨1, ![1024]⟩
abbrev S_ : Shape := ⟨0, ![]⟩
abbrev S2x256 : Shape := ⟨2, ![2, 256]⟩
abbrev S2x256x1 : Shape := ⟨3, ![2, 256, 1]⟩
abbrev S1x1x1024 : Shape := ⟨3, ![1, 1, 1024]⟩
abbrev S1024x512 : Shape := ⟨2, ![1024, 512]⟩
abbrev S512x1024 : Shape := ⟨2, ![512, 1024]⟩

abbrev nBuf : Space → Nat
  | .hbm => 35
  | .vmem => 0
  | .smem => 0
  | _ => 0

abbrev bufTy : (tb : Table) → Fin (tcTables nBuf tb) → BufTy
  | .hbm, ⟨0, _⟩ => ⟨S2x256x512, .f32⟩
  | .hbm, ⟨1, _⟩ => ⟨S2x256x1024, .f32⟩
  | .hbm, ⟨2, _⟩ => ⟨S1x1024, .f32⟩
  | .hbm, ⟨3, _⟩ => ⟨S1x1024x512, .f32⟩
  | .hbm, ⟨4, _⟩ => ⟨S1024, .f32⟩
  | .hbm, ⟨5, _⟩ => ⟨S2x256x1024, .f32⟩
  | .hbm, ⟨6, _⟩ => ⟨S_, .f32⟩
  | .hbm, ⟨7, _⟩ => ⟨S2x256, .f32⟩
  | .hbm, ⟨8, _⟩ => ⟨S2x256x1, .f32⟩
  | .hbm, ⟨9, _⟩ => ⟨S_, .f32⟩
  | .hbm, ⟨10, _⟩ => ⟨S2x256x1, .f32⟩
  | .hbm, ⟨11, _⟩ => ⟨S2x256x1, .f32⟩
  | .hbm, ⟨12, _⟩ => ⟨S_, .f32⟩
  | .hbm, ⟨13, _⟩ => ⟨S2x256x1, .f32⟩
  | .hbm, ⟨14, _⟩ => ⟨S2x256x1, .f32⟩
  | .hbm, ⟨15, _⟩ => ⟨S2x256x1, .f32⟩
  | .hbm, ⟨16, _⟩ => ⟨S2x256x1024, .f32⟩
  | .hbm, ⟨17, _⟩ => ⟨S2x256x1024, .f32⟩
  | .hbm, ⟨18, _⟩ => ⟨S1x1x1024, .f32⟩
  | .hbm, ⟨19, _⟩ => ⟨S2x256x1024, .f32⟩
  | .hbm, ⟨20, _⟩ => ⟨S2x256x1024, .f32⟩
  | .hbm, ⟨21, _⟩ => ⟨S1024x512, .f32⟩
  | .hbm, ⟨22, _⟩ => ⟨S2x256x512, .f32⟩
  | .hbm, ⟨23, _⟩ => ⟨S512x1024, .f32⟩
  | .hbm, ⟨24, _⟩ => ⟨S1024x512, .f32⟩
  | .hbm, ⟨25, _⟩ => ⟨S2x256x1024, .f32⟩
  | .hbm, ⟨26, _⟩ => ⟨S1x1024x512, .f32⟩
  | .hbm, ⟨27, _⟩ => ⟨S2x256x1024, .f32⟩
  | .hbm, ⟨28, _⟩ => ⟨S_, .f32⟩
  | .hbm, ⟨29, _⟩ => ⟨S1024, .f32⟩
  | .hbm, ⟨30, _⟩ => ⟨S1x1x1024, .f32⟩
  | .hbm, ⟨31, _⟩ => ⟨S_, .f32⟩
  | .hbm, ⟨32, _⟩ => ⟨S1024, .f32⟩
  | .hbm, ⟨33, _⟩ => ⟨S1x1024, .f32⟩
  | .hbm, ⟨34, _⟩ => ⟨S1024x512, .f32⟩
  | _, _ => ⟨S2x256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_2 : Ref sig .tc := ⟨.hbm, 28, rfl⟩
abbrev main_v21 : Ref sig .tc := ⟨.hbm, 29, rfl⟩
abbrev main_v22 : Ref sig .tc := ⟨.hbm, 30, rfl⟩
abbrev main_cst_3 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩

abbrev nD : Nat := 1
abbrev τ : Topo := Topo.v7x

variable {F : FTy → Type} [FloatOps F]
-- ==== ProjKernel.lean ====
abbrev S2x2048x1024 : Shape := ⟨3, ![2, 2048, 1024]⟩
abbrev S1x1024 : Shape := ⟨2, ![1, 1024]⟩
abbrev S1x1024x2816 : Shape := ⟨3, ![1, 1024, 2816]⟩
abbrev S4096x1024 : Shape := ⟨2, ![4096, 1024]⟩
abbrev S1024x2816 : Shape := ⟨2, ![1024, 2816]⟩
abbrev S2816x1024 : Shape := ⟨2, ![2816, 1024]⟩
abbrev S4096x768 : Shape := ⟨2, ![4096, 768]⟩
abbrev S512x1024 : Shape := ⟨2, ![512, 1024]⟩
abbrev S512x768 : Shape := ⟨2, ![512, 768]⟩
abbrev S512 : Shape := ⟨1, ![512]⟩
abbrev S512x1 : Shape := ⟨2, ![512, 1]⟩
abbrev S1024x1024 : Shape := ⟨2, ![1024, 1024]⟩
abbrev S768x1024 : Shape := ⟨2, ![768, 1024]⟩

abbrev nBuf : Space → Nat
  | .hbm => 10
  | .vmem => 10
  | .smem => 0
  | _ => 0

abbrev bufTy : (tb : Table) → Fin (tcTables nBuf tb) → BufTy
  | .hbm, ⟨0, _⟩ => ⟨S2x2048x1024, .f32⟩
  | .hbm, ⟨1, _⟩ => ⟨S1x1024, .f32⟩
  | .hbm, ⟨2, _⟩ => ⟨S1x1024x2816, .f32⟩
  | .hbm, ⟨3, _⟩ => ⟨S4096x1024, .f32⟩
  | .hbm, ⟨4, _⟩ => ⟨S1024x2816, .f32⟩
  | .hbm, ⟨5, _⟩ => ⟨S2816x1024, .f32⟩
  | .hbm, ⟨6, _⟩ => ⟨S2816x1024, .bf16⟩
  | .hbm, ⟨7, _⟩ => ⟨S4096x1024, .f32⟩
  | .hbm, ⟨8, _⟩ => ⟨S4096x768, .bf16⟩
  | .hbm, ⟨9, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S2816x1024, .bf16⟩
  | .local _ .vmem, ⟨4, _⟩ => ⟨S512x1024, .f32⟩
  | .local _ .vmem, ⟨5, _⟩ => ⟨S512x1024, .f32⟩
  | .local _ .vmem, ⟨6, _⟩ => ⟨S512x768, .bf16⟩
  | .local _ .vmem, ⟨7, _⟩ => ⟨S512x768, .bf16⟩
  | .local _ .vmem, ⟨8, _⟩ => ⟨S512x1024, .f32⟩
  | .local _ .vmem, ⟨9, _⟩ => ⟨S512x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev main_v4_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x768 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ProjReferenceIdeal.lean ====
abbrev S2x2048x1024 : Shape := ⟨3, ![2, 2048, 1024]⟩
abbrev S1x1024 : Shape := ⟨2, ![1, 1024]⟩
abbrev S1x1024x2816 : Shape := ⟨3, ![1, 1024, 2816]⟩
abbrev S1024 : Shape := ⟨1, ![1024]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S1024x2816 : Shape := ⟨2, ![1024, 2816]⟩
abbrev S2x2048x2816 : Shape := ⟨3, ![2, 2048, 2816]⟩
abbrev S2x2048x768 : Shape := ⟨3, ![2, 2048, 768]⟩
abbrev S4096x1024 : Shape := ⟨2, ![4096, 1024]⟩
abbrev S4096x768 : Shape := ⟨2, ![4096, 768]⟩

abbrev nBuf : Space → Nat
  | .hbm => 29
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1x1024, .f32⟩
  | .hbm, ⟨2, _⟩ => ⟨S1x1024x2816, .f32⟩
  | .hbm, ⟨3, _⟩ => ⟨S1024, .f32⟩
  | .hbm, ⟨4, _⟩ => ⟨S2x2048x1024, .f32⟩
  | .hbm, ⟨5, _⟩ => ⟨S_, .f32⟩
  | .hbm, ⟨6, _⟩ => ⟨S2x2048, .f32⟩
  | .hbm, ⟨7, _⟩ => ⟨S2x2048x1, .f32⟩
  | .hbm, ⟨8, _⟩ => ⟨S_, .f32⟩
  | .hbm, ⟨9, _⟩ => ⟨S2x2048x1, .f32⟩
  | .hbm, ⟨10, _⟩ => ⟨S2x2048x1, .f32⟩
  | .hbm, ⟨11, _⟩ => ⟨S_, .f32⟩
  | .hbm, ⟨12, _⟩ => ⟨S2x2048x1, .f32⟩
  | .hbm, ⟨13, _⟩ => ⟨S2x2048x1, .f32⟩
  | .hbm, ⟨14, _⟩ => ⟨S2x2048x1, .f32⟩
  | .hbm, ⟨15, _⟩ => ⟨S2x2048x1024, .f32⟩
  | .hbm, ⟨16, _⟩ => ⟨S2x2048x1024, .f32⟩
  | .hbm, ⟨17, _⟩ => ⟨S1x1x1024, .f32⟩
  | .hbm, ⟨18, _⟩ => ⟨S2x2048x1024, .f32⟩
  | .hbm, ⟨19, _⟩ => ⟨S2x2048x1024, .f32⟩
  | .hbm, ⟨20, _⟩ => ⟨S1024x2816, .f32⟩
  | .hbm, ⟨21, _⟩ => ⟨S2x2048x2816, .f32⟩
  | .hbm, ⟨22, _⟩ => ⟨S2x2048x1024, .f32⟩
  | .hbm, ⟨23, _⟩ => ⟨S2x2048x768, .f32⟩
  | .hbm, ⟨24, _⟩ => ⟨S2x2048x1024, .f32⟩
  | .hbm, ⟨25, _⟩ => ⟨S4096x1024, .f32⟩
  | .hbm, ⟨26, _⟩ => ⟨S4096x768, .f32⟩
  | .hbm, ⟨27, _⟩ => ⟨S4096x768, .bf16⟩
  | .hbm, ⟨28, _⟩ => ⟨S4096x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩

abbrev nD : Nat := 1
abbrev τ : Topo := Topo.v7x

variable {F : FTy → Type} [FloatOps F]
-- ==== KeysKernel.lean ====
abbrev S2x256x1024 : Shape := ⟨3, ![2, 256, 1024]⟩
abbrev S1x1024 : Shape := ⟨2, ![1, 1024]⟩
abbrev S1x1024x512 : Shape := ⟨3, ![1, 1024, 512]⟩
abbrev S512x1024 : Shape := ⟨2, ![512, 1024]⟩
abbrev S1024x512 : Shape := ⟨2, ![1024, 512]⟩
abbrev S512x512 : Shape := ⟨2, ![512, 512]⟩
abbrev S512 : Shape := ⟨1, ![512]⟩
abbrev S512x1 : Shape := ⟨2, ![512, 1]⟩

abbrev nBuf : Space → Nat
  | .hbm => 7
  | .vmem => 4
  | .smem => 0
  | _ => 0

abbrev bufTy : (tb : Table) → Fin (tcTables nBuf tb) → BufTy
  | .hbm, ⟨0, _⟩ => ⟨S2x256x1024, .f32⟩
  | .hbm, ⟨1, _⟩ => ⟨S1x1024, .f32⟩
  | .hbm, ⟨2, _⟩ => ⟨S1x1024x512, .f32⟩
  | .hbm, ⟨3, _⟩ => ⟨S512x1024, .f32⟩
  | .hbm, ⟨4, _⟩ => ⟨S1024x512, .f32⟩
  | .hbm, ⟨5, _⟩ => ⟨S1024x512, .bf16⟩
  | .hbm, ⟨6, _⟩ => ⟨S512x512, .bf16⟩
  | .local _ .vmem, ⟨0, _⟩ => ⟨S512x1024, .f32⟩
  | .local _ .vmem, ⟨1, _⟩ => ⟨S1x1024, .f32⟩
  | .local _ .vmem, ⟨2, _⟩ => ⟨S1024x512, .bf16⟩
  | .local _ .vmem, ⟨3, _⟩ => ⟨S512x512, .bf16⟩
  | _, _ => ⟨S2x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S512x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== KeysReferenceIdeal.lean ====
abbrev S2x256x1024 : Shape := ⟨3, ![2, 256, 1024]⟩
abbrev S1x1024 : Shape := ⟨2, ![1, 1024]⟩
abbrev S1x1024x512 : Shape := ⟨3, ![1, 1024, 512]⟩
abbrev S1024 : Shape := ⟨1, ![1024]⟩
abbrev S_ : Shape := ⟨0, ![]⟩
abbrev S2x256 : Shape := ⟨2, ![2, 256]⟩
abbrev S2x256x1 : Shape := ⟨3, ![2, 256, 1]⟩
abbrev S1x1x1024 : Shape := ⟨3, ![1, 1, 1024]⟩
abbrev S1024x512 : Shape := ⟨2, ![1024, 512]⟩
abbrev S2x256x512 : Shape := ⟨3, ![2, 256, 512]⟩
abbrev S512x512 : Shape := ⟨2, ![512, 512]⟩

abbrev nBuf : Space → Nat
  | .hbm => 24
  | .vmem => 0
  | .smem => 0
  | _ => 0

abbrev bufTy : (tb : Table) → Fin (tcTables nBuf tb) → BufTy
  | .hbm, ⟨0, _⟩ => ⟨S2x256x1024, .f32⟩
  | .hbm, ⟨1, _⟩ => ⟨S1x1024, .f32⟩
  | .hbm, ⟨2, _⟩ => ⟨S1x1024x512, .f32⟩
  | .hbm, ⟨3, _⟩ => ⟨S1024, .f32⟩
  | .hbm, ⟨4, _⟩ => ⟨S2x256x1024, .f32⟩
  | .hbm, ⟨5, _⟩ => ⟨S_, .f32⟩
  | .hbm, ⟨6, _⟩ => ⟨S2x256, .f32⟩
  | .hbm, ⟨7, _⟩ => ⟨S2x256x1, .f32⟩
  | .hbm, ⟨8, _⟩ => ⟨S_, .f32⟩
  | .hbm, ⟨9, _⟩ => ⟨S2x256x1, .f32⟩
  | .hbm, ⟨10, _⟩ => ⟨S2x256x1, .f32⟩
  | .hbm, ⟨11, _⟩ => ⟨S_, .f32⟩
  | .hbm, ⟨12, _⟩ => ⟨S2x256x1, .f32⟩
  | .hbm, ⟨13, _⟩ => ⟨S2x256x1, .f32⟩
  | .hbm, ⟨14, _⟩ => ⟨S2x256x1, .f32⟩
  | .hbm, ⟨15, _⟩ => ⟨S2x256x1024, .f32⟩
  | .hbm, ⟨16, _⟩ => ⟨S2x256x1024, .f32⟩
  | .hbm, ⟨17, _⟩ => ⟨S1x1x1024, .f32⟩
  | .hbm, ⟨18, _⟩ => ⟨S2x256x1024, .f32⟩
  | .hbm, ⟨19, _⟩ => ⟨S2x256x1024, .f32⟩
  | .hbm, ⟨20, _⟩ => ⟨S1024x512, .f32⟩
  | .hbm, ⟨21, _⟩ => ⟨S2x256x512, .f32⟩
  | .hbm, ⟨22, _⟩ => ⟨S512x512, .f32⟩
  | .hbm, ⟨23, _⟩ => ⟨S512x512, .bf16⟩
  | _, _ => ⟨S2x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]
-- ==== Proof.InPure.lean ====
module

public import proofs.«01_k».proof.Proof.Gen.InKernelIdeal.Skeleton
public import Idealize.ShloMosaic.Lib.Pointwise

@[expose] public section

set_option maxRecDepth 16384

noncomputable section

open Idealize.ShloMosaic Idealize.ShloMosaic.TcCoe Idealize.SL.Sem

namespace Cert.InKernelIdeal.Value

open Cert.InKernelIdeal Cert.InKernelIdeal.Gen

/-! ## The mathematics of one token

A token is a batch `b` and a position `s`. `X` is the residual stream, `DX` its own cotangent, `P` the cotangent of the
three projections side by side, `G` the norm's gain, `W` the projection's weight. -/

/-- The reciprocal root mean square of a token's row. -/
def rs (X : FVec Ideal S2x2048x1024 .f32) (b : Fin 2) (s : Fin 2048) : EReal :=
  Ideal.rsqrt (Ideal.div (∑ k : Fin 1024, X (ix3 b s k) * X (ix3 b s k)) (Ideal.ofBits .f32 0x44800000#32)
    + Ideal.ofBits .f32 0x358637BD#32)

/-- The cotangent of the normed row: the projections' cotangent times the weight. -/
def dh (P : FVec Ideal S2x2048x2816 .f32) (W : FVec Ideal S1x1024x2816 .f32) (b : Fin 2) (s : Fin 2048) (k : Fin 1024) : EReal :=
  ∑ j : Fin 2816, P (ix3 b s j) * W (ix3 0 k j)

/-- The sum over a row of the norm's cotangent times the normed row. -/
def rowDot (X : FVec Ideal S2x2048x1024 .f32) (P : FVec Ideal S2x2048x2816 .f32) (G : FVec Ideal S1x1024 .f32)
    (W : FVec Ideal S1x1024x2816 .f32) (b : Fin 2) (s : Fin 2048) : EReal :=
  ∑ k : Fin 1024, dh P W b s k * G (ix2 0 k) * (X (ix3 b s k) * rs X b s)

/-- The gradient of the residual stream. -/
def gx (X DX : FVec Ideal S2x2048x1024 .f32) (P : FVec Ideal S2x2048x2816 .f32) (G : FVec Ideal S1x1024 .f32)
    (W : FVec Ideal S1x1024x2816 .f32) (b : Fin 2) (s : Fin 2048) (k : Fin 1024) : EReal :=
  DX (ix3 b s k) + rs X b s * (dh P W b s k * G (ix2 0 k)
    - X (ix3 b s k) * rs X b s * Ideal.div (rowDot X P G W b s) (Ideal.ofBits .f32 0x44800000#32))

/-- One token's part of the gain's gradient. -/
def dgTok (X : FVec Ideal S2x2048x1024 .f32) (P : FVec Ideal S2x2048x2816 .f32)
    (W : FVec Ideal S1x1024x2816 .f32) (b : Fin 2) (s : Fin 2048) (k : Fin 1024) : EReal :=
  dh P W b s k * (X (ix3 b s k) * rs X b s)

/-- One token's part of the weight's gradient, at projection column `j` and row `k`. -/
def dwTok (X : FVec Ideal S2x2048x1024 .f32) (P : FVec Ideal S2x2048x2816 .f32) (G : FVec Ideal S1x1024 .f32)
    (b : Fin 2) (s : Fin 2048) (j : Fin 2816) (k : Fin 1024) : EReal :=
  P (ix3 b s j) * (X (ix3 b s k) * rs X b s * G (ix2 0 k))

/-- A sum over the 2816 projection columns is the sum over its three groups of columns. -/
theorem sum_cols (f : Fin 2816 → EReal) :
    ∑ j, f j = (∑ j : Fin 1024, f ⟨j.val, by omega⟩) + (∑ j : Fin 768, f ⟨1024 + j.val, by omega⟩)
      + ∑ j : Fin 1024, f ⟨1792 + j.val, by omega⟩ := by
  rw [Fin.sum_univ_two_halves 1792 1024 rfl f]
  congr 1
  exact Fin.sum_univ_two_halves 1024 768 rfl (fun j : Fin 1792 => f ⟨j.val, by omega⟩)

/-- A block's arrays read at a row and a column are the whole arrays read at the row's token. -/
structure Reads (X DX : FVec Ideal S2x2048x1024 .f32) (P : FVec Ideal S2x2048x2816 .f32) (G : FVec Ideal S1x1024 .f32)
    (W : FVec Ideal S1x1024x2816 .f32) (x dx : FVec Ideal S512x1024 .f32) (duv : FVec Ideal S512x1024 .bf16)
    (dqkv : FVec Ideal S512x768 .bf16) (dz : FVec Ideal S512x1024 .bf16) (g : FVec Ideal S1x1024 .f32)
    (w1 : FVec Ideal S1024x1024 .bf16) (w2 : FVec Ideal S768x1024 .bf16) (w3 : FVec Ideal S1024x1024 .bf16)
    (b : Fin 512 → Fin 2) (s : Fin 512 → Fin 2048) : Prop where
  x : ∀ (r : Fin 512) (k : Fin 1024), x (ix2 r k) = X (ix3 (b r) (s r) k)
  dx : ∀ (r : Fin 512) (k : Fin 1024), dx (ix2 r k) = DX (ix3 (b r) (s r) k)
  duv : ∀ (r : Fin 512) (j : Fin 1024), duv (ix2 r j) = P (ix3 (b r) (s r) ⟨j.val, by omega⟩)
  dqkv : ∀ (r : Fin 512) (j : Fin 768), dqkv (ix2 r j) = P (ix3 (b r) (s r) ⟨1024 + j.val, by omega⟩)
  dz : ∀ (r : Fin 512) (j : Fin 1024), dz (ix2 r j) = P (ix3 (b r) (s r) ⟨1792 + j.val, by omega⟩)
  g : ∀ k : Fin 1024, g (ix2 0 k) = G (ix2 0 k)
  w1 : ∀ (j k : Fin 1024), w1 (ix2 j k) = W (ix3 0 k ⟨j.val, by omega⟩)
  w2 : ∀ (j : Fin 768) (k : Fin 1024), w2 (ix2 j k) = W (ix3 0 k ⟨1024 + j.val, by omega⟩)
  w3 : ∀ (j k : Fin 1024), w3 (ix2 j k) = W (ix3 0 k ⟨1792 + j.val, by omega⟩)

section Block

variable {X DX : FVec Ideal S2x2048x1024 .f32} {P : FVec Ideal S2x2048x2816 .f32} {G : FVec Ideal S1x1024 .f32}
  {W : FVec Ideal S1x1024x2816 .f32}
variable {x dx : FVec Ideal S512x1024 .f32} {duv : FVec Ideal S512x1024 .bf16} {dqkv : FVec Ideal S512x768 .bf16}
  {dz : FVec Ideal S512x1024 .bf16} {g : FVec Ideal S1x1024 .f32}
  {w1 : FVec Ideal S1024x1024 .bf16} {w2 : FVec Ideal S768x1024 .bf16} {w3 : FVec Ideal S1024x1024 .bf16}
variable {b : Fin 512 → Fin 2} {s : Fin 512 → Fin 2048}
variable (R : Reads X DX P G W x dx duv dqkv dz g w1 w2 w3 b s)
include R

/-- The three products of a block's row with the weight's three groups are one product over all columns. -/
theorem dh_point (r : Fin 512) (k : Fin 1024) :
    k0_pay15 (F := Ideal) (k0_pay8 duv) (k0_pay9 dqkv) (k0_pay10 dz) w1 w2 w3 (ix2 r k) = dh P W (b r) (s r) k := by
  rw [dh, sum_cols]
  pointwise [k0_pay15, k0_pay8, k0_pay9, k0_pay10]
  simp only [R.duv, R.dqkv, R.dz, R.w1, R.w2, R.w3]

theorem rs_point (r : Fin 512) (o : Fin 1) : k0_pay5 (F := Ideal) x (ix2 r o) = rs X (b r) (s r) := by
  rw [rs]
  pointwise [k0_pay5, k0_pay4]
  simp only [R.x]

theorem nx_point (r : Fin 512) (k : Fin 1024) :
    k0_pay6 (F := Ideal) x (ix2 r k) = X (ix3 (b r) (s r) k) * rs X (b r) (s r) := by
  pointwise [k0_pay6, k0_pay4]
  rw [rs_point R, R.x]

/-- What a point stores of the stream's gradient. -/
theorem gx_point (r : Fin 512) (k : Fin 1024) :
    k0_pay1 (F := Ideal) (k0_pay5 x) (k0_pay6 x)
      (k0_pay17 g (k0_pay8 duv) (k0_pay9 dqkv) (k0_pay10 dz) w1 w2 w3) (k0_pay18 dx)
      (k0_pay19 (k0_pay6 x) g (k0_pay8 duv) (k0_pay9 dqkv) (k0_pay10 dz) w1 w2 w3) (ix2 r k) = gx X DX P G W (b r) (s r) k := by
  rw [gx, rowDot]
  pointwise [k0_pay1, k0_pay17, k0_pay18, k0_pay19]
  simp only [dh_point R, rs_point R, nx_point R, R.dx, R.g]

/-- What a point adds to the gain's gradient. -/
theorem dg_point (prev : FVec Ideal S1x1024 .f32) (o : Fin 1) (k : Fin 1024) :
    k0_pay16 (F := Ideal) (k0_pay6 x) (k0_pay8 duv) (k0_pay9 dqkv) (k0_pay10 dz) w1 w2 w3 prev (ix2 o k)
      = prev (ix2 o k) + ∑ r : Fin 512, dgTok X P W (b r) (s r) k := by
  simp only [dgTok]
  pointwise [k0_pay16]
  simp only [dh_point R, nx_point R]

/-- What a point adds to the weight's gradient, in the first group of columns. -/
theorem dw1_point (prev : FVec Ideal S1024x1024 .f32) (j k : Fin 1024) :
    k0_pay11 (F := Ideal) x g duv prev (ix2 j k)
      = prev (ix2 j k) + ∑ r : Fin 512, dwTok X P G (b r) (s r) ⟨j.val, by omega⟩ k := by
  simp only [dwTok]
  pointwise [k0_pay11, k0_pay7, k0_pay8]
  simp only [nx_point R, R.duv, R.g]

/-- What a point adds to the weight's gradient, in the second group of columns. -/
theorem dw2_point (prev : FVec Ideal S768x1024 .f32) (j : Fin 768) (k : Fin 1024) :
    k0_pay13 (F := Ideal) (k0_pay12 x g dqkv prev) (ix2 j k)
      = prev (ix2 j k) + ∑ r : Fin 512, dwTok X P G (b r) (s r) ⟨1024 + j.val, by omega⟩ k := by
  simp only [dwTok]
  pointwise [k0_pay13, k0_pay12, k0_pay7, k0_pay9]
  simp only [nx_point R, R.dqkv, R.g]

/-- What a point adds to the weight's gradient, in the third group of columns. -/
theorem dw3_point (prev : FVec Ideal S1024x1024 .f32) (j k : Fin 1024) :
    k0_pay14 (F := Ideal) (k0_pay7 x g) (k0_pay10 dz) prev (ix2 j k)
      = prev (ix2 j k) + ∑ r : Fin 512, dwTok X P G (b r) (s r) ⟨1792 + j.val, by omega⟩ k := by
  simp only [dwTok]
  pointwise [k0_pay14, k0_pay7, k0_pay10]
  simp only [nx_point R, R.dz, R.g]

end Block

end Cert.InKernelIdeal.Value

end
-- ==== Proof.InBlock.lean ====
module

public import proofs.«01_k».proof.Proof.Gen.InKernelIdeal.Value
public import proofs.«01_k».proof.Proof.InPure
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.InKernelIdeal.Value

open Cert.InKernelIdeal Cert.InKernelIdeal.Gen

variable (m : (ℓ : Loc nD τ sig) → Buf (Elt Ideal) ℓ)

/-- Every window's block index: the token windows move one block a point, the others stay. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![0, 0] ∧ win0_6.index t = ![0, 0]
    ∧ win0_7.index t = ![t.val, 0] ∧ win0_8.index t = ![0, 0] ∧ t.val < 8 :=
  (by decide +kernel : ∀ t : Fin grid0.N, _)

/-- The batch of row `r` of point `t`'s block. -/
def tb (t : Fin cfg0.N) (r : Fin 512) : Fin 2 := ⟨(t.val * 512 + r.val) / 2048, by have := (idx t).2.2.2.2.2.2.2.2.2; omega⟩

/-- The position of row `r` of point `t`'s block. -/
def ts (t : Fin cfg0.N) (r : Fin 512) : Fin 2048 := ⟨(t.val * 512 + r.val) % 2048, by omega⟩

theorem in_x (c : Dev nD) (t : Fin cfg0.N) (r : Fin 512) (k : Fin 1024) :
    iblk m c 0 t (ix2 r k) = m ((c : Thread nD τ).loc main_arg0) (ix3 (tb t r) (ts t r) k) := by
  blk_simp [iblk]
  entry_read
  pointwise
  blk_ext [idx t, tb, ts]

theorem in_dx (c : Dev nD) (t : Fin cfg0.N) (r : Fin 512) (k : Fin 1024) :
    iblk m c 1 t (ix2 r k) = m ((c : Thread nD τ).loc main_arg1) (ix3 (tb t r) (ts t r) k) := by
  blk_simp [iblk]
  entry_read
  pointwise
  blk_ext [idx t, tb, ts]

theorem in_duv (c : Dev nD) (t : Fin cfg0.N) (r : Fin 512) (j : Fin 1024) :
    iblk m c 2 t (ix2 r j) = m ((c : Thread nD τ).loc main_arg2) (ix3 (tb t r) (ts t r) ⟨j.val, by omega⟩) := by
  blk_simp [iblk]
  entry_read
  pointwise
  blk_ext [idx t, tb, ts]

theorem in_dqkv (c : Dev nD) (t : Fin cfg0.N) (r : Fin 512) (j : Fin 768) :
    iblk m c 3 t (ix2 r j) = m ((c : Thread nD τ).loc main_arg2) (ix3 (tb t r) (ts t r) ⟨1024 + j.val, by omega⟩) := by
  blk_simp [iblk]
  entry_read
  pointwise
  blk_ext [idx t, tb, ts]

theorem in_dz (c : Dev nD) (t : Fin cfg0.N) (r : Fin 512) (j : Fin 1024) :
    iblk m c 4 t (ix2 r j) = m ((c : Thread nD τ).loc main_arg2) (ix3 (tb t r) (ts t r) ⟨1792 + j.val, by omega⟩) := by
  blk_simp [iblk]
  entry_read
  pointwise
  blk_ext [idx t, tb, ts]

theorem in_g (c : Dev nD) (t : Fin cfg0.N) (k : Fin 1024) :
    iblk m c 5 t (ix2 0 k) = m ((c : Thread nD τ).loc main_arg3) (ix2 0 k) := by
  blk_ext [iblk, V, idx t]

theorem in_w (c : Dev nD) (t : Fin cfg0.N) (j : Fin 2816) (k : Fin 1024) :
    iblk m c 6 t (ix2 j k) = m ((c : Thread nD τ).loc main_arg4) (ix3 0 k j) := by
  blk_simp [iblk]
  entry_read
  pointwise
  blk_ext [idx t]

/-- Point `t`'s blocks are the argument arrays read at its 512 tokens. -/
theorem reads (c : Dev nD) (t : Fin cfg0.N) (w1 : FVec Ideal S1024x1024 .bf16) (w2 : FVec Ideal S768x1024 .bf16)
    (w3 : FVec Ideal S1024x1024 .bf16)
    (h1 : ∀ (j k : Fin 1024), w1 (ix2 j k) = iblk m c 6 t (ix2 ⟨j.val, by omega⟩ k))
    (h2 : ∀ (j : Fin 768) (k : Fin 1024), w2 (ix2 j k) = iblk m c 6 t (ix2 ⟨1024 + j.val, by omega⟩ k))
    (h3 : ∀ (j k : Fin 1024), w3 (ix2 j k) = iblk m c 6 t (ix2 ⟨1792 + j.val, by omega⟩ k)) :
    Reads (m ((c : Thread nD τ).loc main_arg0)) (m ((c : Thread nD τ).loc main_arg1)) (m ((c : Thread nD τ).loc main_arg2))
      (m ((c : Thread nD τ).loc main_arg3)) (m ((c : Thread nD τ).loc main_arg4))
      (iblk m c 0 t) (iblk m c 1 t) (iblk m c 2 t) (iblk m c 3 t) (iblk m c 4 t) (iblk m c 5 t) w1 w2 w3 (tb t) (ts t) where
  x := in_x m c t
  dx := in_dx m c t
  duv := in_duv m c t
  dqkv := in_dqkv m c t
  dz := in_dz m c t
  g := in_g m c t
  w1 j k := (h1 j k).trans (in_w m c t _ k)
  w2 j k := (h2 j k).trans (in_w m c t _ k)
  w3 j k := (h3 j k).trans (in_w m c t _ k)

theorem out_gx (c : Dev nD) (t : Fin cfg0.N) (r : Fin 512) (k : Fin 1024) :
    (outsAt0 m c t.val t.isLt).1 (ix2 r k) = gx (m ((c : Thread nD τ).loc main_arg0)) (m ((c : Thread nD τ).loc main_arg1)) (m ((c : Thread nD τ).loc main_arg2))
      (m ((c : Thread nD τ).loc main_arg3)) (m ((c : Thread nD τ).loc main_arg4)) (tb t r) (ts t r) k := by
  by_cases h0 : t.val % 8 = 0
  · rw [outsAt0_A m c t h0 (by omega)]
    frame_out
    exact gx_point (reads m c t _ _ _ (fun j k => by pointwise; blk_ext) (fun j k => by pointwise; blk_ext) (fun j k => by pointwise; blk_ext)) r k
  · by_cases h1 : t.val % 8 = 7
    · rw [outsAt0_C m c t h0 h1]
      frame_out
      exact gx_point (reads m c t _ _ _ (fun j k => by pointwise; blk_ext) (fun j k => by pointwise; blk_ext) (fun j k => by pointwise; blk_ext)) r k
    · rw [outsAt0_B m c t h0 h1]
      frame_out
      exact gx_point (reads m c t _ _ _ (fun j k => by pointwise; blk_ext) (fun j k => by pointwise; blk_ext) (fun j k => by pointwise; blk_ext)) r k

end Cert.InKernelIdeal.Value

end
-- ==== Proof.InAcc.lean ====
module

public import proofs.«01_k».proof.Proof.InBlock
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.InKernelIdeal.Value

open Cert.InKernelIdeal Cert.InKernelIdeal.Gen

variable (m : (ℓ : Loc nD τ sig) → Buf (Elt Ideal) ℓ)

/-- A row's index lies in a group of rows. -/
theorem mem_rows (o n : ℕ) (inb : ∀ a, (![o, 0] : Fin 2 → ℕ) a + (![n, 1024] : Fin 2 → ℕ) a ≤ S2816x1024.size a) (j : Fin 2816) (k : Fin 1024)
    (h1 : o ≤ j.val) (h2 : j.val < o + n) : (ix2 j k : S2816x1024.Idx) ∈ (Rect.unit (s := S2816x1024) ![o, 0] ![n, 1024] inb).set := by
  rw [LoadRect.mem_set]
  refine Fin.forall_fin_two.2 ⟨⟨j.val - o, ?_, ?_⟩, ⟨k.val, k.isLt, ?_⟩⟩
  · show j.val - o < n; omega
  · show j.val = o + 1 * (j.val - o); omega
  · show k.val = 0 + 1 * k.val; omega

/-- The three groups of rows cover the buffer. -/
theorem cover_groups (i1 i2 i3) (p1 : S1024x1024.Idx → EReal) (p2 : S768x1024.Idx → EReal) (p3 : S1024x1024.Idx → EReal) (y : S2816x1024.Idx) :
    ∃ p ∈ ([⟨Rect.unit (s := S2816x1024) ![1792, 0] ![1024, 1024] i1, p1⟩, ⟨Rect.unit (s := S2816x1024) ![1024, 0] ![768, 1024] i2, p2⟩,
      ⟨Rect.unit (s := S2816x1024) ![0, 0] ![1024, 1024] i3, p3⟩] : List (View.Piece (Elt Ideal) S2816x1024 .f32)), y ∈ p.1.set := by
  idx_vars y
  by_cases c1 : 1792 ≤ y0.val
  · exact ⟨_, List.mem_cons_self .., mem_rows 1792 1024 i1 y0 y1 c1 (by omega)⟩
  · by_cases c2 : 1024 ≤ y0.val
    · exact ⟨_, List.mem_cons_of_mem _ (List.mem_cons_self ..), mem_rows 1024 768 i2 y0 y1 c2 (by omega)⟩
    · exact ⟨_, List.mem_cons_of_mem _ (List.mem_cons_of_mem _ (List.mem_cons_self ..)), mem_rows 0 1024 i3 y0 y1 (by omega) (by omega)⟩

/-- Three stores of the three groups of rows, whatever was stored before: each row holds its own group's store. -/
theorem canon_groups (i1 i2 i3) (p1 : S1024x1024.Idx → EReal) (p2 : S768x1024.Idx → EReal) (p3 : S1024x1024.Idx → EReal)
    (L : List (View.Piece (Elt Ideal) S2816x1024 .f32)) (v : EReal) (j : Fin 2816) (k : Fin 1024)
    (H1 : ∀ x : Fin 1024, j = ⟨1792 + x.val, by omega⟩ → p1 (ix2 x k) = v)
    (H2 : ∀ x : Fin 768, j = ⟨1024 + x.val, by omega⟩ → p2 (ix2 x k) = v)
    (H3 : ∀ x : Fin 1024, j = ⟨x.val, by omega⟩ → p3 (ix2 x k) = v) :
    View.canon (Val := Elt Ideal) (s := S2816x1024) (e := .f32)
      (⟨Rect.unit (s := S2816x1024) ![1792, 0] ![1024, 1024] i1, p1⟩ :: ⟨Rect.unit (s := S2816x1024) ![1024, 0] ![768, 1024] i2, p2⟩
        :: ⟨Rect.unit (s := S2816x1024) ![0, 0] ![1024, 1024] i3, p3⟩ :: L) (ix2 j k) = v := by
  by_cases c1 : 1792 ≤ j.val
  · have e : (ix2 j k : S2816x1024.Idx) = (Rect.unit (s := S2816x1024) ![1792, 0] ![1024, 1024] i1).emb (ix2 ⟨j.val - 1792, by omega⟩ k : S1024x1024.Idx) := by
      funext a; revert a
      exact Fin.forall_fin_two.2 ⟨Fin.ext (by show j.val = 1792 + 1 * (j.val - 1792); omega), Fin.ext (by show k.val = 0 + 1 * k.val; omega)⟩
    rw [e, View.canon_cons_emb]
    exact H1 ⟨j.val - 1792, by omega⟩ (Fin.ext (by show j.val = 1792 + (j.val - 1792); omega))
  · rw [View.canon_cons_of_not_mem _ _ (fun h => by
      obtain ⟨a, ha, e⟩ := (LoadRect.mem_set _).1 h 0
      have e' : j.val = 1792 + 1 * a := e
      omega)]
    by_cases c2 : 1024 ≤ j.val
    · have e : (ix2 j k : S2816x1024.Idx) = (Rect.unit (s := S2816x1024) ![1024, 0] ![768, 1024] i2).emb (ix2 ⟨j.val - 1024, by omega⟩ k : S768x1024.Idx) := by
        funext a; revert a
        exact Fin.forall_fin_two.2 ⟨Fin.ext (by show j.val = 1024 + 1 * (j.val - 1024); omega), Fin.ext (by show k.val = 0 + 1 * k.val; omega)⟩
      rw [e, View.canon_cons_emb]
      exact H2 ⟨j.val - 1024, by omega⟩ (Fin.ext (by show j.val = 1024 + (j.val - 1024); omega))
    · rw [View.canon_cons_of_not_mem _ _ (fun h => by
        obtain ⟨a, ha, e⟩ := (LoadRect.mem_set _).1 h 0
        have e' : j.val = 1024 + 1 * a := e
        omega)]
      have e : (ix2 j k : S2816x1024.Idx) = (Rect.unit (s := S2816x1024) ![0, 0] ![1024, 1024] i3).emb (ix2 ⟨j.val, by omega⟩ k : S1024x1024.Idx) := by
        funext a; revert a
        exact Fin.forall_fin_two.2 ⟨Fin.ext (by show j.val = 0 + 1 * j.val; omega), Fin.ext (by show k.val = 0 + 1 * k.val; omega)⟩
      rw [e, View.canon_cons_emb]
      exact H3 ⟨j.val, by omega⟩ rfl

/-- The three groups of the weight's rows. -/
def wg1 (c : Dev nD) (t : Fin cfg0.N) : FVec Ideal S1024x1024 .bf16 := fun j => iblk m c 6 t (ix2 ⟨(j 0).val, (j 0).isLt.trans (by decide)⟩ (j 1))
def wg2 (c : Dev nD) (t : Fin cfg0.N) : FVec Ideal S768x1024 .bf16 := fun j => iblk m c 6 t (ix2 ⟨1024 + (j 0).val, by have : (j 0).val < 768 := (j 0).isLt; omega⟩ (j 1))
def wg3 (c : Dev nD) (t : Fin cfg0.N) : FVec Ideal S1024x1024 .bf16 := fun j => iblk m c 6 t (ix2 ⟨1792 + (j 0).val, by have : (j 0).val < 1024 := (j 0).isLt; omega⟩ (j 1))

theorem accA (c : Dev nD) (t : Fin cfg0.N) (h0 : t.val % 8 = 0) (j : Fin 2816) (k : Fin 1024) :
    (outsAt0 m c t.val t.isLt).2.2.1 (ix2 j k) = (0 : EReal) + ∑ r : Fin 512, dwTok (m ((c : Thread nD τ).loc main_arg0)) (m ((c : Thread nD τ).loc main_arg2))
      (m ((c : Thread nD τ).loc main_arg3)) (tb t r) (ts t r) j k := by
  rw [outsAt0_A m c t h0 (by omega)]
  frame_open
  simp (disch := decide) only [↓ View.readCov_skip, ↓ View.readCov_cons_toLoadRect, ↓ View.readCov_fill]
  frame_out
  refine canon_groups _ _ _ _ _ _ _ _ j k ?_ ?_ ?_
  · rintro x rfl
    refine (dw3_point (reads m c t (wg1 m c t) (wg2 m c t) (wg3 m c t) (fun _ _ => rfl) (fun _ _ => rfl) (fun _ _ => rfl)) _ x k).trans ?_
    refine congrArg (· + _) ?_
    pointwise [k0_pay2]
  · rintro x rfl
    refine (dw2_point (reads m c t (wg1 m c t) (wg2 m c t) (wg3 m c t) (fun _ _ => rfl) (fun _ _ => rfl) (fun _ _ => rfl)) _ x k).trans ?_
    refine congrArg (· + _) ?_
    pointwise [k0_pay2]
  · rintro x rfl
    refine (dw1_point (reads m c t (wg1 m c t) (wg2 m c t) (wg3 m c t) (fun _ _ => rfl) (fun _ _ => rfl) (fun _ _ => rfl)) _ x k).trans ?_
    refine congrArg (· + _) ?_
    pointwise [k0_pay2]

theorem accB (c : Dev nD) (t : Fin cfg0.N) (h0 : ¬ t.val % 8 = 0) (h1 : ¬ t.val % 8 = 7) (j : Fin 2816) (k : Fin 1024) :
    (outsAt0 m c t.val t.isLt).2.2.1 (ix2 j k) = (outsAt0 m c (t.val - 1) (by omega)).2.2.1 (ix2 j k) + ∑ r : Fin 512, dwTok (m ((c : Thread nD τ).loc main_arg0)) (m ((c : Thread nD τ).loc main_arg2))
      (m ((c : Thread nD τ).loc main_arg3)) (tb t r) (ts t r) j k := by
  rw [outsAt0_B m c t h0 h1]
  frame_out
  refine canon_groups _ _ _ _ _ _ _ _ j k ?_ ?_ ?_
  · rintro x rfl
    refine (dw3_point (reads m c t (wg1 m c t) (wg2 m c t) (wg3 m c t) (fun _ _ => rfl) (fun _ _ => rfl) (fun _ _ => rfl)) _ x k).trans ?_
    refine congrArg (· + _) ?_
    simp only [read_unread_whole]
    pointwise
  · rintro x rfl
    refine (dw2_point (reads m c t (wg1 m c t) (wg2 m c t) (wg3 m c t) (fun _ _ => rfl) (fun _ _ => rfl) (fun _ _ => rfl)) _ x k).trans ?_
    refine congrArg (· + _) ?_
    simp only [read_unread_whole]
    pointwise
  · rintro x rfl
    refine (dw1_point (reads m c t (wg1 m c t) (wg2 m c t) (wg3 m c t) (fun _ _ => rfl) (fun _ _ => rfl) (fun _ _ => rfl)) _ x k).trans ?_
    refine congrArg (· + _) ?_
    simp only [read_unread_whole]
    pointwise

set_option maxHeartbeats 1000000 in
theorem hbmC (c : Dev nD) (t : Fin cfg0.N) (h0 : ¬ t.val % 8 = 0) (h1 : t.val % 8 = 7) (j : Fin 2816) (k : Fin 1024) :
    (outsAt0 m c t.val t.isLt).2.2.2 (ix2 j k) = (outsAt0 m c (t.val - 1) (by omega)).2.2.1 (ix2 j k) + ∑ r : Fin 512, dwTok (m ((c : Thread nD τ).loc main_arg0)) (m ((c : Thread nD τ).loc main_arg2))
      (m ((c : Thread nD τ).loc main_arg3)) (tb t r) (ts t r) j k := by
  rw [outsAt0_C m c t h0 h1]
  unfold hbw0_C_0
  dsimp only
  unfold kernelRun0_C
  dsimp only
  rw [View.write_whole_univ]
  frame_out
  show View.read (Elt Ideal) (View.whole cc0_scratch0) _ (ix2 j k) = _
  rw [View.read_writes_eq_canon _ _ _ fun y => cover_groups _ _ _ _ _ _ y]
  refine canon_groups _ _ _ _ _ _ _ _ j k ?_ ?_ ?_
  · rintro x rfl
    refine (dw3_point (reads m c t (wg1 m c t) (wg2 m c t) (wg3 m c t) (fun _ _ => rfl) (fun _ _ => rfl) (fun _ _ => rfl)) _ x k).trans ?_
    refine congrArg (· + _) ?_
    simp only [read_unread_whole]
    pointwise
  · rintro x rfl
    refine (dw2_point (reads m c t (wg1 m c t) (wg2 m c t) (wg3 m c t) (fun _ _ => rfl) (fun _ _ => rfl) (fun _ _ => rfl)) _ x k).trans ?_
    refine congrArg (· + _) ?_
    simp only [read_unread_whole]
    pointwise
  · rintro x rfl
    refine (dw1_point (reads m c t (wg1 m c t) (wg2 m c t) (wg3 m c t) (fun _ _ => rfl) (fun _ _ => rfl) (fun _ _ => rfl)) _ x k).trans ?_
    refine congrArg (· + _) ?_
    simp only [read_unread_whole]
    pointwise

theorem dgA (c : Dev nD) (t : Fin cfg0.N) (h0 : t.val % 8 = 0) (o : Fin 1) (k : Fin 1024) :
    (outsAt0 m c t.val t.isLt).2.1 (ix2 o k) = (0 : EReal) + ∑ r : Fin 512, dgTok (m ((c : Thread nD τ).loc main_arg0)) (m ((c : Thread nD τ).loc main_arg2))
      (m ((c : Thread nD τ).loc main_arg4)) (tb t r) (ts t r) k := by
  rw [outsAt0_A m c t h0 (by omega)]
  frame_out
  refine (dg_point (reads m c t _ _ _ (fun j k => by pointwise; blk_ext) (fun j k => by pointwise; blk_ext) (fun j k => by pointwise; blk_ext)) _ o k).trans ?_
  refine congrArg (· + _) ?_
  pointwise [k0_pay3]

theorem dgB (c : Dev nD) (t : Fin cfg0.N) (h0 : ¬ t.val % 8 = 0) (o : Fin 1) (k : Fin 1024) :
    (outsAt0 m c t.val t.isLt).2.1 (ix2 o k) = (outsAt0 m c (t.val - 1) (by omega)).2.1 (ix2 o k) + ∑ r : Fin 512, dgTok (m ((c : Thread nD τ).loc main_arg0)) (m ((c : Thread nD τ).loc main_arg2))
      (m ((c : Thread nD τ).loc main_arg4)) (tb t r) (ts t r) k := by
  by_cases h1 : t.val % 8 = 7
  · rw [outsAt0_C m c t h0 h1]
    frame_out
    exact dg_point (reads m c t _ _ _ (fun j k => by pointwise; blk_ext) (fun j k => by pointwise; blk_ext) (fun j k => by pointwise; blk_ext)) _ o k
  · rw [outsAt0_B m c t h0 h1]
    frame_out
    exact dg_point (reads m c t _ _ _ (fun j k => by pointwise; blk_ext) (fun j k => by pointwise; blk_ext) (fun j k => by pointwise; blk_ext)) _ o k

end Cert.InKernelIdeal.Value

end
-- ==== Proof.InFinal.lean ====
module

public import proofs.«01_k».proof.Proof.InAcc

@[expose] public section

set_option maxRecDepth 16384

noncomputable section

open Idealize.ShloMosaic Idealize.ShloMosaic.TcCoe Idealize.SL.Sem
open Idealize.ShloMosaic.Pipeline (Dat)

namespace Cert.InKernelIdeal.Value

open Cert.InKernelIdeal Cert.InKernelIdeal.Gen

variable (m : (ℓ : Loc nD τ sig) → Buf (Elt Ideal) ℓ)

/-- Eight points of 512 rows are the two batches' 2048 positions. -/
theorem sum_tokens (f : Fin 2 → Fin 2048 → EReal) : ∑ t : Fin 8, ∑ r : Fin 512,
    f ⟨(t.val * 512 + r.val) / 2048, by omega⟩ ⟨(t.val * 512 + r.val) % 2048, by omega⟩ = ∑ b, ∑ s, f b s := by
  have e1 := Fin.sum_univ_tiles 8 512 rfl (fun n : Fin 4096 => f ⟨n.val / 2048, by omega⟩ ⟨n.val % 2048, by omega⟩)
  have e2 := Fin.sum_univ_tiles 2 2048 rfl (fun n : Fin 4096 => f ⟨n.val / 2048, by omega⟩ ⟨n.val % 2048, by omega⟩)
  refine e1.symm.trans (e2.trans ?_)
  refine Finset.sum_congr rfl fun b _ => Finset.sum_congr rfl fun s _ => ?_
  congr 1 <;> exact Fin.ext (by show _ = _; dsimp only; omega)

/-- The same over the grid's own points. -/
theorem sum_points (f : Fin 2 → Fin 2048 → EReal) : ∑ t : Fin cfg0.N, ∑ r : Fin 512, f (tb t r) (ts t r) = ∑ b, ∑ s, f b s := by
  refine Eq.trans ?_ (sum_tokens f)
  exact (Fin.sum_congr' (fun t : Fin cfg0.N => ∑ r : Fin 512, f (tb t r) (ts t r)) (N_0 : cfg0.N = 8).symm).symm

/-- The grid's last point. -/
def tLast : Fin cfg0.N := ⟨7, lt_of_lt_of_eq (by omega) (N_0 : cfg0.N = 8).symm⟩

theorem gx_congr (X DX P G W) {b b' : Fin 2} {s s' : Fin 2048} {k k' : Fin 1024} (h1 : b.val = b'.val) (h2 : s.val = s'.val)
    (h3 : k.val = k'.val) : gx X DX P G W b s k = gx X DX P G W b' s' k' := by
  rw [Fin.ext h1, Fin.ext h2, Fin.ext h3]

/-- The residual stream's gradient, row by row. -/
theorem final_gx (c : Dev nD) : (dats m 0 c).arrAt 7 cfg0.N = fun i : S4096x1024.Idx =>
    gx (m ((c : Thread nD τ).loc main_arg0)) (m ((c : Thread nD τ).loc main_arg1)) (m ((c : Thread nD τ).loc main_arg2))
      (m ((c : Thread nD τ).loc main_arg3)) (m ((c : Thread nD τ).loc main_arg4))
      ⟨(i 0).val / 2048, by have : (i 0).val < 4096 := (i 0).isLt; omega⟩ ⟨(i 0).val % 2048, by omega⟩ (i 1) := by
  refine (dats m 0 c).arrAt_eq_of_covers 7 _ (by decide +kernel) fun t hf y => ?_
  blk_simp
  rw [after0_7]
  have hy : y = (ix2 (y 0) (y 1) : S512x1024.Idx) := by
    funext a; revert a; exact Fin.forall_fin_two.2 ⟨rfl, rfl⟩
  rw [hy]
  refine (out_gx m c t (y 0) (y 1)).trans ?_
  obtain ⟨-, -, -, -, -, -, -, h7, -, ht⟩ := idx t
  unfold tb ts
  refine gx_congr _ _ _ _ _ ?_ ?_ ?_
  · show _ = (win0_7.index t 0 * 512 + (y 0).val) / 2048
    rw [h7]; rfl
  · show _ = (win0_7.index t 0 * 512 + (y 0).val) % 2048
    rw [h7]; rfl
  · show (y 1).val = win0_7.index t 1 * 1024 + 1 * (y 1).val
    rw [h7]; show _ = 0 * 1024 + 1 * (y 1).val; rw [Nat.zero_mul, Nat.zero_add, Nat.one_mul]

/-- The gain's gradient: the sum over the tokens. -/
theorem final_dg (c : Dev nD) : (dats m 0 c).arrAt 8 cfg0.N = fun i : S1x1024.Idx => ∑ b, ∑ s,
    dgTok (m ((c : Thread nD τ).loc main_arg0)) (m ((c : Thread nD τ).loc main_arg2)) (m ((c : Thread nD τ).loc main_arg4)) b s (i 1) := by
  refine (dats m 0 c).arrAt_eq_of_after_last 8 tLast (by decide +kernel) _ fun j => ?_
  blk_simp
  rw [after0_8]
  refine (Pipeline.eq_sum_fin_of_reset_step_apply_last (fun n h => (outsAt0 m c n h).2.1) 8 (fun _ => (0 : EReal))
    (fun t (j : S1x1024.Idx) => ∑ r : Fin 512, dgTok (m ((c : Thread nD τ).loc main_arg0)) (m ((c : Thread nD τ).loc main_arg2))
      (m ((c : Thread nD τ).loc main_arg4)) (tb t r) (ts t r) (j 1))
    (fun t h j => by idx_vars j; exact dgA m c t h j0 j1) (fun t h j => by idx_vars j; exact dgB m c t h j0 j1)
    (le_of_eq N_0) tLast (N_0 : cfg0.N = 8).symm j).trans ?_
  rw [zero_add]
  exact sum_points fun b s => dgTok _ _ _ b s (j 1)

/-- An accumulator that starts at the first point, and a copy of it taken at the last: the copy is the sum over the points. -/
theorem sweep (A H : (n : ℕ) → n < cfg0.N → EReal) (T : Fin cfg0.N → EReal) (hA : ∀ t : Fin cfg0.N, t.val % 8 = 0 → A t.val t.isLt = 0 + T t)
    (hB : ∀ t : Fin cfg0.N, ¬ t.val % 8 = 0 → ¬ t.val % 8 = 7 → A t.val t.isLt = A (t.val - 1) (Nat.lt_of_le_of_lt (Nat.sub_le _ _) t.isLt) + T t)
    (hC : ∀ t : Fin cfg0.N, ¬ t.val % 8 = 0 → t.val % 8 = 7 → H t.val t.isLt = A (t.val - 1) (Nat.lt_of_le_of_lt (Nat.sub_le _ _) t.isLt) + T t) :
    H tLast.val tLast.isLt = ∑ t, T t := by
  have := Pipeline.eq_sum_fin_of_reset_step_last (fun n h => if n % 8 = 7 then H n h else A n h) 8 (0 : EReal) T
    (fun t h => by
      rw [if_neg (by omega)]
      exact hA t h)
    (fun t h => by
      have ht : t.val < 8 := (idx t).2.2.2.2.2.2.2.2.2
      rw [if_neg (show ¬ (t.val - 1) % 8 = 7 by omega)]
      by_cases h1 : t.val % 8 = 7
      · rw [if_pos h1]
        exact hC t h h1
      · rw [if_neg h1]
        exact hB t h h1)
    (le_of_eq N_0) tLast (N_0 : cfg0.N = 8).symm
  rwa [if_pos (by rfl), zero_add] at this

/-- The weight's gradient as it leaves the accumulator at the last point: the sum over the tokens. -/
theorem final_dw (c : Dev nD) (j : Fin 2816) (k : Fin 1024) : (outsAt0 m c tLast.val tLast.isLt).2.2.2 (ix2 j k) = ∑ b, ∑ s,
    dwTok (m ((c : Thread nD τ).loc main_arg0)) (m ((c : Thread nD τ).loc main_arg2)) (m ((c : Thread nD τ).loc main_arg3)) b s j k :=
  (sweep (fun n h => (outsAt0 m c n h).2.2.1 (ix2 j k)) (fun n h => (outsAt0 m c n h).2.2.2 (ix2 j k))
    (fun t => ∑ r : Fin 512, dwTok (m ((c : Thread nD τ).loc main_arg0)) (m ((c : Thread nD τ).loc main_arg2))
      (m ((c : Thread nD τ).loc main_arg3)) (tb t r) (ts t r) j k)
    (fun t h => accA m c t h j k) (fun t h h1 => accB m c t h h1 j k) (fun t h h1 => hbmC m c t h h1 j k)).trans
    (sum_points fun b s => dwTok _ _ _ b s j k)

end Cert.InKernelIdeal.Value

end
-- ==== Proof.InRef.lean ====
module

public import proofs.«01_k».proof.Proof.Gen.InReferenceIdeal.Run
public import proofs.«01_k».proof.Proof.InPure
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.InReferenceIdeal.Value

open Cert.InReferenceIdeal Cert.InReferenceIdeal.Gen Idealize.ShloMosaic.StableHlo
open Cert.InKernelIdeal.Value (rs dh gx dgTok dwTok)

/-! ## The reference's intermediate arrays, each read at a token -/

/-- Mean square plus the norm's epsilon, a token. -/
def msA (X : FVec Ideal S2x2048x1024 .f32) : FVec Ideal S2x2048x1 .f32 :=
  addf (Host.divf (broadcastInDim S2x2048x1 ![0, 1] bcast_S2x2048_S2x2048x1_0_1 (Host.reduceAdd (mulf X X) (constant S_ .f32 0x00000000#32) reducesTo_S2x2048x1024_S2x2048_d2 h_S_)) (broadcastInDim S2x2048x1 ![] bcast_S_S2x2048x1 (constant S_ .f32 0x44800000#32))) (broadcastInDim S2x2048x1 ![] bcast_S_S2x2048x1 (constant S_ .f32 0x358637BD#32))

/-- The cotangent of the normed rows. -/
def dhA (P : FVec Ideal S2x2048x2816 .f32) (W : FVec Ideal S1x1024x2816 .f32) : FVec Ideal S2x2048x1024 .f32 :=
  Host.dotGeneral dot_S2x2048x2816_S1024x2816_S2x2048x1024_2_1_01_0_n_n none P (shapeCast _ W shapeCasts_S1x1024x2816_S1024x2816)

/-- The gain, spread over the tokens. -/
def gA (G : FVec Ideal S1x1024 .f32) : FVec Ideal S2x2048x1024 .f32 :=
  broadcastInDim S2x2048x1024 ![0, 1, 2] bcast_S1x1x1024_S2x2048x1024_0_1_2 (broadcastInDim S1x1x1024 ![2] bcast_S1024_S1x1x1024_2 (shapeCast _ G shapeCasts_S1x1024_S1024))

/-- The normed rows before the gain. -/
def nxA (X : FVec Ideal S2x2048x1024 .f32) : FVec Ideal S2x2048x1024 .f32 :=
  mulf X (broadcastInDim S2x2048x1024 ![0, 1, 2] bcast_S2x2048x1_S2x2048x1024_0_1_2 (Host.rsqrt (msA X)))

/-- The cotangent of the mean square, halved. -/
def sA (X D : FVec Ideal S2x2048x1024 .f32) : FVec Ideal S2x2048 .f32 :=
  Host.reduceAdd (Host.divf (mulf (shapeCast _ (Host.reduceAdd (mulf X D) (constant S_ .f32 0x00000000#32) reducesTo_S2x2048x1024_S2x2048_d2 h_S_) shapeCasts_S2x2048_S2x2048x1) (mulf (broadcastInDim S2x2048x1 ![] bcast_S_S2x2048x1 (constant S_ .f32 0xBF000000#32)) (Host.divf (Host.rsqrt (msA X)) (msA X)))) (broadcastInDim S2x2048x1 ![] bcast_S_S2x2048x1 (constant S_ .f32 0x44800000#32))) (constant S_ .f32 0x00000000#32) reducesTo_S2x2048x1_S2x2048_d2 h_S_

/-- The residual stream's gradient, from the normed row's cotangent `D` and the mean square's `S`. -/
def gxA (X DX D : FVec Ideal S2x2048x1024 .f32) (S : FVec Ideal S2x2048 .f32) : FVec Ideal S4096x1024 .f32 :=
  shapeCast _ (addf (addf (addf DX (mulf D (broadcastInDim S2x2048x1024 ![0, 1, 2] bcast_S2x2048x1_S2x2048x1024_0_1_2 (Host.rsqrt (msA X))))) (mulf X (broadcastInDim S2x2048x1024 ![0, 1] bcast_S2x2048_S2x2048x1024_0_1 S))) (mulf (broadcastInDim S2x2048x1024 ![0, 1] bcast_S2x2048_S2x2048x1024_0_1 S) X)) shapeCasts_S2x2048x1024_S4096x1024

/-- The weight's gradient, transposed. -/
def dwA (P : FVec Ideal S2x2048x2816 .f32) (H : FVec Ideal S2x2048x1024 .f32) : FVec Ideal S2816x1024 .f32 :=
  transpose S2816x1024 [1, 0] (shapeCast _ (broadcastInDim S1x1024x2816 ![1, 2] bcast_S1024x2816_S1x1024x2816_1_2 (transpose S1024x2816 [1, 0] (Host.dotGeneral dot_S2x2048x2816_S2x2048x1024_S2816x1024_01_01_2_2_n_n none P H) transposes_S2816x1024_S1024x2816_1_0)) shapeCasts_S1x1024x2816_S1024x2816) transposes_S1024x2816_S2816x1024_1_0

/-- The gain's gradient. -/
def dgA (N D : FVec Ideal S2x2048x1024 .f32) : FVec Ideal S1x1024 .f32 :=
  broadcastInDim S1x1024 ![1] bcast_S1024_S1x1024_1 (Host.reduceAdd (shapeCast _ (Host.reduceAdd (mulf N D) (constant S_ .f32 0x00000000#32) reducesTo_S2x2048x1024_S1024_d0_1 h_S_) shapeCasts_S1024_S1x1x1024) (constant S_ .f32 0x00000000#32) reducesTo_S1x1x1024_S1024_d0_1 h_S_)

variable (X DX D N : FVec Ideal S2x2048x1024 .f32) (P : FVec Ideal S2x2048x2816 .f32) (G : FVec Ideal S1x1024 .f32) (W : FVec Ideal S1x1024x2816 .f32)

/-- A sum over the two leading axes, at an index of the last. -/
theorem hostReduceAdd_leading {n0 n1 n2 : ℕ} (h : (⟨3, ![n0, n1, n2]⟩ : Shape).ReducesTo [0, 1] ⟨1, ![n2]⟩)
    (v : (⟨3, ![n0, n1, n2]⟩ : Shape).Idx → EReal) (init : EReal) (k : Fin n2) :
    Ideal.hostReduceAdd h v init (ix1 k) = init + ∑ b : Fin n0, ∑ s : Fin n1, v (ix3 b s k) := by
  unfold Ideal.hostReduceAdd
  refine congrArg (init + ·) ((Finset.sum_filter_eq_sum_of_fiber _ (fun p : Fin n0 × Fin n1 => ix3 p.1 p.2 k)
    (fun _ _ e => Prod.ext (congrFun e 0) (congrFun e 1)) (fun i => ?_) v).trans (by simp only [Fintype.sum_prod_type]))
  constructor
  · intro e
    refine ⟨(i 0, i 1), ?_⟩
    funext a; apply Fin.ext
    match a with
    | ⟨0, _⟩ => rfl
    | ⟨1, _⟩ => rfl
    | ⟨2, _⟩ => exact (congrArg Fin.val (congrFun e 0)).symm
  · rintro ⟨p, rfl⟩
    funext b
    apply Fin.ext
    match b with
    | ⟨0, _⟩ => rfl

theorem msA_at (b : Fin 2) (s : Fin 2048) (o : Fin 1) : msA X (ix3 b s o) =
    Ideal.div (∑ k : Fin 1024, X (ix3 b s k) * X (ix3 b s k)) (Ideal.ofBits .f32 0x44800000#32) + Ideal.ofBits .f32 0x358637BD#32 := by
  pointwise [msA]

theorem dhA_at (b : Fin 2) (s : Fin 2048) (k : Fin 1024) : dhA P W (ix3 b s k) = dh P W b s k := by
  pointwise [dhA, dh]

theorem gA_at (b : Fin 2) (s : Fin 2048) (k : Fin 1024) : gA G (ix3 b s k) = G (ix2 0 k) := by
  pointwise [gA]

theorem nxA_at (b : Fin 2) (s : Fin 2048) (k : Fin 1024) : nxA X (ix3 b s k) = X (ix3 b s k) * rs X b s := by
  unfold rs
  rw [← msA_at X b s 0]
  pointwise [nxA]

theorem sA_at (b : Fin 2) (s : Fin 2048) : sA X D (ix2 b s) =
    Ideal.div ((∑ k : Fin 1024, X (ix3 b s k) * D (ix3 b s k)) * (Ideal.ofBits .f32 0xBF000000#32 * Ideal.div (Ideal.rsqrt (msA X (ix3 b s 0))) (msA X (ix3 b s 0))))
      (Ideal.ofBits .f32 0x44800000#32) := by
  pointwise [sA]
  exact Fin.sum_univ_one _

theorem gxA_at (S : FVec Ideal S2x2048 .f32) (b : Fin 2) (s : Fin 2048) (k : Fin 1024) (i : Fin 4096) (hb : b.val = i.val / 2048) (hs : s.val = i.val % 2048) :
    gxA X DX D S (ix2 i k) = DX (ix3 b s k) + D (ix3 b s k) * rs X b s + X (ix3 b s k) * S (ix2 b s) + S (ix2 b s) * X (ix3 b s k) := by
  have hb' : (⟨i.val / 2048, by omega⟩ : Fin 2) = b := Fin.ext hb.symm
  have hs' : (⟨i.val % 2048, by omega⟩ : Fin 2048) = s := Fin.ext hs.symm
  unfold rs
  rw [← msA_at X b s 0]
  pointwise [gxA]
  rw [hb', hs']

theorem dwA_at (H : FVec Ideal S2x2048x1024 .f32) (j : Fin 2816) (k : Fin 1024) : dwA P H (ix2 j k) = ∑ b : Fin 2, ∑ s : Fin 2048, P (ix3 b s j) * H (ix3 b s k) := by
  pointwise [dwA]

theorem dgA_at (o : Fin 1) (k : Fin 1024) : dgA N D (ix2 o k) = ∑ b : Fin 2, ∑ s : Fin 2048, N (ix3 b s k) * D (ix3 b s k) := by
  pointwise [dgA]
  rw [hostReduceAdd_leading, zero_add, Fin.sum_univ_one, Fin.sum_univ_one]
  pointwise
  rw [hostReduceAdd_leading, zero_add]
  pointwise

variable (m : (ℓ : Loc nD τ sig) → Buf (Elt Ideal) ℓ)

theorem res_gx (c : Dev nD) : res_main_v45 m c = gxA (m ((c.tc : Thread nD τ).loc main_arg0)) (m ((c.tc : Thread nD τ).loc main_arg1))
    (mulf (dhA (m ((c.tc : Thread nD τ).loc main_arg2)) (m ((c.tc : Thread nD τ).loc main_arg4))) (gA (m ((c.tc : Thread nD τ).loc main_arg3))))
    (sA (m ((c.tc : Thread nD τ).loc main_arg0)) (mulf (dhA (m ((c.tc : Thread nD τ).loc main_arg2)) (m ((c.tc : Thread nD τ).loc main_arg4))) (gA (m ((c.tc : Thread nD τ).loc main_arg3))))) := rfl

end Cert.InReferenceIdeal.Value

end
-- ==== Proof.Reals.lean ====
module

public import Idealize.ShloMosaic.Lib.IdealHost
public import Idealize.ShloMosaic.Lib.ReduceAll
public import Idealize.ShloMosaic.Lib.Affine

@[expose] public section

noncomputable section

open Idealize.ShloMosaic

namespace Cert.Reals

/-! ## Extended reals that are real numbers -/

/-- The extended real is a real number. -/
def IsR (x : EReal) : Prop := ∃ r : ℝ, x = (r : EReal)

theorem IsR.coe (r : ℝ) : IsR (r : EReal) := ⟨r, rfl⟩
theorem IsR.add {x y : EReal} (hx : IsR x) (hy : IsR y) : IsR (x + y) := by
  obtain ⟨a, rfl⟩ := hx; obtain ⟨b, rfl⟩ := hy; exact ⟨a + b, (EReal.coe_add a b).symm⟩
theorem IsR.sub {x y : EReal} (hx : IsR x) (hy : IsR y) : IsR (x - y) := by
  obtain ⟨a, rfl⟩ := hx; obtain ⟨b, rfl⟩ := hy; exact ⟨a - b, (EReal.coe_sub a b).symm⟩
theorem IsR.mul {x y : EReal} (hx : IsR x) (hy : IsR y) : IsR (x * y) := by
  obtain ⟨a, rfl⟩ := hx; obtain ⟨b, rfl⟩ := hy; exact ⟨a * b, (EReal.coe_mul a b).symm⟩

/-- A finite sum of real numbers. -/
theorem coe_sum {ι : Type*} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

theorem IsR.sum {ι : Type*} (s : Finset ι) {f : ι → EReal} (h : ∀ i, IsR (f i)) : IsR (∑ i ∈ s, f i) := by
  choose g hg using h
  exact ⟨∑ i ∈ s, g i, by rw [← coe_sum]; exact Finset.sum_congr rfl fun i _ => hg i⟩

/-- The word of plus infinity. -/
theorem inf_word : Ideal.ofBits .f32 0x7F800000#32 = ⊤ := by simp [Ideal.ofBits, Ideal.ieee]

/-- The word of 1024. -/
theorem word_1024 : Ideal.ofBits .f32 0x44800000#32 = ((1024 : ℝ) : EReal) := by
  simp [Ideal.ofBits, Ideal.ieee]; norm_num; rw [← EReal.coe_mul]; norm_num

/-- The word of −1/2. -/
theorem word_neg_half : Ideal.ofBits .f32 0xBF000000#32 = ((-1 / 2 : ℝ) : EReal) := by
  simp [Ideal.ofBits, Ideal.ieee]; norm_num; rw [← EReal.coe_mul]; norm_num

/-- The norm's epsilon. -/
def eps : ℝ := 8796093 * 2 ^ (-43 : ℤ)
theorem eps_pos : 0 < eps := by unfold eps; positivity
theorem word_eps : Ideal.ofBits .f32 0x358637BD#32 = (eps : EReal) := by
  unfold eps; simp [Ideal.ofBits, Ideal.ieee]

/-- An absolute value below infinity is that of a real number. -/
theorem isR_of_abs_lt {x : EReal} (h : Ideal.cmp .olt (max x (-x)) (Ideal.ofBits .f32 0x7F800000#32) = 1#1) : IsR x := by
  rw [inf_word] at h
  have h' : max x (-x) < ⊤ := by
    by_contra hn
    simp [Ideal.cmp, hn] at h
  rw [max_lt_iff] at h'
  induction x with
  | bot => simp at h'
  | top => simp at h'
  | coe r => exact ⟨r, rfl⟩

/-- An array whose every absolute value is below infinity, as the printed check says it, holds real numbers. -/
theorem isR_of_all {s t u : Shape} {axes : List (Fin s.rank)} [Subsingleton t.Idx] (x : FVec Ideal s .f32) (init : u.Idx → BitVec 1)
    (h : s.ReducesTo axes t) (hu : 0 < u.numel) (hb : (⟨0, ![]⟩ : Shape).BroadcastsInDim s ![]) (j : t.Idx)
    (e : Host.reduce IntOp.andi (cmpf .olt (Host.absf x) (broadcastInDim s ![] hb (constant ⟨0, ![]⟩ .f32 0x7F800000#32))) init h hu j = 1#1) (i : s.Idx) :
    IsR (x i) :=
  isR_of_abs_lt (Host.reduce_andi_all _ init h hu j e i)

end Cert.Reals

end
-- ==== Proof.InEquation.lean ====
module

public import proofs.«01_k».proof.Proof.InPure
public import proofs.«01_k».proof.Proof.Reals
public import proofs.«01_k».proof.Proof.Gen.Pre_in_finite

@[expose] public section

set_option maxRecDepth 16384

noncomputable section

open Idealize.ShloMosaic Idealize.ShloMosaic.TcCoe Idealize.SL.Sem

namespace Cert.InKernelIdeal.Value

open Cert.InKernelIdeal Cert.Reals

/-- Over real numbers the two forms of the norm's gradient are one: `x` a row, `d` the normed row's cotangent. -/
theorem real_equation (x d : Fin 1024 → ℝ) (k : Fin 1024) (r ms : ℝ) (h : r * r = 1 / ms) :
    r * (d k - x k * r * ((∑ i, d i * (x i * r)) * (1 / 1024)))
      = d k * r + x k * ((∑ i, x i * d i) * (-1 / 2 * (r * (1 / ms))) * (1 / 1024)) + (∑ i, x i * d i) * (-1 / 2 * (r * (1 / ms))) * (1 / 1024) * x k := by
  have e : ∑ i, d i * (x i * r) = (∑ i, x i * d i) * r := by
    rw [Finset.sum_mul]; exact Finset.sum_congr rfl fun i _ => by ring
  rw [e, ← h]
  ring

/-- The residual stream's gradient as the reference writes it, where the arguments are real numbers. -/
theorem gx_eq (X DX : FVec Ideal S2x2048x1024 .f32) (P : FVec Ideal S2x2048x2816 .f32) (G : FVec Ideal S1x1024 .f32) (W : FVec Ideal S1x1024x2816 .f32)
    (hX : ∀ i, IsR (X i)) (hP : ∀ i, IsR (P i)) (hG : ∀ i, IsR (G i)) (hW : ∀ i, IsR (W i)) (b : Fin 2) (s : Fin 2048) (k : Fin 1024) (MS S : EReal)
    (hMS : MS = Ideal.div (∑ k : Fin 1024, X (ix3 b s k) * X (ix3 b s k)) (Ideal.ofBits .f32 0x44800000#32) + Ideal.ofBits .f32 0x358637BD#32)
    (hS : S = Ideal.div ((∑ k : Fin 1024, X (ix3 b s k) * (dh P W b s k * G (ix2 0 k))) * (Ideal.ofBits .f32 0xBF000000#32 * Ideal.div (Ideal.rsqrt MS) MS))
      (Ideal.ofBits .f32 0x44800000#32)) :
    gx X DX P G W b s k = DX (ix3 b s k) + dh P W b s k * G (ix2 0 k) * rs X b s + X (ix3 b s k) * S + S * X (ix3 b s k) := by
  have hd : ∀ k, IsR (dh P W b s k * G (ix2 0 k)) := fun k => (IsR.sum _ fun j => (hP _).mul (hW _)).mul (hG _)
  choose d hd using hd
  choose x hx using fun k => hX (ix3 b s k)
  have hsum : ∑ k : Fin 1024, X (ix3 b s k) * X (ix3 b s k) = ((∑ k, x k * x k : ℝ) : EReal) := by
    rw [← coe_sum]; exact Finset.sum_congr rfl fun k _ => by rw [hx, EReal.coe_mul]
  have hdiv : ∀ y : EReal, Ideal.div y (Ideal.ofBits .f32 0x44800000#32) = y * ((1 / 1024 : ℝ) : EReal) := fun y => by
    rw [word_1024, Ideal.div_coe (by norm_num)]
  have hms : MS = ((∑ k, x k * x k) * (1 / 1024) + eps : ℝ) := by
    rw [hMS, hsum, hdiv, word_eps, EReal.coe_add, EReal.coe_mul]
  have hpos : 0 < (∑ k, x k * x k) * (1 / 1024) + eps := by
    have := Finset.sum_nonneg fun k (_ : k ∈ Finset.univ) => mul_self_nonneg (x k)
    have := eps_pos
    positivity
  generalize hm : (∑ k, x k * x k) * (1 / 1024) + eps = ms at hms hpos
  have hr : Ideal.rsqrt MS = (((Real.sqrt ms)⁻¹ : ℝ) : EReal) := by
    rw [hms, Ideal.rsqrt_coe, if_neg hpos.le.not_gt, if_neg hpos.ne']
  have hrs : rs X b s = (((Real.sqrt ms)⁻¹ : ℝ) : EReal) := by
    rw [← hr, hMS]; rfl
  have hrr : (Real.sqrt ms)⁻¹ * (Real.sqrt ms)⁻¹ = 1 / ms := by
    rw [← mul_inv, Real.mul_self_sqrt hpos.le, one_div]
  generalize (Real.sqrt ms)⁻¹ = r at hr hrs hrr
  have hrow : rowDot X P G W b s = ((∑ k, d k * (x k * r) : ℝ) : EReal) := by
    unfold rowDot
    rw [← coe_sum]; exact Finset.sum_congr rfl fun k _ => by rw [hd, hx, hrs, EReal.coe_mul, EReal.coe_mul]
  have hxd : ∑ k : Fin 1024, X (ix3 b s k) * (dh P W b s k * G (ix2 0 k)) = ((∑ k, x k * d k : ℝ) : EReal) := by
    rw [← coe_sum]; exact Finset.sum_congr rfl fun k _ => by rw [hd, hx, EReal.coe_mul]
  have hS' : S = (((∑ k, x k * d k) * (-1 / 2 * (r * (1 / ms))) * (1 / 1024) : ℝ) : EReal) := by
    rw [hS, hdiv, hxd, hr, hms, word_neg_half, Ideal.div_coe hpos.ne']
    simp only [EReal.coe_mul]
  unfold gx
  rw [hrow, hdiv, hrs, hd, hx, hS', add_assoc, add_assoc]
  refine congrArg (DX (ix3 b s k) + ·) ?_
  have := real_equation x d k r ms hrr
  rw [← EReal.coe_mul, ← EReal.coe_mul, ← EReal.coe_mul, ← EReal.coe_mul, ← EReal.coe_mul, ← EReal.coe_mul, ← EReal.coe_sub, ← EReal.coe_mul, ← EReal.coe_add, ← EReal.coe_add, this]
  rw [add_assoc]

/-- What the precondition says of the arguments. -/
theorem real_of_pre (X DX : FVec Ideal S2x2048x1024 .f32) (P : FVec Ideal S2x2048x2816 .f32) (G : FVec Ideal S1x1024 .f32) (W : FVec Ideal S1x1024x2816 .f32)
    (h : Cert.Pre_in_finite.fn (F := Ideal) X DX P G W = fun _ => 1#1) :
    (∀ i, IsR (X i)) ∧ (∀ i, IsR (P i)) ∧ (∀ i, IsR (G i)) ∧ ∀ i, IsR (W i) := by
  have e := congrFun h ix0
  unfold Cert.Pre_in_finite.fn Cert.Pre_in_finite.fn_part1 at e
  obtain ⟨e, e4⟩ := IntOp.andi_eq_one.1 e
  obtain ⟨e, e3⟩ := IntOp.andi_eq_one.1 e
  obtain ⟨e1, e2⟩ := IntOp.andi_eq_one.1 e
  haveI : Subsingleton (Cert.Pre_in_finite.S_).Idx := ⟨fun a b => funext fun k => k.elim0⟩
  exact ⟨isR_of_all _ _ _ _ _ _ e1, isR_of_all _ _ _ _ _ _ e2, isR_of_all _ _ _ _ _ _ e3, isR_of_all _ _ _ _ _ _ e4⟩

end Cert.InKernelIdeal.Value

end
-- ==== Proof.InClaim.lean ====
module

public import proofs.«01_k».proof.Defs
public import proofs.«01_k».proof.Proof.InFinal
public import proofs.«01_k».proof.Proof.InRef
public import proofs.«01_k».proof.Proof.InEquation

@[expose] public section

set_option maxRecDepth 16384

noncomputable section

open Idealize.ShloMosaic Idealize.ShloMosaic.TcCoe Idealize.SL.Sem

namespace Cert.InKernelIdeal.Value

open Cert.InKernelIdeal Cert.InKernelIdeal.Gen Cert.Reals
open Cert.InReferenceIdeal.Value (gxA sA dhA gA nxA dwA msA gxA_at sA_at dhA_at gA_at nxA_at dwA_at dgA_at msA_at)

variable (X DX : FVec Ideal S2x2048x1024 .f32) (P : FVec Ideal S2x2048x2816 .f32) (G : FVec Ideal S1x1024 .f32) (W : FVec Ideal S1x1024x2816 .f32)

/-- The reference's gradient of the residual stream, at a row: what the kernel's row holds. -/
theorem gxA_eq (hX : ∀ i, IsR (X i)) (hP : ∀ i, IsR (P i)) (hG : ∀ i, IsR (G i)) (hW : ∀ i, IsR (W i)) (i : Fin 4096) (k : Fin 1024) :
    gx X DX P G W ⟨i.val / 2048, by omega⟩ ⟨i.val % 2048, by omega⟩ k
      = gxA X DX (mulf (dhA P W) (gA G)) (sA X (mulf (dhA P W) (gA G))) (ix2 i k) := by
  have hD : ∀ b s k, (mulf (dhA P W) (gA G) : FVec Ideal S2x2048x1024 .f32) (ix3 b s k) = dh P W b s k * G (ix2 0 k) := fun b s k =>
    congrArg₂ (· * ·) (dhA_at P W b s k) (gA_at G b s k)
  rw [gxA_at X DX _ _ ⟨i.val / 2048, by omega⟩ ⟨i.val % 2048, by omega⟩ k i rfl rfl, hD]
  refine gx_eq X DX P G W hX hP hG hW _ _ k (msA X (ix3 _ _ 0)) _ (msA_at X _ _ 0) ?_
  rw [sA_at]
  simp only [hD]

/-- The reference's gradient of the weight: the kernel's sum over the tokens. -/
theorem dwA_eq (j : Fin 2816) (k : Fin 1024) : ∑ b, ∑ s, dwTok X P G b s j k = dwA P (mulf (nxA X) (gA G)) (ix2 j k) := by
  rw [dwA_at]
  refine Finset.sum_congr rfl fun b _ => Finset.sum_congr rfl fun s _ => ?_
  exact congrArg (P (ix3 b s j) * ·) (congrArg₂ (· * ·) (nxA_at X b s k) (gA_at G b s k)).symm

/-- The reference's gradient of the gain: the kernel's sum over the tokens. -/
theorem dgA_eq (o : Fin 1) (k : Fin 1024) : ∑ b, ∑ s, dgTok X P W b s k = Cert.InReferenceIdeal.Value.dgA (nxA X) (dhA P W) (ix2 o k) := by
  rw [dgA_at]
  refine Finset.sum_congr rfl fun b _ => Finset.sum_congr rfl fun s _ => ?_
  rw [nxA_at, dhA_at]
  exact mul_comm _ _

variable (m : (ℓ : Loc nD τ sig) → Buf (Elt Ideal) ℓ)
  (m' : (ℓ : Loc Cert.InReferenceIdeal.nD Cert.InReferenceIdeal.τ Cert.InReferenceIdeal.sig) → Buf (Elt Ideal) ℓ)

/-- The first result: the kernel's array is the reference's. -/
theorem out_gx_eq (c : Dev nD) (a0 : m' ((c.tc : Thread _ _).loc Cert.InReferenceIdeal.main_arg0) = m ((c.tc : Thread nD τ).loc main_arg0))
    (a1 : m' ((c.tc : Thread _ _).loc Cert.InReferenceIdeal.main_arg1) = m ((c.tc : Thread nD τ).loc main_arg1))
    (a2 : m' ((c.tc : Thread _ _).loc Cert.InReferenceIdeal.main_arg2) = m ((c.tc : Thread nD τ).loc main_arg2))
    (a3 : m' ((c.tc : Thread _ _).loc Cert.InReferenceIdeal.main_arg3) = m ((c.tc : Thread nD τ).loc main_arg3))
    (a4 : m' ((c.tc : Thread _ _).loc Cert.InReferenceIdeal.main_arg4) = m ((c.tc : Thread nD τ).loc main_arg4))
    (rX : ∀ i : S2x2048x1024.Idx, IsR (m ((c.tc : Thread nD τ).loc main_arg0) i)) (rP : ∀ i : S2x2048x2816.Idx, IsR (m ((c.tc : Thread nD τ).loc main_arg2) i))
    (rG : ∀ i : S1x1024.Idx, IsR (m ((c.tc : Thread nD τ).loc main_arg3) i)) (rW : ∀ i : S1x1024x2816.Idx, IsR (m ((c.tc : Thread nD τ).loc main_arg4) i)) :
    (dats m 0 c).arrAt 7 cfg0.N = Cert.InReferenceIdeal.Value.res_main_v45 (F := Ideal) m' c := by
  refine (final_gx m c).trans (Eq.trans ?_ (Cert.InReferenceIdeal.Value.res_gx m' c).symm)
  rw [a0, a1, a2, a3, a4]
  refine funext fun (i : S4096x1024.Idx) => ?_
  obtain ⟨i0, i1, rfl⟩ : ∃ i0 i1, i = (ix2 i0 i1 : S4096x1024.Idx) := ⟨i 0, i 1, eq_ix2 i⟩
  exact gxA_eq _ _ _ _ _ rX rP rG rW i0 i1

/-- The second result. -/
theorem out_dw_eq (c : Dev nD) (a0 : m' ((c.tc : Thread _ _).loc Cert.InReferenceIdeal.main_arg0) = m ((c.tc : Thread nD τ).loc main_arg0))
    (a2 : m' ((c.tc : Thread _ _).loc Cert.InReferenceIdeal.main_arg2) = m ((c.tc : Thread nD τ).loc main_arg2))
    (a3 : m' ((c.tc : Thread _ _).loc Cert.InReferenceIdeal.main_arg3) = m ((c.tc : Thread nD τ).loc main_arg3)) :
    (outsAt0 m c tLast.val tLast.isLt).2.2.2 = dwA (m' ((c.tc : Thread _ _).loc Cert.InReferenceIdeal.main_arg2)) (mulf (nxA (m' ((c.tc : Thread _ _).loc Cert.InReferenceIdeal.main_arg0))) (gA (m' ((c.tc : Thread _ _).loc Cert.InReferenceIdeal.main_arg3)))) := by
  rw [a0, a2, a3]
  refine funext fun (i : S2816x1024.Idx) => ?_
  obtain ⟨i0, i1, rfl⟩ : ∃ i0 i1, i = (ix2 i0 i1 : S2816x1024.Idx) := ⟨i 0, i 1, eq_ix2 i⟩
  exact (final_dw m c i0 i1).trans (dwA_eq _ _ _ i0 i1)

/-- The third result. -/
theorem out_dg_eq (c : Dev nD) (a0 : m' ((c.tc : Thread _ _).loc Cert.InReferenceIdeal.main_arg0) = m ((c.tc : Thread nD τ).loc main_arg0))
    (a2 : m' ((c.tc : Thread _ _).loc Cert.InReferenceIdeal.main_arg2) = m ((c.tc : Thread nD τ).loc main_arg2))
    (a4 : m' ((c.tc : Thread _ _).loc Cert.InReferenceIdeal.main_arg4) = m ((c.tc : Thread nD τ).loc main_arg4)) :
    (dats m 0 c).arrAt 8 cfg0.N = Cert.InReferenceIdeal.Value.dgA (nxA (m' ((c.tc : Thread _ _).loc Cert.InReferenceIdeal.main_arg0))) (dhA (m' ((c.tc : Thread _ _).loc Cert.InReferenceIdeal.main_arg2)) (m' ((c.tc : Thread _ _).loc Cert.InReferenceIdeal.main_arg4))) := by
  refine (final_dg m c).trans ?_
  rw [a0, a2, a4]
  refine funext fun (i : S1x1024.Idx) => ?_
  obtain ⟨i0, i1, rfl⟩ : ∃ i0 i1, i = (ix2 i0 i1 : S1x1024.Idx) := ⟨i 0, i 1, eq_ix2 i⟩
  exact dgA_eq _ _ _ i0 i1

/-- The input projection's gradient: kernel and reference end with equal results. -/
theorem algebraic : Cert.algebraic_InKernelIdeal_InReferenceIdeal_pre_in_finite := by
  intro m g m' g' hpre hargs
  let x := fun c : Dev nD => m' ((c.tc : Thread _ _).loc Cert.InReferenceIdeal.main_arg0)
  let p := fun c : Dev nD => m' ((c.tc : Thread _ _).loc Cert.InReferenceIdeal.main_arg2)
  let gn := fun c : Dev nD => m' ((c.tc : Thread _ _).loc Cert.InReferenceIdeal.main_arg3)
  let w := fun c : Dev nD => m' ((c.tc : Thread _ _).loc Cert.InReferenceIdeal.main_arg4)
  refine ⟨fun c => Cert.InReferenceIdeal.Value.res_main_v45 (F := Ideal) m' c, fun c => dwA (p c) (mulf (nxA (x c)) (gA (gn c))),
    fun c => Cert.InReferenceIdeal.Value.dgA (nxA (x c)) (dhA (p c) (w c)), ?_, Cert.InReferenceIdeal.Value.run (F := Ideal) m' g'⟩
  refine (θ_run _ _ _).mono (fun r h c => ?_) (run_blocks (F := Ideal) m g)
  obtain ⟨h0, h2, k0, k1, k2, k3, k4, h1⟩ := h c
  obtain ⟨a0, a1, a2, a3, a4⟩ := hargs c
  obtain ⟨rX, rP, rG, rW⟩ := real_of_pre _ _ _ _ _ (hpre c)
  exact ⟨h0.trans (out_gx_eq m m' c a0 a1 a2 a3 a4 rX rP rG rW), h1.trans (out_dw_eq m m' c a0 a2 a3), h2.trans (out_dg_eq m m' c a0 a2 a4),
    k0, k1, k2, k3, k4⟩

end Cert.InKernelIdeal.Value

end
-- ==== Proof.GateReals.lean ====
module

public import proofs.«01_k».proof.Proof.Reals

@[expose] public section

noncomputable section

open Idealize.ShloMosaic

namespace Cert.Reals

theorem IsR.neg {x : EReal} (hx : IsR x) : IsR (-x) := by
  obtain ⟨a, rfl⟩ := hx; exact ⟨-a, (EReal.coe_neg a).symm⟩

/-! ## The constants -/

theorem word_128 : Ideal.ofBits .f32 0x43000000#32 = ((128 : ℝ) : EReal) := by
  simp [Ideal.ofBits, Ideal.ieee]; norm_num; rw [← EReal.coe_mul]; norm_num
theorem word_two : Ideal.ofBits .f32 0x40000000#32 = ((2 : ℝ) : EReal) := by
  simp [Ideal.ofBits, Ideal.ieee]; norm_num; rw [← EReal.coe_mul]; norm_num
theorem isR_half : IsR (Ideal.ofBits .f32 0x3F000000#32) := ⟨8388608 * 2 ^ (-24 : ℤ), by simp [Ideal.ofBits, Ideal.ieee]⟩
theorem isR_three : IsR (Ideal.ofBits .f32 0x40400000#32) := ⟨12582912 * 2 ^ (-22 : ℤ), by simp [Ideal.ofBits, Ideal.ieee]⟩
theorem isR_geluC : IsR (Ideal.ofBits .f32 0x3F4C422A#32) := ⟨13386282 * 2 ^ (-24 : ℤ), by simp [Ideal.ofBits, Ideal.ieee]⟩
theorem isR_geluA : IsR (Ideal.ofBits .f32 0x3D372713#32) := ⟨12003091 * 2 ^ (-28 : ℤ), by simp [Ideal.ofBits, Ideal.ieee]⟩

theorem div_128 (y : EReal) : Ideal.div y (Ideal.ofBits .f32 0x43000000#32) = y * ((1 / 128 : ℝ) : EReal) := by
  rw [word_128, Ideal.div_coe (by norm_num)]

theorem IsR.div_128 {y : EReal} (hy : IsR y) : IsR (Ideal.div y (Ideal.ofBits .f32 0x43000000#32)) := by
  rw [Reals.div_128]; exact hy.mul (IsR.coe _)

/-! ## The gelu in its tanh form -/

/-- The hyperbolic tangent inside the gelu. -/
def geluT (x : EReal) : EReal :=
  Ideal.tanh (Ideal.ofBits .f32 0x3F4C422A#32 * (x + Ideal.ofBits .f32 0x3D372713#32 * (x * x * x)))

/-- The gelu. -/
def gelu (x : EReal) : EReal :=
  x * (Ideal.ofBits .f32 0x3F000000#32 * (1 + geluT x))

/-- The gelu's derivative. -/
def geluD (x : EReal) : EReal :=
  Ideal.ofBits .f32 0x3F000000#32 * (1 + geluT x)
    + Ideal.ofBits .f32 0x3F000000#32 * x * (1 - geluT x * geluT x)
      * (Ideal.ofBits .f32 0x3F4C422A#32 * (1 + Ideal.ofBits .f32 0x40400000#32 * (Ideal.ofBits .f32 0x3D372713#32 * (x * x))))

/-- A part of the cotangent that flows through the tangent. -/
def geluE (x y : EReal) : EReal :=
  Ideal.ofBits .f32 0x3F4C422A#32 * (Ideal.ofBits .f32 0x3F000000#32 * (x * y)
    * ((1 + geluT x) * (1 - geluT x)))

theorem isR_geluT {x : EReal} (hx : IsR x) : IsR (geluT x) := by
  obtain ⟨r, hr⟩ := isR_geluC.mul (hx.add (isR_geluA.mul ((hx.mul hx).mul hx)))
  exact ⟨Real.tanh r, by unfold geluT; rw [hr]; rfl⟩

theorem isR_gelu {x : EReal} (hx : IsR x) : IsR (gelu x) :=
  hx.mul (isR_half.mul ((show IsR 1 from IsR.coe 1).add (isR_geluT hx)))

/-- The cotangent times the gelu's derivative, in the three terms of the chain rule. -/
theorem gelu_grad {x y : EReal} (hx : IsR x) (hy : IsR y) :
    y * geluD x = y * (Ideal.ofBits .f32 0x3F000000#32 * (1 + geluT x)) + geluE x y
      + Ideal.ofBits .f32 0x3D372713#32 * geluE x y * (Ideal.ofBits .f32 0x40400000#32 * (x * x)) := by
  obtain ⟨t, ht⟩ := isR_geluT hx
  obtain ⟨x, rfl⟩ := hx
  obtain ⟨y, rfl⟩ := hy
  obtain ⟨h, hh⟩ := isR_half
  obtain ⟨e, he⟩ := isR_three
  obtain ⟨c, hc⟩ := isR_geluC
  obtain ⟨a, ha⟩ := isR_geluA
  unfold geluD geluE
  rw [ht, hh, he, hc, ha, ← EReal.coe_one]
  simp only [← EReal.coe_mul, ← EReal.coe_add, ← EReal.coe_sub]
  exact congrArg _ (by ring)

/-! ## The normalisation over the 128 entries of a row and its gradient -/

/-- The mean of a row. -/
def mean (v : Fin 128 → EReal) : EReal := Ideal.div (∑ c, v c) (Ideal.ofBits .f32 0x43000000#32)
/-- The row less its mean. -/
def cen (v : Fin 128 → EReal) (c : Fin 128) : EReal := v c - mean v
/-- The row's variance, a little more than it. -/
def var (v : Fin 128 → EReal) : EReal := mean (fun c => cen v c * cen v c) + Ideal.ofBits .f32 0x358637BD#32
/-- The reciprocal root of the variance. -/
def rstd (v : Fin 128 → EReal) : EReal := Ideal.rsqrt (var v)
/-- The normalised row. -/
def xhat (v : Fin 128 → EReal) (c : Fin 128) : EReal := cen v c * rstd v

/-- The gradient through the normalisation, of the cotangent `p` of the normalised row. -/
def lnGrad (v p : Fin 128 → EReal) (c : Fin 128) : EReal :=
  rstd v * (p c - mean p - xhat v c * mean (fun c => p c * xhat v c))

/-- The cotangent of the variance, as the chain rule gives it, spread over the row. -/
def varCot (v p : Fin 128 → EReal) (c : Fin 128) : EReal :=
  Ideal.div ((∑ c, cen v c * p c) * (Ideal.ofBits .f32 0xBF000000#32 * Ideal.div (rstd v) (var v))) (Ideal.ofBits .f32 0x43000000#32)
    * (Ideal.ofBits .f32 0x40000000#32 * cen v c)

/-- The row's mean and variance, over real numbers. -/
theorem real_row {v : Fin 128 → EReal} (hv : ∀ c, IsR (v c)) :
    ∃ (a : Fin 128 → ℝ) (s r : ℝ), (∀ c, cen v c = (a c : EReal)) ∧ ∑ c, a c = 0 ∧ 0 < s ∧ var v = (s : EReal) ∧ rstd v = (r : EReal) ∧ r * r = 1 / s := by
  choose x hx using hv
  have hm : mean v = (((∑ c, x c) * (1 / 128) : ℝ) : EReal) := by
    unfold mean; rw [div_128, EReal.coe_mul, ← coe_sum]
    exact congrArg (· * _) (Finset.sum_congr rfl fun c _ => hx c)
  have ha : ∀ c, cen v c = ((x c - (∑ c, x c) * (1 / 128) : ℝ) : EReal) := fun c => by
    unfold cen; rw [hm, hx, EReal.coe_sub]
  have hvar : var v = (((∑ c, (x c - (∑ c, x c) * (1 / 128)) * (x c - (∑ c, x c) * (1 / 128))) * (1 / 128) + eps : ℝ) : EReal) := by
    unfold var mean
    rw [div_128, word_eps, EReal.coe_add, EReal.coe_mul, ← coe_sum]
    exact congrArg (· * _ + _) (Finset.sum_congr rfl fun c _ => by show cen v c * cen v c = _; rw [ha, EReal.coe_mul])
  have hpos : 0 < (∑ c, (x c - (∑ c, x c) * (1 / 128)) * (x c - (∑ c, x c) * (1 / 128))) * (1 / 128) + eps := by
    have := Finset.sum_nonneg fun k (_ : k ∈ Finset.univ) => mul_self_nonneg (x k - (∑ c, x c) * (1 / 128))
    have := eps_pos
    positivity
  refine ⟨fun c => x c - (∑ c, x c) * (1 / 128), _,
    (Real.sqrt ((∑ c, (x c - (∑ c, x c) * (1 / 128)) * (x c - (∑ c, x c) * (1 / 128))) * (1 / 128) + eps))⁻¹, ha, ?_, hpos, hvar, ?_, ?_⟩
  · rw [Finset.sum_sub_distrib, Finset.sum_const, Finset.card_univ, Fintype.card_fin]; simp; ring
  · unfold rstd; rw [hvar, Ideal.rsqrt_coe, if_neg hpos.le.not_gt, if_neg hpos.ne']
  · rw [← mul_inv, Real.mul_self_sqrt hpos.le]; exact (one_div _).symm

/-- The gradient through the normalisation, in the terms of the chain rule. -/
theorem ln_grad {v p : Fin 128 → EReal} (hv : ∀ c, IsR (v c)) (hp : ∀ c, IsR (p c)) (c : Fin 128) :
    lnGrad v p c = p c * rstd v + varCot v p c
      + Ideal.div (∑ c, -(p c * rstd v) + ∑ c, -(varCot v p c)) (Ideal.ofBits .f32 0x43000000#32) := by
  obtain ⟨a, s, r, ha, hs, hpos, hvar, hr, hrr⟩ := real_row hv
  choose q hq using hp
  have hS : ∑ c, cen v c * p c = ((∑ c, a c * q c : ℝ) : EReal) := by
    rw [← coe_sum]; exact Finset.sum_congr rfl fun c _ => by rw [ha, hq, EReal.coe_mul]
  have hV : ∀ c, varCot v p c = (((∑ c, a c * q c) * (-1 / 2 * (r * (1 / s))) * (1 / 128) * (2 * a c) : ℝ) : EReal) := fun c => by
    unfold varCot
    rw [div_128, hS, word_neg_half, word_two, hr, hvar, Ideal.div_coe hpos.ne', ha]
    simp only [← EReal.coe_mul]
  have h1 : ∑ c, -(p c * rstd v) = ((-((∑ c, q c) * r) : ℝ) : EReal) := by
    rw [Finset.sum_mul, ← Finset.sum_neg_distrib, ← coe_sum]
    exact Finset.sum_congr rfl fun c _ => by rw [hq, hr, ← EReal.coe_mul, EReal.coe_neg]
  have h2 : ∑ c, -(varCot v p c) = ((0 : ℝ) : EReal) := by
    rw [show (0 : ℝ) = ∑ c, -((∑ c, a c * q c) * (-1 / 2 * (r * (1 / s))) * (1 / 128) * (2 * a c)) by
      rw [Finset.sum_neg_distrib, ← Finset.mul_sum, ← Finset.mul_sum, hs]; simp, ← coe_sum]
    exact Finset.sum_congr rfl fun c _ => by rw [hV, EReal.coe_neg]
  have h3 : mean p = (((∑ c, q c) * (1 / 128) : ℝ) : EReal) := by
    unfold mean; rw [div_128, EReal.coe_mul, ← coe_sum]
    exact congrArg (· * _) (Finset.sum_congr rfl fun c _ => hq c)
  have h4 : mean (fun c => p c * xhat v c) = (((∑ c, a c * q c) * r * (1 / 128) : ℝ) : EReal) := by
    unfold mean; rw [div_128, EReal.coe_mul, Finset.sum_mul, ← coe_sum]
    exact congrArg (· * _) (Finset.sum_congr rfl fun c _ => by
      show p c * (cen v c * rstd v) = _
      rw [hq, ha, hr, ← EReal.coe_mul, ← EReal.coe_mul]; exact congrArg _ (by ring))
  unfold lnGrad
  rw [h1, h2, h3, h4, hV, div_128, hr, hq]
  unfold xhat
  rw [ha, hr]
  simp only [← EReal.coe_mul, ← EReal.coe_add, ← EReal.coe_sub]
  refine congrArg _ ?_
  rw [← hrr]
  ring

theorem isR_mean {v : Fin 128 → EReal} (hv : ∀ c, IsR (v c)) : IsR (mean v) := (IsR.sum _ hv).div_128

theorem isR_lnGrad {v p : Fin 128 → EReal} (hv : ∀ c, IsR (v c)) (hp : ∀ c, IsR (p c)) (c : Fin 128) : IsR (lnGrad v p c) := by
  obtain ⟨a, s, r, ha, hs, hpos, hvar, hr, hrr⟩ := real_row hv
  have hx : ∀ c, IsR (xhat v c) := fun c => by unfold xhat; rw [ha, hr]; exact (IsR.coe _).mul (IsR.coe _)
  unfold lnGrad
  rw [hr]
  exact (IsR.coe _).mul (((hp c).sub (isR_mean hp)).sub ((hx c).mul (isR_mean fun c => (hp c).mul (hx c))))

theorem isR_xhat {v : Fin 128 → EReal} (hv : ∀ c, IsR (v c)) (c : Fin 128) : IsR (xhat v c) := by
  obtain ⟨a, s, r, ha, hs, hpos, hvar, hr, hrr⟩ := real_row hv
  unfold xhat; rw [ha, hr]; exact (IsR.coe _).mul (IsR.coe _)

end Cert.Reals

end
-- ==== Proof.GateMath.lean ====
module

public import proofs.«01_k».proof.Proof.GateReals
public import Idealize.ShloMosaic.Lib.Pointwise

@[expose] public section

noncomputable section

open Idealize.ShloMosaic Cert.Reals

namespace Cert.Gate

/-! ## One block of 128 tokens and one group of 128 channels of the spatial gate, and its gradients

`au`, `av` are the block's two halves before the gelu, `da` the cotangent of the gate's result, `gam` and `bet` the norm's
gain and bias, `w` the causal spatial weight and `bt` its bias. -/

section
variable (au av da : Fin 128 → Fin 128 → EReal) (gam bet : Fin 128 → EReal) (w : Fin 128 → Fin 128 → EReal) (bt : Fin 128 → EReal)

/-- A token's row of the second half, after the gelu. -/
def vrow (r c : Fin 128) : EReal := gelu (av r c)
/-- The normalised second half. -/
def vc (r c : Fin 128) : EReal := xhat (vrow av r) c * gam c + bet c
/-- The second half, mixed over the tokens. -/
def sv (t c : Fin 128) : EReal := ∑ s, w t s * vc av gam bet s c + bt t
/-- The mixed half's cotangent. -/
def dsv (t c : Fin 128) : EReal := da t c * gelu (au t c)
/-- The block's part of the spatial weight's gradient. -/
def dw (t s : Fin 128) : EReal := ∑ c, dsv au da t c * vc av gam bet s c
/-- The block's part of the spatial bias' gradient. -/
def db (t : Fin 128) : EReal := ∑ c, dsv au da t c
/-- The normalised half's cotangent. -/
def dvc (s c : Fin 128) : EReal := ∑ t, w t s * dsv au da t c
/-- The block's part of the gain's gradient. -/
def dgam (c : Fin 128) : EReal := ∑ s, dvc au da w s c * xhat (vrow av s) c
/-- The block's part of the norm bias' gradient. -/
def dbet (c : Fin 128) : EReal := ∑ s, dvc au da w s c
/-- The first half's gradient. -/
def du (t c : Fin 128) : EReal := da t c * sv av gam bet w bt t c * geluD (au t c)
/-- The second half's gradient. -/
def dv (s c : Fin 128) : EReal := lnGrad (vrow av s) (fun c => dvc au da w s c * gam c) c * geluD (av s c)

end

/-! ## The blocks of the whole arrays -/

/-- A token of a chunk. -/
abbrev tok (n : Fin 16) (r : Fin 128) : Fin 2048 := ⟨n.val * 128 + r.val, by omega⟩
/-- A channel of a group. -/
abbrev chan (g : Fin 4) (c : Fin 128) : Fin 512 := ⟨g.val * 128 + c.val, by omega⟩

def AU (UV : (⟨3, ![2, 2048, 1024]⟩ : Shape).Idx → EReal) (b : Fin 2) (n : Fin 16) (g : Fin 4) (r c : Fin 128) : EReal :=
  UV (ix3 b (tok n r) ⟨(chan g c).val, by omega⟩)
def AV (UV : (⟨3, ![2, 2048, 1024]⟩ : Shape).Idx → EReal) (b : Fin 2) (n : Fin 16) (g : Fin 4) (r c : Fin 128) : EReal :=
  UV (ix3 b (tok n r) ⟨512 + (chan g c).val, by omega⟩)
def GV (V : (⟨2, ![1, 512]⟩ : Shape).Idx → EReal) (g : Fin 4) (c : Fin 128) : EReal := V (ix2 0 (chan g c))
def MW (WS : (⟨4, ![1, 4, 128, 128]⟩ : Shape).Idx → EReal) (g : Fin 4) (t s : Fin 128) : EReal := if s.val ≤ t.val then WS (ix4 0 g t s) else 0
def BT (BS : (⟨3, ![1, 4, 128]⟩ : Shape).Idx → EReal) (g : Fin 4) (t : Fin 128) : EReal := BS (ix3 0 g t)

end Cert.Gate

end
-- ==== Proof.GatePure.lean ====
module

public import proofs.«01_k».proof.Proof.Gen.GateKernelIdeal.Skeleton
public import proofs.«01_k».proof.Proof.GateMath
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.GateKernelIdeal.Value

open Cert.GateKernelIdeal Cert.GateKernelIdeal.Gen Cert.Reals Cert.Gate

/-! ## What the body computes of one group of one chunk, as terms over what it loads -/

abbrev Tile := FVec Ideal S128x128 .f32
abbrev Lane := FVec Ideal S1x128 .f32
abbrev Slab := FVec Ideal S1x128x128 .f32
abbrev SlabB := FVec Ideal S1x128x128 .bf16

variable (xu xv dy : Tile) (vg vb : Lane) (wt wtt : SlabB) (bc old : Slab) (row : Lane)

/-- The first half after its gelu. -/
def tU : Tile := k0_pay205 (k0_pay200 xu) (k0_pay202 xu) (k0_pay203 xu)
/-- The gelu's derivative at the first half. -/
def tGu : Tile := k0_pay206 (k0_pay200 xu) (k0_pay202 xu) (k0_pay203 xu)
/-- The second half after its gelu. -/
def tV : Tile := k0_pay209 (k0_pay201 xv)
/-- The gelu's derivative at the second half. -/
def tGv : Tile := k0_pay211 (k0_pay201 xv) (k0_pay207 (k0_pay201 xv)) (k0_pay208 (k0_pay201 xv)) k0_pay210
/-- The reciprocal deviation of each row. -/
def tRstd : FVec Ideal S128x1 .f32 := k0_pay213 (tV xv)
/-- The normalised rows. -/
def tXhat : Tile := k0_pay214 (tV xv)
/-- The normalised rows with gain and bias. -/
def tVc : Tile := k0_pay215 (tV xv) vg vb
/-- The first half's gradient. -/
def tDu : FVec Ideal S128x128 .bf16 := k0_pay217 (tGu xu) (tVc xv vg vb) wt bc dy
/-- The bias' cotangent, added to what was there. -/
def tSv : Slab := k0_pay220 (tU xu) dy old
/-- The spatial weight's gradient, added to what was there. -/
def tW : Slab := k0_pay221 (tU xu) (tVc xv vg vb) dy old
/-- The normalised half's cotangent. -/
def tDvc : Tile := k0_pay222 (tU xu) dy wtt
/-- The gain's gradient, added to what was there. -/
def tG : Lane := k0_pay223 (tXhat xv) (tDvc xu dy wtt) row
/-- The norm bias' gradient, added to what was there. -/
def tB : Lane := k0_pay224 (tDvc xu dy wtt) row
/-- The second half's gradient. -/
def tDv : FVec Ideal S128x128 .bf16 := k0_pay225 (tGv xv) (tRstd xv) (tXhat xv) vg (tDvc xu dy wtt)

/-! ## The same at an index -/

/-- The entries of a tile. -/
abbrev ent (x : Tile) (r c : Fin 128) : EReal := x (ix2 r c)

theorem tU_at (r c : Fin 128) : tU xu (ix2 r c) = gelu (xu (ix2 r c)) := by
  pointwise [tU, k0_pay205, k0_pay204, k0_pay200, k0_pay202, k0_pay203, gelu, geluT]
  ac_rfl

theorem tGu_at (r c : Fin 128) : tGu xu (ix2 r c) = geluD (xu (ix2 r c)) := by
  pointwise [tGu, k0_pay206, k0_pay204, k0_pay200, k0_pay202, k0_pay203, geluD, geluT]
  refine congrArg₂ (· + ·) ?_ ?_ <;> ac_rfl

theorem tV_at (r c : Fin 128) : tV xv (ix2 r c) = gelu (xv (ix2 r c)) := by
  pointwise [tV, k0_pay209, k0_pay208, k0_pay207, k0_pay201, gelu, geluT]
  ac_rfl

theorem tGv_at (r c : Fin 128) : tGv xv (ix2 r c) = geluD (xv (ix2 r c)) := by
  pointwise [tGv, k0_pay211, k0_pay210, k0_pay208, k0_pay207, k0_pay201, geluD, geluT]
  refine congrArg₂ (· + ·) ?_ ?_ <;> ac_rfl

theorem tRow_eq (r : Fin 128) : (fun c => tV xv (ix2 r c)) = vrow (ent xv) r := by
  funext c; rw [tV_at]; rfl

theorem pay212_at (x : Tile) (r c : Fin 128) : k0_pay212 x (ix2 r c) = cen (fun c => x (ix2 r c)) c := by
  pointwise [k0_pay212, cen, mean]

theorem tRstd_at (r : Fin 128) (o : Fin 1) : tRstd xv (ix2 r o) = rstd (vrow (ent xv) r) := by
  rw [← tRow_eq]
  unfold rstd var mean
  simp only [← pay212_at]
  pointwise [tRstd, k0_pay213]

theorem tXhat_at (r c : Fin 128) : tXhat xv (ix2 r c) = xhat (vrow (ent xv) r) c := by
  unfold xhat
  rw [← tRstd_at xv r 0, ← tRow_eq, ← pay212_at]
  pointwise [tXhat, tRstd, k0_pay214]

theorem tVc_at (r c : Fin 128) : tVc xv vg vb (ix2 r c) = vc (ent xv) (fun c => vg (ix2 0 c)) (fun c => vb (ix2 0 c)) r c := by
  unfold vc
  rw [← tXhat_at]
  pointwise [tVc, tXhat, k0_pay215]

theorem tDsv_at (r c : Fin 128) : k0_pay218 (tU xu) dy (ix2 r c) = dsv (ent xu) (ent dy) r c := by
  unfold dsv
  rw [← tU_at]
  pointwise [k0_pay218, k0_pay216]

theorem tDsvb_at (r c : Fin 128) : k0_pay219 (tU xu) dy (ix2 r c) = dsv (ent xu) (ent dy) r c := by
  rw [← tDsv_at]
  pointwise [k0_pay219]

theorem tDu_at (t c : Fin 128) : tDu xu xv dy vg vb wt bc (ix2 t c) =
    dy (ix2 t c) * (∑ s, wt (ix3 0 t s) * vc (ent xv) (fun c => vg (ix2 0 c)) (fun c => vb (ix2 0 c)) s c + bc (ix3 0 t c)) * geluD (xu (ix2 t c)) := by
  simp only [← tVc_at, ← tGu_at]
  pointwise [tDu, k0_pay217, k0_pay216]

theorem tSv_at (o : Fin 1) (t c : Fin 128) : tSv xu dy old (ix3 o t c) = old (ix3 0 t c) + dsv (ent xu) (ent dy) t c := by
  rw [← tDsv_at]
  pointwise [tSv, k0_pay220]

theorem tW_at (o : Fin 1) (t s : Fin 128) : tW xu xv dy vg vb old (ix3 o t s) = old (ix3 0 t s) +
    dw (ent xu) (ent xv) (ent dy) (fun c => vg (ix2 0 c)) (fun c => vb (ix2 0 c)) t s := by
  unfold dw
  simp only [← tVc_at, ← tDsvb_at]
  pointwise [tW, k0_pay221]

theorem tDvc_at (s c : Fin 128) : tDvc xu dy wtt (ix2 s c) = dvc (ent xu) (ent dy) (fun t s => wtt (ix3 0 s t)) s c := by
  unfold dvc
  simp only [← tDsvb_at]
  pointwise [tDvc, k0_pay222]

theorem tG_at (o : Fin 1) (c : Fin 128) : tG xu xv dy wtt row (ix2 o c) = row (ix2 0 c) +
    dgam (ent xu) (ent xv) (ent dy) (fun t s => wtt (ix3 0 s t)) c := by
  obtain rfl : o = 0 := Subsingleton.elim _ _
  unfold dgam
  simp only [← tXhat_at, ← tDvc_at]
  pointwise [tG, k0_pay223]

theorem tB_at (o : Fin 1) (c : Fin 128) : tB xu dy wtt row (ix2 o c) = row (ix2 0 c) + dbet (ent xu) (ent dy) (fun t s => wtt (ix3 0 s t)) c := by
  obtain rfl : o = 0 := Subsingleton.elim _ _
  unfold dbet
  simp only [← tDvc_at]
  pointwise [tB, k0_pay224]

theorem tDv_at (s c : Fin 128) : tDv xu xv dy vg wtt (ix2 s c) =
    dv (ent xu) (ent xv) (ent dy) (fun c => vg (ix2 0 c)) (fun t s => wtt (ix3 0 s t)) s c := by
  unfold dv lnGrad mean
  simp only [← tRstd_at xv s 0, ← tXhat_at, ← tDvc_at]
  rw [show geluD (ent xv s c) = tGv xv (ix2 s c) from (tGv_at xv s c).symm]
  pointwise [tDv, k0_pay225]

end Cert.GateKernelIdeal.Value

end
-- ==== Proof.GateCanon.lean ====
module

public import proofs.«01_k».proof.Proof.Gen.GateKernelIdeal.Skeleton
public import proofs.«01_k».proof.Proof.GatePure
public import Idealize.ShloMosaic.Lib.Pipeline.ValueKit
public import Idealize.ShloMosaic.Lib.Pipeline.ReadBack
public import Idealize.ShloMosaic.Lib.Pointwise
public import Idealize.ShloMosaic.Lib.WordCmp

@[expose] public section

set_option maxRecDepth 16384

noncomputable section

open Idealize.ShloMosaic Idealize.ShloMosaic.TcCoe Idealize.SL.Sem

namespace Cert.GateKernelIdeal.Value

open Cert.GateKernelIdeal Cert.GateKernelIdeal.Gen Cert.Reals Cert.Gate

/-- Four stores of the four slabs of an array, at an index: the slab's own store. -/
theorem canon_slabs (i0 i1 i2 i3) (p0 p1 p2 p3 : S1x128x128.Idx → EReal) (L : List (View.Piece (Elt Ideal) S4x128x128 .f32))
    (v : EReal) (g : Fin 4) (r k : Fin 128)
    (H3 : g = 3 → p3 (ix3 0 r k) = v) (H2 : g = 2 → p2 (ix3 0 r k) = v) (H1 : g = 1 → p1 (ix3 0 r k) = v) (H0 : g = 0 → p0 (ix3 0 r k) = v) :
    View.canon (Val := Elt Ideal) (s := S4x128x128) (e := .f32)
      (⟨Rect.unit (s := S4x128x128) ![3, 0, 0] ![1, 128, 128] i3, p3⟩ :: ⟨Rect.unit (s := S4x128x128) ![2, 0, 0] ![1, 128, 128] i2, p2⟩
        :: ⟨Rect.unit (s := S4x128x128) ![1, 0, 0] ![1, 128, 128] i1, p1⟩ :: ⟨Rect.unit (s := S4x128x128) ![0, 0, 0] ![1, 128, 128] i0, p0⟩ :: L)
      (ix3 g r k) = v := by
  have emb : ∀ (o : ℕ) (i), g.val = o → (ix3 g r k : S4x128x128.Idx) = (Rect.unit (s := S4x128x128) ![o, 0, 0] ![1, 128, 128] i).emb (ix3 0 r k : S1x128x128.Idx) := by
    intro o i h
    funext a; revert a
    exact Fin.forall_fin_succ.2 ⟨Fin.ext (by show g.val = o + 1 * 0; omega), Fin.forall_fin_two.2
      ⟨Fin.ext (by show r.val = 0 + 1 * r.val; omega), Fin.ext (by show k.val = 0 + 1 * k.val; omega)⟩⟩
  have out : ∀ (o : ℕ) (i), g.val ≠ o → (ix3 g r k : S4x128x128.Idx) ∉ (Rect.unit (s := S4x128x128) ![o, 0, 0] ![1, 128, 128] i).set := by
    intro o i h hm
    obtain ⟨a, ha, e⟩ := (LoadRect.mem_set _).1 hm 0
    have e' : g.val = o + 1 * a := e
    have ha' : a < 1 := ha
    omega
  have hit : ∀ (o : ℕ) (i) (p : S1x128x128.Idx → EReal) (L : List (View.Piece (Elt Ideal) S4x128x128 .f32)), g.val = o →
      View.canon (Val := Elt Ideal) (s := S4x128x128) (e := .f32) (⟨Rect.unit (s := S4x128x128) ![o, 0, 0] ![1, 128, 128] i, p⟩ :: L) (ix3 g r k) = p (ix3 0 r k) := by
    intro o i p L h
    rw [emb o i h, View.canon_cons_emb]
  have skip : ∀ (o : ℕ) (i) (p : S1x128x128.Idx → EReal) (L : List (View.Piece (Elt Ideal) S4x128x128 .f32)), g.val ≠ o →
      View.canon (Val := Elt Ideal) (s := S4x128x128) (e := .f32) (⟨Rect.unit (s := S4x128x128) ![o, 0, 0] ![1, 128, 128] i, p⟩ :: L) (ix3 g r k) = View.canon L (ix3 g r k) := by
    intro o i p L h
    exact View.canon_cons_of_not_mem ⟨Rect.unit (s := S4x128x128) ![o, 0, 0] ![1, 128, 128] i, p⟩ L (out o i h)
  rcases (by omega : g.val = 3 ∨ g.val = 2 ∨ g.val = 1 ∨ g.val = 0) with h | h | h | h
  · exact (hit 3 i3 p3 _ (by omega)).trans (H3 (Fin.ext h))
  · exact (skip 3 i3 p3 _ (by omega)).trans <| (hit 2 i2 p2 _ (by omega)).trans (H2 (Fin.ext h))
  · exact (skip 3 i3 p3 _ (by omega)).trans <| (skip 2 i2 p2 _ (by omega)).trans <| (hit 1 i1 p1 _ (by omega)).trans (H1 (Fin.ext h))
  · exact (skip 3 i3 p3 _ (by omega)).trans <| (skip 2 i2 p2 _ (by omega)).trans <| (skip 1 i1 p1 _ (by omega)).trans <| (hit 0 i0 p0 _ (by omega)).trans (H0 (Fin.ext h))

/-- Four stores of the four groups of a row, at an index: the group's own store. -/
theorem canon_lanes (i0 i1 i2 i3) (p0 p1 p2 p3 : S1x128.Idx → EReal) (L : List (View.Piece (Elt Ideal) S1x512 .f32))
    (v : EReal) (g : Fin 4) (k : Fin 128)
    (H3 : g = 3 → p3 (ix2 0 k) = v) (H2 : g = 2 → p2 (ix2 0 k) = v) (H1 : g = 1 → p1 (ix2 0 k) = v) (H0 : g = 0 → p0 (ix2 0 k) = v) :
    View.canon (Val := Elt Ideal) (s := S1x512) (e := .f32)
      (⟨Rect.unit (s := S1x512) ![0, 384] ![1, 128] i3, p3⟩ :: ⟨Rect.unit (s := S1x512) ![0, 256] ![1, 128] i2, p2⟩
        :: ⟨Rect.unit (s := S1x512) ![0, 128] ![1, 128] i1, p1⟩ :: ⟨Rect.unit (s := S1x512) ![0, 0] ![1, 128] i0, p0⟩ :: L)
      (ix2 0 (chan g k)) = v := by
  have emb : ∀ (o : ℕ) (i), g.val * 128 = o → (ix2 0 (chan g k) : S1x512.Idx) = (Rect.unit (s := S1x512) ![0, o] ![1, 128] i).emb (ix2 0 k : S1x128.Idx) := by
    intro o i h
    funext a; revert a
    exact Fin.forall_fin_two.2 ⟨Fin.ext (by show 0 = 0 + 1 * 0; omega), Fin.ext (by show g.val * 128 + k.val = o + 1 * k.val; omega)⟩
  have out : ∀ (o : ℕ) (i), (g.val * 128 + 128 ≤ o ∨ o + 128 ≤ g.val * 128) → (ix2 0 (chan g k) : S1x512.Idx) ∉ (Rect.unit (s := S1x512) ![0, o] ![1, 128] i).set := by
    intro o i h hm
    obtain ⟨a, ha, e⟩ := (LoadRect.mem_set _).1 hm 1
    have e' : g.val * 128 + k.val = o + 1 * a := e
    have ha' : a < 128 := ha
    omega
  have hit : ∀ (o : ℕ) (i) (p : S1x128.Idx → EReal) (L : List (View.Piece (Elt Ideal) S1x512 .f32)), g.val * 128 = o →
      View.canon (Val := Elt Ideal) (s := S1x512) (e := .f32) (⟨Rect.unit (s := S1x512) ![0, o] ![1, 128] i, p⟩ :: L) (ix2 0 (chan g k)) = p (ix2 0 k) := by
    intro o i p L h
    rw [emb o i h, View.canon_cons_emb]
  have skip : ∀ (o : ℕ) (i) (p : S1x128.Idx → EReal) (L : List (View.Piece (Elt Ideal) S1x512 .f32)), (g.val * 128 + 128 ≤ o ∨ o + 128 ≤ g.val * 128) →
      View.canon (Val := Elt Ideal) (s := S1x512) (e := .f32) (⟨Rect.unit (s := S1x512) ![0, o] ![1, 128] i, p⟩ :: L) (ix2 0 (chan g k)) = View.canon L (ix2 0 (chan g k)) := by
    intro o i p L h
    exact View.canon_cons_of_not_mem ⟨Rect.unit (s := S1x512) ![0, o] ![1, 128] i, p⟩ L (out o i h)
  rcases (by omega : g.val = 3 ∨ g.val = 2 ∨ g.val = 1 ∨ g.val = 0) with h | h | h | h
  · exact (hit 384 i3 p3 _ (by omega)).trans (H3 (Fin.ext h))
  · exact (skip 384 i3 p3 _ (by omega)).trans <| (hit 256 i2 p2 _ (by omega)).trans (H2 (Fin.ext h))
  · exact (skip 384 i3 p3 _ (by omega)).trans <| (skip 256 i2 p2 _ (by omega)).trans <| (hit 128 i1 p1 _ (by omega)).trans (H1 (Fin.ext h))
  · exact (skip 384 i3 p3 _ (by omega)).trans <| (skip 256 i2 p2 _ (by omega)).trans <| (skip 128 i1 p1 _ (by omega)).trans <| (hit 0 i0 p0 _ (by omega)).trans (H0 (Fin.ext h))

/-- Four stores of the four rows of an array, at an index: the row's own store. -/
theorem canon_rows (i0 i1 i2 i3) (p0 p1 p2 p3 : S1x128.Idx → EReal) (L : List (View.Piece (Elt Ideal) S4x128 .f32))
    (v : EReal) (g : Fin 4) (k : Fin 128)
    (H3 : g = 3 → p3 (ix2 0 k) = v) (H2 : g = 2 → p2 (ix2 0 k) = v) (H1 : g = 1 → p1 (ix2 0 k) = v) (H0 : g = 0 → p0 (ix2 0 k) = v) :
    View.canon (Val := Elt Ideal) (s := S4x128) (e := .f32)
      (⟨Rect.unit (s := S4x128) ![3, 0] ![1, 128] i3, p3⟩ :: ⟨Rect.unit (s := S4x128) ![2, 0] ![1, 128] i2, p2⟩
        :: ⟨Rect.unit (s := S4x128) ![1, 0] ![1, 128] i1, p1⟩ :: ⟨Rect.unit (s := S4x128) ![0, 0] ![1, 128] i0, p0⟩ :: L)
      (ix2 g k) = v := by
  have emb : ∀ (o : ℕ) (i), g.val = o → (ix2 g k : S4x128.Idx) = (Rect.unit (s := S4x128) ![o, 0] ![1, 128] i).emb (ix2 0 k : S1x128.Idx) := by
    intro o i h
    funext a; revert a
    exact Fin.forall_fin_two.2 ⟨Fin.ext (by show g.val = o + 1 * 0; omega), Fin.ext (by show k.val = 0 + 1 * k.val; omega)⟩
  have out : ∀ (o : ℕ) (i), g.val ≠ o → (ix2 g k : S4x128.Idx) ∉ (Rect.unit (s := S4x128) ![o, 0] ![1, 128] i).set := by
    intro o i h hm
    obtain ⟨a, ha, e⟩ := (LoadRect.mem_set _).1 hm 0
    have e' : g.val = o + 1 * a := e
    have ha' : a < 1 := ha
    omega
  have hit : ∀ (o : ℕ) (i) (p : S1x128.Idx → EReal) (L : List (View.Piece (Elt Ideal) S4x128 .f32)), g.val = o →
      View.canon (Val := Elt Ideal) (s := S4x128) (e := .f32) (⟨Rect.unit (s := S4x128) ![o, 0] ![1, 128] i, p⟩ :: L) (ix2 g k) = p (ix2 0 k) := by
    intro o i p L h
    rw [emb o i h, View.canon_cons_emb]
  have skip : ∀ (o : ℕ) (i) (p : S1x128.Idx → EReal) (L : List (View.Piece (Elt Ideal) S4x128 .f32)), g.val ≠ o →
      View.canon (Val := Elt Ideal) (s := S4x128) (e := .f32) (⟨Rect.unit (s := S4x128) ![o, 0] ![1, 128] i, p⟩ :: L) (ix2 g k) = View.canon L (ix2 g k) := by
    intro o i p L h
    exact View.canon_cons_of_not_mem ⟨Rect.unit (s := S4x128) ![o, 0] ![1, 128] i, p⟩ L (out o i h)
  rcases (by omega : g.val = 3 ∨ g.val = 2 ∨ g.val = 1 ∨ g.val = 0) with h | h | h | h
  · exact (hit 3 i3 p3 _ (by omega)).trans (H3 (Fin.ext h))
  · exact (skip 3 i3 p3 _ (by omega)).trans <| (hit 2 i2 p2 _ (by omega)).trans (H2 (Fin.ext h))
  · exact (skip 3 i3 p3 _ (by omega)).trans <| (skip 2 i2 p2 _ (by omega)).trans <| (hit 1 i1 p1 _ (by omega)).trans (H1 (Fin.ext h))
  · exact (skip 3 i3 p3 _ (by omega)).trans <| (skip 2 i2 p2 _ (by omega)).trans <| (skip 1 i1 p1 _ (by omega)).trans <| (hit 0 i0 p0 _ (by omega)).trans (H0 (Fin.ext h))

/-! ## Blocks read at an offset -/

section
variable (X D : FVec Ideal S256x1024 .f32) (G B : FVec Ideal S1x512 .f32) (W WT : FVec Ideal S4x128x128 .bf16) (BC : FVec Ideal S4x128x128 .f32)

/-- The chunk of a block from row `a`, column `b` on. -/
def E (a b : ℕ) (r c : Fin 128) : EReal := X (ix2 ⟨(a + r.val) % 256, Nat.mod_lt _ (by decide)⟩ ⟨(b + c.val) % 1024, Nat.mod_lt _ (by decide)⟩)
/-- The group of a row from column `b` on. -/
def EL (b : ℕ) (c : Fin 128) : EReal := G (ix2 0 ⟨(b + c.val) % 512, Nat.mod_lt _ (by decide)⟩)
/-- A slab. -/
def ES (S : S4x128x128.Idx → EReal) (o : ℕ) (t s : Fin 128) : EReal := S (ix3 ⟨o % 4, Nat.mod_lt _ (by decide)⟩ t s)

/-- A chunk of a block, loaded. -/
abbrev ldT (X : FVec Ideal S256x1024 .f32) (a b : ℕ) (h : ∀ q : Fin S256x1024.rank, (![a, b] : Fin S256x1024.rank → Nat) q + (![128, 128] : Fin S256x1024.rank → Nat) q ≤ S256x1024.size q) : Tile := View.ld (Val := Elt Ideal) (e' := .f32) X (Rect.unit (s := S256x1024) ![a, b] ![128, 128] h)
/-- A group of a row, loaded. -/
abbrev ldL (G : FVec Ideal S1x512 .f32) (b : ℕ) (h : ∀ q : Fin S1x512.rank, (![0, b] : Fin S1x512.rank → Nat) q + (![1, 128] : Fin S1x512.rank → Nat) q ≤ S1x512.size q) : Lane := View.ld (Val := Elt Ideal) (e' := .f32) G (Rect.unit (s := S1x512) ![0, b] ![1, 128] h)
/-- A slab, loaded. -/
abbrev ldS (S : FVec Ideal S4x128x128 .f32) (o : ℕ) (h : ∀ q : Fin S4x128x128.rank, (![o, 0, 0] : Fin S4x128x128.rank → Nat) q + (![1, 128, 128] : Fin S4x128x128.rank → Nat) q ≤ S4x128x128.size q) : Slab :=
  View.ld (Val := Elt Ideal) (e' := .f32) S (Rect.unit (s := S4x128x128) ![o, 0, 0] ![1, 128, 128] h)
abbrev ldSb (S : FVec Ideal S4x128x128 .bf16) (o : ℕ) (h : ∀ q : Fin S4x128x128.rank, (![o, 0, 0] : Fin S4x128x128.rank → Nat) q + (![1, 128, 128] : Fin S4x128x128.rank → Nat) q ≤ S4x128x128.size q) : SlabB :=
  View.ld (Val := Elt Ideal) (e' := .bf16) S (Rect.unit (s := S4x128x128) ![o, 0, 0] ![1, 128, 128] h)

theorem ent_ld (a b : ℕ) (h) (ha : a + 128 ≤ 256) (hb : b + 128 ≤ 1024) :
    ent (ldT X (a) (b) h) = E X a b := by
  funext r c
  refine congrArg X ?_
  funext i; revert i
  exact Fin.forall_fin_two.2 ⟨Fin.ext (by show a + 1 * r.val = (a + r.val) % 256; omega), Fin.ext (by show b + 1 * c.val = (b + c.val) % 1024; omega)⟩

theorem ent_ldL (b : ℕ) (h) (hb : b + 128 ≤ 512) :
    (fun c : Fin 128 => ldL G (b) h (ix2 0 c)) = EL G b := by
  funext c
  refine congrArg G ?_
  funext i; revert i
  exact Fin.forall_fin_two.2 ⟨Fin.ext (by show 0 + 1 * 0 = 0; omega), Fin.ext (by show b + 1 * c.val = (b + c.val) % 512; omega)⟩

theorem ldS_at (S : FVec Ideal S4x128x128 .f32) (o : ℕ) (h) (ho : o < 4) (t s : Fin 128) :
    ldS S o h (ix3 0 t s) = ES S o t s := by
  refine congrArg S ?_
  funext i; revert i
  exact Fin.forall_fin_succ.2 ⟨Fin.ext (by show o + 1 * 0 = o % 4; omega), Fin.forall_fin_two.2
    ⟨Fin.ext (by show 0 + 1 * t.val = t.val; omega), Fin.ext (by show 0 + 1 * s.val = s.val; omega)⟩⟩

theorem ldSb_at (S : FVec Ideal S4x128x128 .bf16) (o : ℕ) (h) (ho : o < 4) (t s : Fin 128) :
    ldSb S o h (ix3 0 t s) = ES S o t s := ldS_at S o h ho t s

theorem ldSb_T (S : FVec Ideal S4x128x128 .bf16) (o : ℕ) (h) (ho : o < 4) :
    (fun t s : Fin 128 => ldSb S o h (ix3 0 s t)) = fun t s => ES S o s t := funext fun t => funext fun s => ldSb_at S o h ho s t

/-- A group of a row as it was before, loaded. -/
theorem ldLprev (P : FVec Ideal S1x512 .f32) (g : ℕ) (hg : g < 4) (h) :
    (fun k : Fin 128 => ldL P (g * 128) h (ix2 0 k)) = fun k => P (ix2 0 (chan ⟨g, hg⟩ k)) := by
  rw [ent_ldL P (g * 128) h (by omega)]
  funext k
  refine congrArg P ?_
  funext i; revert i
  exact Fin.forall_fin_two.2 ⟨rfl, Fin.ext (by show (g * 128 + k.val) % 512 = g * 128 + k.val; omega)⟩

/-! ## What a point adds, over its two chunks -/

def pW (o : ℕ) (t s : Fin 128) : EReal :=
  dw (E X 0 o) (E X 0 (512 + o)) (E D 0 o) (EL G o) (EL B o) t s + dw (E X 128 o) (E X 128 (512 + o)) (E D 128 o) (EL G o) (EL B o) t s
def pS (o : ℕ) (t c : Fin 128) : EReal := dsv (E X 0 o) (E D 0 o) t c + dsv (E X 128 o) (E D 128 o) t c
def pG (g : ℕ) (c : Fin 128) : EReal :=
  dgam (E X 0 (g * 128)) (E X 0 (512 + g * 128)) (E D 0 (g * 128)) (fun t s => ES WT g s t) c
    + dgam (E X 128 (g * 128)) (E X 128 (512 + g * 128)) (E D 128 (g * 128)) (fun t s => ES WT g s t) c
def pB (g : ℕ) (c : Fin 128) : EReal :=
  dbet (E X 0 (g * 128)) (E D 0 (g * 128)) (fun t s => ES WT g s t) c + dbet (E X 128 (g * 128)) (E D 128 (g * 128)) (fun t s => ES WT g s t) c

theorem wPt (old : Slab) (o : ℕ) (ho : o + 128 ≤ 512) (h1 h2 h3 h4 h5 h6 h7 h8) (r k : Fin 128) :
    tW (ldT X (128) (o) h1) (ldT X (128) (512 + o) h2)
      (ldT D (128) (o) h3) (ldL G (o) h4)
      (ldL B (o) h5)
      (tW (ldT X (0) (o) h6) (ldT X (0) (512 + o) h7)
        (ldT D (0) (o) h8) (ldL G (o) h4)
        (ldL B (o) h5) old) (ix3 0 r k) = old (ix3 0 r k) + pW X D G B o r k := by
  rw [tW_at, tW_at]
  simp only [ent_ld, ent_ldL, ho, show 512 + o + 128 ≤ 1024 by omega, show o + 128 ≤ 1024 by omega, Nat.reduceAdd, Nat.reduceLeDiff]
  exact add_assoc _ _ _

theorem svPt (old : Slab) (o : ℕ) (ho : o + 128 ≤ 512) (h1 h3 h6 h8) (r k : Fin 128) :
    tSv (ldT X (128) (o) h1) (ldT D (128) (o) h3)
      (tSv (ldT X (0) (o) h6) (ldT D (0) (o) h8) old)
      (ix3 0 r k) = old (ix3 0 r k) + pS X D o r k := by
  rw [tSv_at, tSv_at]
  simp only [ent_ld, show o + 128 ≤ 1024 by omega, Nat.reduceAdd, Nat.reduceLeDiff]
  exact add_assoc _ _ _

theorem gPt (old : Lane) (g : ℕ) (hg : g < 4) (h1 h2 h3 h4 h6 h7 h8) (k : Fin 128) :
    tG (ldT X (128) (g * 128) h1) (ldT X (128) (512 + g * 128) h2)
      (ldT D (128) (g * 128) h3) (ldSb WT g h4)
      (tG (ldT X (0) (g * 128) h6) (ldT X (0) (512 + g * 128) h7)
        (ldT D (0) (g * 128) h8) (ldSb WT g h4)
        old) (ix2 0 k) = old (ix2 0 k) + pG X D WT g k := by
  rw [tG_at, tG_at, ldSb_T WT g h4 hg]
  simp only [ent_ld, show 512 + g * 128 + 128 ≤ 1024 by omega, show g * 128 + 128 ≤ 1024 by omega, Nat.reduceAdd, Nat.reduceLeDiff]
  exact add_assoc _ _ _

theorem bPt (old : Lane) (g : ℕ) (hg : g < 4) (h1 h3 h4 h6 h8) (k : Fin 128) :
    tB (ldT X (128) (g * 128) h1)
      (ldT D (128) (g * 128) h3) (ldSb WT g h4)
      (tB (ldT X (0) (g * 128) h6)
        (ldT D (0) (g * 128) h8) (ldSb WT g h4)
        old) (ix2 0 k) = old (ix2 0 k) + pB X D WT g k := by
  rw [tB_at, tB_at, ldSb_T WT g h4 hg]
  simp only [ent_ld, show g * 128 + 128 ≤ 1024 by omega, Nat.reduceAdd, Nat.reduceLeDiff]
  exact add_assoc _ _ _

/-- The last point's mask of a slab. -/
theorem mask_at (P : Slab) (r k : Fin 128) : k0_pay5 P (ix3 0 r k) = if k.val ≤ r.val then P (ix3 0 r k) else 0 := by
  pointwise [k0_pay5]
  exact if_congr (by word_cmp) rfl rfl

/-- The last point's row sums of a slab. -/
theorem rows_at (P : Slab) (t : Fin 128) : k0_pay6 P (ix2 0 t) = ∑ c, P (ix3 0 t c) := by
  pointwise [k0_pay6]

/-! ## The two halves' gradients -/

def loE (a g : ℕ) (t c : Fin 128) : EReal :=
  E D a (g * 128) t c * (∑ s, ES W g t s * vc (E X a (512 + g * 128)) (EL G (g * 128)) (EL B (g * 128)) s c + ES BC g t c) * geluD (E X a (g * 128) t c)
def hiE (a g : ℕ) (s c : Fin 128) : EReal :=
  dv (E X a (g * 128)) (E X a (512 + g * 128)) (E D a (g * 128)) (EL G (g * 128)) (fun t s => ES WT g s t) s c

/-- A point's block of the two halves' gradients. -/
def vDuv (r : Fin 256) (k : Fin 1024) : EReal :=
  if k.val < 512 then loE X D G B W BC (r.val / 128 * 128) (k.val / 128) ⟨r.val % 128, Nat.mod_lt _ (by decide)⟩ ⟨k.val % 128, Nat.mod_lt _ (by decide)⟩
  else hiE X D G WT (r.val / 128 * 128) (k.val / 128 - 4) ⟨r.val % 128, Nat.mod_lt _ (by decide)⟩ ⟨k.val % 128, Nat.mod_lt _ (by decide)⟩

theorem vDuv_lo (a g : ℕ) (r : Fin 256) (k : Fin 1024) (t c : Fin 128) (hr : r.val = a * 128 + t.val) (hk : k.val = g * 128 + c.val) (hg : g < 4) :
    vDuv X D G B W WT BC r k = loE X D G B W BC (a * 128) g t c := by
  unfold vDuv
  rw [if_pos (by omega), show r.val / 128 = a by omega, show k.val / 128 = g by omega]
  congr 1 <;> exact Fin.ext (by dsimp only; omega)

theorem vDuv_hi (a g : ℕ) (r : Fin 256) (k : Fin 1024) (t c : Fin 128) (hr : r.val = a * 128 + t.val) (hk : k.val = 512 + g * 128 + c.val) (hg : g < 4) :
    vDuv X D G B W WT BC r k = hiE X D G WT (a * 128) g t c := by
  unfold vDuv
  rw [if_neg (by omega), show r.val / 128 = a by omega, show k.val / 128 - 4 = g by omega]
  congr 1 <;> exact Fin.ext (by dsimp only; omega)

theorem loPt (a g : ℕ) (ha : a + 128 ≤ 256) (hg : g < 4) (h1 h2 h3 h4 h5 h6 h7) (t c : Fin 128) :
    tDu (ldT X (a) (g * 128) h1) (ldT X (a) (512 + g * 128) h2)
      (ldT D (a) (g * 128) h3) (ldL G (g * 128) h4)
      (ldL B (g * 128) h5) (ldSb W g h6)
      (ldS BC g h7) (ix2 t c) = loE X D G B W BC a g t c := by
  rw [tDu_at]
  have e1 := congrFun (congrFun (ent_ld D a (g * 128) h3 ha (by omega)) t) c
  have e2 := congrFun (congrFun (ent_ld X a (g * 128) h1 ha (by omega)) t) c
  unfold ent at e1 e2
  rw [e1, e2, ldS_at BC g h7 hg, Finset.sum_congr rfl fun s _ => congrArg (· * _) (ldSb_at W g h6 hg t s)]
  simp only [ent_ld, ent_ldL, ha, show 512 + g * 128 + 128 ≤ 1024 by omega, show g * 128 + 128 ≤ 512 by omega]
  rfl

theorem hiPt (a g : ℕ) (ha : a + 128 ≤ 256) (hg : g < 4) (h1 h2 h3 h4 h6) (t c : Fin 128) :
    tDv (ldT X (a) (g * 128) h1) (ldT X (a) (512 + g * 128) h2)
      (ldT D (a) (g * 128) h3) (ldL G (g * 128) h4)
      (ldSb WT g h6) (ix2 t c) = hiE X D G WT a g t c := by
  rw [tDv_at, ldSb_T WT g h6 hg]
  simp only [ent_ld, ent_ldL, ha, show 512 + g * 128 + 128 ≤ 1024 by omega, show g * 128 + 128 ≤ 1024 by omega, show g * 128 + 128 ≤ 512 by omega]
  rfl

end

end Cert.GateKernelIdeal.Value

end
-- ==== Proof.GateDuv.lean ====
module

public import proofs.«01_k».proof.Proof.Gen.GateKernelIdeal.Value
public import proofs.«01_k».proof.Proof.GateCanon

@[expose] public section

set_option maxRecDepth 16384

noncomputable section

open Idealize.ShloMosaic Idealize.ShloMosaic.TcCoe Idealize.SL.Sem

namespace Cert.GateKernelIdeal.Value

open Cert.GateKernelIdeal Cert.GateKernelIdeal.Gen Cert.Reals Cert.Gate

variable (m : (ℓ : Loc nD τ sig) → Buf (Elt Ideal) ℓ)

/-- The sixteen tiles of the two halves' gradients. -/
theorem duv_canon (X DY : FVec Ideal S256x1024 .f32) (G B : FVec Ideal S1x512 .f32) (W WT : FVec Ideal S4x128x128 .bf16) (BC : FVec Ideal S4x128x128 .f32)
    (r : Fin 256) (k : Fin 1024) :
    View.canon (Val := Elt Ideal) (s := S256x1024) (e := .bf16) [⟨Rect.unit (s := S256x1024) ![128, 896] ![128, 128] (by decide), tDv (ldT X 128 384 (by decide)) (ldT X 128 896 (by decide)) (ldT DY 128 384 (by decide)) (ldL G 384 (by decide)) (ldSb WT 3 (by decide))⟩,
      ⟨Rect.unit (s := S256x1024) ![128, 384] ![128, 128] (by decide), tDu (ldT X 128 384 (by decide)) (ldT X 128 896 (by decide)) (ldT DY 128 384 (by decide)) (ldL G 384 (by decide)) (ldL B 384 (by decide)) (ldSb W 3 (by decide)) (ldS BC 3 (by decide))⟩,
      ⟨Rect.unit (s := S256x1024) ![128, 768] ![128, 128] (by decide), tDv (ldT X 128 256 (by decide)) (ldT X 128 768 (by decide)) (ldT DY 128 256 (by decide)) (ldL G 256 (by decide)) (ldSb WT 2 (by decide))⟩,
      ⟨Rect.unit (s := S256x1024) ![128, 256] ![128, 128] (by decide), tDu (ldT X 128 256 (by decide)) (ldT X 128 768 (by decide)) (ldT DY 128 256 (by decide)) (ldL G 256 (by decide)) (ldL B 256 (by decide)) (ldSb W 2 (by decide)) (ldS BC 2 (by decide))⟩,
      ⟨Rect.unit (s := S256x1024) ![128, 640] ![128, 128] (by decide), tDv (ldT X 128 128 (by decide)) (ldT X 128 640 (by decide)) (ldT DY 128 128 (by decide)) (ldL G 128 (by decide)) (ldSb WT 1 (by decide))⟩,
      ⟨Rect.unit (s := S256x1024) ![128, 128] ![128, 128] (by decide), tDu (ldT X 128 128 (by decide)) (ldT X 128 640 (by decide)) (ldT DY 128 128 (by decide)) (ldL G 128 (by decide)) (ldL B 128 (by decide)) (ldSb W 1 (by decide)) (ldS BC 1 (by decide))⟩,
      ⟨Rect.unit (s := S256x1024) ![128, 512] ![128, 128] (by decide), tDv (ldT X 128 0 (by decide)) (ldT X 128 512 (by decide)) (ldT DY 128 0 (by decide)) (ldL G 0 (by decide)) (ldSb WT 0 (by decide))⟩,
      ⟨Rect.unit (s := S256x1024) ![128, 0] ![128, 128] (by decide), tDu (ldT X 128 0 (by decide)) (ldT X 128 512 (by decide)) (ldT DY 128 0 (by decide)) (ldL G 0 (by decide)) (ldL B 0 (by decide)) (ldSb W 0 (by decide)) (ldS BC 0 (by decide))⟩,
      ⟨Rect.unit (s := S256x1024) ![0, 896] ![128, 128] (by decide), tDv (ldT X 0 384 (by decide)) (ldT X 0 896 (by decide)) (ldT DY 0 384 (by decide)) (ldL G 384 (by decide)) (ldSb WT 3 (by decide))⟩,
      ⟨Rect.unit (s := S256x1024) ![0, 384] ![128, 128] (by decide), tDu (ldT X 0 384 (by decide)) (ldT X 0 896 (by decide)) (ldT DY 0 384 (by decide)) (ldL G 384 (by decide)) (ldL B 384 (by decide)) (ldSb W 3 (by decide)) (ldS BC 3 (by decide))⟩,
      ⟨Rect.unit (s := S256x1024) ![0, 768] ![128, 128] (by decide), tDv (ldT X 0 256 (by decide)) (ldT X 0 768 (by decide)) (ldT DY 0 256 (by decide)) (ldL G 256 (by decide)) (ldSb WT 2 (by decide))⟩,
      ⟨Rect.unit (s := S256x1024) ![0, 256] ![128, 128] (by decide), tDu (ldT X 0 256 (by decide)) (ldT X 0 768 (by decide)) (ldT DY 0 256 (by decide)) (ldL G 256 (by decide)) (ldL B 256 (by decide)) (ldSb W 2 (by decide)) (ldS BC 2 (by decide))⟩,
      ⟨Rect.unit (s := S256x1024) ![0, 640] ![128, 128] (by decide), tDv (ldT X 0 128 (by decide)) (ldT X 0 640 (by decide)) (ldT DY 0 128 (by decide)) (ldL G 128 (by decide)) (ldSb WT 1 (by decide))⟩,
      ⟨Rect.unit (s := S256x1024) ![0, 128] ![128, 128] (by decide), tDu (ldT X 0 128 (by decide)) (ldT X 0 640 (by decide)) (ldT DY 0 128 (by decide)) (ldL G 128 (by decide)) (ldL B 128 (by decide)) (ldSb W 1 (by decide)) (ldS BC 1 (by decide))⟩,
      ⟨Rect.unit (s := S256x1024) ![0, 512] ![128, 128] (by decide), tDv (ldT X 0 0 (by decide)) (ldT X 0 512 (by decide)) (ldT DY 0 0 (by decide)) (ldL G 0 (by decide)) (ldSb WT 0 (by decide))⟩,
      ⟨Rect.unit (s := S256x1024) ![0, 0] ![128, 128] (by decide), tDu (ldT X 0 0 (by decide)) (ldT X 0 512 (by decide)) (ldT DY 0 0 (by decide)) (ldL G 0 (by decide)) (ldL B 0 (by decide)) (ldSb W 0 (by decide)) (ldS BC 0 (by decide))⟩] (ix2 r k) = vDuv X DY G B W WT BC r k := by
  canon_tiles x h
  · rw [show x = (ix2 (x 0) (x 1) : S128x128.Idx) from by funext i; revert i; exact Fin.forall_fin_two.2 ⟨rfl, rfl⟩]
    refine (hiPt X DY G WT 128 3 (by decide) (by decide) (by decide) (by decide) (by decide) (by decide) (by decide) (x 0) (x 1)).trans ?_
    exact (vDuv_hi X DY G B W WT BC 1 3 r k (x 0) (x 1) (by simpa using h0) (by simpa using h1) (by decide)).symm
  · rw [show x = (ix2 (x 0) (x 1) : S128x128.Idx) from by funext i; revert i; exact Fin.forall_fin_two.2 ⟨rfl, rfl⟩]
    refine (loPt X DY G B W BC 128 3 (by decide) (by decide) (by decide) (by decide) (by decide) (by decide) (by decide) (by decide) (by decide) (x 0) (x 1)).trans ?_
    exact (vDuv_lo X DY G B W WT BC 1 3 r k (x 0) (x 1) (by simpa using h0) (by simpa using h1) (by decide)).symm
  · rw [show x = (ix2 (x 0) (x 1) : S128x128.Idx) from by funext i; revert i; exact Fin.forall_fin_two.2 ⟨rfl, rfl⟩]
    refine (hiPt X DY G WT 128 2 (by decide) (by decide) (by decide) (by decide) (by decide) (by decide) (by decide) (x 0) (x 1)).trans ?_
    exact (vDuv_hi X DY G B W WT BC 1 2 r k (x 0) (x 1) (by simpa using h0) (by simpa using h1) (by decide)).symm
  · rw [show x = (ix2 (x 0) (x 1) : S128x128.Idx) from by funext i; revert i; exact Fin.forall_fin_two.2 ⟨rfl, rfl⟩]
    refine (loPt X DY G B W BC 128 2 (by decide) (by decide) (by decide) (by decide) (by decide) (by decide) (by decide) (by decide) (by decide) (x 0) (x 1)).trans ?_
    exact (vDuv_lo X DY G B W WT BC 1 2 r k (x 0) (x 1) (by simpa using h0) (by simpa using h1) (by decide)).symm
  · rw [show x = (ix2 (x 0) (x 1) : S128x128.Idx) from by funext i; revert i; exact Fin.forall_fin_two.2 ⟨rfl, rfl⟩]
    refine (hiPt X DY G WT 128 1 (by decide) (by decide) (by decide) (by decide) (by decide) (by decide) (by decide) (x 0) (x 1)).trans ?_
    exact (vDuv_hi X DY G B W WT BC 1 1 r k (x 0) (x 1) (by simpa using h0) (by simpa using h1) (by decide)).symm
  · rw [show x = (ix2 (x 0) (x 1) : S128x128.Idx) from by funext i; revert i; exact Fin.forall_fin_two.2 ⟨rfl, rfl⟩]
    refine (loPt X DY G B W BC 128 1 (by decide) (by decide) (by decide) (by decide) (by decide) (by decide) (by decide) (by decide) (by decide) (x 0) (x 1)).trans ?_
    exact (vDuv_lo X DY G B W WT BC 1 1 r k (x 0) (x 1) (by simpa using h0) (by simpa using h1) (by decide)).symm
  · rw [show x = (ix2 (x 0) (x 1) : S128x128.Idx) from by funext i; revert i; exact Fin.forall_fin_two.2 ⟨rfl, rfl⟩]
    refine (hiPt X DY G WT 128 0 (by decide) (by decide) (by decide) (by decide) (by decide) (by decide) (by decide) (x 0) (x 1)).trans ?_
    exact (vDuv_hi X DY G B W WT BC 1 0 r k (x 0) (x 1) (by simpa using h0) (by simpa using h1) (by decide)).symm
  · rw [show x = (ix2 (x 0) (x 1) : S128x128.Idx) from by funext i; revert i; exact Fin.forall_fin_two.2 ⟨rfl, rfl⟩]
    refine (loPt X DY G B W BC 128 0 (by decide) (by decide) (by decide) (by decide) (by decide) (by decide) (by decide) (by decide) (by decide) (x 0) (x 1)).trans ?_
    exact (vDuv_lo X DY G B W WT BC 1 0 r k (x 0) (x 1) (by simpa using h0) (by simpa using h1) (by decide)).symm
  · rw [show x = (ix2 (x 0) (x 1) : S128x128.Idx) from by funext i; revert i; exact Fin.forall_fin_two.2 ⟨rfl, rfl⟩]
    refine (hiPt X DY G WT 0 3 (by decide) (by decide) (by decide) (by decide) (by decide) (by decide) (by decide) (x 0) (x 1)).trans ?_
    exact (vDuv_hi X DY G B W WT BC 0 3 r k (x 0) (x 1) (by simpa using h0) (by simpa using h1) (by decide)).symm
  · rw [show x = (ix2 (x 0) (x 1) : S128x128.Idx) from by funext i; revert i; exact Fin.forall_fin_two.2 ⟨rfl, rfl⟩]
    refine (loPt X DY G B W BC 0 3 (by decide) (by decide) (by decide) (by decide) (by decide) (by decide) (by decide) (by decide) (by decide) (x 0) (x 1)).trans ?_
    exact (vDuv_lo X DY G B W WT BC 0 3 r k (x 0) (x 1) (by simpa using h0) (by simpa using h1) (by decide)).symm
  · rw [show x = (ix2 (x 0) (x 1) : S128x128.Idx) from by funext i; revert i; exact Fin.forall_fin_two.2 ⟨rfl, rfl⟩]
    refine (hiPt X DY G WT 0 2 (by decide) (by decide) (by decide) (by decide) (by decide) (by decide) (by decide) (x 0) (x 1)).trans ?_
    exact (vDuv_hi X DY G B W WT BC 0 2 r k (x 0) (x 1) (by simpa using h0) (by simpa using h1) (by decide)).symm
  · rw [show x = (ix2 (x 0) (x 1) : S128x128.Idx) from by funext i; revert i; exact Fin.forall_fin_two.2 ⟨rfl, rfl⟩]
    refine (loPt X DY G B W BC 0 2 (by decide) (by decide) (by decide) (by decide) (by decide) (by decide) (by decide) (by decide) (by decide) (x 0) (x 1)).trans ?_
    exact (vDuv_lo X DY G B W WT BC 0 2 r k (x 0) (x 1) (by simpa using h0) (by simpa using h1) (by decide)).symm
  · rw [show x = (ix2 (x 0) (x 1) : S128x128.Idx) from by funext i; revert i; exact Fin.forall_fin_two.2 ⟨rfl, rfl⟩]
    refine (hiPt X DY G WT 0 1 (by decide) (by decide) (by decide) (by decide) (by decide) (by decide) (by decide) (x 0) (x 1)).trans ?_
    exact (vDuv_hi X DY G B W WT BC 0 1 r k (x 0) (x 1) (by simpa using h0) (by simpa using h1) (by decide)).symm
  · rw [show x = (ix2 (x 0) (x 1) : S128x128.Idx) from by funext i; revert i; exact Fin.forall_fin_two.2 ⟨rfl, rfl⟩]
    refine (loPt X DY G B W BC 0 1 (by decide) (by decide) (by decide) (by decide) (by decide) (by decide) (by decide) (by decide) (by decide) (x 0) (x 1)).trans ?_
    exact (vDuv_lo X DY G B W WT BC 0 1 r k (x 0) (x 1) (by simpa using h0) (by simpa using h1) (by decide)).symm
  · rw [show x = (ix2 (x 0) (x 1) : S128x128.Idx) from by funext i; revert i; exact Fin.forall_fin_two.2 ⟨rfl, rfl⟩]
    refine (hiPt X DY G WT 0 0 (by decide) (by decide) (by decide) (by decide) (by decide) (by decide) (by decide) (x 0) (x 1)).trans ?_
    exact (vDuv_hi X DY G B W WT BC 0 0 r k (x 0) (x 1) (by simpa using h0) (by simpa using h1) (by decide)).symm
  · rw [show x = (ix2 (x 0) (x 1) : S128x128.Idx) from by funext i; revert i; exact Fin.forall_fin_two.2 ⟨rfl, rfl⟩]
    refine (loPt X DY G B W BC 0 0 (by decide) (by decide) (by decide) (by decide) (by decide) (by decide) (by decide) (by decide) (by decide) (x 0) (x 1)).trans ?_
    exact (vDuv_lo X DY G B W WT BC 0 0 r k (x 0) (x 1) (by simpa using h0) (by simpa using h1) (by decide)).symm

theorem uA (c : Dev nD) (t : Fin cfg0.N) (h0 : t.val % 16 = 0) (h1 : t.val % 8 = 0) (h2 : ¬t.val % 16 = 15) (r : Fin 256) (k : Fin 1024) :
    (outsAt0 m c t.val t.isLt).1 (ix2 r k) = vDuv (iblk m c 0 t) (iblk m c 1 t) (iblk m c 6 t) (iblk m c 7 t) (iblk m c 8 t) (iblk m c 9 t) (iblk m c 10 t) r k := by
  rw [outsAt0_A m c t h0 h1 h2]
  frame_out
  exact duv_canon (iblk m c 0 t) (iblk m c 1 t) (iblk m c 6 t) (iblk m c 7 t) (iblk m c 8 t) (iblk m c 9 t) (iblk m c 10 t) r k

theorem uB (c : Dev nD) (t : Fin cfg0.N) (h0 : ¬t.val % 16 = 0) (h1 : ¬t.val % 8 = 0) (h2 : ¬t.val % 16 = 15) (r : Fin 256) (k : Fin 1024) :
    (outsAt0 m c t.val t.isLt).1 (ix2 r k) = vDuv (iblk m c 0 t) (iblk m c 1 t) (iblk m c 6 t) (iblk m c 7 t) (iblk m c 8 t) (iblk m c 9 t) (iblk m c 10 t) r k := by
  rw [outsAt0_B m c t h0 h1 h2]
  frame_out
  exact duv_canon (iblk m c 0 t) (iblk m c 1 t) (iblk m c 6 t) (iblk m c 7 t) (iblk m c 8 t) (iblk m c 9 t) (iblk m c 10 t) r k

theorem uC (c : Dev nD) (t : Fin cfg0.N) (h0 : ¬t.val % 16 = 0) (h1 : t.val % 8 = 0) (h2 : ¬t.val % 16 = 15) (r : Fin 256) (k : Fin 1024) :
    (outsAt0 m c t.val t.isLt).1 (ix2 r k) = vDuv (iblk m c 0 t) (iblk m c 1 t) (iblk m c 6 t) (iblk m c 7 t) (iblk m c 8 t) (iblk m c 9 t) (iblk m c 10 t) r k := by
  rw [outsAt0_C m c t h0 h1 h2]
  frame_out
  exact duv_canon (iblk m c 0 t) (iblk m c 1 t) (iblk m c 6 t) (iblk m c 7 t) (iblk m c 8 t) (iblk m c 9 t) (iblk m c 10 t) r k

theorem uD (c : Dev nD) (t : Fin cfg0.N) (h0 : ¬t.val % 16 = 0) (h1 : ¬t.val % 8 = 0) (h2 : t.val % 16 = 15) (r : Fin 256) (k : Fin 1024) :
    (outsAt0 m c t.val t.isLt).1 (ix2 r k) = vDuv (iblk m c 0 t) (iblk m c 1 t) (iblk m c 6 t) (iblk m c 7 t) (iblk m c 8 t) (iblk m c 9 t) (iblk m c 10 t) r k := by
  rw [outsAt0_D m c t h0 h1 h2]
  frame_out
  exact duv_canon (iblk m c 0 t) (iblk m c 1 t) (iblk m c 6 t) (iblk m c 7 t) (iblk m c 8 t) (iblk m c 9 t) (iblk m c 10 t) r k

end Cert.GateKernelIdeal.Value

end
-- ==== Proof.GateSpatial.lean ====
module

public import proofs.«01_k».proof.Proof.Gen.GateKernelIdeal.Value
public import proofs.«01_k».proof.Proof.GateCanon

@[expose] public section

set_option maxRecDepth 16384

noncomputable section

open Idealize.ShloMosaic Idealize.ShloMosaic.TcCoe Idealize.SL.Sem

namespace Cert.GateKernelIdeal.Value

open Cert.GateKernelIdeal Cert.GateKernelIdeal.Gen Cert.Reals Cert.Gate

variable (m : (ℓ : Loc nD τ sig) → Buf (Elt Ideal) ℓ)

theorem wA (c : Dev nD) (t : Fin cfg0.N) (h0 : t.val % 16 = 0) (h1 : t.val % 8 = 0) (h2 : ¬t.val % 16 = 15) (g : Fin 4) (r k : Fin 128) :
    (outsAt0 m c t.val t.isLt).2.2.2.1 (ix3 g r k) = (0 : EReal) + pW (iblk m c 0 t) (iblk m c 1 t) (iblk m c 6 t) (iblk m c 7 t) (g.val * 128) r k := by
  rw [outsAt0_A m c t h0 h1 h2]
  frame_open
  simp (disch := decide) only [↓ View.readCov_skip, ↓ View.readCov_cons_toLoadRect, ↓ View.readCov_fill]
  frame_out
  refine canon_slabs _ _ _ _ _ _ _ _ _ _ _ _ _ ?_ ?_ ?_ ?_
  · rintro rfl
    refine (wPt (iblk m c 0 t) (iblk m c 1 t) (iblk m c 6 t) (iblk m c 7 t) _ 384 (by decide) (by decide) (by decide) (by decide) (by decide) (by decide) (by decide) (by decide) (by decide) r k).trans ?_
    refine congrArg (· + _) ?_
    pointwise [k0_pay188]
  · rintro rfl
    refine (wPt (iblk m c 0 t) (iblk m c 1 t) (iblk m c 6 t) (iblk m c 7 t) _ 256 (by decide) (by decide) (by decide) (by decide) (by decide) (by decide) (by decide) (by decide) (by decide) r k).trans ?_
    refine congrArg (· + _) ?_
    pointwise [k0_pay188]
  · rintro rfl
    refine (wPt (iblk m c 0 t) (iblk m c 1 t) (iblk m c 6 t) (iblk m c 7 t) _ 128 (by decide) (by decide) (by decide) (by decide) (by decide) (by decide) (by decide) (by decide) (by decide) r k).trans ?_
    refine congrArg (· + _) ?_
    pointwise [k0_pay188]
  · rintro rfl
    refine (wPt (iblk m c 0 t) (iblk m c 1 t) (iblk m c 6 t) (iblk m c 7 t) _ 0 (by decide) (by decide) (by decide) (by decide) (by decide) (by decide) (by decide) (by decide) (by decide) r k).trans ?_
    refine congrArg (· + _) ?_
    pointwise [k0_pay188]

theorem wB (c : Dev nD) (t : Fin cfg0.N) (h0 : ¬t.val % 16 = 0) (h1 : ¬t.val % 8 = 0) (h2 : ¬t.val % 16 = 15) (g : Fin 4) (r k : Fin 128) :
    (outsAt0 m c t.val t.isLt).2.2.2.1 (ix3 g r k) = (outsAt0 m c (t.val - 1) (by omega)).2.2.2.1 (ix3 g r k) + pW (iblk m c 0 t) (iblk m c 1 t) (iblk m c 6 t) (iblk m c 7 t) (g.val * 128) r k := by
  rw [outsAt0_B m c t h0 h1 h2]
  frame_open
  simp (disch := decide) only [↓ View.readCov_skip, ↓ View.readCov_cons_toLoadRect, ↓ View.readCov_fill]
  frame_out
  refine canon_slabs _ _ _ _ _ _ _ _ _ _ _ _ _ ?_ ?_ ?_ ?_
  · rintro rfl
    refine (wPt (iblk m c 0 t) (iblk m c 1 t) (iblk m c 6 t) (iblk m c 7 t) _ 384 (by decide) (by decide) (by decide) (by decide) (by decide) (by decide) (by decide) (by decide) (by decide) r k).trans ?_
    refine congrArg (· + _) ?_
    exact ldS_at _ 3 _ (by decide) r k
  · rintro rfl
    refine (wPt (iblk m c 0 t) (iblk m c 1 t) (iblk m c 6 t) (iblk m c 7 t) _ 256 (by decide) (by decide) (by decide) (by decide) (by decide) (by decide) (by decide) (by decide) (by decide) r k).trans ?_
    refine congrArg (· + _) ?_
    exact ldS_at _ 2 _ (by decide) r k
  · rintro rfl
    refine (wPt (iblk m c 0 t) (iblk m c 1 t) (iblk m c 6 t) (iblk m c 7 t) _ 128 (by decide) (by decide) (by decide) (by decide) (by decide) (by decide) (by decide) (by decide) (by decide) r k).trans ?_
    refine congrArg (· + _) ?_
    exact ldS_at _ 1 _ (by decide) r k
  · rintro rfl
    refine (wPt (iblk m c 0 t) (iblk m c 1 t) (iblk m c 6 t) (iblk m c 7 t) _ 0 (by decide) (by decide) (by decide) (by decide) (by decide) (by decide) (by decide) (by decide) (by decide) r k).trans ?_
    refine congrArg (· + _) ?_
    exact ldS_at _ 0 _ (by decide) r k

theorem wC (c : Dev nD) (t : Fin cfg0.N) (h0 : ¬t.val % 16 = 0) (h1 : t.val % 8 = 0) (h2 : ¬t.val % 16 = 15) (g : Fin 4) (r k : Fin 128) :
    (outsAt0 m c t.val t.isLt).2.2.2.1 (ix3 g r k) = (outsAt0 m c (t.val - 1) (by omega)).2.2.2.1 (ix3 g r k) + pW (iblk m c 0 t) (iblk m c 1 t) (iblk m c 6 t) (iblk m c 7 t) (g.val * 128) r k := by
  rw [outsAt0_C m c t h0 h1 h2]
  frame_open
  simp (disch := decide) only [↓ View.readCov_skip, ↓ View.readCov_cons_toLoadRect, ↓ View.readCov_fill]
  frame_out
  refine canon_slabs _ _ _ _ _ _ _ _ _ _ _ _ _ ?_ ?_ ?_ ?_
  · rintro rfl
    refine (wPt (iblk m c 0 t) (iblk m c 1 t) (iblk m c 6 t) (iblk m c 7 t) _ 384 (by decide) (by decide) (by decide) (by decide) (by decide) (by decide) (by decide) (by decide) (by decide) r k).trans ?_
    refine congrArg (· + _) ?_
    exact ldS_at _ 3 _ (by decide) r k
  · rintro rfl
    refine (wPt (iblk m c 0 t) (iblk m c 1 t) (iblk m c 6 t) (iblk m c 7 t) _ 256 (by decide) (by decide) (by decide) (by decide) (by decide) (by decide) (by decide) (by decide) (by decide) r k).trans ?_
    refine congrArg (· + _) ?_
    exact ldS_at _ 2 _ (by decide) r k
  · rintro rfl
    refine (wPt (iblk m c 0 t) (iblk m c 1 t) (iblk m c 6 t) (iblk m c 7 t) _ 128 (by decide) (by decide) (by decide) (by decide) (by decide) (by decide) (by decide) (by decide) (by decide) r k).trans ?_
    refine congrArg (· + _) ?_
    exact ldS_at _ 1 _ (by decide) r k
  · rintro rfl
    refine (wPt (iblk m c 0 t) (iblk m c 1 t) (iblk m c 6 t) (iblk m c 7 t) _ 0 (by decide) (by decide) (by decide) (by decide) (by decide) (by decide) (by decide) (by decide) (by decide) r k).trans ?_
    refine congrArg (· + _) ?_
    exact ldS_at _ 0 _ (by decide) r k

theorem wD (c : Dev nD) (t : Fin cfg0.N) (h0 : ¬t.val % 16 = 0) (h1 : ¬t.val % 8 = 0) (h2 : t.val % 16 = 15) (g : Fin 4) (r k : Fin 128) :
    (outsAt0 m c t.val t.isLt).2.2.2.1 (ix3 g r k) = if k.val ≤ r.val then (outsAt0 m c (t.val - 1) (by omega)).2.2.2.1 (ix3 g r k) + pW (iblk m c 0 t) (iblk m c 1 t) (iblk m c 6 t) (iblk m c 7 t) (g.val * 128) r k else 0 := by
  rw [outsAt0_D m c t h0 h1 h2]
  frame_open
  simp (disch := decide) only [↓ View.readCov_skip, ↓ View.readCov_cons_toLoadRect, ↓ View.readCov_fill]
  frame_out
  refine canon_slabs _ _ _ _ _ _ _ _ _ _ _ _ _ ?_ ?_ ?_ ?_
  · rintro rfl
    refine (mask_at _ r k).trans ?_
    refine if_congr Iff.rfl ?_ rfl
    refine (wPt (iblk m c 0 t) (iblk m c 1 t) (iblk m c 6 t) (iblk m c 7 t) _ 384 (by decide) (by decide) (by decide) (by decide) (by decide) (by decide) (by decide) (by decide) (by decide) r k).trans ?_
    refine congrArg (· + _) ?_
    exact ldS_at _ 3 _ (by decide) r k
  · rintro rfl
    refine (mask_at _ r k).trans ?_
    refine if_congr Iff.rfl ?_ rfl
    refine (wPt (iblk m c 0 t) (iblk m c 1 t) (iblk m c 6 t) (iblk m c 7 t) _ 256 (by decide) (by decide) (by decide) (by decide) (by decide) (by decide) (by decide) (by decide) (by decide) r k).trans ?_
    refine congrArg (· + _) ?_
    exact ldS_at _ 2 _ (by decide) r k
  · rintro rfl
    refine (mask_at _ r k).trans ?_
    refine if_congr Iff.rfl ?_ rfl
    refine (wPt (iblk m c 0 t) (iblk m c 1 t) (iblk m c 6 t) (iblk m c 7 t) _ 128 (by decide) (by decide) (by decide) (by decide) (by decide) (by decide) (by decide) (by decide) (by decide) r k).trans ?_
    refine congrArg (· + _) ?_
    exact ldS_at _ 1 _ (by decide) r k
  · rintro rfl
    refine (mask_at _ r k).trans ?_
    refine if_congr Iff.rfl ?_ rfl
    refine (wPt (iblk m c 0 t) (iblk m c 1 t) (iblk m c 6 t) (iblk m c 7 t) _ 0 (by decide) (by decide) (by decide) (by decide) (by decide) (by decide) (by decide) (by decide) (by decide) r k).trans ?_
    refine congrArg (· + _) ?_
    exact ldS_at _ 0 _ (by decide) r k

theorem sA (c : Dev nD) (t : Fin cfg0.N) (h0 : t.val % 16 = 0) (h1 : t.val % 8 = 0) (h2 : ¬t.val % 16 = 15) (g : Fin 4) (r k : Fin 128) :
    (outsAt0 m c t.val t.isLt).2.2.2.2.2.2.2.2.2.2.2.1 (ix3 g r k) = (0 : EReal) + pS (iblk m c 0 t) (iblk m c 1 t) (g.val * 128) r k := by
  rw [outsAt0_A m c t h0 h1 h2]
  frame_open
  simp (disch := decide) only [↓ View.readCov_skip, ↓ View.readCov_cons_toLoadRect, ↓ View.readCov_fill]
  frame_out
  refine canon_slabs _ _ _ _ _ _ _ _ _ _ _ _ _ ?_ ?_ ?_ ?_
  · rintro rfl
    refine (svPt (iblk m c 0 t) (iblk m c 1 t) _ 384 (by decide) (by decide) (by decide) (by decide) (by decide) r k).trans ?_
    refine congrArg (· + _) ?_
    pointwise [k0_pay192]
  · rintro rfl
    refine (svPt (iblk m c 0 t) (iblk m c 1 t) _ 256 (by decide) (by decide) (by decide) (by decide) (by decide) r k).trans ?_
    refine congrArg (· + _) ?_
    pointwise [k0_pay192]
  · rintro rfl
    refine (svPt (iblk m c 0 t) (iblk m c 1 t) _ 128 (by decide) (by decide) (by decide) (by decide) (by decide) r k).trans ?_
    refine congrArg (· + _) ?_
    pointwise [k0_pay192]
  · rintro rfl
    refine (svPt (iblk m c 0 t) (iblk m c 1 t) _ 0 (by decide) (by decide) (by decide) (by decide) (by decide) r k).trans ?_
    refine congrArg (· + _) ?_
    pointwise [k0_pay192]

theorem sB (c : Dev nD) (t : Fin cfg0.N) (h0 : ¬t.val % 16 = 0) (h1 : ¬t.val % 8 = 0) (h2 : ¬t.val % 16 = 15) (g : Fin 4) (r k : Fin 128) :
    (outsAt0 m c t.val t.isLt).2.2.2.2.2.2.2.2.2.2.2.1 (ix3 g r k) = (outsAt0 m c (t.val - 1) (by omega)).2.2.2.2.2.2.2.2.2.2.2.1 (ix3 g r k) + pS (iblk m c 0 t) (iblk m c 1 t) (g.val * 128) r k := by
  rw [outsAt0_B m c t h0 h1 h2]
  frame_open
  simp (disch := decide) only [↓ View.readCov_skip, ↓ View.readCov_cons_toLoadRect, ↓ View.readCov_fill]
  frame_out
  refine canon_slabs _ _ _ _ _ _ _ _ _ _ _ _ _ ?_ ?_ ?_ ?_
  · rintro rfl
    refine (svPt (iblk m c 0 t) (iblk m c 1 t) _ 384 (by decide) (by decide) (by decide) (by decide) (by decide) r k).trans ?_
    refine congrArg (· + _) ?_
    simp only [read_unread_whole]
    exact ldS_at _ 3 _ (by decide) r k
  · rintro rfl
    refine (svPt (iblk m c 0 t) (iblk m c 1 t) _ 256 (by decide) (by decide) (by decide) (by decide) (by decide) r k).trans ?_
    refine congrArg (· + _) ?_
    simp only [read_unread_whole]
    exact ldS_at _ 2 _ (by decide) r k
  · rintro rfl
    refine (svPt (iblk m c 0 t) (iblk m c 1 t) _ 128 (by decide) (by decide) (by decide) (by decide) (by decide) r k).trans ?_
    refine congrArg (· + _) ?_
    simp only [read_unread_whole]
    exact ldS_at _ 1 _ (by decide) r k
  · rintro rfl
    refine (svPt (iblk m c 0 t) (iblk m c 1 t) _ 0 (by decide) (by decide) (by decide) (by decide) (by decide) r k).trans ?_
    refine congrArg (· + _) ?_
    simp only [read_unread_whole]
    exact ldS_at _ 0 _ (by decide) r k

theorem sC (c : Dev nD) (t : Fin cfg0.N) (h0 : ¬t.val % 16 = 0) (h1 : t.val % 8 = 0) (h2 : ¬t.val % 16 = 15) (g : Fin 4) (r k : Fin 128) :
    (outsAt0 m c t.val t.isLt).2.2.2.2.2.2.2.2.2.2.2.1 (ix3 g r k) = (outsAt0 m c (t.val - 1) (by omega)).2.2.2.2.2.2.2.2.2.2.2.1 (ix3 g r k) + pS (iblk m c 0 t) (iblk m c 1 t) (g.val * 128) r k := by
  rw [outsAt0_C m c t h0 h1 h2]
  frame_open
  simp (disch := decide) only [↓ View.readCov_skip, ↓ View.readCov_cons_toLoadRect, ↓ View.readCov_fill]
  frame_out
  refine canon_slabs _ _ _ _ _ _ _ _ _ _ _ _ _ ?_ ?_ ?_ ?_
  · rintro rfl
    refine (svPt (iblk m c 0 t) (iblk m c 1 t) _ 384 (by decide) (by decide) (by decide) (by decide) (by decide) r k).trans ?_
    refine congrArg (· + _) ?_
    simp only [read_unread_whole]
    exact ldS_at _ 3 _ (by decide) r k
  · rintro rfl
    refine (svPt (iblk m c 0 t) (iblk m c 1 t) _ 256 (by decide) (by decide) (by decide) (by decide) (by decide) r k).trans ?_
    refine congrArg (· + _) ?_
    simp only [read_unread_whole]
    exact ldS_at _ 2 _ (by decide) r k
  · rintro rfl
    refine (svPt (iblk m c 0 t) (iblk m c 1 t) _ 128 (by decide) (by decide) (by decide) (by decide) (by decide) r k).trans ?_
    refine congrArg (· + _) ?_
    simp only [read_unread_whole]
    exact ldS_at _ 1 _ (by decide) r k
  · rintro rfl
    refine (svPt (iblk m c 0 t) (iblk m c 1 t) _ 0 (by decide) (by decide) (by decide) (by decide) (by decide) r k).trans ?_
    refine congrArg (· + _) ?_
    simp only [read_unread_whole]
    exact ldS_at _ 0 _ (by decide) r k

theorem dD (c : Dev nD) (t : Fin cfg0.N) (h0 : ¬t.val % 16 = 0) (h1 : ¬t.val % 8 = 0) (h2 : t.val % 16 = 15) (g : Fin 4) (r : Fin 128) :
    (outsAt0 m c t.val t.isLt).2.2.2.2.1 (ix2 g r) = ∑ k, ((outsAt0 m c (t.val - 1) (by omega)).2.2.2.2.2.2.2.2.2.2.2.1 (ix3 g r k) + pS (iblk m c 0 t) (iblk m c 1 t) (g.val * 128) r k) := by
  rw [outsAt0_D m c t h0 h1 h2]
  frame_open
  simp (disch := decide) only [↓ View.readCov_skip, ↓ View.readCov_cons_toLoadRect, ↓ View.readCov_fill]
  frame_out
  refine canon_rows _ _ _ _ _ _ _ _ _ _ _ _ ?_ ?_ ?_ ?_
  · rintro rfl
    refine (rows_at _ r).trans (Finset.sum_congr rfl fun k _ => ?_)
    refine (svPt (iblk m c 0 t) (iblk m c 1 t) _ 384 (by decide) (by decide) (by decide) (by decide) (by decide) r k).trans ?_
    refine congrArg (· + _) ?_
    simp only [read_unread_whole]
    exact ldS_at _ 3 _ (by decide) r k
  · rintro rfl
    refine (rows_at _ r).trans (Finset.sum_congr rfl fun k _ => ?_)
    refine (svPt (iblk m c 0 t) (iblk m c 1 t) _ 256 (by decide) (by decide) (by decide) (by decide) (by decide) r k).trans ?_
    refine congrArg (· + _) ?_
    simp only [read_unread_whole]
    exact ldS_at _ 2 _ (by decide) r k
  · rintro rfl
    refine (rows_at _ r).trans (Finset.sum_congr rfl fun k _ => ?_)
    refine (svPt (iblk m c 0 t) (iblk m c 1 t) _ 128 (by decide) (by decide) (by decide) (by decide) (by decide) r k).trans ?_
    refine congrArg (· + _) ?_
    simp only [read_unread_whole]
    exact ldS_at _ 1 _ (by decide) r k
  · rintro rfl
    refine (rows_at _ r).trans (Finset.sum_congr rfl fun k _ => ?_)
    refine (svPt (iblk m c 0 t) (iblk m c 1 t) _ 0 (by decide) (by decide) (by decide) (by decide) (by decide) r k).trans ?_
    refine congrArg (· + _) ?_
    simp only [read_unread_whole]
    exact ldS_at _ 0 _ (by decide) r k

end Cert.GateKernelIdeal.Value

end
-- ==== Proof.GateNorm.lean ====
module

public import proofs.«01_k».proof.Proof.Gen.GateKernelIdeal.Value
public import proofs.«01_k».proof.Proof.GateCanon

@[expose] public section

set_option maxRecDepth 16384

noncomputable section

open Idealize.ShloMosaic Idealize.ShloMosaic.TcCoe Idealize.SL.Sem

namespace Cert.GateKernelIdeal.Value

open Cert.GateKernelIdeal Cert.GateKernelIdeal.Gen Cert.Reals Cert.Gate

variable (m : (ℓ : Loc nD τ sig) → Buf (Elt Ideal) ℓ)

theorem gA (c : Dev nD) (t : Fin cfg0.N) (h0 : t.val % 16 = 0) (h1 : t.val % 8 = 0) (h2 : ¬t.val % 16 = 15) (g : Fin 4) (k : Fin 128) :
    (outsAt0 m c t.val t.isLt).2.2.2.2.2.1 (ix2 0 (chan g k)) = (0 : EReal) + pG (iblk m c 0 t) (iblk m c 1 t) (iblk m c 9 t) g.val k := by
  rw [outsAt0_A m c t h0 h1 h2]
  frame_open
  simp (disch := decide) only [↓ View.readCov_skip, ↓ View.readCov_cons_toLoadRect, ↓ View.readCov_fill]
  frame_out
  refine canon_lanes _ _ _ _ _ _ _ _ _ _ _ _ ?_ ?_ ?_ ?_
  · rintro rfl
    refine (gPt (iblk m c 0 t) (iblk m c 1 t) (iblk m c 9 t) _ 3 (by decide) (by decide) (by decide) (by decide) (by decide) (by decide) (by decide) (by decide) k).trans ?_
    refine congrArg (· + _) ?_
    pointwise [k0_pay189]
  · rintro rfl
    refine (gPt (iblk m c 0 t) (iblk m c 1 t) (iblk m c 9 t) _ 2 (by decide) (by decide) (by decide) (by decide) (by decide) (by decide) (by decide) (by decide) k).trans ?_
    refine congrArg (· + _) ?_
    pointwise [k0_pay189]
  · rintro rfl
    refine (gPt (iblk m c 0 t) (iblk m c 1 t) (iblk m c 9 t) _ 1 (by decide) (by decide) (by decide) (by decide) (by decide) (by decide) (by decide) (by decide) k).trans ?_
    refine congrArg (· + _) ?_
    pointwise [k0_pay189]
  · rintro rfl
    refine (gPt (iblk m c 0 t) (iblk m c 1 t) (iblk m c 9 t) _ 0 (by decide) (by decide) (by decide) (by decide) (by decide) (by decide) (by decide) (by decide) k).trans ?_
    refine congrArg (· + _) ?_
    pointwise [k0_pay189]

theorem gB (c : Dev nD) (t : Fin cfg0.N) (h0 : ¬t.val % 16 = 0) (h1 : ¬t.val % 8 = 0) (h2 : ¬t.val % 16 = 15) (g : Fin 4) (k : Fin 128) :
    (outsAt0 m c t.val t.isLt).2.2.2.2.2.1 (ix2 0 (chan g k)) = (outsAt0 m c (t.val - 1) (by omega)).2.2.2.2.2.1 (ix2 0 (chan g k)) + pG (iblk m c 0 t) (iblk m c 1 t) (iblk m c 9 t) g.val k := by
  rw [outsAt0_B m c t h0 h1 h2]
  frame_open
  simp (disch := decide) only [↓ View.readCov_skip, ↓ View.readCov_cons_toLoadRect, ↓ View.readCov_fill]
  frame_out
  refine canon_lanes _ _ _ _ _ _ _ _ _ _ _ _ ?_ ?_ ?_ ?_
  · rintro rfl
    refine (gPt (iblk m c 0 t) (iblk m c 1 t) (iblk m c 9 t) _ 3 (by decide) (by decide) (by decide) (by decide) (by decide) (by decide) (by decide) (by decide) k).trans ?_
    refine congrArg (· + _) ?_
    exact congrFun (ldLprev _ 3 (by decide) _) k
  · rintro rfl
    refine (gPt (iblk m c 0 t) (iblk m c 1 t) (iblk m c 9 t) _ 2 (by decide) (by decide) (by decide) (by decide) (by decide) (by decide) (by decide) (by decide) k).trans ?_
    refine congrArg (· + _) ?_
    exact congrFun (ldLprev _ 2 (by decide) _) k
  · rintro rfl
    refine (gPt (iblk m c 0 t) (iblk m c 1 t) (iblk m c 9 t) _ 1 (by decide) (by decide) (by decide) (by decide) (by decide) (by decide) (by decide) (by decide) k).trans ?_
    refine congrArg (· + _) ?_
    exact congrFun (ldLprev _ 1 (by decide) _) k
  · rintro rfl
    refine (gPt (iblk m c 0 t) (iblk m c 1 t) (iblk m c 9 t) _ 0 (by decide) (by decide) (by decide) (by decide) (by decide) (by decide) (by decide) (by decide) k).trans ?_
    refine congrArg (· + _) ?_
    exact congrFun (ldLprev _ 0 (by decide) _) k

theorem gC (c : Dev nD) (t : Fin cfg0.N) (h0 : ¬t.val % 16 = 0) (h1 : t.val % 8 = 0) (h2 : ¬t.val % 16 = 15) (g : Fin 4) (k : Fin 128) :
    (outsAt0 m c t.val t.isLt).2.2.2.2.2.1 (ix2 0 (chan g k)) = (outsAt0 m c (t.val - 1) (by omega)).2.2.2.2.2.1 (ix2 0 (chan g k)) + pG (iblk m c 0 t) (iblk m c 1 t) (iblk m c 9 t) g.val k := by
  rw [outsAt0_C m c t h0 h1 h2]
  frame_open
  simp (disch := decide) only [↓ View.readCov_skip, ↓ View.readCov_cons_toLoadRect, ↓ View.readCov_fill]
  frame_out
  refine canon_lanes _ _ _ _ _ _ _ _ _ _ _ _ ?_ ?_ ?_ ?_
  · rintro rfl
    refine (gPt (iblk m c 0 t) (iblk m c 1 t) (iblk m c 9 t) _ 3 (by decide) (by decide) (by decide) (by decide) (by decide) (by decide) (by decide) (by decide) k).trans ?_
    refine congrArg (· + _) ?_
    exact congrFun (ldLprev _ 3 (by decide) _) k
  · rintro rfl
    refine (gPt (iblk m c 0 t) (iblk m c 1 t) (iblk m c 9 t) _ 2 (by decide) (by decide) (by decide) (by decide) (by decide) (by decide) (by decide) (by decide) k).trans ?_
    refine congrArg (· + _) ?_
    exact congrFun (ldLprev _ 2 (by decide) _) k
  · rintro rfl
    refine (gPt (iblk m c 0 t) (iblk m c 1 t) (iblk m c 9 t) _ 1 (by decide) (by decide) (by decide) (by decide) (by decide) (by decide) (by decide) (by decide) k).trans ?_
    refine congrArg (· + _) ?_
    exact congrFun (ldLprev _ 1 (by decide) _) k
  · rintro rfl
    refine (gPt (iblk m c 0 t) (iblk m c 1 t) (iblk m c 9 t) _ 0 (by decide) (by decide) (by decide) (by decide) (by decide) (by decide) (by decide) (by decide) k).trans ?_
    refine congrArg (· + _) ?_
    exact congrFun (ldLprev _ 0 (by decide) _) k

theorem gD (c : Dev nD) (t : Fin cfg0.N) (h0 : ¬t.val % 16 = 0) (h1 : ¬t.val % 8 = 0) (h2 : t.val % 16 = 15) (g : Fin 4) (k : Fin 128) :
    (outsAt0 m c t.val t.isLt).2.2.2.2.2.1 (ix2 0 (chan g k)) = (outsAt0 m c (t.val - 1) (by omega)).2.2.2.2.2.1 (ix2 0 (chan g k)) + pG (iblk m c 0 t) (iblk m c 1 t) (iblk m c 9 t) g.val k := by
  rw [outsAt0_D m c t h0 h1 h2]
  frame_open
  simp (disch := decide) only [↓ View.readCov_skip, ↓ View.readCov_cons_toLoadRect, ↓ View.readCov_fill]
  frame_out
  refine canon_lanes _ _ _ _ _ _ _ _ _ _ _ _ ?_ ?_ ?_ ?_
  · rintro rfl
    refine (gPt (iblk m c 0 t) (iblk m c 1 t) (iblk m c 9 t) _ 3 (by decide) (by decide) (by decide) (by decide) (by decide) (by decide) (by decide) (by decide) k).trans ?_
    refine congrArg (· + _) ?_
    exact congrFun (ldLprev _ 3 (by decide) _) k
  · rintro rfl
    refine (gPt (iblk m c 0 t) (iblk m c 1 t) (iblk m c 9 t) _ 2 (by decide) (by decide) (by decide) (by decide) (by decide) (by decide) (by decide) (by decide) k).trans ?_
    refine congrArg (· + _) ?_
    exact congrFun (ldLprev _ 2 (by decide) _) k
  · rintro rfl
    refine (gPt (iblk m c 0 t) (iblk m c 1 t) (iblk m c 9 t) _ 1 (by decide) (by decide) (by decide) (by decide) (by decide) (by decide) (by decide) (by decide) k).trans ?_
    refine congrArg (· + _) ?_
    exact congrFun (ldLprev _ 1 (by decide) _) k
  · rintro rfl
    refine (gPt (iblk m c 0 t) (iblk m c 1 t) (iblk m c 9 t) _ 0 (by decide) (by decide) (by decide) (by decide) (by decide) (by decide) (by decide) (by decide) k).trans ?_
    refine congrArg (· + _) ?_
    exact congrFun (ldLprev _ 0 (by decide) _) k

theorem bA (c : Dev nD) (t : Fin cfg0.N) (h0 : t.val % 16 = 0) (h1 : t.val % 8 = 0) (h2 : ¬t.val % 16 = 15) (g : Fin 4) (k : Fin 128) :
    (outsAt0 m c t.val t.isLt).2.2.2.2.2.2.1 (ix2 0 (chan g k)) = (0 : EReal) + pB (iblk m c 0 t) (iblk m c 1 t) (iblk m c 9 t) g.val k := by
  rw [outsAt0_A m c t h0 h1 h2]
  frame_open
  simp (disch := decide) only [↓ View.readCov_skip, ↓ View.readCov_cons_toLoadRect, ↓ View.readCov_fill]
  frame_out
  refine canon_lanes _ _ _ _ _ _ _ _ _ _ _ _ ?_ ?_ ?_ ?_
  · rintro rfl
    refine (bPt (iblk m c 0 t) (iblk m c 1 t) (iblk m c 9 t) _ 3 (by decide) (by decide) (by decide) (by decide) (by decide) (by decide) k).trans ?_
    refine congrArg (· + _) ?_
    pointwise [k0_pay190]
  · rintro rfl
    refine (bPt (iblk m c 0 t) (iblk m c 1 t) (iblk m c 9 t) _ 2 (by decide) (by decide) (by decide) (by decide) (by decide) (by decide) k).trans ?_
    refine congrArg (· + _) ?_
    pointwise [k0_pay190]
  · rintro rfl
    refine (bPt (iblk m c 0 t) (iblk m c 1 t) (iblk m c 9 t) _ 1 (by decide) (by decide) (by decide) (by decide) (by decide) (by decide) k).trans ?_
    refine congrArg (· + _) ?_
    pointwise [k0_pay190]
  · rintro rfl
    refine (bPt (iblk m c 0 t) (iblk m c 1 t) (iblk m c 9 t) _ 0 (by decide) (by decide) (by decide) (by decide) (by decide) (by decide) k).trans ?_
    refine congrArg (· + _) ?_
    pointwise [k0_pay190]

theorem bB (c : Dev nD) (t : Fin cfg0.N) (h0 : ¬t.val % 16 = 0) (h1 : ¬t.val % 8 = 0) (h2 : ¬t.val % 16 = 15) (g : Fin 4) (k : Fin 128) :
    (outsAt0 m c t.val t.isLt).2.2.2.2.2.2.1 (ix2 0 (chan g k)) = (outsAt0 m c (t.val - 1) (by omega)).2.2.2.2.2.2.1 (ix2 0 (chan g k)) + pB (iblk m c 0 t) (iblk m c 1 t) (iblk m c 9 t) g.val k := by
  rw [outsAt0_B m c t h0 h1 h2]
  frame_open
  simp (disch := decide) only [↓ View.readCov_skip, ↓ View.readCov_cons_toLoadRect, ↓ View.readCov_fill]
  frame_out
  refine canon_lanes _ _ _ _ _ _ _ _ _ _ _ _ ?_ ?_ ?_ ?_
  · rintro rfl
    refine (bPt (iblk m c 0 t) (iblk m c 1 t) (iblk m c 9 t) _ 3 (by decide) (by decide) (by decide) (by decide) (by decide) (by decide) k).trans ?_
    refine congrArg (· + _) ?_
    exact congrFun (ldLprev _ 3 (by decide) _) k
  · rintro rfl
    refine (bPt (iblk m c 0 t) (iblk m c 1 t) (iblk m c 9 t) _ 2 (by decide) (by decide) (by decide) (by decide) (by decide) (by decide) k).trans ?_
    refine congrArg (· + _) ?_
    exact congrFun (ldLprev _ 2 (by decide) _) k
  · rintro rfl
    refine (bPt (iblk m c 0 t) (iblk m c 1 t) (iblk m c 9 t) _ 1 (by decide) (by decide) (by decide) (by decide) (by decide) (by decide) k).trans ?_
    refine congrArg (· + _) ?_
    exact congrFun (ldLprev _ 1 (by decide) _) k
  · rintro rfl
    refine (bPt (iblk m c 0 t) (iblk m c 1 t) (iblk m c 9 t) _ 0 (by decide) (by decide) (by decide) (by decide) (by decide) (by decide) k).trans ?_
    refine congrArg (· + _) ?_
    exact congrFun (ldLprev _ 0 (by decide) _) k

theorem bC (c : Dev nD) (t : Fin cfg0.N) (h0 : ¬t.val % 16 = 0) (h1 : t.val % 8 = 0) (h2 : ¬t.val % 16 = 15) (g : Fin 4) (k : Fin 128) :
    (outsAt0 m c t.val t.isLt).2.2.2.2.2.2.1 (ix2 0 (chan g k)) = (outsAt0 m c (t.val - 1) (by omega)).2.2.2.2.2.2.1 (ix2 0 (chan g k)) + pB (iblk m c 0 t) (iblk m c 1 t) (iblk m c 9 t) g.val k := by
  rw [outsAt0_C m c t h0 h1 h2]
  frame_open
  simp (disch := decide) only [↓ View.readCov_skip, ↓ View.readCov_cons_toLoadRect, ↓ View.readCov_fill]
  frame_out
  refine canon_lanes _ _ _ _ _ _ _ _ _ _ _ _ ?_ ?_ ?_ ?_
  · rintro rfl
    refine (bPt (iblk m c 0 t) (iblk m c 1 t) (iblk m c 9 t) _ 3 (by decide) (by decide) (by decide) (by decide) (by decide) (by decide) k).trans ?_
    refine congrArg (· + _) ?_
    exact congrFun (ldLprev _ 3 (by decide) _) k
  · rintro rfl
    refine (bPt (iblk m c 0 t) (iblk m c 1 t) (iblk m c 9 t) _ 2 (by decide) (by decide) (by decide) (by decide) (by decide) (by decide) k).trans ?_
    refine congrArg (· + _) ?_
    exact congrFun (ldLprev _ 2 (by decide) _) k
  · rintro rfl
    refine (bPt (iblk m c 0 t) (iblk m c 1 t) (iblk m c 9 t) _ 1 (by decide) (by decide) (by decide) (by decide) (by decide) (by decide) k).trans ?_
    refine congrArg (· + _) ?_
    exact congrFun (ldLprev _ 1 (by decide) _) k
  · rintro rfl
    refine (bPt (iblk m c 0 t) (iblk m c 1 t) (iblk m c 9 t) _ 0 (by decide) (by decide) (by decide) (by decide) (by decide) (by decide) k).trans ?_
    refine congrArg (· + _) ?_
    exact congrFun (ldLprev _ 0 (by decide) _) k

theorem bD (c : Dev nD) (t : Fin cfg0.N) (h0 : ¬t.val % 16 = 0) (h1 : ¬t.val % 8 = 0) (h2 : t.val % 16 = 15) (g : Fin 4) (k : Fin 128) :
    (outsAt0 m c t.val t.isLt).2.2.2.2.2.2.1 (ix2 0 (chan g k)) = (outsAt0 m c (t.val - 1) (by omega)).2.2.2.2.2.2.1 (ix2 0 (chan g k)) + pB (iblk m c 0 t) (iblk m c 1 t) (iblk m c 9 t) g.val k := by
  rw [outsAt0_D m c t h0 h1 h2]
  frame_open
  simp (disch := decide) only [↓ View.readCov_skip, ↓ View.readCov_cons_toLoadRect, ↓ View.readCov_fill]
  frame_out
  refine canon_lanes _ _ _ _ _ _ _ _ _ _ _ _ ?_ ?_ ?_ ?_
  · rintro rfl
    refine (bPt (iblk m c 0 t) (iblk m c 1 t) (iblk m c 9 t) _ 3 (by decide) (by decide) (by decide) (by decide) (by decide) (by decide) k).trans ?_
    refine congrArg (· + _) ?_
    exact congrFun (ldLprev _ 3 (by decide) _) k
  · rintro rfl
    refine (bPt (iblk m c 0 t) (iblk m c 1 t) (iblk m c 9 t) _ 2 (by decide) (by decide) (by decide) (by decide) (by decide) (by decide) k).trans ?_
    refine congrArg (· + _) ?_
    exact congrFun (ldLprev _ 2 (by decide) _) k
  · rintro rfl
    refine (bPt (iblk m c 0 t) (iblk m c 1 t) (iblk m c 9 t) _ 1 (by decide) (by decide) (by decide) (by decide) (by decide) (by decide) k).trans ?_
    refine congrArg (· + _) ?_
    exact congrFun (ldLprev _ 1 (by decide) _) k
  · rintro rfl
    refine (bPt (iblk m c 0 t) (iblk m c 1 t) (iblk m c 9 t) _ 0 (by decide) (by decide) (by decide) (by decide) (by decide) (by decide) k).trans ?_
    refine congrArg (· + _) ?_
    exact congrFun (ldLprev _ 0 (by decide) _) k

end Cert.GateKernelIdeal.Value

end
-- ==== Proof.GateIn.lean ====
module

public import proofs.«01_k».proof.Proof.GateDuv
public import proofs.«01_k».proof.Proof.GateSpatial
public import proofs.«01_k».proof.Proof.GateNorm

@[expose] public section

set_option maxRecDepth 16384

noncomputable section

open Idealize.ShloMosaic Idealize.ShloMosaic.TcCoe Idealize.SL.Sem
open Idealize.ShloMosaic.Pipeline (Dat)

namespace Cert.GateKernelIdeal.Value

open Cert.GateKernelIdeal Cert.GateKernelIdeal.Gen Cert.Reals Cert.Gate

variable (m : (ℓ : Loc nD τ sig) → Buf (Elt Ideal) ℓ)

/-- Every window's block index: the token windows go backwards through a batch, the others stay. -/
theorem idx : ∀ t : Fin cfg0.N, win0_0.index t = ![t.val / 8 * 8 + (7 - t.val % 8), 0] ∧ win0_1.index t = ![t.val / 8 * 8 + (7 - t.val % 8), 0]
    ∧ win0_6.index t = ![0, 0] ∧ win0_7.index t = ![0, 0] ∧ win0_8.index t = ![0, 0, 0] ∧ win0_9.index t = ![0, 0, 0] ∧ win0_10.index t = ![0, 0, 0]
    ∧ win0_12.index t = ![t.val / 8 * 8 + (7 - t.val % 8), 0] ∧ win0_15.index t = ![0, 0, 0] ∧ win0_16.index t = ![0, 0]
    ∧ win0_17.index t = ![0, 0] ∧ win0_18.index t = ![0, 0] ∧ t.val < 16 :=
  (by decide +kernel : ∀ t : Fin grid0.N, _)

/-- The batch of a point. -/
def pb (t : Fin cfg0.N) : Fin 2 := ⟨t.val / 8, by have := (idx t).2.2.2.2.2.2.2.2.2.2.2.2; omega⟩

/-- A point's chunk. -/
def pn (t : Fin cfg0.N) (h : Fin 2) : Fin 16 := ⟨(7 - t.val % 8) * 2 + h.val, by omega⟩

abbrev aUV (c : Dev nD) := m ((c : Thread nD τ).loc main_arg0)

set_option maxHeartbeats 2000000 in
theorem V31 (c : Dev nD) (b : Fin 2) (r : Fin 2048) (k : Fin 1024) :
    V m c main_v31 (ix2 ⟨b.val * 2048 + r.val, by omega⟩ k) = m ((c : Thread nD τ).loc main_arg0) (ix3 b r k) := by
  unfold V
  simp only [hostOps0, hostOps0_1, hostOps0_2, hostOps0_3, hostOps0_4, List.flatten_cons, List.flatten_nil, List.append_nil, List.cons_append,
    List.nil_append]
  entry_read
  pointwise
  blk_ext

set_option maxHeartbeats 2000000 in
theorem V32 (c : Dev nD) (b : Fin 2) (r : Fin 2048) (k : Fin 1024) :
    V m c main_v32 (ix2 ⟨b.val * 2048 + r.val, by omega⟩ k) = m ((c : Thread nD τ).loc main_arg1) (ix3 b r k) := by
  unfold V
  simp only [hostOps0, hostOps0_1, hostOps0_2, hostOps0_3, hostOps0_4, List.flatten_cons, List.flatten_nil, List.append_nil, List.cons_append,
    List.nil_append]
  entry_read
  pointwise
  blk_ext

set_option maxHeartbeats 2000000 in
theorem V30 (c : Dev nD) (g : Fin 4) (r s : Fin 128) : V m c main_v30 (ix3 g r s) = BT (m ((c : Thread nD τ).loc main_arg7)) g r := by
  unfold V
  simp only [hostOps0, hostOps0_1, hostOps0_2, hostOps0_3, hostOps0_4, List.flatten_cons, List.flatten_nil, List.append_nil, List.cons_append,
    List.nil_append]
  entry_read
  pointwise [BT]

set_option maxHeartbeats 2000000 in
theorem V25 (c : Dev nD) (g : Fin 4) (r s : Fin 128) : V m c main_v25 (ix3 g r s) = MW (m ((c : Thread nD τ).loc main_arg6)) g r s := by
  unfold V
  simp only [hostOps0, hostOps0_1, hostOps0_2, hostOps0_3, hostOps0_4, List.flatten_cons, List.flatten_nil, List.append_nil, List.cons_append,
    List.nil_append]
  entry_read
  pointwise
  show Scalar.select (IntOp.cmpi .sge (BitVec.ofNat 32 r.val) (BitVec.ofNat 32 s.val)) (m (c, Proc.tc.devRef main_arg6) (ix4 0 g r s))
    (Ideal.ofBits .f32 0#32) = _
  exact if_congr (by word_cmp) rfl (by pointwise)

set_option maxHeartbeats 2000000 in
theorem V27 (c : Dev nD) (g : Fin 4) (r s : Fin 128) : V m c main_v27 (ix3 g s r) = MW (m ((c : Thread nD τ).loc main_arg6)) g r s := by
  unfold V
  simp only [hostOps0, hostOps0_1, hostOps0_2, hostOps0_3, hostOps0_4, List.flatten_cons, List.flatten_nil, List.append_nil, List.cons_append,
    List.nil_append]
  entry_read
  pointwise
  show Scalar.select (IntOp.cmpi .sge (BitVec.ofNat 32 r.val) (BitVec.ofNat 32 s.val)) (m (c, Proc.tc.devRef main_arg6) (ix4 0 g r s))
    (Ideal.ofBits .f32 0#32) = _
  exact if_congr (by word_cmp) rfl (by pointwise)

theorem in_uv (c : Dev nD) (t : Fin cfg0.N) (h : Fin 2) (r : Fin 128) (k : Fin 1024) :
    iblk m c 0 t (ix2 ⟨h.val * 128 + r.val, by omega⟩ k) = m ((c : Thread nD τ).loc main_arg0) (ix3 (pb t) (tok (pn t h) r) k) := by
  refine Eq.trans ?_ (V31 m c (pb t) (tok (pn t h) r) k)
  blk_ext [iblk, idx t, pb, pn, tok]

theorem in_dy (c : Dev nD) (t : Fin cfg0.N) (h : Fin 2) (r : Fin 128) (k : Fin 1024) :
    iblk m c 1 t (ix2 ⟨h.val * 128 + r.val, by omega⟩ k) = m ((c : Thread nD τ).loc main_arg1) (ix3 (pb t) (tok (pn t h) r) k) := by
  refine Eq.trans ?_ (V32 m c (pb t) (tok (pn t h) r) k)
  blk_ext [iblk, idx t, pb, pn, tok]

theorem in_vg (c : Dev nD) (t : Fin cfg0.N) (k : Fin 512) :
    iblk m c 6 t (ix2 0 k) = m ((c : Thread nD τ).loc main_arg4) (ix2 0 k) := by
  blk_ext [iblk, V, idx t]

theorem in_vb (c : Dev nD) (t : Fin cfg0.N) (k : Fin 512) :
    iblk m c 7 t (ix2 0 k) = m ((c : Thread nD τ).loc main_arg5) (ix2 0 k) := by
  blk_ext [iblk, V, idx t]

theorem in_w (c : Dev nD) (t : Fin cfg0.N) (g : Fin 4) (r s : Fin 128) :
    iblk m c 8 t (ix3 g r s) = MW (m ((c : Thread nD τ).loc main_arg6)) g r s := by
  refine Eq.trans ?_ (V25 m c g r s)
  blk_ext [iblk, idx t]

theorem in_wt (c : Dev nD) (t : Fin cfg0.N) (g : Fin 4) (r s : Fin 128) :
    iblk m c 9 t (ix3 g s r) = MW (m ((c : Thread nD τ).loc main_arg6)) g r s := by
  refine Eq.trans ?_ (V27 m c g r s)
  blk_ext [iblk, idx t]

theorem in_bc (c : Dev nD) (t : Fin cfg0.N) (g : Fin 4) (r s : Fin 128) :
    iblk m c 10 t (ix3 g r s) = BT (m ((c : Thread nD τ).loc main_arg7)) g r := by
  refine Eq.trans ?_ (V30 m c g r s)
  blk_ext [iblk, idx t]

end Cert.GateKernelIdeal.Value

end
-- ==== Proof.GateFinal.lean ====
module

public import proofs.«01_k».proof.Proof.GateIn

@[expose] public section

set_option maxRecDepth 16384

noncomputable section

open Idealize.ShloMosaic Idealize.ShloMosaic.TcCoe Idealize.SL.Sem
open Idealize.ShloMosaic.Pipeline (Dat)

namespace Cert.GateKernelIdeal.Value

open Cert.GateKernelIdeal Cert.GateKernelIdeal.Gen Cert.Reals Cert.Gate

variable (m : (ℓ : Loc nD τ sig) → Buf (Elt Ideal) ℓ)

/-! ## A point's chunks are the arrays' chunks -/

theorem e_u (c : Dev nD) (t : Fin cfg0.N) (h : Fin 2) (g : Fin 4) :
    E (iblk m c 0 t) (h.val * 128) (g.val * 128) = AU (m ((c : Thread nD τ).loc main_arg0)) (pb t) (pn t h) g := by
  funext r k
  refine Eq.trans ?_ (in_uv m c t h r ⟨(chan g k).val, by omega⟩)
  unfold E
  congr 1
  funext i; revert i
  exact Fin.forall_fin_two.2 ⟨Fin.ext (by show (h.val * 128 + r.val) % 256 = h.val * 128 + r.val; omega),
    Fin.ext (by show (g.val * 128 + k.val) % 1024 = g.val * 128 + k.val; omega)⟩

theorem e_v (c : Dev nD) (t : Fin cfg0.N) (h : Fin 2) (g : Fin 4) :
    E (iblk m c 0 t) (h.val * 128) (512 + g.val * 128) = AV (m ((c : Thread nD τ).loc main_arg0)) (pb t) (pn t h) g := by
  funext r k
  refine Eq.trans ?_ (in_uv m c t h r ⟨512 + (chan g k).val, by omega⟩)
  unfold E
  congr 1
  funext i; revert i
  exact Fin.forall_fin_two.2 ⟨Fin.ext (by show (h.val * 128 + r.val) % 256 = h.val * 128 + r.val; omega),
    Fin.ext (by show (512 + g.val * 128 + k.val) % 1024 = 512 + (g.val * 128 + k.val); omega)⟩

theorem e_d (c : Dev nD) (t : Fin cfg0.N) (h : Fin 2) (g : Fin 4) :
    E (iblk m c 1 t) (h.val * 128) (g.val * 128) = AU (m ((c : Thread nD τ).loc main_arg1)) (pb t) (pn t h) g := by
  funext r k
  refine Eq.trans ?_ (in_dy m c t h r ⟨(chan g k).val, by omega⟩)
  unfold E
  congr 1
  funext i; revert i
  exact Fin.forall_fin_two.2 ⟨Fin.ext (by show (h.val * 128 + r.val) % 256 = h.val * 128 + r.val; omega),
    Fin.ext (by show (g.val * 128 + k.val) % 1024 = g.val * 128 + k.val; omega)⟩

theorem e_g (c : Dev nD) (t : Fin cfg0.N) (g : Fin 4) : EL (iblk m c 6 t) (g.val * 128) = GV (m ((c : Thread nD τ).loc main_arg4)) g := by
  funext k
  refine Eq.trans ?_ (in_vg m c t (chan g k))
  unfold EL
  congr 1
  funext i; revert i
  exact Fin.forall_fin_two.2 ⟨rfl, Fin.ext (by show (g.val * 128 + k.val) % 512 = g.val * 128 + k.val; omega)⟩

theorem e_b (c : Dev nD) (t : Fin cfg0.N) (g : Fin 4) : EL (iblk m c 7 t) (g.val * 128) = GV (m ((c : Thread nD τ).loc main_arg5)) g := by
  funext k
  refine Eq.trans ?_ (in_vb m c t (chan g k))
  unfold EL
  congr 1
  funext i; revert i
  exact Fin.forall_fin_two.2 ⟨rfl, Fin.ext (by show (g.val * 128 + k.val) % 512 = g.val * 128 + k.val; omega)⟩

theorem es_eq (S : S4x128x128.Idx → EReal) (g : Fin 4) (t s : Fin 128) : ES S g.val t s = S (ix3 g t s) := by
  unfold ES
  congr 1
  funext i; revert i
  exact Fin.forall_fin_succ.2 ⟨Fin.ext (by show g.val % 4 = g.val; omega), Fin.forall_fin_two.2 ⟨rfl, rfl⟩⟩

theorem e_w (c : Dev nD) (t : Fin cfg0.N) (g : Fin 4) :
    (fun r s => ES (iblk m c 8 t) g.val r s) = MW (m ((c : Thread nD τ).loc main_arg6)) g :=
  funext fun r => funext fun s => (es_eq _ g r s).trans (in_w m c t g r s)

theorem e_wt (c : Dev nD) (t : Fin cfg0.N) (g : Fin 4) :
    (fun r s => ES (iblk m c 9 t) g.val s r) = MW (m ((c : Thread nD τ).loc main_arg6)) g :=
  funext fun r => funext fun s => (es_eq _ g s r).trans (in_wt m c t g r s)

theorem e_bc (c : Dev nD) (t : Fin cfg0.N) (g : Fin 4) (r s : Fin 128) :
    ES (iblk m c 10 t) g.val r s = BT (m ((c : Thread nD τ).loc main_arg7)) g r :=
  (es_eq _ g r s).trans (in_bc m c t g r s)

/-! ## What the whole grid computes, chunk by chunk -/

section
variable (UV DY : (⟨3, ![2, 2048, 1024]⟩ : Shape).Idx → EReal) (VG VB : (⟨2, ![1, 512]⟩ : Shape).Idx → EReal)
  (WS : (⟨4, ![1, 4, 128, 128]⟩ : Shape).Idx → EReal) (BS : (⟨3, ![1, 4, 128]⟩ : Shape).Idx → EReal)

def cW (g : Fin 4) (r k : Fin 128) (b : Fin 2) (n : Fin 16) : EReal := dw (AU UV b n g) (AV UV b n g) (AU DY b n g) (GV VG g) (GV VB g) r k
def cS (g : Fin 4) (r k : Fin 128) (b : Fin 2) (n : Fin 16) : EReal := dsv (AU UV b n g) (AU DY b n g) r k
def cG (g : Fin 4) (k : Fin 128) (b : Fin 2) (n : Fin 16) : EReal := dgam (AU UV b n g) (AV UV b n g) (AU DY b n g) (MW WS g) k
def cB (g : Fin 4) (k : Fin 128) (b : Fin 2) (n : Fin 16) : EReal := dbet (AU UV b n g) (AU DY b n g) (MW WS g) k
def cU (b : Fin 2) (n : Fin 16) (g : Fin 4) (r k : Fin 128) : EReal :=
  du (AU UV b n g) (AV UV b n g) (AU DY b n g) (GV VG g) (GV VB g) (MW WS g) (BT BS g) r k
def cV (b : Fin 2) (n : Fin 16) (g : Fin 4) (r k : Fin 128) : EReal :=
  dv (AU UV b n g) (AV UV b n g) (AU DY b n g) (GV VG g) (MW WS g) r k
end

theorem pW_eq (c : Dev nD) (t : Fin cfg0.N) (g : Fin 4) (r k : Fin 128) :
    pW (iblk m c 0 t) (iblk m c 1 t) (iblk m c 6 t) (iblk m c 7 t) (g.val * 128) r k = ∑ h : Fin 2,
      cW (m ((c : Thread nD τ).loc main_arg0)) (m ((c : Thread nD τ).loc main_arg1)) (m ((c : Thread nD τ).loc main_arg4))
        (m ((c : Thread nD τ).loc main_arg5)) g r k (pb t) (pn t h) := by
  rw [Fin.sum_univ_two]
  unfold cW
  rw [← e_u, ← e_v, ← e_d, ← e_u, ← e_v, ← e_d, ← e_g m c t, ← e_b m c t]
  rfl

theorem pS_eq (c : Dev nD) (t : Fin cfg0.N) (g : Fin 4) (r k : Fin 128) :
    pS (iblk m c 0 t) (iblk m c 1 t) (g.val * 128) r k = ∑ h : Fin 2,
      cS (m ((c : Thread nD τ).loc main_arg0)) (m ((c : Thread nD τ).loc main_arg1)) g r k (pb t) (pn t h) := by
  rw [Fin.sum_univ_two]
  unfold cS
  rw [← e_u, ← e_d, ← e_u, ← e_d]
  rfl

theorem pG_eq (c : Dev nD) (t : Fin cfg0.N) (g : Fin 4) (k : Fin 128) :
    pG (iblk m c 0 t) (iblk m c 1 t) (iblk m c 9 t) g.val k = ∑ h : Fin 2,
      cG (m ((c : Thread nD τ).loc main_arg0)) (m ((c : Thread nD τ).loc main_arg1)) (m ((c : Thread nD τ).loc main_arg6)) g k (pb t) (pn t h) := by
  rw [Fin.sum_univ_two]
  unfold cG
  rw [← e_u, ← e_v, ← e_d, ← e_u, ← e_v, ← e_d, ← e_wt m c t]
  rfl

theorem pB_eq (c : Dev nD) (t : Fin cfg0.N) (g : Fin 4) (k : Fin 128) :
    pB (iblk m c 0 t) (iblk m c 1 t) (iblk m c 9 t) g.val k = ∑ h : Fin 2,
      cB (m ((c : Thread nD τ).loc main_arg0)) (m ((c : Thread nD τ).loc main_arg1)) (m ((c : Thread nD τ).loc main_arg6)) g k (pb t) (pn t h) := by
  rw [Fin.sum_univ_two]
  unfold cB
  rw [← e_u, ← e_d, ← e_u, ← e_d, ← e_wt m c t]
  rfl

/-! ## The points' chunks are all the chunks, each once -/

theorem sum_chunks (f : Fin 2 → Fin 16 → EReal) : ∑ t : Fin 16, ∑ h : Fin 2, f ⟨t.val / 8, by omega⟩ ⟨(7 - t.val % 8) * 2 + h.val, by omega⟩ = ∑ b, ∑ n, f b n := by
  have e1 := Fin.sum_univ_tiles 2 8 rfl (fun t : Fin 16 => ∑ h : Fin 2, f ⟨t.val / 8, by omega⟩ ⟨(7 - t.val % 8) * 2 + h.val, by omega⟩)
  refine e1.trans ?_
  refine Finset.sum_congr rfl fun b _ => ?_
  have e2 := Fin.sum_univ_tiles 8 2 rfl (fun n : Fin 16 => f b n)
  refine Eq.trans ?_ e2.symm
  refine Eq.trans ?_ (Equiv.sum_comp Fin.revPerm _)
  refine Finset.sum_congr rfl fun j _ => Finset.sum_congr rfl fun h _ => ?_
  congr 1
  · exact Fin.ext (by dsimp only; omega)
  · have hr : (Fin.revPerm j).val = 7 - j.val := by rw [Fin.revPerm_apply, Fin.val_rev]; omega
    exact Fin.ext (by show (7 - (b.val * 8 + j.val) % 8) * 2 + h.val = (Fin.revPerm j).val * 2 + h.val; omega)

theorem sum_points (f : Fin 2 → Fin 16 → EReal) : ∑ t : Fin cfg0.N, ∑ h : Fin 2, f (pb t) (pn t h) = ∑ b, ∑ n, f b n := by
  refine Eq.trans ?_ (sum_chunks f)
  exact (Fin.sum_congr' (fun t : Fin cfg0.N => ∑ h : Fin 2, f (pb t) (pn t h)) (N_0 : cfg0.N = 16).symm).symm

/-- The grid's last point. -/
def tLast : Fin cfg0.N := ⟨15, lt_of_lt_of_eq (by omega) (N_0 : cfg0.N = 16).symm⟩

/-- An accumulator that starts at the first point, and what the last point makes of it: the sum over the points. -/
theorem sweep (A H : (n : ℕ) → n < cfg0.N → EReal) (T : Fin cfg0.N → EReal) (hA : ∀ t : Fin cfg0.N, t.val % 16 = 0 → A t.val t.isLt = 0 + T t)
    (hB : ∀ t : Fin cfg0.N, ¬ t.val % 16 = 0 → ¬ t.val % 16 = 15 → A t.val t.isLt = A (t.val - 1) (Nat.lt_of_le_of_lt (Nat.sub_le _ _) t.isLt) + T t)
    (hC : ∀ t : Fin cfg0.N, ¬ t.val % 16 = 0 → t.val % 16 = 15 → H t.val t.isLt = A (t.val - 1) (Nat.lt_of_le_of_lt (Nat.sub_le _ _) t.isLt) + T t) :
    H tLast.val tLast.isLt = ∑ t, T t := by
  have := Pipeline.eq_sum_fin_of_reset_step_last (fun n h => if n % 16 = 15 then H n h else A n h) 16 (0 : EReal) T
    (fun t h => by
      rw [if_neg (by omega)]
      exact hA t h)
    (fun t h => by
      have ht : t.val < 16 := (idx t).2.2.2.2.2.2.2.2.2.2.2.2
      rw [if_neg (show ¬ (t.val - 1) % 16 = 15 by omega)]
      by_cases h1 : t.val % 16 = 15
      · rw [if_pos h1]
        exact hC t h h1
      · rw [if_neg h1]
        exact hB t h h1)
    (le_of_eq N_0) tLast (N_0 : cfg0.N = 16).symm
  rwa [if_pos (by rfl), zero_add] at this

/-! ## The accumulators at the last point -/

theorem last_w (c : Dev nD) (g : Fin 4) (r k : Fin 128) : (outsAt0 m c tLast.val tLast.isLt).2.2.2.1 (ix3 g r k) =
    if k.val ≤ r.val then ∑ b, ∑ n, cW (m ((c : Thread nD τ).loc main_arg0)) (m ((c : Thread nD τ).loc main_arg1)) (m ((c : Thread nD τ).loc main_arg4))
        (m ((c : Thread nD τ).loc main_arg5)) g r k b n else 0 := by
  by_cases hk : k.val ≤ r.val
  · rw [if_pos hk]
    refine (sweep (fun n h => (outsAt0 m c n h).2.2.2.1 (ix3 g r k)) (fun n h => (outsAt0 m c n h).2.2.2.1 (ix3 g r k)) _
      (fun t h => ?_) (fun t h h' => ?_) (fun t h h' => ?_)).trans (sum_points (cW _ _ _ _ g r k))
    · exact (wA m c t h (by omega) (by omega) g r k).trans (congrArg _ (pW_eq m c t g r k))
    · by_cases h1 : t.val % 8 = 0
      · exact (wC m c t h h1 h' g r k).trans (congrArg _ (pW_eq m c t g r k))
      · exact (wB m c t h h1 h' g r k).trans (congrArg _ (pW_eq m c t g r k))
    · exact ((wD m c t h (by omega) h' g r k).trans (if_pos hk)).trans (congrArg _ (pW_eq m c t g r k))
  · rw [if_neg hk]
    exact (wD m c tLast (by decide) (by decide) (by decide) g r k).trans (if_neg hk)

theorem last_d (c : Dev nD) (g : Fin 4) (r : Fin 128) : (outsAt0 m c tLast.val tLast.isLt).2.2.2.2.1 (ix2 g r) =
    ∑ k, ∑ b, ∑ n, cS (m ((c : Thread nD τ).loc main_arg0)) (m ((c : Thread nD τ).loc main_arg1)) g r k b n := by
  refine (dD m c tLast (by decide) (by decide) (by decide) g r).trans (Finset.sum_congr rfl fun k _ => ?_)
  refine (sweep (fun n h => (outsAt0 m c n h).2.2.2.2.2.2.2.2.2.2.2.1 (ix3 g r k))
    (fun n h => (outsAt0 m c (n - 1) (Nat.lt_of_le_of_lt (Nat.sub_le _ _) h)).2.2.2.2.2.2.2.2.2.2.2.1 (ix3 g r k)
      + pS (iblk m c 0 ⟨n, h⟩) (iblk m c 1 ⟨n, h⟩) (g.val * 128) r k) _
    (fun t h => ?_) (fun t h h' => ?_) (fun t h h' => ?_)).trans (sum_points (cS _ _ g r k))
  · exact (sA m c t h (by omega) (by omega) g r k).trans (congrArg _ (pS_eq m c t g r k))
  · by_cases h1 : t.val % 8 = 0
    · exact (sC m c t h h1 h' g r k).trans (congrArg _ (pS_eq m c t g r k))
    · exact (sB m c t h h1 h' g r k).trans (congrArg _ (pS_eq m c t g r k))
  · exact congrArg _ (pS_eq m c t g r k)

theorem last_g (c : Dev nD) (g : Fin 4) (k : Fin 128) : (outsAt0 m c tLast.val tLast.isLt).2.2.2.2.2.1 (ix2 0 (chan g k)) =
    ∑ b, ∑ n, cG (m ((c : Thread nD τ).loc main_arg0)) (m ((c : Thread nD τ).loc main_arg1)) (m ((c : Thread nD τ).loc main_arg6)) g k b n := by
  refine (sweep (fun n h => (outsAt0 m c n h).2.2.2.2.2.1 (ix2 0 (chan g k))) (fun n h => (outsAt0 m c n h).2.2.2.2.2.1 (ix2 0 (chan g k))) _
    (fun t h => ?_) (fun t h h' => ?_) (fun t h h' => ?_)).trans (sum_points (cG _ _ _ g k))
  · exact (gA m c t h (by omega) (by omega) g k).trans (congrArg _ (pG_eq m c t g k))
  · by_cases h1 : t.val % 8 = 0
    · exact (gC m c t h h1 h' g k).trans (congrArg _ (pG_eq m c t g k))
    · exact (gB m c t h h1 h' g k).trans (congrArg _ (pG_eq m c t g k))
  · exact (gD m c t h (by omega) h' g k).trans (congrArg _ (pG_eq m c t g k))

theorem last_b (c : Dev nD) (g : Fin 4) (k : Fin 128) : (outsAt0 m c tLast.val tLast.isLt).2.2.2.2.2.2.1 (ix2 0 (chan g k)) =
    ∑ b, ∑ n, cB (m ((c : Thread nD τ).loc main_arg0)) (m ((c : Thread nD τ).loc main_arg1)) (m ((c : Thread nD τ).loc main_arg6)) g k b n := by
  refine (sweep (fun n h => (outsAt0 m c n h).2.2.2.2.2.2.1 (ix2 0 (chan g k))) (fun n h => (outsAt0 m c n h).2.2.2.2.2.2.1 (ix2 0 (chan g k))) _
    (fun t h => ?_) (fun t h h' => ?_) (fun t h h' => ?_)).trans (sum_points (cB _ _ _ g k))
  · exact (bA m c t h (by omega) (by omega) g k).trans (congrArg _ (pB_eq m c t g k))
  · by_cases h1 : t.val % 8 = 0
    · exact (bC m c t h h1 h' g k).trans (congrArg _ (pB_eq m c t g k))
    · exact (bB m c t h h1 h' g k).trans (congrArg _ (pB_eq m c t g k))
  · exact (bD m c t h (by omega) h' g k).trans (congrArg _ (pB_eq m c t g k))

/-! ## The arrays after the run -/

theorem e_lo (c : Dev nD) (t : Fin cfg0.N) (h : Fin 2) (g : Fin 4) (r k : Fin 128) :
    loE (iblk m c 0 t) (iblk m c 1 t) (iblk m c 6 t) (iblk m c 7 t) (iblk m c 8 t) (iblk m c 10 t) (h.val * 128) g.val r k =
      cU (m ((c : Thread nD τ).loc main_arg0)) (m ((c : Thread nD τ).loc main_arg1)) (m ((c : Thread nD τ).loc main_arg4))
        (m ((c : Thread nD τ).loc main_arg5)) (m ((c : Thread nD τ).loc main_arg6)) (m ((c : Thread nD τ).loc main_arg7)) (pb t) (pn t h) g r k := by
  unfold loE cU
  rw [e_u, e_v, e_d, e_g, e_b, e_bc, ← e_w m c t g]
  rfl

theorem e_hi (c : Dev nD) (t : Fin cfg0.N) (h : Fin 2) (g : Fin 4) (r k : Fin 128) :
    hiE (iblk m c 0 t) (iblk m c 1 t) (iblk m c 6 t) (iblk m c 9 t) (h.val * 128) g.val r k =
      cV (m ((c : Thread nD τ).loc main_arg0)) (m ((c : Thread nD τ).loc main_arg1)) (m ((c : Thread nD τ).loc main_arg4))
        (m ((c : Thread nD τ).loc main_arg6)) (pb t) (pn t h) g r k := by
  unfold hiE cV
  rw [e_u, e_v, e_d, e_g, e_wt]

section
variable (UV DY : (⟨3, ![2, 2048, 1024]⟩ : Shape).Idx → EReal) (VG VB : (⟨2, ![1, 512]⟩ : Shape).Idx → EReal)
  (WS : (⟨4, ![1, 4, 128, 128]⟩ : Shape).Idx → EReal) (BS : (⟨3, ![1, 4, 128]⟩ : Shape).Idx → EReal)

/-- The two halves' gradients at a token and a channel. -/
def aDuv (R : Fin 4096) (k : Fin 1024) : EReal :=
  if k.val < 512 then cU UV DY VG VB WS BS ⟨R.val / 2048, by omega⟩ ⟨R.val % 2048 / 128, by omega⟩ ⟨k.val / 128 % 4, by omega⟩
    ⟨R.val % 128, by omega⟩ ⟨k.val % 128, by omega⟩
  else cV UV DY VG WS ⟨R.val / 2048, by omega⟩ ⟨R.val % 2048 / 128, by omega⟩ ⟨(k.val / 128 - 4) % 4, by omega⟩
    ⟨R.val % 128, by omega⟩ ⟨k.val % 128, by omega⟩

theorem aDuv_congr {R R' : Fin 4096} {k k' : Fin 1024} (h : R.val = R'.val) (h' : k.val = k'.val) :
    aDuv UV DY VG VB WS BS R k = aDuv UV DY VG VB WS BS R' k' := by
  rw [Fin.ext h, Fin.ext h']

end

theorem out_duv (c : Dev nD) (t : Fin cfg0.N) (r : Fin 256) (k : Fin 1024) : (outsAt0 m c t.val t.isLt).1 (ix2 r k) =
    vDuv (iblk m c 0 t) (iblk m c 1 t) (iblk m c 6 t) (iblk m c 7 t) (iblk m c 8 t) (iblk m c 9 t) (iblk m c 10 t) r k := by
  by_cases h0 : t.val % 16 = 0
  · exact uA m c t h0 (by omega) (by omega) r k
  · by_cases h1 : t.val % 8 = 0
    · exact uC m c t h0 h1 (by omega) r k
    · by_cases h2 : t.val % 16 = 15
      · exact uD m c t h0 h1 h2 r k
      · exact uB m c t h0 h1 h2 r k

theorem vDuv_eq (c : Dev nD) (t : Fin cfg0.N) (r : Fin 256) (k : Fin 1024) (R : Fin 4096) (hR : R.val = (t.val / 8 * 8 + (7 - t.val % 8)) * 256 + r.val) :
    vDuv (iblk m c 0 t) (iblk m c 1 t) (iblk m c 6 t) (iblk m c 7 t) (iblk m c 8 t) (iblk m c 9 t) (iblk m c 10 t) r k =
      aDuv (m ((c : Thread nD τ).loc main_arg0)) (m ((c : Thread nD τ).loc main_arg1)) (m ((c : Thread nD τ).loc main_arg4))
        (m ((c : Thread nD τ).loc main_arg5)) (m ((c : Thread nD τ).loc main_arg6)) (m ((c : Thread nD τ).loc main_arg7)) R k := by
  have ht : t.val < 16 := (idx t).2.2.2.2.2.2.2.2.2.2.2.2
  have eb : pb t = ⟨R.val / 2048, by omega⟩ := Fin.ext (by show t.val / 8 = R.val / 2048; omega)
  have en : pn t ⟨r.val / 128, by omega⟩ = ⟨R.val % 2048 / 128, by omega⟩ := Fin.ext (by show (7 - t.val % 8) * 2 + r.val / 128 = R.val % 2048 / 128; omega)
  have er : (⟨r.val % 128, by omega⟩ : Fin 128) = ⟨R.val % 128, by omega⟩ := Fin.ext (by show r.val % 128 = R.val % 128; omega)
  unfold aDuv
  by_cases hk : k.val < 512
  · rw [if_pos hk, vDuv_lo _ _ _ _ _ _ _ (r.val / 128) (k.val / 128) r k ⟨r.val % 128, by omega⟩ ⟨k.val % 128, by omega⟩
      (by dsimp only; omega) (by dsimp only; omega) (by omega)]
    refine Eq.trans ?_ ((e_lo m c t ⟨r.val / 128, by omega⟩ ⟨k.val / 128 % 4, by omega⟩ ⟨r.val % 128, by omega⟩ ⟨k.val % 128, by omega⟩).trans ?_)
    · dsimp only
      rw [show k.val / 128 % 4 = k.val / 128 by omega]
    · rw [eb, en, er]
  · rw [if_neg hk, vDuv_hi _ _ _ _ _ _ _ (r.val / 128) (k.val / 128 - 4) r k ⟨r.val % 128, by omega⟩ ⟨k.val % 128, by omega⟩
      (by dsimp only; omega) (by dsimp only; omega) (by omega)]
    refine Eq.trans ?_ ((e_hi m c t ⟨r.val / 128, by omega⟩ ⟨(k.val / 128 - 4) % 4, by omega⟩ ⟨r.val % 128, by omega⟩ ⟨k.val % 128, by omega⟩).trans ?_)
    · dsimp only
      rw [show (k.val / 128 - 4) % 4 = k.val / 128 - 4 by omega]
    · rw [eb, en, er]

theorem final_duv (c : Dev nD) : (dats m 0 c).arrAt 12 cfg0.N = fun i : S4096x1024.Idx =>
    aDuv (m ((c : Thread nD τ).loc main_arg0)) (m ((c : Thread nD τ).loc main_arg1)) (m ((c : Thread nD τ).loc main_arg4))
        (m ((c : Thread nD τ).loc main_arg5)) (m ((c : Thread nD τ).loc main_arg6)) (m ((c : Thread nD τ).loc main_arg7)) (i 0) (i 1) := by
  refine (dats m 0 c).arrAt_eq_of_covers 12 _ (by decide +kernel) fun t hf y => ?_
  blk_simp
  rw [after0_12]
  have hy : y = (ix2 (y 0) (y 1) : S256x1024.Idx) := by
    funext a; revert a; exact Fin.forall_fin_two.2 ⟨rfl, rfl⟩
  rw [hy]
  obtain ⟨-, -, -, -, -, -, -, h12, -⟩ := idx t
  have ht : t.val < 16 := (idx t).2.2.2.2.2.2.2.2.2.2.2.2
  have hy0 : (y 0).val < 256 := (y 0).isLt
  refine (out_duv m c t (y 0) (y 1)).trans ?_
  refine (vDuv_eq m c t (y 0) (y 1) ⟨(t.val / 8 * 8 + (7 - t.val % 8)) * 256 + (y 0).val, by omega⟩ rfl).trans ?_
  refine aDuv_congr _ _ _ _ _ _ ?_ ?_
  · show _ = win0_12.index t 0 * 256 + 1 * (y 0).val
    rw [h12, Nat.one_mul]; rfl
  · show (y 1).val = win0_12.index t 1 * 1024 + 1 * (y 1).val
    rw [h12]; show _ = 0 * 1024 + 1 * (y 1).val; rw [Nat.zero_mul, Nat.zero_add, Nat.one_mul]

theorem final_w (c : Dev nD) : (dats m 0 c).arrAt 15 cfg0.N = fun i : S4x128x128.Idx =>
    if (i 2).val ≤ (i 1).val then ∑ b, ∑ n, cW (m ((c : Thread nD τ).loc main_arg0)) (m ((c : Thread nD τ).loc main_arg1)) (m ((c : Thread nD τ).loc main_arg4))
        (m ((c : Thread nD τ).loc main_arg5)) (i 0) (i 1) (i 2) b n else 0 := by
  refine (dats m 0 c).arrAt_eq_of_after_last 15 tLast (by decide +kernel) _ fun j => ?_
  blk_simp
  rw [after0_15]
  idx_vars j
  exact last_w m c j0 j1 j2

theorem final_d (c : Dev nD) : (dats m 0 c).arrAt 16 cfg0.N = fun i : S4x128.Idx =>
    ∑ k, ∑ b, ∑ n, cS (m ((c : Thread nD τ).loc main_arg0)) (m ((c : Thread nD τ).loc main_arg1)) (i 0) (i 1) k b n := by
  refine (dats m 0 c).arrAt_eq_of_after_last 16 tLast (by decide +kernel) _ fun j => ?_
  blk_simp
  rw [after0_16]
  idx_vars j
  exact last_d m c j0 j1

theorem split_chan (k : Fin 512) : k = chan ⟨k.val / 128, by omega⟩ ⟨k.val % 128, by omega⟩ := Fin.ext (by show k.val = k.val / 128 * 128 + k.val % 128; omega)

theorem final_g (c : Dev nD) : (dats m 0 c).arrAt 17 cfg0.N = fun i : S1x512.Idx =>
    ∑ b, ∑ n, cG (m ((c : Thread nD τ).loc main_arg0)) (m ((c : Thread nD τ).loc main_arg1)) (m ((c : Thread nD τ).loc main_arg6))
      ⟨(i 1).val / 128, by have : (i 1).val < 512 := (i 1).isLt; omega⟩ ⟨(i 1).val % 128, by omega⟩ b n := by
  refine (dats m 0 c).arrAt_eq_of_after_last 17 tLast (by decide +kernel) _ fun j => ?_
  blk_simp
  rw [after0_17]
  idx_vars j
  obtain rfl : j0 = 0 := Subsingleton.elim _ _
  refine Eq.trans ?_ (last_g m c ⟨j1.val / 128, by omega⟩ ⟨j1.val % 128, by omega⟩)
  rw [← split_chan]

theorem final_b (c : Dev nD) : (dats m 0 c).arrAt 18 cfg0.N = fun i : S1x512.Idx =>
    ∑ b, ∑ n, cB (m ((c : Thread nD τ).loc main_arg0)) (m ((c : Thread nD τ).loc main_arg1)) (m ((c : Thread nD τ).loc main_arg6))
      ⟨(i 1).val / 128, by have : (i 1).val < 512 := (i 1).isLt; omega⟩ ⟨(i 1).val % 128, by omega⟩ b n := by
  refine (dats m 0 c).arrAt_eq_of_after_last 18 tLast (by decide +kernel) _ fun j => ?_
  blk_simp
  rw [after0_18]
  idx_vars j
  obtain rfl : j0 = 0 := Subsingleton.elim _ _
  refine Eq.trans ?_ (last_b m c ⟨j1.val / 128, by omega⟩ ⟨j1.val % 128, by omega⟩)
  rw [← split_chan]

end Cert.GateKernelIdeal.Value

end
-- ==== Proof.GateRef.lean ====
module

public import proofs.«01_k».proof.Proof.Gen.GateReferenceIdeal.Run
public import proofs.«01_k».proof.Proof.GateMath
public import Idealize.ShloMosaic.Lib.Pipeline.ValueKit
public import Idealize.ShloMosaic.Lib.Pointwise
public import Idealize.ShloMosaic.Lib.WordCmp

@[expose] public section

set_option maxRecDepth 16384

noncomputable section

open Idealize.ShloMosaic Idealize.ShloMosaic.TcCoe Idealize.SL.Sem

namespace Cert.GateReferenceIdeal.Value

open Cert.GateReferenceIdeal Cert.GateReferenceIdeal.Gen Idealize.ShloMosaic.StableHlo
open Cert.Reals Cert.Gate

/-! ## The reference's intermediate arrays -/

def v0A (UV : FVec Ideal S2x2048x1024 .f32) : FVec Ideal S2x2048x512 .f32 :=
  extractStridedSlice S2x2048x512 ![0, 0, 0] UV slices_S2x2048x1024_S2x2048x512_0_0_0

def v1A (UV : FVec Ideal S2x2048x1024 .f32) : FVec Ideal S2x2048x512 .f32 :=
  extractStridedSlice S2x2048x512 ![0, 0, 512] UV slices_S2x2048x1024_S2x2048x512_0_0_512

def v12A (UV : FVec Ideal S2x2048x1024 .f32) : FVec Ideal S2x2048x512 .f32 :=
  Host.tanh (mulf (broadcastInDim S2x2048x512 ![] bcast_S_S2x2048x512 (constant S_ .f32 0x3F4C422A#32)) (addf (v0A UV) (mulf (broadcastInDim S2x2048x512 ![] bcast_S_S2x2048x512 (constant S_ .f32 0x3D372713#32)) (mulf (mulf (v0A UV) (v0A UV)) (v0A UV)))))

def v21A (UV : FVec Ideal S2x2048x1024 .f32) : FVec Ideal S2x2048x512 .f32 :=
  mulf (broadcastInDim S2x2048x512 ![] bcast_S_S2x2048x512 (constant S_ .f32 0x3F000000#32)) (addf (broadcastInDim S2x2048x512 ![] bcast_S_S2x2048x512 (constant S_ .f32 0x3F800000#32)) (v12A UV))

def v22A (UV : FVec Ideal S2x2048x1024 .f32) : FVec Ideal S2x2048x512 .f32 :=
  mulf (v0A UV) (v21A UV)

def v33A (UV : FVec Ideal S2x2048x1024 .f32) : FVec Ideal S2x2048x512 .f32 :=
  Host.tanh (mulf (broadcastInDim S2x2048x512 ![] bcast_S_S2x2048x512 (constant S_ .f32 0x3F4C422A#32)) (addf (v1A UV) (mulf (broadcastInDim S2x2048x512 ![] bcast_S_S2x2048x512 (constant S_ .f32 0x3D372713#32)) (mulf (mulf (v1A UV) (v1A UV)) (v1A UV)))))

def v42A (UV : FVec Ideal S2x2048x1024 .f32) : FVec Ideal S2x2048x512 .f32 :=
  mulf (broadcastInDim S2x2048x512 ![] bcast_S_S2x2048x512 (constant S_ .f32 0x3F000000#32)) (addf (broadcastInDim S2x2048x512 ![] bcast_S_S2x2048x512 (constant S_ .f32 0x3F800000#32)) (v33A UV))

def v48A (UV : FVec Ideal S2x2048x1024 .f32) : FVec Ideal S2x2048x4x128 .f32 :=
  shapeCast _ (mulf (v1A UV) (v42A UV)) shapeCasts_S2x2048x512_S2x2048x4x128

def v52A (UV : FVec Ideal S2x2048x1024 .f32) : FVec Ideal S2x2048x4x1 .f32 :=
  Host.divf (broadcastInDim S2x2048x4x1 ![0, 1, 2] bcast_S2x2048x4_S2x2048x4x1_0_1_2 (Host.reduceAdd (v48A UV) (constant S_ .f32 0x00000000#32) reducesTo_S2x2048x4x128_S2x2048x4_d3 h_S_)) (broadcastInDim S2x2048x4x1 ![] bcast_S_S2x2048x4x1 (constant S_ .f32 0x43000000#32))

def v54A (UV : FVec Ideal S2x2048x1024 .f32) : FVec Ideal S2x2048x4x128 .f32 :=
  subf (v48A UV) (broadcastInDim S2x2048x4x128 ![0, 1, 2, 3] bcast_S2x2048x4x1_S2x2048x4x128_0_1_2_3 (v52A UV))

def v63A (UV : FVec Ideal S2x2048x1024 .f32) : FVec Ideal S2x2048x4x128 .f32 :=
  subf (v48A UV) (broadcastInDim S2x2048x4x128 ![0, 1, 2, 3] bcast_S2x2048x4x1_S2x2048x4x128_0_1_2_3 (v52A UV))

def v65A (UV : FVec Ideal S2x2048x1024 .f32) : FVec Ideal S2x2048x4x1 .f32 :=
  addf (Host.divf (broadcastInDim S2x2048x4x1 ![0, 1, 2] bcast_S2x2048x4_S2x2048x4x1_0_1_2 (Host.reduceAdd (mulf (v54A UV) (v54A UV)) (constant S_ .f32 0x00000000#32) reducesTo_S2x2048x4x128_S2x2048x4_d3 h_S_)) (broadcastInDim S2x2048x4x1 ![] bcast_S_S2x2048x4x1 (constant S_ .f32 0x43000000#32))) (broadcastInDim S2x2048x4x1 ![] bcast_S_S2x2048x4x1 (constant S_ .f32 0x358637BD#32))

def v66A (UV : FVec Ideal S2x2048x1024 .f32) : FVec Ideal S2x2048x4x1 .f32 :=
  Host.rsqrt (v65A UV)

def v71A (UV : FVec Ideal S2x2048x1024 .f32) : FVec Ideal S2x2048x4x128 .f32 :=
  mulf (v63A UV) (broadcastInDim S2x2048x4x128 ![0, 1, 2, 3] bcast_S2x2048x4x1_S2x2048x4x128_0_1_2_3 (v66A UV))

def v73A (VG : FVec Ideal S1x512 .f32) : FVec Ideal S1x1x4x128 .f32 :=
  broadcastInDim S1x1x4x128 ![2, 3] bcast_S4x128_S1x1x4x128_2_3 (shapeCast _ (shapeCast _ VG shapeCasts_S1x512_S512) shapeCasts_S512_S4x128)

def v80A (UV : FVec Ideal S2x2048x1024 .f32) (VG : FVec Ideal S1x512 .f32) (VB : FVec Ideal S1x512 .f32) : FVec Ideal S2x16x128x4x128 .f32 :=
  shapeCast _ (addf (mulf (v71A UV) (broadcastInDim S2x2048x4x128 ![0, 1, 2, 3] bcast_S1x1x4x128_S2x2048x4x128_0_1_2_3 (v73A VG))) (broadcastInDim S2x2048x4x128 ![0, 1, 2, 3] bcast_S1x1x4x128_S2x2048x4x128_0_1_2_3 (broadcastInDim S1x1x4x128 ![2, 3] bcast_S4x128_S1x1x4x128_2_3 (shapeCast _ (shapeCast _ VB shapeCasts_S1x512_S512) shapeCasts_S512_S4x128)))) shapeCasts_S2x2048x4x128_S2x16x128x4x128

def v83A  : FVec Ideal S1x128x128 .f32 :=
  broadcastInDim S1x128x128 ![1, 2] bcast_S128x128_S1x128x128_1_2 (select (cmpi .sge (addi (iotaInDim S128x128 32 0) (broadcastInDim S128x128 ![] bcast_S_S128x128 (constantI S_ 32 0#32))) (iotaInDim S128x128 32 1)) (broadcastInDim S128x128 ![] bcast_S_S128x128 (constant S_ .f32 0x3F800000#32)) (broadcastInDim S128x128 ![] bcast_S_S128x128 (constant S_ .f32 0x00000000#32)))

def v85A (WS : FVec Ideal S1x4x128x128 .f32) : FVec Ideal S4x128x128 .f32 :=
  mulf (shapeCast _ WS shapeCasts_S1x4x128x128_S4x128x128) (broadcastInDim S4x128x128 ![0, 1, 2] bcast_S1x128x128_S4x128x128_0_1_2 v83A)

def v92A (UV : FVec Ideal S2x2048x1024 .f32) (VG : FVec Ideal S1x512 .f32) (VB : FVec Ideal S1x512 .f32) (WS : FVec Ideal S1x4x128x128 .f32) (BS : FVec Ideal S1x4x128 .f32) : FVec Ideal S2x2048x512 .f32 :=
  shapeCast _ (addf (transpose S2x16x128x4x128 [1, 2, 4, 0, 3] (Host.dotGeneral dot_S2x16x128x4x128_S4x128x128_S4x2x16x128x128_2_2_014_1_3_0 none (v80A UV VG VB) (v85A WS)) transposes_S4x2x16x128x128_S2x16x128x4x128_1_2_4_0_3) (broadcastInDim S2x16x128x4x128 ![0, 1, 2, 3, 4] bcast_S1x1x128x4x1_S2x16x128x4x128_0_1_2_3_4 (broadcastInDim S1x1x128x4x1 ![2, 3] bcast_S128x4_S1x1x128x4x1_2_3 (transpose S128x4 [1, 0] (shapeCast _ BS shapeCasts_S1x4x128_S4x128) transposes_S4x128_S128x4_1_0)))) shapeCasts_S2x16x128x4x128_S2x2048x512

def v94A (DY : FVec Ideal S2x2048x1024 .f32) : FVec Ideal S2x2048x512 .f32 :=
  extractStridedSlice S2x2048x512 ![0, 0, 0] DY slices_S2x2048x1024_S2x2048x512_0_0_0

def v96A (UV : FVec Ideal S2x2048x1024 .f32) (DY : FVec Ideal S2x2048x1024 .f32) (VG : FVec Ideal S1x512 .f32) (VB : FVec Ideal S1x512 .f32) (WS : FVec Ideal S1x4x128x128 .f32) (BS : FVec Ideal S1x4x128 .f32) : FVec Ideal S2x2048x512 .f32 :=
  mulf (v94A DY) (v92A UV VG VB WS BS)

def v97A (UV : FVec Ideal S2x2048x1024 .f32) (DY : FVec Ideal S2x2048x1024 .f32) : FVec Ideal S2x16x128x4x128 .f32 :=
  shapeCast _ (mulf (v22A UV) (v94A DY)) shapeCasts_S2x2048x512_S2x16x128x4x128

def v102A (UV : FVec Ideal S2x2048x1024 .f32) (DY : FVec Ideal S2x2048x1024 .f32) : FVec Ideal S4x2x16x128x128 .f32 :=
  transpose S4x2x16x128x128 [3, 0, 1, 4, 2] (v97A UV DY) transposes_S2x16x128x4x128_S4x2x16x128x128_3_0_1_4_2

def v108A (UV : FVec Ideal S2x2048x1024 .f32) (DY : FVec Ideal S2x2048x1024 .f32) (WS : FVec Ideal S1x4x128x128 .f32) : FVec Ideal S2x2048x4x128 .f32 :=
  shapeCast _ (transpose S2x16x128x4x128 [1, 2, 4, 0, 3] (Host.dotGeneral dot_S4x2x16x128x128_S4x128x128_S4x2x16x128x128_4_1_123_2_0_0 none (v102A UV DY) (v85A WS)) transposes_S4x2x16x128x128_S2x16x128x4x128_1_2_4_0_3) shapeCasts_S2x16x128x4x128_S2x2048x4x128

def v117A (UV : FVec Ideal S2x2048x1024 .f32) (DY : FVec Ideal S2x2048x1024 .f32) (VG : FVec Ideal S1x512 .f32) (WS : FVec Ideal S1x4x128x128 .f32) : FVec Ideal S2x2048x4x128 .f32 :=
  mulf (v108A UV DY WS) (broadcastInDim S2x2048x4x128 ![0, 1, 2, 3] bcast_S1x1x4x128_S2x2048x4x128_0_1_2_3 (v73A VG))

def v124A (UV : FVec Ideal S2x2048x1024 .f32) (DY : FVec Ideal S2x2048x1024 .f32) (VG : FVec Ideal S1x512 .f32) (WS : FVec Ideal S1x4x128x128 .f32) : FVec Ideal S2x2048x4x128 .f32 :=
  mulf (v117A UV DY VG WS) (broadcastInDim S2x2048x4x128 ![0, 1, 2, 3] bcast_S2x2048x4x1_S2x2048x4x128_0_1_2_3 (v66A UV))

def v133A (UV : FVec Ideal S2x2048x1024 .f32) (DY : FVec Ideal S2x2048x1024 .f32) (VG : FVec Ideal S1x512 .f32) (WS : FVec Ideal S1x4x128x128 .f32) : FVec Ideal S2x2048x4x128 .f32 :=
  mulf (broadcastInDim S2x2048x4x128 ![0, 1, 2] bcast_S2x2048x4_S2x2048x4x128_0_1_2 (Host.reduceAdd (Host.divf (mulf (shapeCast _ (Host.reduceAdd (mulf (v63A UV) (v117A UV DY VG WS)) (constant S_ .f32 0x00000000#32) reducesTo_S2x2048x4x128_S2x2048x4_d3 h_S_) shapeCasts_S2x2048x4_S2x2048x4x1) (mulf (broadcastInDim S2x2048x4x1 ![] bcast_S_S2x2048x4x1 (constant S_ .f32 0xBF000000#32)) (Host.divf (v66A UV) (v65A UV)))) (broadcastInDim S2x2048x4x1 ![] bcast_S_S2x2048x4x1 (constant S_ .f32 0x43000000#32))) (constant S_ .f32 0x00000000#32) reducesTo_S2x2048x4x1_S2x2048x4_d3 h_S_)) (mulf (broadcastInDim S2x2048x4x128 ![] bcast_S_S2x2048x4x128 (constant S_ .f32 0x40000000#32)) (v54A UV))

def v144A (UV : FVec Ideal S2x2048x1024 .f32) (DY : FVec Ideal S2x2048x1024 .f32) (VG : FVec Ideal S1x512 .f32) (WS : FVec Ideal S1x4x128x128 .f32) : FVec Ideal S2x2048x512 .f32 :=
  shapeCast _ (addf (addf (v124A UV DY VG WS) (v133A UV DY VG WS)) (broadcastInDim S2x2048x4x128 ![0, 1, 2] bcast_S2x2048x4_S2x2048x4x128_0_1_2 (Host.reduceAdd (Host.divf (addf (shapeCast _ (Host.reduceAdd (Host.negf (v124A UV DY VG WS)) (constant S_ .f32 0x00000000#32) reducesTo_S2x2048x4x128_S2x2048x4_d3 h_S_) shapeCasts_S2x2048x4_S2x2048x4x1) (shapeCast _ (Host.reduceAdd (Host.negf (v133A UV DY VG WS)) (constant S_ .f32 0x00000000#32) reducesTo_S2x2048x4x128_S2x2048x4_d3 h_S_) shapeCasts_S2x2048x4_S2x2048x4x1)) (broadcastInDim S2x2048x4x1 ![] bcast_S_S2x2048x4x1 (constant S_ .f32 0x43000000#32))) (constant S_ .f32 0x00000000#32) reducesTo_S2x2048x4x1_S2x2048x4_d3 h_S_))) shapeCasts_S2x2048x4x128_S2x2048x512

def v155A (UV : FVec Ideal S2x2048x1024 .f32) (DY : FVec Ideal S2x2048x1024 .f32) (VG : FVec Ideal S1x512 .f32) (WS : FVec Ideal S1x4x128x128 .f32) : FVec Ideal S2x2048x512 .f32 :=
  mulf (broadcastInDim S2x2048x512 ![] bcast_S_S2x2048x512 (constant S_ .f32 0x3F4C422A#32)) (mulf (mulf (broadcastInDim S2x2048x512 ![] bcast_S_S2x2048x512 (constant S_ .f32 0x3F000000#32)) (mulf (v1A UV) (v144A UV DY VG WS))) (mulf (addf (broadcastInDim S2x2048x512 ![] bcast_S_S2x2048x512 (constant S_ .f32 0x3F800000#32)) (v33A UV)) (subf (broadcastInDim S2x2048x512 ![] bcast_S_S2x2048x512 (constant S_ .f32 0x3F800000#32)) (v33A UV))))

def v167A (UV : FVec Ideal S2x2048x1024 .f32) (DY : FVec Ideal S2x2048x1024 .f32) (VG : FVec Ideal S1x512 .f32) (VB : FVec Ideal S1x512 .f32) (WS : FVec Ideal S1x4x128x128 .f32) (BS : FVec Ideal S1x4x128 .f32) : FVec Ideal S2x2048x512 .f32 :=
  mulf (broadcastInDim S2x2048x512 ![] bcast_S_S2x2048x512 (constant S_ .f32 0x3F4C422A#32)) (mulf (mulf (broadcastInDim S2x2048x512 ![] bcast_S_S2x2048x512 (constant S_ .f32 0x3F000000#32)) (mulf (v0A UV) (v96A UV DY VG VB WS BS))) (mulf (addf (broadcastInDim S2x2048x512 ![] bcast_S_S2x2048x512 (constant S_ .f32 0x3F800000#32)) (v12A UV)) (subf (broadcastInDim S2x2048x512 ![] bcast_S_S2x2048x512 (constant S_ .f32 0x3F800000#32)) (v12A UV))))

def v177A (UV : FVec Ideal S2x2048x1024 .f32) (DY : FVec Ideal S2x2048x1024 .f32) (VG : FVec Ideal S1x512 .f32) (VB : FVec Ideal S1x512 .f32) (WS : FVec Ideal S1x4x128x128 .f32) (BS : FVec Ideal S1x4x128 .f32) : FVec Ideal S4096x1024 .bf16 :=
  truncf .bf16 (shapeCast _ (addf (pad S2x2048x1024 ![0, 0, 512] ![0, 0, 0] ![0, 0, 0] (addf (addf (mulf (v144A UV DY VG WS) (v42A UV)) (v155A UV DY VG WS)) (mulf (mulf (broadcastInDim S2x2048x512 ![] bcast_S_S2x2048x512 (constant S_ .f32 0x3D372713#32)) (v155A UV DY VG WS)) (mulf (broadcastInDim S2x2048x512 ![] bcast_S_S2x2048x512 (constant S_ .f32 0x40400000#32)) (mulf (v1A UV) (v1A UV))))) (constant S_ .f32 0x00000000#32) pads_S2x2048x512_S2x2048x1024_000_000_51200 h_S_) (pad S2x2048x1024 ![0, 0, 0] ![0, 0, 512] ![0, 0, 0] (addf (addf (mulf (v96A UV DY VG VB WS BS) (v21A UV)) (v167A UV DY VG VB WS BS)) (mulf (mulf (broadcastInDim S2x2048x512 ![] bcast_S_S2x2048x512 (constant S_ .f32 0x3D372713#32)) (v167A UV DY VG VB WS BS)) (mulf (broadcastInDim S2x2048x512 ![] bcast_S_S2x2048x512 (constant S_ .f32 0x40400000#32)) (mulf (v0A UV) (v0A UV))))) (constant S_ .f32 0x00000000#32) pads_S2x2048x512_S2x2048x1024_000_000_05120 h_S_)) shapeCasts_S2x2048x1024_S4096x1024) bitsLt_bf16_f32

def v178A (UV : FVec Ideal S2x2048x1024 .f32) (DY : FVec Ideal S2x2048x1024 .f32) (VG : FVec Ideal S1x512 .f32) (VB : FVec Ideal S1x512 .f32) : FVec Ideal S4x128x128 .f32 :=
  shapeCast _ (broadcastInDim S1x4x128x128 ![1, 2, 3] bcast_S4x128x128_S1x4x128x128_1_2_3 (mulf (Host.dotGeneral dot_S4x2x16x128x128_S2x16x128x4x128_S4x128x128_123_014_4_2_0_3 none (v102A UV DY) (v80A UV VG VB)) (broadcastInDim S4x128x128 ![0, 1, 2] bcast_S1x128x128_S4x128x128_0_1_2 v83A))) shapeCasts_S1x4x128x128_S4x128x128

def v179A (UV : FVec Ideal S2x2048x1024 .f32) (DY : FVec Ideal S2x2048x1024 .f32) : FVec Ideal S4x128 .f32 :=
  shapeCast _ (broadcastInDim S1x4x128 ![1, 2] bcast_S4x128_S1x4x128_1_2 (transpose S4x128 [1, 0] (Host.reduceAdd (shapeCast _ (Host.reduceAdd (v97A UV DY) (constant S_ .f32 0x00000000#32) reducesTo_S2x16x128x4x128_S128x4_d0_1_4 h_S_) shapeCasts_S128x4_S1x1x128x4x1) (constant S_ .f32 0x00000000#32) reducesTo_S1x1x128x4x1_S128x4_d0_1_4 h_S_) transposes_S128x4_S4x128_1_0)) shapeCasts_S1x4x128_S4x128

def v148A (UV : FVec Ideal S2x2048x1024 .f32) (DY : FVec Ideal S2x2048x1024 .f32) (WS : FVec Ideal S1x4x128x128 .f32) : FVec Ideal S1x512 .f32 :=
  broadcastInDim S1x512 ![1] bcast_S512_S1x512_1 (shapeCast _ (Host.reduceAdd (shapeCast _ (Host.reduceAdd (mulf (v71A UV) (v108A UV DY WS)) (constant S_ .f32 0x00000000#32) reducesTo_S2x2048x4x128_S4x128_d0_1 h_S_) shapeCasts_S4x128_S1x1x4x128) (constant S_ .f32 0x00000000#32) reducesTo_S1x1x4x128_S4x128_d0_1 h_S_) shapeCasts_S4x128_S512)

def v147A (UV : FVec Ideal S2x2048x1024 .f32) (DY : FVec Ideal S2x2048x1024 .f32) (WS : FVec Ideal S1x4x128x128 .f32) : FVec Ideal S1x512 .f32 :=
  broadcastInDim S1x512 ![1] bcast_S512_S1x512_1 (shapeCast _ (Host.reduceAdd (shapeCast _ (Host.reduceAdd (v108A UV DY WS) (constant S_ .f32 0x00000000#32) reducesTo_S2x2048x4x128_S4x128_d0_1 h_S_) shapeCasts_S4x128_S1x1x4x128) (constant S_ .f32 0x00000000#32) reducesTo_S1x1x4x128_S4x128_d0_1 h_S_) shapeCasts_S4x128_S512)

/-! ## What each of them holds at an index -/

variable (UV DY : FVec Ideal S2x2048x1024 .f32) (VG VB : FVec Ideal S1x512 .f32) (WS : FVec Ideal S1x4x128x128 .f32) (BS : FVec Ideal S1x4x128 .f32)

theorem v0A_at (b : Fin 2) (s : Fin 2048) (k : Fin 512) : v0A UV (ix3 b s k) = UV (ix3 b s ⟨k.val, by omega⟩) := by pointwise [v0A]
theorem v1A_at (b : Fin 2) (s : Fin 2048) (k : Fin 512) : v1A UV (ix3 b s k) = UV (ix3 b s ⟨512 + k.val, by omega⟩) := by pointwise [v1A]
theorem v94A_at (b : Fin 2) (s : Fin 2048) (k : Fin 512) : v94A DY (ix3 b s k) = DY (ix3 b s ⟨k.val, by omega⟩) := by pointwise [v94A]
theorem v12A_at (b : Fin 2) (s : Fin 2048) (k : Fin 512) : v12A UV (ix3 b s k) = geluT (v0A UV (ix3 b s k)) := by pointwise [v12A, geluT]
theorem v33A_at (b : Fin 2) (s : Fin 2048) (k : Fin 512) : v33A UV (ix3 b s k) = geluT (v1A UV (ix3 b s k)) := by pointwise [v33A, geluT]
theorem v21A_at (b : Fin 2) (s : Fin 2048) (k : Fin 512) :
    v21A UV (ix3 b s k) = Ideal.ofBits .f32 0x3F000000#32 * (1 + geluT (v0A UV (ix3 b s k))) := by rw [← v12A_at]; pointwise [v21A]
theorem v42A_at (b : Fin 2) (s : Fin 2048) (k : Fin 512) :
    v42A UV (ix3 b s k) = Ideal.ofBits .f32 0x3F000000#32 * (1 + geluT (v1A UV (ix3 b s k))) := by rw [← v33A_at]; pointwise [v42A]
theorem v22A_at (b : Fin 2) (s : Fin 2048) (k : Fin 512) : v22A UV (ix3 b s k) = gelu (v0A UV (ix3 b s k)) := by
  unfold gelu; rw [← v21A_at]; pointwise [v22A]

/-- The second half's row of a token and a group. -/
def row (b : Fin 2) (s : Fin 2048) (g : Fin 4) (c : Fin 128) : EReal := gelu (v1A UV (ix3 b s (chan g c)))

theorem v48A_at (b : Fin 2) (s : Fin 2048) (g : Fin 4) (c : Fin 128) : v48A UV (ix4 b s g c) = row UV b s g c := by
  unfold row gelu; rw [← v42A_at]; pointwise [v48A]
theorem v52A_at (b : Fin 2) (s : Fin 2048) (g : Fin 4) (o : Fin 1) : v52A UV (ix4 b s g o) = mean (row UV b s g) := by
  unfold mean; simp only [← v48A_at]; pointwise [v52A]
theorem v54A_at (b : Fin 2) (s : Fin 2048) (g : Fin 4) (c : Fin 128) : v54A UV (ix4 b s g c) = cen (row UV b s g) c := by
  unfold cen; rw [← v52A_at UV b s g 0, ← v48A_at]; pointwise [v54A]
theorem v63A_at (b : Fin 2) (s : Fin 2048) (g : Fin 4) (c : Fin 128) : v63A UV (ix4 b s g c) = cen (row UV b s g) c := by
  unfold cen; rw [← v52A_at UV b s g 0, ← v48A_at]; pointwise [v63A]
theorem v65A_at (b : Fin 2) (s : Fin 2048) (g : Fin 4) (o : Fin 1) : v65A UV (ix4 b s g o) = var (row UV b s g) := by
  unfold var; rw [mean]; simp only [← v54A_at]; pointwise [v65A]
theorem v66A_at (b : Fin 2) (s : Fin 2048) (g : Fin 4) (o : Fin 1) : v66A UV (ix4 b s g o) = rstd (row UV b s g) := by
  unfold rstd; rw [← v65A_at UV b s g o]; pointwise [v66A]
theorem v71A_at (b : Fin 2) (s : Fin 2048) (g : Fin 4) (c : Fin 128) : v71A UV (ix4 b s g c) = xhat (row UV b s g) c := by
  unfold xhat; rw [← v66A_at UV b s g 0, ← v63A_at]; pointwise [v71A]
theorem v73A_at (a b : Fin 1) (g : Fin 4) (c : Fin 128) : v73A VG (ix4 a b g c) = GV VG g c := by
  pointwise [v73A, GV]

theorem row_eq (b : Fin 2) (n : Fin 16) (r : Fin 128) (g : Fin 4) : row UV b (tok n r) g = vrow (AV UV b n g) r := by
  funext c; unfold row; rw [v1A_at]; rfl

theorem v80A_at (b : Fin 2) (n : Fin 16) (r : Fin 128) (g : Fin 4) (c : Fin 128) :
    v80A UV VG VB (ix5 b n r g c) = vc (AV UV b n g) (GV VG g) (GV VB g) r c := by
  unfold vc; rw [← row_eq, ← v71A_at, ← v73A_at VG 0 0]; pointwise [v80A, GV]

theorem v83A_at (a : Fin 1) (t s : Fin 128) : v83A (ix3 a t s) = if s.val ≤ t.val then 1 else 0 := by
  pointwise [v83A]
  have h : IntOp.cmpi CmpIPredicate.sge (IntOp.addi (BitVec.ofNat 32 t.val) 0#32) (BitVec.ofNat 32 s.val) = 1#1 ↔ s.val ≤ t.val := by
    have e : IntOp.addi (BitVec.ofNat 32 t.val) 0#32 = BitVec.ofNat 32 t.val := by unfold IntOp.addi; simp
    rw [e]; word_cmp
  exact if_congr h rfl rfl

theorem v85A_at (g : Fin 4) (t s : Fin 128) : v85A WS (ix3 g t s) = MW WS g t s := by
  have h := v83A_at 0 t s
  pointwise [v85A]
  rw [h]; unfold MW; split <;> simp

theorem v92A_at (b : Fin 2) (n : Fin 16) (r : Fin 128) (g : Fin 4) (c : Fin 128) :
    v92A UV VG VB WS BS (ix3 b (tok n r) (chan g c)) = sv (AV UV b n g) (GV VG g) (GV VB g) (MW WS g) (BT BS g) r c := by
  have h1 : (⟨(n.val * 128 + r.val) / 128, by omega⟩ : Fin 16) = n := Fin.ext (show (n.val * 128 + r.val) / 128 = n.val by omega)
  have h2 : (⟨(n.val * 128 + r.val) % 128, by omega⟩ : Fin 128) = r := Fin.ext (show (n.val * 128 + r.val) % 128 = r.val by omega)
  have h3 : (⟨(g.val * 128 + c.val) / 128, by omega⟩ : Fin 4) = g := Fin.ext (show (g.val * 128 + c.val) / 128 = g.val by omega)
  have h4 : (⟨(g.val * 128 + c.val) % 128, by omega⟩ : Fin 128) = c := Fin.ext (show (g.val * 128 + c.val) % 128 = c.val by omega)
  unfold sv BT
  simp only [← v80A_at, ← v85A_at]
  pointwise [v92A]
  rw [h1, h2, h3, h4]
  exact congrArg (· + _) (Finset.sum_congr rfl fun s _ => mul_comm _ _)

theorem v96A_at (b : Fin 2) (n : Fin 16) (r : Fin 128) (g : Fin 4) (c : Fin 128) :
    v96A UV DY VG VB WS BS (ix3 b (tok n r) (chan g c)) = AU DY b n g r c * sv (AV UV b n g) (GV VG g) (GV VB g) (MW WS g) (BT BS g) r c := by
  rw [← v92A_at]
  exact congrArg (· * _) (v94A_at DY b _ _)

theorem v97A_at (b : Fin 2) (n : Fin 16) (r : Fin 128) (g : Fin 4) (c : Fin 128) :
    v97A UV DY (ix5 b n r g c) = dsv (AU UV b n g) (AU DY b n g) r c := by
  have h := v22A_at UV b (tok n r) (chan g c)
  have h' := v94A_at DY b (tok n r) (chan g c)
  rw [v0A_at] at h
  unfold dsv AU
  rw [← h, ← h', mul_comm]
  pointwise [v97A]

theorem v102A_at (b : Fin 2) (n : Fin 16) (r : Fin 128) (g : Fin 4) (c : Fin 128) :
    v102A UV DY (ix5 g b n c r) = dsv (AU UV b n g) (AU DY b n g) r c := by
  rw [← v97A_at]; pointwise [v102A]

theorem v108A_at (b : Fin 2) (n : Fin 16) (s : Fin 128) (g : Fin 4) (c : Fin 128) :
    v108A UV DY WS (ix4 b (tok n s) g c) = dvc (AU UV b n g) (AU DY b n g) (MW WS g) s c := by
  have h1 : (⟨(n.val * 128 + s.val) / 128, by omega⟩ : Fin 16) = n := Fin.ext (show (n.val * 128 + s.val) / 128 = n.val by omega)
  have h2 : (⟨(n.val * 128 + s.val) % 128, by omega⟩ : Fin 128) = s := Fin.ext (show (n.val * 128 + s.val) % 128 = s.val by omega)
  unfold dvc
  simp only [← v102A_at, ← v85A_at]
  pointwise [v108A]
  rw [h1, h2]
  exact Finset.sum_congr rfl fun s _ => mul_comm _ _

theorem v117A_at (b : Fin 2) (n : Fin 16) (s : Fin 128) (g : Fin 4) (c : Fin 128) :
    v117A UV DY VG WS (ix4 b (tok n s) g c) = dvc (AU UV b n g) (AU DY b n g) (MW WS g) s c * GV VG g c := by
  rw [← v108A_at, ← v73A_at VG 0 0]; pointwise [v117A]

theorem v124A_at (b : Fin 2) (s : Fin 2048) (g : Fin 4) (c : Fin 128) :
    v124A UV DY VG WS (ix4 b s g c) = v117A UV DY VG WS (ix4 b s g c) * rstd (row UV b s g) := by
  rw [← v66A_at UV b s g 0]; pointwise [v124A]

theorem v133A_at (b : Fin 2) (s : Fin 2048) (g : Fin 4) (c : Fin 128) :
    v133A UV DY VG WS (ix4 b s g c) = varCot (row UV b s g) (fun c => v117A UV DY VG WS (ix4 b s g c)) c := by
  unfold varCot
  rw [← v66A_at UV b s g 0, ← v65A_at UV b s g 0, ← v54A_at UV b s g c]
  simp only [← v63A_at]
  pointwise [v133A]
  rw [Fin.sum_univ_one]

theorem v144A_at (b : Fin 2) (s : Fin 2048) (g : Fin 4) (c : Fin 128) :
    v144A UV DY VG WS (ix3 b s (chan g c)) = v124A UV DY VG WS (ix4 b s g c) + v133A UV DY VG WS (ix4 b s g c)
      + Ideal.div (∑ c, -(v124A UV DY VG WS (ix4 b s g c)) + ∑ c, -(v133A UV DY VG WS (ix4 b s g c))) (Ideal.ofBits .f32 0x43000000#32) := by
  have h3 : (⟨(g.val * 128 + c.val) / 128, by omega⟩ : Fin 4) = g := Fin.ext (show (g.val * 128 + c.val) / 128 = g.val by omega)
  have h4 : (⟨(g.val * 128 + c.val) % 128, by omega⟩ : Fin 128) = c := Fin.ext (show (g.val * 128 + c.val) % 128 = c.val by omega)
  pointwise [v144A]
  rw [h3, h4, Fin.sum_univ_one]

theorem v155A_at (b : Fin 2) (s : Fin 2048) (k : Fin 512) :
    v155A UV DY VG WS (ix3 b s k) = geluE (v1A UV (ix3 b s k)) (v144A UV DY VG WS (ix3 b s k)) := by
  unfold geluE; rw [← v33A_at]; pointwise [v155A]
theorem v167A_at (b : Fin 2) (s : Fin 2048) (k : Fin 512) :
    v167A UV DY VG VB WS BS (ix3 b s k) = geluE (v0A UV (ix3 b s k)) (v96A UV DY VG VB WS BS (ix3 b s k)) := by
  unfold geluE; rw [← v12A_at]; pointwise [v167A]

/-! ## The results -/

/-- The first half's gradient, before its terms are gathered. -/
theorem v177A_lo (i : Fin 4096) (b : Fin 2) (s : Fin 2048) (hb : b.val = i.val / 2048) (hs : s.val = i.val % 2048) (k : Fin 512) :
    v177A UV DY VG VB WS BS (ix2 i ⟨k.val, by omega⟩) = v96A UV DY VG VB WS BS (ix3 b s k) * v21A UV (ix3 b s k) + v167A UV DY VG VB WS BS (ix3 b s k)
      + Ideal.ofBits .f32 0x3D372713#32 * v167A UV DY VG VB WS BS (ix3 b s k) * (Ideal.ofBits .f32 0x40400000#32 * (v0A UV (ix3 b s k) * v0A UV (ix3 b s k))) := by
  have hi := i.isLt
  obtain ⟨b, hb'⟩ := b
  obtain ⟨s, hs'⟩ := s
  obtain rfl : b = i.val / 2048 := hb
  obtain rfl : s = i.val % 2048 := hs
  pointwise [v177A]
  refine (congrArg₂ (· + ·) (dif_neg fun h => h.2.2.1) (dif_pos ⟨by omega, by omega⟩)).trans ?_
  exact zero_add _

/-- The second half's gradient, before its terms are gathered. -/
theorem v177A_hi (i : Fin 4096) (b : Fin 2) (s : Fin 2048) (hb : b.val = i.val / 2048) (hs : s.val = i.val % 2048) (k : Fin 512) :
    v177A UV DY VG VB WS BS (ix2 i ⟨512 + k.val, by omega⟩) = v144A UV DY VG WS (ix3 b s k) * v42A UV (ix3 b s k) + v155A UV DY VG WS (ix3 b s k)
      + Ideal.ofBits .f32 0x3D372713#32 * v155A UV DY VG WS (ix3 b s k) * (Ideal.ofBits .f32 0x40400000#32 * (v1A UV (ix3 b s k) * v1A UV (ix3 b s k))) := by
  have hi := i.isLt
  obtain ⟨b, hb'⟩ := b
  obtain ⟨s, hs'⟩ := s
  obtain rfl : b = i.val / 2048 := hb
  obtain rfl : s = i.val % 2048 := hs
  pointwise [v177A]
  refine (congrArg₂ (· + ·) (dif_pos ⟨by omega, by omega⟩) (dif_neg fun h => h.2.2)).trans ?_
  exact add_zero _

/-- A sum over the two leading axes of four, at an index of the others. -/
theorem hostReduceAdd_leading {n0 n1 n2 n3 : ℕ} (h : (⟨4, ![n0, n1, n2, n3]⟩ : Shape).ReducesTo [0, 1] ⟨2, ![n2, n3]⟩)
    (v : (⟨4, ![n0, n1, n2, n3]⟩ : Shape).Idx → EReal) (init : EReal) (g : Fin n2) (k : Fin n3) :
    Ideal.hostReduceAdd h v init (ix2 g k) = init + ∑ b : Fin n0, ∑ s : Fin n1, v (ix4 b s g k) := by
  unfold Ideal.hostReduceAdd
  refine congrArg (init + ·) ((Finset.sum_filter_eq_sum_of_fiber _ (fun p : Fin n0 × Fin n1 => ix4 p.1 p.2 g k)
    (fun _ _ e => Prod.ext (congrFun e 0) (congrFun e 1)) (fun i => ?_) v).trans (by simp only [Fintype.sum_prod_type]))
  constructor
  · intro e
    refine ⟨(i 0, i 1), ?_⟩
    funext a; apply Fin.ext
    match a with
    | ⟨0, _⟩ => rfl
    | ⟨1, _⟩ => rfl
    | ⟨2, _⟩ => exact (congrArg Fin.val (congrFun e 0)).symm
    | ⟨3, _⟩ => exact (congrArg Fin.val (congrFun e 1)).symm
  · rintro ⟨p, rfl⟩
    funext b
    apply Fin.ext
    match b with
    | ⟨0, _⟩ => rfl
    | ⟨1, _⟩ => rfl

/-- A sum over the examples, the chunks and the channels of a group, at a position of the chunk and a group. -/
theorem hostReduceAdd_outer {n0 n1 n2 n3 n4 : ℕ} (h : (⟨5, ![n0, n1, n2, n3, n4]⟩ : Shape).ReducesTo [0, 1, 4] ⟨2, ![n2, n3]⟩)
    (v : (⟨5, ![n0, n1, n2, n3, n4]⟩ : Shape).Idx → EReal) (init : EReal) (g : Fin n2) (k : Fin n3) :
    Ideal.hostReduceAdd h v init (ix2 g k) = init + ∑ b : Fin n0, ∑ s : Fin n1, ∑ c : Fin n4, v (ix5 b s g k c) := by
  unfold Ideal.hostReduceAdd
  refine congrArg (init + ·) ((Finset.sum_filter_eq_sum_of_fiber _ (fun p : Fin n0 × Fin n1 × Fin n4 => ix5 p.1 p.2.1 g k p.2.2)
    (fun _ _ e => Prod.ext (congrFun e 0) (Prod.ext (congrFun e 1) (congrFun e 4))) (fun i => ?_) v).trans (by simp only [Fintype.sum_prod_type]))
  constructor
  · intro e
    refine ⟨(i 0, i 1, i 4), ?_⟩
    funext a; apply Fin.ext
    match a with
    | ⟨0, _⟩ => rfl
    | ⟨1, _⟩ => rfl
    | ⟨2, _⟩ => exact (congrArg Fin.val (congrFun e 0)).symm
    | ⟨3, _⟩ => exact (congrArg Fin.val (congrFun e 1)).symm
    | ⟨4, _⟩ => rfl
  · rintro ⟨p, rfl⟩
    funext b
    apply Fin.ext
    match b with
    | ⟨0, _⟩ => rfl
    | ⟨1, _⟩ => rfl

/-- The spatial product's three summed axes. -/
def outerIdx (k : Fin 2 × Fin 16 × Fin 128) : dot_S4x2x16x128x128_S2x16x128x4x128_S4x128x128_123_014_4_2_0_3.contr.Idx := fun p =>
  if h0 : p.val = 0 then k.1.cast (by obtain ⟨p, hp⟩ := p; obtain rfl : p = 0 := h0; rfl)
  else if h1 : p.val = 1 then k.2.1.cast (by obtain ⟨p, hp⟩ := p; obtain rfl : p = 1 := h1; rfl)
  else k.2.2.cast (by
    obtain ⟨p, hp⟩ := p
    have hp3 : p < 3 := hp
    obtain rfl : p = 2 := by simp only at h0 h1; omega
    rfl)

/-- They are the triples of their coordinates. -/
def outerEquiv : Fin 2 × Fin 16 × Fin 128 ≃ dot_S4x2x16x128x128_S2x16x128x4x128_S4x128x128_123_014_4_2_0_3.contr.Idx where
  toFun := outerIdx
  invFun kk := (kk ⟨0, by decide⟩, kk ⟨1, by decide⟩, kk ⟨2, by decide⟩)
  left_inv _ := rfl
  right_inv kk := by
    funext ⟨p, hp⟩
    have hp3 : p < 3 := hp
    match p, hp3 with
    | 0, _ => rfl
    | 1, _ => rfl
    | 2, _ => rfl

/-- A product that sums the examples, the chunks and the channels, at an index. -/
theorem matmul_outer (l : S4x2x16x128x128.Idx → EReal) (r : S2x16x128x4x128.Idx → EReal) (acc : S4x128x128.Idx → EReal) (g : Fin 4) (t s : Fin 128) :
    Ideal.matmul dot_S4x2x16x128x128_S2x16x128x4x128_S4x128x128_123_014_4_2_0_3 l r acc (ix3 g t s) =
      acc (ix3 g t s) + ∑ b : Fin 2, ∑ n : Fin 16, ∑ c : Fin 128, l (ix5 g b n c t) * r (ix5 b n s g c) := by
  unfold Ideal.matmul
  refine congrArg (_ + ·) ?_
  rw [← Fintype.sum_equiv outerEquiv (fun k => l (ix5 g k.1 k.2.1 k.2.2 t) * r (ix5 k.1 k.2.1 s g k.2.2)) _ fun k => ?_]
  · simp only [Fintype.sum_prod_type]
  · refine congrArg₂ (· * ·) (congrArg l ?_) (congrArg r ?_)
    · funext a; apply Fin.ext
      match a with
      | ⟨0, _⟩ => rfl
      | ⟨1, _⟩ => rfl
      | ⟨2, _⟩ => rfl
      | ⟨3, _⟩ => rfl
      | ⟨4, _⟩ => rfl
    · funext a; apply Fin.ext
      match a with
      | ⟨0, _⟩ => rfl
      | ⟨1, _⟩ => rfl
      | ⟨2, _⟩ => rfl
      | ⟨3, _⟩ => rfl
      | ⟨4, _⟩ => rfl

theorem v178A_at (g : Fin 4) (t s : Fin 128) : v178A UV DY VG VB (ix3 g t s) =
    if s.val ≤ t.val then ∑ b : Fin 2, ∑ n : Fin 16, dw (AU UV b n g) (AV UV b n g) (AU DY b n g) (GV VG g) (GV VB g) t s else 0 := by
  have h := v83A_at 0 t s
  unfold dw
  simp only [← v102A_at, ← v80A_at]
  pointwise [v178A]
  rw [h, matmul_outer, zero_add]
  split
  · rw [mul_one]
  · rw [mul_zero]

theorem v179A_at (g : Fin 4) (t : Fin 128) : v179A UV DY (ix2 g t) = ∑ b : Fin 2, ∑ n : Fin 16, db (AU UV b n g) (AU DY b n g) t := by
  unfold db
  simp only [← v97A_at]
  pointwise [v179A]
  simp only [hostReduceAdd_outer, zero_add, Fin.sum_univ_one]
  pointwise
  simp only [hostReduceAdd_outer, zero_add]

theorem v148A_at (o : Fin 1) (g : Fin 4) (c : Fin 128) : v148A UV DY WS (ix2 o (chan g c)) =
    ∑ b : Fin 2, ∑ n : Fin 16, dgam (AU UV b n g) (AV UV b n g) (AU DY b n g) (MW WS g) c := by
  unfold dgam
  simp only [← v108A_at, ← row_eq, ← v71A_at]
  pointwise [v148A]
  simp only [hostReduceAdd_leading, zero_add, Fin.sum_univ_one]
  pointwise
  simp only [hostReduceAdd_leading, zero_add]
  rw [Finset.sum_congr rfl fun b _ => Fin.sum_univ_tiles 16 128 rfl fun s => mulf (v71A UV) (v108A UV DY WS) (ix4 b s g c)]
  exact Finset.sum_congr rfl fun b _ => Finset.sum_congr rfl fun n _ => Finset.sum_congr rfl fun r _ => mul_comm _ _

theorem v147A_at (o : Fin 1) (g : Fin 4) (c : Fin 128) : v147A UV DY WS (ix2 o (chan g c)) =
    ∑ b : Fin 2, ∑ n : Fin 16, dbet (AU UV b n g) (AU DY b n g) (MW WS g) c := by
  unfold dbet
  simp only [← v108A_at]
  pointwise [v147A]
  simp only [hostReduceAdd_leading, zero_add, Fin.sum_univ_one]
  pointwise
  simp only [hostReduceAdd_leading, zero_add]
  exact Finset.sum_congr rfl fun b _ => Fin.sum_univ_tiles 16 128 rfl fun s => v108A UV DY WS (ix4 b s g c)

end Cert.GateReferenceIdeal.Value

end
-- ==== Proof.GateEquation.lean ====
module

public import proofs.«01_k».proof.Proof.GateFinal
public import proofs.«01_k».proof.Proof.GateRef
public import proofs.«01_k».proof.Proof.Gen.Pre_gate_finite

@[expose] public section

set_option maxRecDepth 16384

noncomputable section

open Idealize.ShloMosaic Idealize.ShloMosaic.TcCoe Idealize.SL.Sem

namespace Cert.GateKernelIdeal.Value

open Cert.Reals Cert.Gate
open Cert.GateReferenceIdeal.Value

/-! ## The kernel's arrays are the reference's -/

section
variable (UV DY : FVec Ideal ⟨3, ![2, 2048, 1024]⟩ .f32) (VG VB : FVec Ideal ⟨2, ![1, 512]⟩ .f32)
  (WS : FVec Ideal ⟨4, ![1, 4, 128, 128]⟩ .f32) (BS : FVec Ideal ⟨3, ![1, 4, 128]⟩ .f32)

theorem isR_vrow (hU : ∀ i, IsR (UV i)) (b : Fin 2) (n : Fin 16) (g : Fin 4) (r c : Fin 128) : IsR (vrow (AV UV b n g) r c) :=
  isR_gelu (hU _)

theorem isR_MW (hW : ∀ i, IsR (WS i)) (g : Fin 4) (t s : Fin 128) : IsR (MW WS g t s) := by
  unfold MW; split
  · exact hW _
  · exact IsR.coe 0

theorem isR_sv (hU : ∀ i, IsR (UV i)) (hG : ∀ i, IsR (VG i)) (hB : ∀ i, IsR (VB i)) (hW : ∀ i, IsR (WS i)) (hS : ∀ i, IsR (BS i))
    (b : Fin 2) (n : Fin 16) (g : Fin 4) (r c : Fin 128) : IsR (sv (AV UV b n g) (GV VG g) (GV VB g) (MW WS g) (BT BS g) r c) :=
  (IsR.sum _ fun s => (isR_MW WS hW g r s).mul (((isR_xhat (isR_vrow UV hU b n g s) c).mul (hG _)).add (hB _))).add (hS _)

theorem isR_dvc (hU : ∀ i, IsR (UV i)) (hD : ∀ i, IsR (DY i)) (hW : ∀ i, IsR (WS i)) (b : Fin 2) (n : Fin 16) (g : Fin 4) (s c : Fin 128) :
    IsR (dvc (AU UV b n g) (AU DY b n g) (MW WS g) s c) :=
  IsR.sum _ fun t => (isR_MW WS hW g t s).mul ((hD _).mul (isR_gelu (hU _)))

/-- The reference's gradient through the norm. -/
theorem v144A_eq (hU : ∀ i, IsR (UV i)) (hD : ∀ i, IsR (DY i)) (hG : ∀ i, IsR (VG i)) (hW : ∀ i, IsR (WS i))
    (b : Fin 2) (n : Fin 16) (g : Fin 4) (r c : Fin 128) : v144A UV DY VG WS (ix3 b (tok n r) (chan g c)) =
      lnGrad (vrow (AV UV b n g) r) (fun c => dvc (AU UV b n g) (AU DY b n g) (MW WS g) r c * GV VG g c) c := by
  rw [v144A_at]
  simp only [v124A_at, v133A_at, v117A_at, row_eq]
  exact (ln_grad (p := fun c => dvc (AU UV b n g) (AU DY b n g) (MW WS g) r c * GV VG g c) (isR_vrow UV hU b n g r) (fun c => (isR_dvc UV DY WS hU hD hW b n g r c).mul (hG _)) c).symm

/-- The two halves' gradients. -/
theorem duv_eq (hU : ∀ i, IsR (UV i)) (hD : ∀ i, IsR (DY i)) (hG : ∀ i, IsR (VG i)) (hB : ∀ i, IsR (VB i)) (hW : ∀ i, IsR (WS i))
    (hS : ∀ i, IsR (BS i)) (i : Fin 4096) (k : Fin 1024) : aDuv UV DY VG VB WS BS i k = v177A UV DY VG VB WS BS (ix2 i k) := by
  have hi := i.isLt
  unfold aDuv
  by_cases hk : k.val < 512
  · rw [if_pos hk]
    generalize hb : (⟨i.val / 2048, by omega⟩ : Fin 2) = b
    generalize hn : (⟨i.val % 2048 / 128, by omega⟩ : Fin 16) = n
    generalize hr : (⟨i.val % 128, by omega⟩ : Fin 128) = r
    generalize hg : (⟨k.val / 128 % 4, by omega⟩ : Fin 4) = g
    generalize hc : (⟨k.val % 128, by omega⟩ : Fin 128) = c
    have eb : b.val = i.val / 2048 := by rw [← hb]
    have es : (tok n r).val = i.val % 2048 := by
      rw [← hn, ← hr]; show i.val % 2048 / 128 * 128 + i.val % 128 = i.val % 2048; omega
    have ek : (⟨(chan g c).val, by omega⟩ : Fin 1024) = k := Fin.ext (by
      rw [← hg, ← hc]; show k.val / 128 % 4 * 128 + k.val % 128 = k.val; omega)
    have h := v177A_lo UV DY VG VB WS BS i b (tok n r) eb es (chan g c)
    rw [ek, v167A_at, v96A_at, v21A_at, v0A_at] at h
    rw [h]
    exact gelu_grad (hU _) ((hD _).mul (isR_sv UV VG VB WS BS hU hG hB hW hS b n g r c))
  · rw [if_neg hk]
    generalize hb : (⟨i.val / 2048, by omega⟩ : Fin 2) = b
    generalize hn : (⟨i.val % 2048 / 128, by omega⟩ : Fin 16) = n
    generalize hr : (⟨i.val % 128, by omega⟩ : Fin 128) = r
    generalize hg : (⟨(k.val / 128 - 4) % 4, by omega⟩ : Fin 4) = g
    generalize hc : (⟨k.val % 128, by omega⟩ : Fin 128) = c
    have eb : b.val = i.val / 2048 := by rw [← hb]
    have es : (tok n r).val = i.val % 2048 := by
      rw [← hn, ← hr]; show i.val % 2048 / 128 * 128 + i.val % 128 = i.val % 2048; omega
    have ek : (⟨512 + (chan g c).val, by omega⟩ : Fin 1024) = k := Fin.ext (by
      rw [← hg, ← hc]; show 512 + ((k.val / 128 - 4) % 4 * 128 + k.val % 128) = k.val; omega)
    have h := v177A_hi UV DY VG VB WS BS i b (tok n r) eb es (chan g c)
    rw [ek, v155A_at, v144A_eq UV DY VG WS hU hD hG hW, v42A_at, v1A_at] at h
    rw [h]
    exact gelu_grad (hU _) (isR_lnGrad (isR_vrow UV hU b n g r) (fun c => (isR_dvc UV DY WS hU hD hW b n g r c).mul (hG _)) c)

/-- The spatial bias' gradient. -/
theorem dbs_eq (g : Fin 4) (t : Fin 128) : ∑ k, ∑ b, ∑ n, cS UV DY g t k b n = v179A UV DY (ix2 g t) := by
  rw [v179A_at, Finset.sum_comm]
  refine Finset.sum_congr rfl fun b _ => ?_
  rw [Finset.sum_comm]
  rfl

end

/-- What the precondition says of the arguments. -/
theorem real_of_gate (A0 A1 : FVec Ideal ⟨3, ![2, 2048, 1024]⟩ .f32) (A2 : FVec Ideal Cert.Pre_gate_finite.S2x2048x768 .f32)
    (A4 A5 : FVec Ideal ⟨2, ![1, 512]⟩ .f32) (A6 : FVec Ideal ⟨4, ![1, 4, 128, 128]⟩ .f32) (A7 : FVec Ideal ⟨3, ![1, 4, 128]⟩ .f32)
    (A3) (A8) (A9) (A10)
    (h : Cert.Pre_gate_finite.fn (F := Ideal) A0 A1 A2 A3 A4 A5 A6 A7 A8 A9 A10 = fun _ => 1#1) :
    (∀ i, IsR (A0 i)) ∧ (∀ i, IsR (A1 i)) ∧ (∀ i, IsR (A4 i)) ∧ (∀ i, IsR (A5 i)) ∧ (∀ i, IsR (A6 i)) ∧ ∀ i, IsR (A7 i) := by
  have e := congrFun h ix0
  unfold Cert.Pre_gate_finite.fn Cert.Pre_gate_finite.fn_part1 at e
  obtain ⟨e, e6⟩ := IntOp.andi_eq_one.1 e
  obtain ⟨e, e5⟩ := IntOp.andi_eq_one.1 e
  obtain ⟨e, e4⟩ := IntOp.andi_eq_one.1 e
  obtain ⟨e, e3⟩ := IntOp.andi_eq_one.1 e
  obtain ⟨e1, e2⟩ := IntOp.andi_eq_one.1 e
  haveI : Subsingleton (Cert.Pre_gate_finite.S_).Idx := ⟨fun a b => funext fun k => k.elim0⟩
  exact ⟨isR_of_all _ _ _ _ _ _ e1, isR_of_all _ _ _ _ _ _ e2, isR_of_all _ _ _ _ _ _ e3, isR_of_all _ _ _ _ _ _ e4,
    isR_of_all _ _ _ _ _ _ e5, isR_of_all _ _ _ _ _ _ e6⟩

end Cert.GateKernelIdeal.Value

end
-- ==== Proof.GateRefRun.lean ====
module

public import proofs.«01_k».proof.Proof.GateRef

@[expose] public section

set_option maxRecDepth 16384

noncomputable section

open Idealize.ShloMosaic Idealize.ShloMosaic.TcCoe Idealize.SL.Sem

namespace Cert.GateReferenceIdeal.Value

open Cert.GateReferenceIdeal Cert.GateReferenceIdeal.Gen Idealize.ShloMosaic.StableHlo

/-! ## The reference's run ends with these arrays -/

variable (V : Valuation τ sig (Elt Ideal))

theorem r0 : res_main_v0 V = v0A (V (Proc.devRef .tc main_arg0)) := rfl

theorem r1 : res_main_v1 V = v1A (V (Proc.devRef .tc main_arg0)) := rfl

theorem r12 : res_main_v12 V = v12A (V (Proc.devRef .tc main_arg0)) := by
  unfold res_main_v12 v12A
  rw [r0]<;> rfl

theorem r21 : res_main_v21 V = v21A (V (Proc.devRef .tc main_arg0)) := by
  unfold res_main_v21 v21A
  rw [r12]<;> rfl

theorem r22 : res_main_v22 V = v22A (V (Proc.devRef .tc main_arg0)) := by
  unfold res_main_v22 v22A
  rw [r0, r21]<;> rfl

theorem r33 : res_main_v33 V = v33A (V (Proc.devRef .tc main_arg0)) := by
  unfold res_main_v33 v33A
  rw [r1]<;> rfl

theorem r42 : res_main_v42 V = v42A (V (Proc.devRef .tc main_arg0)) := by
  unfold res_main_v42 v42A
  rw [r33]<;> rfl

theorem r48 : res_main_v48 V = v48A (V (Proc.devRef .tc main_arg0)) := by
  unfold res_main_v48 v48A
  rw [r1, r42]<;> rfl

theorem r52 : res_main_v52 V = v52A (V (Proc.devRef .tc main_arg0)) := by
  unfold res_main_v52 v52A
  rw [r48]<;> rfl

theorem r54 : res_main_v54 V = v54A (V (Proc.devRef .tc main_arg0)) := by
  unfold res_main_v54 v54A
  rw [r48, r52]<;> rfl

theorem r63 : res_main_v63 V = v63A (V (Proc.devRef .tc main_arg0)) := by
  unfold res_main_v63 v63A
  rw [r48, r52]<;> rfl

theorem r65 : res_main_v65 V = v65A (V (Proc.devRef .tc main_arg0)) := by
  unfold res_main_v65 v65A
  rw [r54]<;> rfl

theorem r66 : res_main_v66 V = v66A (V (Proc.devRef .tc main_arg0)) := by
  unfold res_main_v66 v66A
  rw [r65]<;> rfl

theorem r71 : res_main_v71 V = v71A (V (Proc.devRef .tc main_arg0)) := by
  unfold res_main_v71 v71A
  rw [r63, r66]<;> rfl

theorem r73 : res_main_v73 V = v73A (V (Proc.devRef .tc main_arg4)) := rfl

theorem r80 : res_main_v80 V = v80A (V (Proc.devRef .tc main_arg0)) (V (Proc.devRef .tc main_arg4)) (V (Proc.devRef .tc main_arg5)) := by
  unfold res_main_v80 v80A
  rw [r71, r73]<;> rfl

theorem r83 : res_main_v83 V = v83A  := rfl

theorem r85 : res_main_v85 V = v85A (V (Proc.devRef .tc main_arg6)) := by
  unfold res_main_v85 v85A
  rw [r83]<;> rfl

theorem r92 : res_main_v92 V = v92A (V (Proc.devRef .tc main_arg0)) (V (Proc.devRef .tc main_arg4)) (V (Proc.devRef .tc main_arg5)) (V (Proc.devRef .tc main_arg6)) (V (Proc.devRef .tc main_arg7)) := by
  unfold res_main_v92 v92A
  rw [r80, r85]<;> rfl

theorem r94 : res_main_v94 V = v94A (V (Proc.devRef .tc main_arg1)) := rfl

theorem r96 : res_main_v96 V = v96A (V (Proc.devRef .tc main_arg0)) (V (Proc.devRef .tc main_arg1)) (V (Proc.devRef .tc main_arg4)) (V (Proc.devRef .tc main_arg5)) (V (Proc.devRef .tc main_arg6)) (V (Proc.devRef .tc main_arg7)) := by
  unfold res_main_v96 v96A
  rw [r92, r94]<;> rfl

theorem r97 : res_main_v97 V = v97A (V (Proc.devRef .tc main_arg0)) (V (Proc.devRef .tc main_arg1)) := by
  unfold res_main_v97 v97A
  rw [r22, r94]<;> rfl

theorem r102 : res_main_v102 V = v102A (V (Proc.devRef .tc main_arg0)) (V (Proc.devRef .tc main_arg1)) := by
  unfold res_main_v102 v102A
  rw [r97]<;> rfl

theorem r108 : res_main_v108 V = v108A (V (Proc.devRef .tc main_arg0)) (V (Proc.devRef .tc main_arg1)) (V (Proc.devRef .tc main_arg6)) := by
  unfold res_main_v108 v108A
  rw [r85, r102]<;> rfl

theorem r117 : res_main_v117 V = v117A (V (Proc.devRef .tc main_arg0)) (V (Proc.devRef .tc main_arg1)) (V (Proc.devRef .tc main_arg4)) (V (Proc.devRef .tc main_arg6)) := by
  unfold res_main_v117 v117A
  rw [r73, r108]<;> rfl

theorem r124 : res_main_v124 V = v124A (V (Proc.devRef .tc main_arg0)) (V (Proc.devRef .tc main_arg1)) (V (Proc.devRef .tc main_arg4)) (V (Proc.devRef .tc main_arg6)) := by
  unfold res_main_v124 v124A
  rw [r66, r117]<;> rfl

theorem r133 : res_main_v133 V = v133A (V (Proc.devRef .tc main_arg0)) (V (Proc.devRef .tc main_arg1)) (V (Proc.devRef .tc main_arg4)) (V (Proc.devRef .tc main_arg6)) := by
  unfold res_main_v133 v133A
  rw [r54, r63, r65, r66, r117]<;> rfl

theorem r144 : res_main_v144 V = v144A (V (Proc.devRef .tc main_arg0)) (V (Proc.devRef .tc main_arg1)) (V (Proc.devRef .tc main_arg4)) (V (Proc.devRef .tc main_arg6)) := by
  unfold res_main_v144 v144A
  rw [r124, r133]<;> rfl

theorem r155 : res_main_v155 V = v155A (V (Proc.devRef .tc main_arg0)) (V (Proc.devRef .tc main_arg1)) (V (Proc.devRef .tc main_arg4)) (V (Proc.devRef .tc main_arg6)) := by
  unfold res_main_v155 v155A
  rw [r1, r33, r144]<;> rfl

theorem r167 : res_main_v167 V = v167A (V (Proc.devRef .tc main_arg0)) (V (Proc.devRef .tc main_arg1)) (V (Proc.devRef .tc main_arg4)) (V (Proc.devRef .tc main_arg5)) (V (Proc.devRef .tc main_arg6)) (V (Proc.devRef .tc main_arg7)) := by
  unfold res_main_v167 v167A
  rw [r0, r12, r96]<;> rfl

theorem r177 : (truncf .bf16 (shapeCast _ (addf (pad S2x2048x1024 ![0, 0, 512] ![0, 0, 0] ![0, 0, 0] (addf (addf (mulf (res_main_v144 V) (res_main_v42 V)) (res_main_v155 V)) (mulf (mulf (broadcastInDim S2x2048x512 ![] bcast_S_S2x2048x512 (constant S_ .f32 0x3D372713#32)) (res_main_v155 V)) (mulf (broadcastInDim S2x2048x512 ![] bcast_S_S2x2048x512 (constant S_ .f32 0x40400000#32)) (mulf (res_main_v1 V) (res_main_v1 V))))) (constant S_ .f32 0x00000000#32) pads_S2x2048x512_S2x2048x1024_000_000_51200 h_S_) (pad S2x2048x1024 ![0, 0, 0] ![0, 0, 512] ![0, 0, 0] (addf (addf (mulf (res_main_v96 V) (res_main_v21 V)) (res_main_v167 V)) (mulf (mulf (broadcastInDim S2x2048x512 ![] bcast_S_S2x2048x512 (constant S_ .f32 0x3D372713#32)) (res_main_v167 V)) (mulf (broadcastInDim S2x2048x512 ![] bcast_S_S2x2048x512 (constant S_ .f32 0x40400000#32)) (mulf (res_main_v0 V) (res_main_v0 V))))) (constant S_ .f32 0x00000000#32) pads_S2x2048x512_S2x2048x1024_000_000_05120 h_S_)) shapeCasts_S2x2048x1024_S4096x1024) bitsLt_bf16_f32 : FVec Ideal S4096x1024 .bf16) = v177A (V (Proc.devRef .tc main_arg0)) (V (Proc.devRef .tc main_arg1)) (V (Proc.devRef .tc main_arg4)) (V (Proc.devRef .tc main_arg5)) (V (Proc.devRef .tc main_arg6)) (V (Proc.devRef .tc main_arg7)) := by
  unfold v177A
  rw [r0 V, r1 V, r21 V, r42 V, r96 V, r144 V, r155 V, r167 V] <;> rfl

theorem r178 : (shapeCast _ (broadcastInDim S1x4x128x128 ![1, 2, 3] bcast_S4x128x128_S1x4x128x128_1_2_3 (mulf (Host.dotGeneral (φ₁ := .f32) (φ₂ := .f32) dot_S4x2x16x128x128_S2x16x128x4x128_S4x128x128_123_014_4_2_0_3 none (res_main_v102 V) (res_main_v80 V)) (broadcastInDim S4x128x128 ![0, 1, 2] bcast_S1x128x128_S4x128x128_0_1_2 (res_main_v83 V)))) shapeCasts_S1x4x128x128_S4x128x128 : FVec Ideal S4x128x128 .f32) = v178A (V (Proc.devRef .tc main_arg0)) (V (Proc.devRef .tc main_arg1)) (V (Proc.devRef .tc main_arg4)) (V (Proc.devRef .tc main_arg5)) := by
  unfold v178A
  rw [r80 V, r83 V, r102 V] <;> rfl

theorem r179 : (shapeCast _ (broadcastInDim S1x4x128 ![1, 2] bcast_S4x128_S1x4x128_1_2 (transpose S4x128 [1, 0] (Host.reduceAdd (shapeCast _ (Host.reduceAdd (res_main_v97 V) (constant S_ .f32 0x00000000#32) reducesTo_S2x16x128x4x128_S128x4_d0_1_4 h_S_) shapeCasts_S128x4_S1x1x128x4x1) (constant S_ .f32 0x00000000#32) reducesTo_S1x1x128x4x1_S128x4_d0_1_4 h_S_) transposes_S128x4_S4x128_1_0)) shapeCasts_S1x4x128_S4x128 : FVec Ideal S4x128 .f32) = v179A (V (Proc.devRef .tc main_arg0)) (V (Proc.devRef .tc main_arg1)) := by
  unfold v179A
  rw [r97 V] <;> rfl

theorem r148 : (broadcastInDim S1x512 ![1] bcast_S512_S1x512_1 (shapeCast _ (Host.reduceAdd (shapeCast _ (Host.reduceAdd (mulf (res_main_v71 V) (res_main_v108 V)) (constant S_ .f32 0x00000000#32) reducesTo_S2x2048x4x128_S4x128_d0_1 h_S_) shapeCasts_S4x128_S1x1x4x128) (constant S_ .f32 0x00000000#32) reducesTo_S1x1x4x128_S4x128_d0_1 h_S_) shapeCasts_S4x128_S512) : FVec Ideal S1x512 .f32) = v148A (V (Proc.devRef .tc main_arg0)) (V (Proc.devRef .tc main_arg1)) (V (Proc.devRef .tc main_arg6)) := by
  unfold v148A
  rw [r71 V, r108 V] <;> rfl

theorem r147 : (broadcastInDim S1x512 ![1] bcast_S512_S1x512_1 (shapeCast _ (Host.reduceAdd (shapeCast _ (Host.reduceAdd (res_main_v108 V) (constant S_ .f32 0x00000000#32) reducesTo_S2x2048x4x128_S4x128_d0_1 h_S_) shapeCasts_S4x128_S1x1x4x128) (constant S_ .f32 0x00000000#32) reducesTo_S1x1x4x128_S4x128_d0_1 h_S_) shapeCasts_S4x128_S512) : FVec Ideal S1x512 .f32) = v147A (V (Proc.devRef .tc main_arg0)) (V (Proc.devRef .tc main_arg1)) (V (Proc.devRef .tc main_arg6)) := by
  unfold v147A
  rw [r108 V] <;> rfl

variable (m : (ℓ : Loc nD τ sig) → Buf (Elt Ideal) ℓ) (ρ : Dev nD → PrngReg)

theorem run_arrays : θ_run defs (onTc (τ := τ) (main (F := Ideal))) ⟨m, fun _ => 0, ρ⟩ fun r => ∀ c : Dev nD,
      r.2.mem ((c.tc : Thread nD τ).loc main_v177) = v177A (m ((c.tc : Thread nD τ).loc main_arg0)) (m ((c.tc : Thread nD τ).loc main_arg1)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_v178) = v178A (m ((c.tc : Thread nD τ).loc main_arg0)) (m ((c.tc : Thread nD τ).loc main_arg1)) (m ((c.tc : Thread nD τ).loc main_arg4)) (m ((c.tc : Thread nD τ).loc main_arg5))
      ∧ r.2.mem ((c.tc : Thread nD τ).loc main_v179) = v179A (m ((c.tc : Thread nD τ).loc main_arg0)) (m ((c.tc : Thread nD τ).loc main_arg1))
      ∧ r.2.mem ((c.tc : Thread nD τ).loc main_v148) = v148A (m ((c.tc : Thread nD τ).loc main_arg0)) (m ((c.tc : Thread nD τ).loc main_arg1)) (m ((c.tc : Thread nD τ).loc main_arg6))
      ∧ r.2.mem ((c.tc : Thread nD τ).loc main_v147) = v147A (m ((c.tc : Thread nD τ).loc main_arg0)) (m ((c.tc : Thread nD τ).loc main_arg1)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c => by
    obtain ⟨h0, h1, h2, h3, h4, k⟩ := h c
    exact ⟨h0.trans (r177 (launchContents m c)), h1.trans (r178 (launchContents m c)), h2.trans (r179 (launchContents m c)),
      h3.trans (r148 (launchContents m c)), h4.trans (r147 (launchContents m c)), k⟩) (run (F := Ideal) m ρ)

end Cert.GateReferenceIdeal.Value

end
-- ==== Proof.GateClaim.lean ====
module

public import proofs.«01_k».proof.Proof.GateEquation
public import proofs.«01_k».proof.Proof.GateRefRun
public import proofs.«01_k».proof.Defs

@[expose] public section

set_option maxRecDepth 16384

noncomputable section

open Idealize.ShloMosaic Idealize.ShloMosaic.TcCoe Idealize.SL.Sem
open Idealize.ShloMosaic.Pipeline (Dat)

namespace Cert.GateKernelIdeal.Value

open Cert.GateKernelIdeal Cert.GateKernelIdeal.Gen Cert.Reals Cert.Gate
open Cert.GateReferenceIdeal.Value (v177A v178A v179A v148A v147A v178A_at v148A_at v147A_at)

variable (m : (ℓ : Loc nD τ sig) → Buf (Elt Ideal) ℓ)
  (m' : (ℓ : Loc Cert.GateReferenceIdeal.nD Cert.GateReferenceIdeal.τ Cert.GateReferenceIdeal.sig) → Buf (Elt Ideal) ℓ)

/-- The gradients of the gate's two halves: the kernel's array is the reference's. -/
theorem out_duv_eq (c : Dev nD) (a0 : m' ((c.tc : Thread _ _).loc Cert.GateReferenceIdeal.main_arg0) = m ((c.tc : Thread nD τ).loc main_arg0)) (a1 : m' ((c.tc : Thread _ _).loc Cert.GateReferenceIdeal.main_arg1) = m ((c.tc : Thread nD τ).loc main_arg1)) (a4 : m' ((c.tc : Thread _ _).loc Cert.GateReferenceIdeal.main_arg4) = m ((c.tc : Thread nD τ).loc main_arg4)) (a5 : m' ((c.tc : Thread _ _).loc Cert.GateReferenceIdeal.main_arg5) = m ((c.tc : Thread nD τ).loc main_arg5)) (a6 : m' ((c.tc : Thread _ _).loc Cert.GateReferenceIdeal.main_arg6) = m ((c.tc : Thread nD τ).loc main_arg6)) (a7 : m' ((c.tc : Thread _ _).loc Cert.GateReferenceIdeal.main_arg7) = m ((c.tc : Thread nD τ).loc main_arg7))
    (h0 : ∀ i, IsR ((m ((c.tc : Thread nD τ).loc main_arg0) : FVec Ideal S2x2048x1024 .f32) i))
    (h1 : ∀ i, IsR ((m ((c.tc : Thread nD τ).loc main_arg1) : FVec Ideal S2x2048x1024 .f32) i))
    (h4 : ∀ i, IsR ((m ((c.tc : Thread nD τ).loc main_arg4) : FVec Ideal S1x512 .f32) i))
    (h5 : ∀ i, IsR ((m ((c.tc : Thread nD τ).loc main_arg5) : FVec Ideal S1x512 .f32) i))
    (h6 : ∀ i, IsR ((m ((c.tc : Thread nD τ).loc main_arg6) : FVec Ideal S1x4x128x128 .f32) i))
    (h7 : ∀ i, IsR ((m ((c.tc : Thread nD τ).loc main_arg7) : FVec Ideal S1x4x128 .f32) i)) :
    (dats m 0 c).arrAt 12 cfg0.N = v177A (m' ((c.tc : Thread _ _).loc Cert.GateReferenceIdeal.main_arg0)) (m' ((c.tc : Thread _ _).loc Cert.GateReferenceIdeal.main_arg1)) (m' ((c.tc : Thread _ _).loc Cert.GateReferenceIdeal.main_arg4)) (m' ((c.tc : Thread _ _).loc Cert.GateReferenceIdeal.main_arg5)) (m' ((c.tc : Thread _ _).loc Cert.GateReferenceIdeal.main_arg6)) (m' ((c.tc : Thread _ _).loc Cert.GateReferenceIdeal.main_arg7)) := by
  refine (final_duv m c).trans ?_
  rw [a0, a1, a4, a5, a6, a7]
  refine funext fun (i : S4096x1024.Idx) => ?_
  obtain ⟨i0, i1, rfl⟩ : ∃ i0 i1, i = (ix2 i0 i1 : S4096x1024.Idx) := ⟨i 0, i 1, eq_ix2 i⟩
  exact duv_eq _ _ _ _ _ _ h0 h1 h4 h5 h6 h7 i0 i1

/-- The spatial weight's gradient. -/
theorem out_dw_eq (c : Dev nD) (a0 : m' ((c.tc : Thread _ _).loc Cert.GateReferenceIdeal.main_arg0) = m ((c.tc : Thread nD τ).loc main_arg0)) (a1 : m' ((c.tc : Thread _ _).loc Cert.GateReferenceIdeal.main_arg1) = m ((c.tc : Thread nD τ).loc main_arg1)) (a4 : m' ((c.tc : Thread _ _).loc Cert.GateReferenceIdeal.main_arg4) = m ((c.tc : Thread nD τ).loc main_arg4)) (a5 : m' ((c.tc : Thread _ _).loc Cert.GateReferenceIdeal.main_arg5) = m ((c.tc : Thread nD τ).loc main_arg5)) :
    (dats m 0 c).arrAt 15 cfg0.N = v178A (m' ((c.tc : Thread _ _).loc Cert.GateReferenceIdeal.main_arg0)) (m' ((c.tc : Thread _ _).loc Cert.GateReferenceIdeal.main_arg1)) (m' ((c.tc : Thread _ _).loc Cert.GateReferenceIdeal.main_arg4)) (m' ((c.tc : Thread _ _).loc Cert.GateReferenceIdeal.main_arg5)) := by
  refine (final_w m c).trans ?_
  rw [a0, a1, a4, a5]
  refine funext fun (i : S4x128x128.Idx) => ?_
  obtain ⟨i0, i1, i2, rfl⟩ : ∃ i0 i1 i2, i = (ix3 i0 i1 i2 : S4x128x128.Idx) := ⟨i 0, i 1, i 2, eq_ix3 i⟩
  exact (v178A_at _ _ _ _ i0 i1 i2).symm

/-- The spatial bias' gradient. -/
theorem out_db_eq (c : Dev nD) (a0 : m' ((c.tc : Thread _ _).loc Cert.GateReferenceIdeal.main_arg0) = m ((c.tc : Thread nD τ).loc main_arg0)) (a1 : m' ((c.tc : Thread _ _).loc Cert.GateReferenceIdeal.main_arg1) = m ((c.tc : Thread nD τ).loc main_arg1)) :
    (dats m 0 c).arrAt 16 cfg0.N = v179A (m' ((c.tc : Thread _ _).loc Cert.GateReferenceIdeal.main_arg0)) (m' ((c.tc : Thread _ _).loc Cert.GateReferenceIdeal.main_arg1)) := by
  refine (final_d m c).trans ?_
  rw [a0, a1]
  refine funext fun (i : S4x128.Idx) => ?_
  obtain ⟨i0, i1, rfl⟩ : ∃ i0 i1, i = (ix2 i0 i1 : S4x128.Idx) := ⟨i 0, i 1, eq_ix2 i⟩
  exact dbs_eq _ _ i0 i1

/-- The norm gain's gradient. -/
theorem out_dg_eq (c : Dev nD) (a0 : m' ((c.tc : Thread _ _).loc Cert.GateReferenceIdeal.main_arg0) = m ((c.tc : Thread nD τ).loc main_arg0)) (a1 : m' ((c.tc : Thread _ _).loc Cert.GateReferenceIdeal.main_arg1) = m ((c.tc : Thread nD τ).loc main_arg1)) (a6 : m' ((c.tc : Thread _ _).loc Cert.GateReferenceIdeal.main_arg6) = m ((c.tc : Thread nD τ).loc main_arg6)) :
    (dats m 0 c).arrAt 17 cfg0.N = v148A (m' ((c.tc : Thread _ _).loc Cert.GateReferenceIdeal.main_arg0)) (m' ((c.tc : Thread _ _).loc Cert.GateReferenceIdeal.main_arg1)) (m' ((c.tc : Thread _ _).loc Cert.GateReferenceIdeal.main_arg6)) := by
  refine (final_g m c).trans ?_
  rw [a0, a1, a6]
  refine funext fun (i : S1x512.Idx) => ?_
  obtain ⟨i0, i1, rfl⟩ : ∃ i0 i1, i = (ix2 i0 i1 : S1x512.Idx) := ⟨i 0, i 1, eq_ix2 i⟩
  refine Eq.trans ?_ ((v148A_at (m ((c.tc : Thread nD τ).loc main_arg0)) (m ((c.tc : Thread nD τ).loc main_arg1)) (m ((c.tc : Thread nD τ).loc main_arg6)) i0 ⟨i1.val / 128, by omega⟩ ⟨i1.val % 128, by omega⟩).symm.trans ?_)
  · rfl
  · rw [← split_chan i1]

/-- The norm bias' gradient. -/
theorem out_dbet_eq (c : Dev nD) (a0 : m' ((c.tc : Thread _ _).loc Cert.GateReferenceIdeal.main_arg0) = m ((c.tc : Thread nD τ).loc main_arg0)) (a1 : m' ((c.tc : Thread _ _).loc Cert.GateReferenceIdeal.main_arg1) = m ((c.tc : Thread nD τ).loc main_arg1)) (a6 : m' ((c.tc : Thread _ _).loc Cert.GateReferenceIdeal.main_arg6) = m ((c.tc : Thread nD τ).loc main_arg6)) :
    (dats m 0 c).arrAt 18 cfg0.N = v147A (m' ((c.tc : Thread _ _).loc Cert.GateReferenceIdeal.main_arg0)) (m' ((c.tc : Thread _ _).loc Cert.GateReferenceIdeal.main_arg1)) (m' ((c.tc : Thread _ _).loc Cert.GateReferenceIdeal.main_arg6)) := by
  refine (final_b m c).trans ?_
  rw [a0, a1, a6]
  refine funext fun (i : S1x512.Idx) => ?_
  obtain ⟨i0, i1, rfl⟩ : ∃ i0 i1, i = (ix2 i0 i1 : S1x512.Idx) := ⟨i 0, i 1, eq_ix2 i⟩
  refine Eq.trans ?_ ((v147A_at (m ((c.tc : Thread nD τ).loc main_arg0)) (m ((c.tc : Thread nD τ).loc main_arg1)) (m ((c.tc : Thread nD τ).loc main_arg6)) i0 ⟨i1.val / 128, by omega⟩ ⟨i1.val % 128, by omega⟩).symm.trans ?_)
  · rfl
  · rw [← split_chan i1]

/-- The spatial gate's gradients: kernel and reference end with equal results. -/
theorem algebraic : Cert.algebraic_GateKernelIdeal_GateReferenceIdeal_pre_gate_finite := by
  intro m g m' g' hpre hargs
  refine ⟨fun c => v177A (m' ((c.tc : Thread _ _).loc Cert.GateReferenceIdeal.main_arg0)) (m' ((c.tc : Thread _ _).loc Cert.GateReferenceIdeal.main_arg1)) (m' ((c.tc : Thread _ _).loc Cert.GateReferenceIdeal.main_arg4)) (m' ((c.tc : Thread _ _).loc Cert.GateReferenceIdeal.main_arg5)) (m' ((c.tc : Thread _ _).loc Cert.GateReferenceIdeal.main_arg6)) (m' ((c.tc : Thread _ _).loc Cert.GateReferenceIdeal.main_arg7)),
    fun c => v178A (m' ((c.tc : Thread _ _).loc Cert.GateReferenceIdeal.main_arg0)) (m' ((c.tc : Thread _ _).loc Cert.GateReferenceIdeal.main_arg1)) (m' ((c.tc : Thread _ _).loc Cert.GateReferenceIdeal.main_arg4)) (m' ((c.tc : Thread _ _).loc Cert.GateReferenceIdeal.main_arg5)),
    fun c => v179A (m' ((c.tc : Thread _ _).loc Cert.GateReferenceIdeal.main_arg0)) (m' ((c.tc : Thread _ _).loc Cert.GateReferenceIdeal.main_arg1)),
    fun c => v148A (m' ((c.tc : Thread _ _).loc Cert.GateReferenceIdeal.main_arg0)) (m' ((c.tc : Thread _ _).loc Cert.GateReferenceIdeal.main_arg1)) (m' ((c.tc : Thread _ _).loc Cert.GateReferenceIdeal.main_arg6)),
    fun c => v147A (m' ((c.tc : Thread _ _).loc Cert.GateReferenceIdeal.main_arg0)) (m' ((c.tc : Thread _ _).loc Cert.GateReferenceIdeal.main_arg1)) (m' ((c.tc : Thread _ _).loc Cert.GateReferenceIdeal.main_arg6)),
    ?_, Cert.GateReferenceIdeal.Value.run_arrays m' g'⟩
  refine (θ_run _ _ _).mono (fun r h c => ?_) (run_blocks (F := Ideal) m g)
  obtain ⟨o0, -, -, o3, o4, o5, o6, -, -, k⟩ := h c
  obtain ⟨a0, a1, a2, a3, a4, a5, a6, a7, a8, a9, a10⟩ := hargs c
  obtain ⟨r0, r1, r4, r5, r6, r7⟩ := real_of_gate _ _ _ _ _ _ _ _ _ _ _ (hpre c)
  exact ⟨o0.trans (out_duv_eq m m' c a0 a1 a4 a5 a6 a7 r0 r1 r4 r5 r6 r7), o3.trans (out_dw_eq m m' c a0 a1 a4 a5),
    o4.trans (out_db_eq m m' c a0 a1), o5.trans (out_dg_eq m m' c a0 a1 a6), o6.trans (out_dbet_eq m m' c a0 a1 a6), k⟩

/-- The mask's constant is named minus infinity. -/
theorem preserves : Cert.preserves_GateKernel_GateKernelIdeal :=
  IdealRules.named_const.statement _ _ _ _ _ rfl

end Cert.GateKernelIdeal.Value

end
-- ==== Proof.MemBlock.lean ====
module

public import proofs.«01_k».proof.Proof.Gen.MemKernelIdeal.Value
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.MemKernelIdeal.Value

open Cert.MemKernelIdeal Cert.MemKernelIdeal.Gen

/-- The reciprocal root mean square of a token's row. -/
def rs (X : FVec Ideal S2x256x1024 .f32) (b : Fin 2) (s : Fin 256) : EReal :=
  Ideal.rsqrt (Ideal.div (∑ k : Fin 1024, X (ix3 b s k) * X (ix3 b s k)) (Ideal.ofBits .f32 0x44800000#32)
    + Ideal.ofBits .f32 0x358637BD#32)

/-- The weight's gradient at row `k` and column `j`: the sum over the memory tokens of the normed row times the keys' and values' cotangent. -/
def dw (D : FVec Ideal S2x256x512 .f32) (X : FVec Ideal S2x256x1024 .f32) (G : FVec Ideal S1x1024 .f32) (k : Fin 1024) (j : Fin 512) : EReal :=
  ∑ b : Fin 2, ∑ s : Fin 256, X (ix3 b s k) * rs X b s * G (ix2 0 k) * D (ix3 b s j)

/-- The gain's gradient. -/
def dg (D : FVec Ideal S2x256x512 .f32) (X : FVec Ideal S2x256x1024 .f32) (W : FVec Ideal S1x1024x512 .f32) (k : Fin 1024) : EReal :=
  ∑ b : Fin 2, ∑ s : Fin 256, (∑ j : Fin 512, D (ix3 b s j) * W (ix3 0 k j)) * (X (ix3 b s k) * rs X b s)

/-- The batch of a row. -/
def tb (r : Fin 512) : Fin 2 := ⟨r.val / 256, by omega⟩

/-- The position of a row. -/
def ts (r : Fin 512) : Fin 256 := ⟨r.val % 256, by omega⟩

/-- The rows are the two batches' positions. -/
theorem sum_rows (f : Fin 2 → Fin 256 → EReal) : ∑ r : Fin 512, f (tb r) (ts r) = ∑ b, ∑ s, f b s := by
  refine (Fin.sum_univ_tiles 2 256 rfl (fun r : Fin 512 => f (tb r) (ts r))).trans ?_
  refine Finset.sum_congr rfl fun b _ => Finset.sum_congr rfl fun s _ => ?_
  congr 1 <;> exact Fin.ext (by simp only [tb, ts]; omega)

section Block

variable {D : FVec Ideal S2x256x512 .f32} {X : FVec Ideal S2x256x1024 .f32} {G : FVec Ideal S1x1024 .f32} {W : FVec Ideal S1x1024x512 .f32}
variable {d : FVec Ideal S512x512 .f32} {x : FVec Ideal S512x1024 .f32} {g : FVec Ideal S1x1024 .f32} {w : FVec Ideal S1024x512 .bf16}

/-- The normed rows before the gain. -/
theorem nx_point (hx : ∀ (r : Fin 512) (k : Fin 1024), x (ix2 r k) = X (ix3 (tb r) (ts r) k)) (r : Fin 512) (k : Fin 1024) :
    k0_pay1 (F := Ideal) x (ix2 r k) = X (ix3 (tb r) (ts r) k) * rs X (tb r) (ts r) := by
  rw [rs]
  pointwise [k0_pay1]
  simp only [hx]

/-- What the point stores of the weight's gradient. -/
theorem dw_point (hd : ∀ (r : Fin 512) (k : Fin 512), d (ix2 r k) = D (ix3 (tb r) (ts r) k))
    (hx : ∀ (r : Fin 512) (k : Fin 1024), x (ix2 r k) = X (ix3 (tb r) (ts r) k)) (hg : ∀ k : Fin 1024, g (ix2 0 k) = G (ix2 0 k)) (k : Fin 1024) (j : Fin 512) :
    k0_pay3 (F := Ideal) x g d (ix2 k j) = dw D X G k j := by
  rw [dw, ← sum_rows (fun b s => X (ix3 b s k) * rs X b s * G (ix2 0 k) * D (ix3 b s j))]
  pointwise [k0_pay3, k0_pay2]
  simp only [nx_point hx, hd, hg]

/-- What the point stores of the gain's gradient. -/
theorem dg_point (hd : ∀ (r : Fin 512) (k : Fin 512), d (ix2 r k) = D (ix3 (tb r) (ts r) k))
    (hx : ∀ (r : Fin 512) (k : Fin 1024), x (ix2 r k) = X (ix3 (tb r) (ts r) k)) (hw : ∀ (k : Fin 1024) (j : Fin 512), w (ix2 k j) = W (ix3 0 k j)) (o : Fin 1) (k : Fin 1024) :
    k0_pay4 (F := Ideal) x d w (ix2 o k) = dg D X W k := by
  rw [dg, ← sum_rows (fun b s => (∑ j : Fin 512, D (ix3 b s j) * W (ix3 0 k j)) * (X (ix3 b s k) * rs X b s))]
  pointwise [k0_pay4, k0_pay2]
  simp only [nx_point hx, hd, hw]

end Block

variable (m : (ℓ : Loc nD τ sig) → Buf (Elt Ideal) ℓ)

/-- The one point's blocks are whole arrays. -/
theorem idx : ∀ t : Fin cfg0.N, win0_0.index t = ![0, 0] ∧ win0_1.index t = ![0, 0] ∧ win0_2.index t = ![0, 0] ∧ win0_3.index t = ![0, 0] ∧ win0_4.index t = ![0, 0] ∧ win0_5.index t = ![0, 0] :=
  (by decide +kernel : ∀ t : Fin grid0.N, _)

theorem in_d (c : Dev nD) (t : Fin cfg0.N) (r : Fin 512) (k : Fin 512) :
    iblk m c 0 t (ix2 r k) = m ((c : Thread nD τ).loc main_arg0) (ix3 (tb r) (ts r) k) := by
  blk_simp [iblk]
  entry_read
  pointwise
  blk_ext [idx t, tb, ts]

theorem in_x (c : Dev nD) (t : Fin cfg0.N) (r : Fin 512) (k : Fin 1024) :
    iblk m c 1 t (ix2 r k) = m ((c : Thread nD τ).loc main_arg1) (ix3 (tb r) (ts r) k) := by
  blk_simp [iblk]
  entry_read
  pointwise
  blk_ext [idx t, tb, ts]

theorem in_g (c : Dev nD) (t : Fin cfg0.N) (k : Fin 1024) :
    iblk m c 2 t (ix2 0 k) = m ((c : Thread nD τ).loc main_arg2) (ix2 0 k) := by
  blk_ext [iblk, V, idx t]

theorem in_w (c : Dev nD) (t : Fin cfg0.N) (k : Fin 1024) (j : Fin 512) :
    iblk m c 3 t (ix2 k j) = m ((c : Thread nD τ).loc main_arg3) (ix3 0 k j) := by
  blk_simp [iblk]
  entry_read
  pointwise
  blk_ext [idx t]

theorem out_dw (c : Dev nD) (t : Fin cfg0.N) (k : Fin 1024) (j : Fin 512) :
    out0_4 (iblk m c 0 t) (iblk m c 1 t) (iblk m c 2 t) (iblk m c 3 t) (ix2 k j) = dw (m ((c : Thread nD τ).loc main_arg0)) (m ((c : Thread nD τ).loc main_arg1)) (m ((c : Thread nD τ).loc main_arg2)) k j := by
  frame_out [out0_4]
  exact dw_point (in_d m c t) (in_x m c t) (in_g m c t) k j

theorem out_dg (c : Dev nD) (t : Fin cfg0.N) (o : Fin 1) (k : Fin 1024) :
    out0_5 (iblk m c 0 t) (iblk m c 1 t) (iblk m c 2 t) (iblk m c 3 t) (ix2 o k) = dg (m ((c : Thread nD τ).loc main_arg0)) (m ((c : Thread nD τ).loc main_arg1)) (m ((c : Thread nD τ).loc main_arg3)) k := by
  frame_out [out0_5]
  exact dg_point (in_d m c t) (in_x m c t) (in_w m c t) o k

/-- The grid's one point. -/
def tLast : Fin cfg0.N := ⟨0, lt_of_lt_of_eq (by omega) (N_0 : cfg0.N = 1).symm⟩

/-- The weight's gradient. -/
theorem final_dw (c : Dev nD) (i : Fin 1024) (j : Fin 512) : (dats m 0 c).arrAt 4 cfg0.N (ix2 i j : S1024x512.Idx) = dw (m ((c : Thread nD τ).loc main_arg0)) (m ((c : Thread nD τ).loc main_arg1)) (m ((c : Thread nD τ).loc main_arg2)) i j := by
  refine Eq.trans (congrFun ((dats m 0 c).arrAt_eq_of_after_last 4 tLast (by decide +kernel) (out0_4 (iblk m c 0 tLast) (iblk m c 1 tLast) (iblk m c 2 tLast) (iblk m c 3 tLast)) fun j => ?_) (ix2 i j : S1024x512.Idx)) (out_dw m c tLast i j)
  blk_simp
  rw [after0_4]

/-- The gain's gradient. -/
theorem final_dg (c : Dev nD) (i : Fin 1) (j : Fin 1024) : (dats m 0 c).arrAt 5 cfg0.N (ix2 i j : S1x1024.Idx) = dg (m ((c : Thread nD τ).loc main_arg0)) (m ((c : Thread nD τ).loc main_arg1)) (m ((c : Thread nD τ).loc main_arg3)) j := by
  refine Eq.trans (congrFun ((dats m 0 c).arrAt_eq_of_after_last 5 tLast (by decide +kernel) (out0_5 (iblk m c 0 tLast) (iblk m c 1 tLast) (iblk m c 2 tLast) (iblk m c 3 tLast)) fun j => ?_) (ix2 i j : S1x1024.Idx)) (out_dg m c tLast i j)
  blk_simp
  rw [after0_5]

end Cert.MemKernelIdeal.Value

end
-- ==== Proof.MemRef.lean ====
module

public import proofs.«01_k».proof.Proof.Gen.MemReferenceIdeal.Run
public import proofs.«01_k».proof.Proof.MemBlock
public import proofs.«01_k».proof.Proof.InRef

@[expose] public section

set_option maxRecDepth 16384

noncomputable section

open Idealize.ShloMosaic Idealize.ShloMosaic.TcCoe Idealize.SL.Sem
open Idealize.ShloMosaic.Pipeline (Dat)

namespace Cert.MemReferenceIdeal.Value

open Cert.MemReferenceIdeal Cert.MemReferenceIdeal.Gen Idealize.ShloMosaic.StableHlo
open Cert.MemKernelIdeal.Value (rs dw dg tb ts)
open Cert.InReferenceIdeal.Value (hostReduceAdd_leading)

/-! ## The reference's intermediate arrays, each read at a token -/

/-- Mean square plus the norm's epsilon, a token. -/
def msA (X : FVec Ideal S2x256x1024 .f32) : FVec Ideal S2x256x1 .f32 :=
  addf (Host.divf (broadcastInDim S2x256x1 ![0, 1] bcast_S2x256_S2x256x1_0_1 (Host.reduceAdd (mulf X X) (constant S_ .f32 0x00000000#32) reducesTo_S2x256x1024_S2x256_d2 h_S_)) (broadcastInDim S2x256x1 ![] bcast_S_S2x256x1 (constant S_ .f32 0x44800000#32)))
    (broadcastInDim S2x256x1 ![] bcast_S_S2x256x1 (constant S_ .f32 0x358637BD#32))

/-- The normed rows before the gain. -/
def nxA (X : FVec Ideal S2x256x1024 .f32) : FVec Ideal S2x256x1024 .f32 :=
  mulf X (broadcastInDim S2x256x1024 ![0, 1, 2] bcast_S2x256x1_S2x256x1024_0_1_2 (Host.rsqrt (msA X)))

/-- The gain, spread over the tokens. -/
def gA (G : FVec Ideal S1x1024 .f32) : FVec Ideal S2x256x1024 .f32 :=
  broadcastInDim S2x256x1024 ![0, 1, 2] bcast_S1x1x1024_S2x256x1024_0_1_2 (broadcastInDim S1x1x1024 ![2] bcast_S1024_S1x1x1024_2 (shapeCast _ G shapeCasts_S1x1024_S1024))

/-- The cotangent of the normed rows. -/
def dhA (D : FVec Ideal S2x256x512 .f32) (W : FVec Ideal S1x1024x512 .f32) : FVec Ideal S2x256x1024 .f32 :=
  Host.dotGeneral (φ₁ := .f32) (φ₂ := .f32) dot_S2x256x512_S1024x512_S2x256x1024_2_1_01_0_n_n none D (shapeCast _ W shapeCasts_S1x1024x512_S1024x512)

/-- The weight's gradient. -/
def dwA (D : FVec Ideal S2x256x512 .f32) (H : FVec Ideal S2x256x1024 .f32) : FVec Ideal S1024x512 .f32 :=
  shapeCast _ (broadcastInDim S1x1024x512 ![1, 2] bcast_S1024x512_S1x1024x512_1_2 (transpose S1024x512 [1, 0] (Host.dotGeneral (φ₁ := .f32) (φ₂ := .f32) dot_S2x256x512_S2x256x1024_S512x1024_01_01_2_2_n_n none D H) transposes_S512x1024_S1024x512_1_0)) shapeCasts_S1x1024x512_S1024x512

/-- The gain's gradient. -/
def dgA (N D : FVec Ideal S2x256x1024 .f32) : FVec Ideal S1x1024 .f32 :=
  broadcastInDim S1x1024 ![1] bcast_S1024_S1x1024_1 (Host.reduceAdd (shapeCast _ (Host.reduceAdd (mulf N D) (constant S_ .f32 0x00000000#32) reducesTo_S2x256x1024_S1024_d0_1 h_S_) shapeCasts_S1024_S1x1x1024) (constant S_ .f32 0x00000000#32) reducesTo_S1x1x1024_S1024_d0_1 h_S_)

variable (D : FVec Ideal S2x256x512 .f32) (X : FVec Ideal S2x256x1024 .f32) (G : FVec Ideal S1x1024 .f32) (W : FVec Ideal S1x1024x512 .f32)

theorem msA_at (b : Fin 2) (s : Fin 256) (o : Fin 1) : msA X (ix3 b s o) =
    Ideal.div (∑ k : Fin 1024, X (ix3 b s k) * X (ix3 b s k)) (Ideal.ofBits .f32 0x44800000#32) + Ideal.ofBits .f32 0x358637BD#32 := by
  pointwise [msA]

theorem nxA_at (b : Fin 2) (s : Fin 256) (k : Fin 1024) : nxA X (ix3 b s k) = X (ix3 b s k) * rs X b s := by
  unfold rs
  rw [← msA_at X b s 0]
  pointwise [nxA]

theorem gA_at (b : Fin 2) (s : Fin 256) (k : Fin 1024) : gA G (ix3 b s k) = G (ix2 0 k) := by
  pointwise [gA]

theorem dhA_at (b : Fin 2) (s : Fin 256) (k : Fin 1024) : dhA D W (ix3 b s k) = ∑ j : Fin 512, D (ix3 b s j) * W (ix3 0 k j) := by
  pointwise [dhA]

theorem dwA_at (k : Fin 1024) (j : Fin 512) : dwA D (mulf (nxA X) (gA G)) (ix2 k j) = dw D X G k j := by
  unfold dw
  pointwise [dwA]
  refine Finset.sum_congr rfl fun b _ => Finset.sum_congr rfl fun s _ => ?_
  rw [nxA_at, gA_at]
  exact mul_comm _ _

theorem dgA_at (o : Fin 1) (k : Fin 1024) : dgA (nxA X) (dhA D W) (ix2 o k) = dg D X W k := by
  unfold dg
  pointwise [dgA]
  rw [hostReduceAdd_leading, zero_add, Fin.sum_univ_one, Fin.sum_univ_one]
  pointwise
  rw [hostReduceAdd_leading, zero_add]
  pointwise
  refine Finset.sum_congr rfl fun b _ => Finset.sum_congr rfl fun s _ => ?_
  rw [nxA_at, dhA_at]
  exact mul_comm _ _

end Cert.MemReferenceIdeal.Value

end
-- ==== Proof.MemClaim.lean ====
module

public import proofs.«01_k».proof.Defs
public import proofs.«01_k».proof.Proof.MemRef

@[expose] public section

set_option maxRecDepth 16384

noncomputable section

open Idealize.ShloMosaic Idealize.ShloMosaic.TcCoe Idealize.SL.Sem
open Idealize.ShloMosaic.Pipeline (Dat)

namespace Cert.MemKernelIdeal.Value

open Cert.MemKernelIdeal Cert.MemKernelIdeal.Gen

open Cert.MemReferenceIdeal.Value (dwA dgA dhA nxA gA dwA_at dgA_at)

variable (m : (ℓ : Loc nD τ sig) → Buf (Elt Ideal) ℓ)

theorem out_dw_eq (c : Dev nD) : (dats m 0 c).arrAt 4 cfg0.N = dwA (m ((c : Thread nD τ).loc main_arg0)) (mulf (nxA (m ((c : Thread nD τ).loc main_arg1))) (gA (m ((c : Thread nD τ).loc main_arg2)))) := by
  refine funext fun (i : S1024x512.Idx) => ?_
  obtain ⟨i0, i1, rfl⟩ : ∃ i0 i1, i = (ix2 i0 i1 : S1024x512.Idx) := ⟨i 0, i 1, eq_ix2 i⟩
  exact (final_dw m c i0 i1).trans (dwA_at _ _ _ i0 i1).symm

theorem out_dg_eq (c : Dev nD) : (dats m 0 c).arrAt 5 cfg0.N = dgA (nxA (m ((c : Thread nD τ).loc main_arg1))) (dhA (m ((c : Thread nD τ).loc main_arg0)) (m ((c : Thread nD τ).loc main_arg3))) := by
  refine funext fun (i : S1x1024.Idx) => ?_
  obtain ⟨i0, i1, rfl⟩ : ∃ i0 i1, i = (ix2 i0 i1 : S1x1024.Idx) := ⟨i 0, i 1, eq_ix2 i⟩
  exact (final_dg m c i0 i1).trans (dgA_at _ _ _ i0 i1).symm

/-- The gradient of the memory's keys and values: kernel and reference end with equal results. -/
theorem algebraic : Cert.algebraic_MemKernelIdeal_MemReferenceIdeal := by
  intro m g m' g' _ hargs
  let d := fun c : Dev nD => m' ((c.tc : Thread _ _).loc Cert.MemReferenceIdeal.main_arg0)
  let x := fun c : Dev nD => m' ((c.tc : Thread _ _).loc Cert.MemReferenceIdeal.main_arg1)
  let gn := fun c : Dev nD => m' ((c.tc : Thread _ _).loc Cert.MemReferenceIdeal.main_arg2)
  let w := fun c : Dev nD => m' ((c.tc : Thread _ _).loc Cert.MemReferenceIdeal.main_arg3)
  refine ⟨fun c => dwA (d c) (mulf (nxA (x c)) (gA (gn c))), fun c => dgA (nxA (x c)) (dhA (d c) (w c)), ?_,
    Cert.MemReferenceIdeal.Value.run (F := Ideal) m' g'⟩
  refine (θ_run _ _ _).mono (fun r h c => ?_) (run_blocks (F := Ideal) m g)
  obtain ⟨h0, h1, k⟩ := h c
  obtain ⟨a0, a1, a2, a3⟩ := hargs c
  dsimp only [d, x, gn, w]
  rw [a0, a1, a2, a3]
  exact ⟨h0.trans (out_dw_eq m c), h1.trans (out_dg_eq m c), k⟩

end Cert.MemKernelIdeal.Value

end
-- ==== Proof.ProjBlock.lean ====
module

public import proofs.«01_k».proof.Proof.Gen.ProjKernelIdeal.Value
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.ProjKernelIdeal.Value

open Cert.ProjKernelIdeal Cert.ProjKernelIdeal.Gen

/-! ## The mathematics of one token -/

/-- The reciprocal root mean square of a token's row. -/
def rs (X : FVec Ideal S2x2048x1024 .f32) (b : Fin 2) (s : Fin 2048) : EReal :=
  Ideal.rsqrt (Ideal.div (∑ k : Fin 1024, X (ix3 b s k) * X (ix3 b s k)) (Ideal.ofBits .f32 0x44800000#32)
    + Ideal.ofBits .f32 0x358637BD#32)

/-- A token's projection: its normed row times column `j` of the weight. -/
def proj (X : FVec Ideal S2x2048x1024 .f32) (G : FVec Ideal S1x1024 .f32) (W : FVec Ideal S1x1024x2816 .f32)
    (b : Fin 2) (s : Fin 2048) (j : Fin 2816) : EReal :=
  ∑ k : Fin 1024, X (ix3 b s k) * rs X b s * G (ix2 0 k) * W (ix3 0 k j)

section Block

variable {X : FVec Ideal S2x2048x1024 .f32} {G : FVec Ideal S1x1024 .f32} {W : FVec Ideal S1x1024x2816 .f32}
variable {x : FVec Ideal S512x1024 .f32} {g : FVec Ideal S1x1024 .f32} {b : Fin 512 → Fin 2} {s : Fin 512 → Fin 2048}
variable (hx : ∀ (r : Fin 512) (k : Fin 1024), x (ix2 r k) = X (ix3 (b r) (s r) k)) (hg : ∀ k : Fin 1024, g (ix2 0 k) = G (ix2 0 k))
include hx hg

/-- The normed rows of a block. -/
theorem h_point (r : Fin 512) (k : Fin 1024) :
    k0_pay1 (F := Ideal) x g (ix2 r k) = X (ix3 (b r) (s r) k) * rs X (b r) (s r) * G (ix2 0 k) := by
  rw [rs]
  pointwise [k0_pay1]
  simp only [hx, hg]

/-- A block's first group of columns. -/
theorem uv_point (w : FVec Ideal S1024x1024 .bf16) (hw : ∀ j k : Fin 1024, w (ix2 j k) = W (ix3 0 k ⟨j.val, by omega⟩)) (r : Fin 512) (j : Fin 1024) :
    k0_pay2 (F := Ideal) x g w (ix2 r j) = proj X G W (b r) (s r) ⟨j.val, by omega⟩ := by
  rw [proj]
  pointwise [k0_pay2]
  simp only [h_point hx hg, hw]

/-- A block's second group of columns. -/
theorem qkv_point (w : FVec Ideal S768x1024 .bf16) (hw : ∀ (j : Fin 768) (k : Fin 1024), w (ix2 j k) = W (ix3 0 k ⟨1024 + j.val, by omega⟩)) (r : Fin 512) (j : Fin 768) :
    k0_pay3 (F := Ideal) x g w (ix2 r j) = proj X G W (b r) (s r) ⟨1024 + j.val, by omega⟩ := by
  rw [proj]
  pointwise [k0_pay3]
  simp only [h_point hx hg, hw]

/-- A block's third group of columns. -/
theorem z_point (w : FVec Ideal S1024x1024 .bf16) (hw : ∀ j k : Fin 1024, w (ix2 j k) = W (ix3 0 k ⟨1792 + j.val, by omega⟩)) (r : Fin 512) (j : Fin 1024) :
    k0_pay4 (F := Ideal) x g w (ix2 r j) = proj X G W (b r) (s r) ⟨1792 + j.val, by omega⟩ := by
  rw [proj]
  pointwise [k0_pay4]
  simp only [h_point hx hg, hw]

end Block

/-! ## The blocks of a point -/

variable (m : (ℓ : Loc nD τ sig) → Buf (Elt Ideal) ℓ)

/-- Every window's block index: the token windows move one block a point, the others stay. -/
theorem idx : ∀ t : Fin cfg0.N, win0_0.index t = ![t.val, 0] ∧ win0_1.index t = ![0, 0] ∧ win0_2.index t = ![0, 0]
    ∧ win0_3.index t = ![t.val, 0] ∧ win0_4.index t = ![t.val, 0] ∧ win0_5.index t = ![t.val, 0] ∧ t.val < 8 :=
  (by decide +kernel : ∀ t : Fin grid0.N, _)

/-- The batch of row `r` of point `t`'s block. -/
def tb (t : Fin cfg0.N) (r : Fin 512) : Fin 2 := ⟨(t.val * 512 + r.val) / 2048, by have := (idx t).2.2.2.2.2.2; omega⟩

/-- The position of row `r` of point `t`'s block. -/
def ts (t : Fin cfg0.N) (r : Fin 512) : Fin 2048 := ⟨(t.val * 512 + r.val) % 2048, by omega⟩

theorem in_x (c : Dev nD) (t : Fin cfg0.N) (r : Fin 512) (k : Fin 1024) :
    iblk m c 0 t (ix2 r k) = m ((c : Thread nD τ).loc main_arg0) (ix3 (tb t r) (ts t r) k) := by
  blk_simp [iblk]
  entry_read
  pointwise
  blk_ext [idx t, tb, ts]

theorem in_g (c : Dev nD) (t : Fin cfg0.N) (k : Fin 1024) :
    iblk m c 1 t (ix2 0 k) = m ((c : Thread nD τ).loc main_arg1) (ix2 0 k) := by
  blk_ext [iblk, V, idx t]

theorem in_w (c : Dev nD) (t : Fin cfg0.N) (j : Fin 2816) (k : Fin 1024) :
    iblk m c 2 t (ix2 j k) = m ((c : Thread nD τ).loc main_arg2) (ix3 0 k j) := by
  blk_simp [iblk]
  entry_read
  pointwise
  blk_ext [idx t]

theorem out_uv (c : Dev nD) (t : Fin cfg0.N) (r : Fin 512) (j : Fin 1024) :
    out0_3 (iblk m c 0 t) (iblk m c 1 t) (iblk m c 2 t) (ix2 r j) = proj (m ((c : Thread nD τ).loc main_arg0)) (m ((c : Thread nD τ).loc main_arg1))
      (m ((c : Thread nD τ).loc main_arg2)) (tb t r) (ts t r) ⟨j.val, by omega⟩ := by
  frame_out [out0_3]
  exact uv_point (in_x m c t) (in_g m c t) _ (fun j k => Eq.trans (by pointwise; blk_ext) (in_w m c t _ k)) r j

theorem out_qkv (c : Dev nD) (t : Fin cfg0.N) (r : Fin 512) (j : Fin 768) :
    out0_4 (iblk m c 0 t) (iblk m c 1 t) (iblk m c 2 t) (ix2 r j) = proj (m ((c : Thread nD τ).loc main_arg0)) (m ((c : Thread nD τ).loc main_arg1))
      (m ((c : Thread nD τ).loc main_arg2)) (tb t r) (ts t r) ⟨1024 + j.val, by omega⟩ := by
  frame_out [out0_4]
  exact qkv_point (in_x m c t) (in_g m c t) _ (fun j k => Eq.trans (by pointwise; blk_ext) (in_w m c t _ k)) r j

theorem out_z (c : Dev nD) (t : Fin cfg0.N) (r : Fin 512) (j : Fin 1024) :
    out0_5 (iblk m c 0 t) (iblk m c 1 t) (iblk m c 2 t) (ix2 r j) = proj (m ((c : Thread nD τ).loc main_arg0)) (m ((c : Thread nD τ).loc main_arg1))
      (m ((c : Thread nD τ).loc main_arg2)) (tb t r) (ts t r) ⟨1792 + j.val, by omega⟩ := by
  frame_out [out0_5]
  exact z_point (in_x m c t) (in_g m c t) _ (fun j k => Eq.trans (by pointwise; blk_ext) (in_w m c t _ k)) r j

end Cert.ProjKernelIdeal.Value

end
-- ==== Proof.ProjFinal.lean ====
module

public import proofs.«01_k».proof.Proof.ProjBlock

@[expose] public section

set_option maxRecDepth 16384

noncomputable section

open Idealize.ShloMosaic Idealize.ShloMosaic.TcCoe Idealize.SL.Sem
open Idealize.ShloMosaic.Pipeline (Dat)

namespace Cert.ProjKernelIdeal.Value

open Cert.ProjKernelIdeal Cert.ProjKernelIdeal.Gen

variable (m : (ℓ : Loc nD τ sig) → Buf (Elt Ideal) ℓ)

theorem proj_congr (X G W) {b b' : Fin 2} {s s' : Fin 2048} {j j' : Fin 2816} (h1 : b.val = b'.val) (h2 : s.val = s'.val)
    (h3 : j.val = j'.val) : proj X G W b s j = proj X G W b' s' j' := by
  rw [Fin.ext h1, Fin.ext h2, Fin.ext h3]

/-- The gate's inputs, row by row. -/
theorem final_uv (c : Dev nD) : (dats m 0 c).arrAt 3 cfg0.N = fun i : S4096x1024.Idx =>
    proj (m ((c : Thread nD τ).loc main_arg0)) (m ((c : Thread nD τ).loc main_arg1)) (m ((c : Thread nD τ).loc main_arg2))
      ⟨(i 0).val / 2048, by have : (i 0).val < 4096 := (i 0).isLt; omega⟩ ⟨(i 0).val % 2048, by omega⟩
      ⟨(i 1).val, by have : (i 1).val < 1024 := (i 1).isLt; omega⟩ := by
  refine (dats m 0 c).arrAt_eq_of_covers 3 _ (by decide +kernel) fun t hf y => ?_
  blk_simp
  rw [after0_3]
  have hy : y = (ix2 (y 0) (y 1) : S512x1024.Idx) := by
    funext a; revert a; exact Fin.forall_fin_two.2 ⟨rfl, rfl⟩
  rw [hy]
  refine (out_uv m c t (y 0) (y 1)).trans ?_
  obtain ⟨-, -, -, hW, -, -, -⟩ := idx t
  unfold tb ts
  refine proj_congr _ _ _ ?_ ?_ ?_
  · show _ = (win0_3.index t 0 * 512 + (y 0).val) / 2048
    rw [hW]; rfl
  · show _ = (win0_3.index t 0 * 512 + (y 0).val) % 2048
    rw [hW]; rfl
  · show (y 1).val = (win0_3.index t 1 * 1024 + (y 1).val)
    rw [hW]; show _ = (0 * 1024 + (y 1).val); rw [Nat.zero_mul, Nat.zero_add]

/-- Queries, keys and values, row by row. -/
theorem final_qkv (c : Dev nD) : (dats m 0 c).arrAt 4 cfg0.N = fun i : S4096x768.Idx =>
    proj (m ((c : Thread nD τ).loc main_arg0)) (m ((c : Thread nD τ).loc main_arg1)) (m ((c : Thread nD τ).loc main_arg2))
      ⟨(i 0).val / 2048, by have : (i 0).val < 4096 := (i 0).isLt; omega⟩ ⟨(i 0).val % 2048, by omega⟩
      ⟨1024 + (i 1).val, by have : (i 1).val < 768 := (i 1).isLt; omega⟩ := by
  refine (dats m 0 c).arrAt_eq_of_covers 4 _ (by decide +kernel) fun t hf y => ?_
  blk_simp
  rw [after0_4]
  have hy : y = (ix2 (y 0) (y 1) : S512x768.Idx) := by
    funext a; revert a; exact Fin.forall_fin_two.2 ⟨rfl, rfl⟩
  rw [hy]
  refine (out_qkv m c t (y 0) (y 1)).trans ?_
  obtain ⟨-, -, -, -, hW, -, -⟩ := idx t
  unfold tb ts
  refine proj_congr _ _ _ ?_ ?_ ?_
  · show _ = (win0_4.index t 0 * 512 + (y 0).val) / 2048
    rw [hW]; rfl
  · show _ = (win0_4.index t 0 * 512 + (y 0).val) % 2048
    rw [hW]; rfl
  · show 1024 + (y 1).val = 1024 + (win0_4.index t 1 * 768 + (y 1).val)
    rw [hW]; show _ = 1024 + (0 * 768 + (y 1).val); rw [Nat.zero_mul, Nat.zero_add]

/-- The output gate's input, row by row. -/
theorem final_z (c : Dev nD) : (dats m 0 c).arrAt 5 cfg0.N = fun i : S4096x1024.Idx =>
    proj (m ((c : Thread nD τ).loc main_arg0)) (m ((c : Thread nD τ).loc main_arg1)) (m ((c : Thread nD τ).loc main_arg2))
      ⟨(i 0).val / 2048, by have : (i 0).val < 4096 := (i 0).isLt; omega⟩ ⟨(i 0).val % 2048, by omega⟩
      ⟨1792 + (i 1).val, by have : (i 1).val < 1024 := (i 1).isLt; omega⟩ := by
  refine (dats m 0 c).arrAt_eq_of_covers 5 _ (by decide +kernel) fun t hf y => ?_
  blk_simp
  rw [after0_5]
  have hy : y = (ix2 (y 0) (y 1) : S512x1024.Idx) := by
    funext a; revert a; exact Fin.forall_fin_two.2 ⟨rfl, rfl⟩
  rw [hy]
  refine (out_z m c t (y 0) (y 1)).trans ?_
  obtain ⟨-, -, -, -, -, hW, -⟩ := idx t
  unfold tb ts
  refine proj_congr _ _ _ ?_ ?_ ?_
  · show _ = (win0_5.index t 0 * 512 + (y 0).val) / 2048
    rw [hW]; rfl
  · show _ = (win0_5.index t 0 * 512 + (y 0).val) % 2048
    rw [hW]; rfl
  · show 1792 + (y 1).val = 1792 + (win0_5.index t 1 * 1024 + (y 1).val)
    rw [hW]; show _ = 1792 + (0 * 1024 + (y 1).val); rw [Nat.zero_mul, Nat.zero_add]

end Cert.ProjKernelIdeal.Value

end
-- ==== Proof.ProjRef.lean ====
module

public import proofs.«01_k».proof.Proof.Gen.ProjReferenceIdeal.Run
public import proofs.«01_k».proof.Proof.ProjBlock

@[expose] public section

set_option maxRecDepth 16384

noncomputable section

open Idealize.ShloMosaic Idealize.ShloMosaic.TcCoe Idealize.SL.Sem
open Idealize.ShloMosaic.Pipeline (Dat)

namespace Cert.ProjReferenceIdeal.Value

open Cert.ProjReferenceIdeal Cert.ProjReferenceIdeal.Gen Idealize.ShloMosaic.StableHlo
open Cert.ProjKernelIdeal.Value (rs proj)

/-! ## The reference's intermediate arrays, each read at a token -/

/-- Mean square plus the norm's epsilon, a token. -/
def msA (X : FVec Ideal S2x2048x1024 .f32) : FVec Ideal S2x2048x1 .f32 :=
  addf (Host.divf (broadcastInDim S2x2048x1 ![0, 1] bcast_S2x2048_S2x2048x1_0_1 (Host.reduceAdd (mulf X X) (constant S_ .f32 0x00000000#32) reducesTo_S2x2048x1024_S2x2048_d2 h_S_)) (broadcastInDim S2x2048x1 ![] bcast_S_S2x2048x1 (constant S_ .f32 0x44800000#32)))
    (broadcastInDim S2x2048x1 ![] bcast_S_S2x2048x1 (constant S_ .f32 0x358637BD#32))

/-- The normed rows before the gain. -/
def nxA (X : FVec Ideal S2x2048x1024 .f32) : FVec Ideal S2x2048x1024 .f32 :=
  mulf X (broadcastInDim S2x2048x1024 ![0, 1, 2] bcast_S2x2048x1_S2x2048x1024_0_1_2 (Host.rsqrt (msA X)))

/-- The gain, spread over the tokens. -/
def gA (G : FVec Ideal S1x1024 .f32) : FVec Ideal S2x2048x1024 .f32 :=
  broadcastInDim S2x2048x1024 ![0, 1, 2] bcast_S1x1x1024_S2x2048x1024_0_1_2 (broadcastInDim S1x1x1024 ![2] bcast_S1024_S1x1x1024_2 (shapeCast _ G shapeCasts_S1x1024_S1024))

/-- The product of the normed rows with the weight. -/
def prodA (X : FVec Ideal S2x2048x1024 .f32) (G : FVec Ideal S1x1024 .f32) (W : FVec Ideal S1x1024x2816 .f32) : FVec Ideal S2x2048x2816 .f32 :=
  Host.dotGeneral (φ₁ := .f32) (φ₂ := .f32) dot_S2x2048x1024_S1024x2816_S2x2048x2816_2_0_01_1_n_n none (mulf (nxA X) (gA G)) (shapeCast _ W shapeCasts_S1x1024x2816_S1024x2816)

/-- The gate's inputs, flat over the tokens. -/
def uvA (X : FVec Ideal S2x2048x1024 .f32) (G : FVec Ideal S1x1024 .f32) (W : FVec Ideal S1x1024x2816 .f32) : FVec Ideal S4096x1024 .f32 :=
  shapeCast _ (extractStridedSlice S2x2048x1024 ![0, 0, 0] (prodA X G W) slices_S2x2048x2816_S2x2048x1024_0_0_0) shapeCasts_S2x2048x1024_S4096x1024

/-- Queries, keys and values, flat over the tokens. -/
def qkvA (X : FVec Ideal S2x2048x1024 .f32) (G : FVec Ideal S1x1024 .f32) (W : FVec Ideal S1x1024x2816 .f32) : FVec Ideal S4096x768 .bf16 :=
  truncf .bf16 (shapeCast _ (extractStridedSlice S2x2048x768 ![0, 0, 1024] (prodA X G W) slices_S2x2048x2816_S2x2048x768_0_0_1024) shapeCasts_S2x2048x768_S4096x768) bitsLt_bf16_f32

/-- The output gate's input, flat over the tokens. -/
def zA (X : FVec Ideal S2x2048x1024 .f32) (G : FVec Ideal S1x1024 .f32) (W : FVec Ideal S1x1024x2816 .f32) : FVec Ideal S4096x1024 .f32 :=
  shapeCast _ (extractStridedSlice S2x2048x1024 ![0, 0, 1792] (prodA X G W) slices_S2x2048x2816_S2x2048x1024_0_0_1792) shapeCasts_S2x2048x1024_S4096x1024

variable (X : FVec Ideal S2x2048x1024 .f32) (G : FVec Ideal S1x1024 .f32) (W : FVec Ideal S1x1024x2816 .f32)

theorem msA_at (b : Fin 2) (s : Fin 2048) (o : Fin 1) : msA X (ix3 b s o) =
    Ideal.div (∑ k : Fin 1024, X (ix3 b s k) * X (ix3 b s k)) (Ideal.ofBits .f32 0x44800000#32) + Ideal.ofBits .f32 0x358637BD#32 := by
  pointwise [msA]

theorem nxA_at (b : Fin 2) (s : Fin 2048) (k : Fin 1024) : nxA X (ix3 b s k) = X (ix3 b s k) * rs X b s := by
  unfold rs
  rw [← msA_at X b s 0]
  pointwise [nxA]

theorem gA_at (b : Fin 2) (s : Fin 2048) (k : Fin 1024) : gA G (ix3 b s k) = G (ix2 0 k) := by
  pointwise [gA]

theorem prodA_at (b : Fin 2) (s : Fin 2048) (j : Fin 2816) : prodA X G W (ix3 b s j) = proj X G W b s j := by
  unfold proj
  pointwise [prodA]
  simp only [nxA_at, gA_at]

theorem uvA_at (i : Fin 4096) (j : Fin 1024) : uvA X G W (ix2 i j) = proj X G W ⟨i.val / 2048, by omega⟩ ⟨i.val % 2048, by omega⟩ ⟨j.val, by omega⟩ := by
  rw [← prodA_at]
  pointwise [uvA]

theorem qkvA_at (i : Fin 4096) (j : Fin 768) : qkvA X G W (ix2 i j) = proj X G W ⟨i.val / 2048, by omega⟩ ⟨i.val % 2048, by omega⟩ ⟨1024 + j.val, by omega⟩ := by
  rw [← prodA_at]
  pointwise [qkvA]

theorem zA_at (i : Fin 4096) (j : Fin 1024) : zA X G W (ix2 i j) = proj X G W ⟨i.val / 2048, by omega⟩ ⟨i.val % 2048, by omega⟩ ⟨1792 + j.val, by omega⟩ := by
  rw [← prodA_at]
  pointwise [zA]

end Cert.ProjReferenceIdeal.Value

end
-- ==== Proof.ProjClaim.lean ====
module

public import proofs.«01_k».proof.Defs
public import proofs.«01_k».proof.Proof.ProjFinal
public import proofs.«01_k».proof.Proof.ProjRef

@[expose] public section

set_option maxRecDepth 16384

noncomputable section

open Idealize.ShloMosaic Idealize.ShloMosaic.TcCoe Idealize.SL.Sem
open Idealize.ShloMosaic.Pipeline (Dat)

namespace Cert.ProjKernelIdeal.Value

open Cert.ProjKernelIdeal Cert.ProjKernelIdeal.Gen
open Cert.ProjReferenceIdeal.Value (uvA qkvA zA uvA_at qkvA_at zA_at)

variable (m : (ℓ : Loc nD τ sig) → Buf (Elt Ideal) ℓ)

theorem out_uv_eq (c : Dev nD) : (dats m 0 c).arrAt 3 cfg0.N = uvA (m ((c : Thread nD τ).loc main_arg0)) (m ((c : Thread nD τ).loc main_arg1)) (m ((c : Thread nD τ).loc main_arg2)) := by
  refine (final_uv m c).trans (funext fun (i : S4096x1024.Idx) => ?_)
  obtain ⟨i0, i1, rfl⟩ : ∃ i0 i1, i = (ix2 i0 i1 : S4096x1024.Idx) := ⟨i 0, i 1, eq_ix2 i⟩
  exact (uvA_at _ _ _ i0 i1).symm

theorem out_qkv_eq (c : Dev nD) : (dats m 0 c).arrAt 4 cfg0.N = qkvA (m ((c : Thread nD τ).loc main_arg0)) (m ((c : Thread nD τ).loc main_arg1)) (m ((c : Thread nD τ).loc main_arg2)) := by
  refine (final_qkv m c).trans (funext fun (i : S4096x768.Idx) => ?_)
  obtain ⟨i0, i1, rfl⟩ : ∃ i0 i1, i = (ix2 i0 i1 : S4096x768.Idx) := ⟨i 0, i 1, eq_ix2 i⟩
  exact (qkvA_at _ _ _ i0 i1).symm

theorem out_z_eq (c : Dev nD) : (dats m 0 c).arrAt 5 cfg0.N = zA (m ((c : Thread nD τ).loc main_arg0)) (m ((c : Thread nD τ).loc main_arg1)) (m ((c : Thread nD τ).loc main_arg2)) := by
  refine (final_z m c).trans (funext fun (i : S4096x1024.Idx) => ?_)
  obtain ⟨i0, i1, rfl⟩ : ∃ i0 i1, i = (ix2 i0 i1 : S4096x1024.Idx) := ⟨i 0, i 1, eq_ix2 i⟩
  exact (zA_at _ _ _ i0 i1).symm

/-- The forward input projection: kernel and reference end with equal results. -/
theorem algebraic : Cert.algebraic_ProjKernelIdeal_ProjReferenceIdeal := by
  intro m g m' g' _ hargs
  let x := fun c : Dev nD => m' ((c.tc : Thread _ _).loc Cert.ProjReferenceIdeal.main_arg0)
  let gn := fun c : Dev nD => m' ((c.tc : Thread _ _).loc Cert.ProjReferenceIdeal.main_arg1)
  let w := fun c : Dev nD => m' ((c.tc : Thread _ _).loc Cert.ProjReferenceIdeal.main_arg2)
  refine ⟨fun c => uvA (x c) (gn c) (w c), fun c => qkvA (x c) (gn c) (w c), fun c => zA (x c) (gn c) (w c), ?_,
    Cert.ProjReferenceIdeal.Value.run (F := Ideal) m' g'⟩
  refine (θ_run _ _ _).mono (fun r h c => ?_) (run_blocks (F := Ideal) m g)
  obtain ⟨h0, h1, h2, k⟩ := h c
  obtain ⟨a0, a1, a2⟩ := hargs c
  dsimp only [x, gn, w]
  rw [a0, a1, a2]
  exact ⟨h0.trans (out_uv_eq m c), h1.trans (out_qkv_eq m c), h2.trans (out_z_eq m c), k⟩

end Cert.ProjKernelIdeal.Value

end
-- ==== Proof.KeysBlock.lean ====
module

public import proofs.«01_k».proof.Proof.Gen.KeysKernelIdeal.Value
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.KeysKernelIdeal.Value

open Cert.KeysKernelIdeal Cert.KeysKernelIdeal.Gen

/-- The reciprocal root mean square of a token's row. -/
def rs (X : FVec Ideal S2x256x1024 .f32) (b : Fin 2) (s : Fin 256) : EReal :=
  Ideal.rsqrt (Ideal.div (∑ k : Fin 1024, X (ix3 b s k) * X (ix3 b s k)) (Ideal.ofBits .f32 0x44800000#32)
    + Ideal.ofBits .f32 0x358637BD#32)

/-- A memory token's keys and values: its normed row times column `j` of the weight. -/
def proj (X : FVec Ideal S2x256x1024 .f32) (G : FVec Ideal S1x1024 .f32) (W : FVec Ideal S1x1024x512 .f32)
    (b : Fin 2) (s : Fin 256) (j : Fin 512) : EReal :=
  ∑ k : Fin 1024, X (ix3 b s k) * rs X b s * G (ix2 0 k) * W (ix3 0 k j)

/-- What the point stores. -/
theorem kv_point {X : FVec Ideal S2x256x1024 .f32} {G : FVec Ideal S1x1024 .f32} {W : FVec Ideal S1x1024x512 .f32}
    {x : FVec Ideal S512x1024 .f32} {g : FVec Ideal S1x1024 .f32} {w : FVec Ideal S1024x512 .bf16} {b : Fin 512 → Fin 2} {s : Fin 512 → Fin 256}
    (hx : ∀ (r : Fin 512) (k : Fin 1024), x (ix2 r k) = X (ix3 (b r) (s r) k)) (hg : ∀ k : Fin 1024, g (ix2 0 k) = G (ix2 0 k))
    (hw : ∀ (k : Fin 1024) (j : Fin 512), w (ix2 k j) = W (ix3 0 k j)) (r : Fin 512) (j : Fin 512) :
    k0_pay1 (F := Ideal) x g w (ix2 r j) = proj X G W (b r) (s r) j := by
  simp only [proj, rs]
  pointwise [k0_pay1]
  simp only [hx, hg, hw]

/-- The batch of a row. -/
def tb (r : Fin 512) : Fin 2 := ⟨r.val / 256, by omega⟩

/-- The position of a row. -/
def ts (r : Fin 512) : Fin 256 := ⟨r.val % 256, by omega⟩

variable (m : (ℓ : Loc nD τ sig) → Buf (Elt Ideal) ℓ)

/-- The one point's blocks are whole arrays. -/
theorem idx : ∀ t : Fin cfg0.N, win0_0.index t = ![0, 0] ∧ win0_1.index t = ![0, 0] ∧ win0_2.index t = ![0, 0] ∧ win0_3.index t = ![0, 0] :=
  (by decide +kernel : ∀ t : Fin grid0.N, _)

theorem in_x (c : Dev nD) (t : Fin cfg0.N) (r : Fin 512) (k : Fin 1024) :
    iblk m c 0 t (ix2 r k) = m ((c : Thread nD τ).loc main_arg0) (ix3 (tb r) (ts r) k) := by
  blk_simp [iblk]
  entry_read
  pointwise
  blk_ext [idx t, tb, ts]

theorem in_g (c : Dev nD) (t : Fin cfg0.N) (k : Fin 1024) :
    iblk m c 1 t (ix2 0 k) = m ((c : Thread nD τ).loc main_arg1) (ix2 0 k) := by
  blk_ext [iblk, V, idx t]

theorem in_w (c : Dev nD) (t : Fin cfg0.N) (k : Fin 1024) (j : Fin 512) :
    iblk m c 2 t (ix2 k j) = m ((c : Thread nD τ).loc main_arg2) (ix3 0 k j) := by
  blk_simp [iblk]
  entry_read
  pointwise
  blk_ext [idx t]

theorem out_kv (c : Dev nD) (t : Fin cfg0.N) (r : Fin 512) (j : Fin 512) :
    out0_3 (iblk m c 0 t) (iblk m c 1 t) (iblk m c 2 t) (ix2 r j) = proj (m ((c : Thread nD τ).loc main_arg0)) (m ((c : Thread nD τ).loc main_arg1)) (m ((c : Thread nD τ).loc main_arg2)) (tb r) (ts r) j := by
  frame_out [out0_3]
  exact kv_point (in_x m c t) (in_g m c t) (in_w m c t) r j

/-- The grid's one point. -/
def tLast : Fin cfg0.N := ⟨0, lt_of_lt_of_eq (by omega) (N_0 : cfg0.N = 1).symm⟩

/-- The keys and values of the memory, row by row. -/
theorem final_kv (c : Dev nD) (i : Fin 512) (j : Fin 512) : (dats m 0 c).arrAt 3 cfg0.N (ix2 i j : S512x512.Idx) = proj (m ((c : Thread nD τ).loc main_arg0)) (m ((c : Thread nD τ).loc main_arg1)) (m ((c : Thread nD τ).loc main_arg2)) (tb i) (ts i) j := by
  refine Eq.trans (congrFun ((dats m 0 c).arrAt_eq_of_after_last 3 tLast (by decide +kernel) (out0_3 (iblk m c 0 tLast) (iblk m c 1 tLast) (iblk m c 2 tLast)) fun j => ?_) (ix2 i j : S512x512.Idx)) (out_kv m c tLast i j)
  blk_simp
  rw [after0_3]

end Cert.KeysKernelIdeal.Value

end
-- ==== Proof.KeysRef.lean ====
module

public import proofs.«01_k».proof.Proof.Gen.KeysReferenceIdeal.Run
public import proofs.«01_k».proof.Proof.KeysBlock

@[expose] public section

set_option maxRecDepth 16384

noncomputable section

open Idealize.ShloMosaic Idealize.ShloMosaic.TcCoe Idealize.SL.Sem
open Idealize.ShloMosaic.Pipeline (Dat)

namespace Cert.KeysReferenceIdeal.Value

open Cert.KeysReferenceIdeal Cert.KeysReferenceIdeal.Gen Idealize.ShloMosaic.StableHlo
open Cert.KeysKernelIdeal.Value (rs proj tb ts)

/-! ## The reference's intermediate arrays, each read at a token -/

/-- Mean square plus the norm's epsilon, a token. -/
def msA (X : FVec Ideal S2x256x1024 .f32) : FVec Ideal S2x256x1 .f32 :=
  addf (Host.divf (broadcastInDim S2x256x1 ![0, 1] bcast_S2x256_S2x256x1_0_1 (Host.reduceAdd (mulf X X) (constant S_ .f32 0x00000000#32) reducesTo_S2x256x1024_S2x256_d2 h_S_)) (broadcastInDim S2x256x1 ![] bcast_S_S2x256x1 (constant S_ .f32 0x44800000#32)))
    (broadcastInDim S2x256x1 ![] bcast_S_S2x256x1 (constant S_ .f32 0x358637BD#32))

/-- The normed rows before the gain. -/
def nxA (X : FVec Ideal S2x256x1024 .f32) : FVec Ideal S2x256x1024 .f32 :=
  mulf X (broadcastInDim S2x256x1024 ![0, 1, 2] bcast_S2x256x1_S2x256x1024_0_1_2 (Host.rsqrt (msA X)))

/-- The gain, spread over the tokens. -/
def gA (G : FVec Ideal S1x1024 .f32) : FVec Ideal S2x256x1024 .f32 :=
  broadcastInDim S2x256x1024 ![0, 1, 2] bcast_S1x1x1024_S2x256x1024_0_1_2 (broadcastInDim S1x1x1024 ![2] bcast_S1024_S1x1x1024_2 (shapeCast _ G shapeCasts_S1x1024_S1024))

/-- The product of the normed rows with the weight. -/
def prodA (X : FVec Ideal S2x256x1024 .f32) (G : FVec Ideal S1x1024 .f32) (W : FVec Ideal S1x1024x512 .f32) : FVec Ideal S2x256x512 .f32 :=
  Host.dotGeneral (φ₁ := .f32) (φ₂ := .f32) dot_S2x256x1024_S1024x512_S2x256x512_2_0_01_1_n_n none (mulf (nxA X) (gA G)) (shapeCast _ W shapeCasts_S1x1024x512_S1024x512)

/-- Keys and values, flat over the tokens. -/
def kvA (X : FVec Ideal S2x256x1024 .f32) (G : FVec Ideal S1x1024 .f32) (W : FVec Ideal S1x1024x512 .f32) : FVec Ideal S512x512 .bf16 :=
  truncf .bf16 (shapeCast _ (prodA X G W) shapeCasts_S2x256x512_S512x512) bitsLt_bf16_f32

variable (X : FVec Ideal S2x256x1024 .f32) (G : FVec Ideal S1x1024 .f32) (W : FVec Ideal S1x1024x512 .f32)

theorem msA_at (b : Fin 2) (s : Fin 256) (o : Fin 1) : msA X (ix3 b s o) =
    Ideal.div (∑ k : Fin 1024, X (ix3 b s k) * X (ix3 b s k)) (Ideal.ofBits .f32 0x44800000#32) + Ideal.ofBits .f32 0x358637BD#32 := by
  pointwise [msA]

theorem nxA_at (b : Fin 2) (s : Fin 256) (k : Fin 1024) : nxA X (ix3 b s k) = X (ix3 b s k) * rs X b s := by
  unfold rs
  rw [← msA_at X b s 0]
  pointwise [nxA]

theorem gA_at (b : Fin 2) (s : Fin 256) (k : Fin 1024) : gA G (ix3 b s k) = G (ix2 0 k) := by
  pointwise [gA]

theorem prodA_at (b : Fin 2) (s : Fin 256) (j : Fin 512) : prodA X G W (ix3 b s j) = proj X G W b s j := by
  unfold proj
  pointwise [prodA]
  simp only [nxA_at, gA_at]

theorem kvA_at (i : Fin 512) (j : Fin 512) : kvA X G W (ix2 i j) = proj X G W (tb i) (ts i) j := by
  rw [← prodA_at]
  pointwise [kvA]
  rfl

end Cert.KeysReferenceIdeal.Value

end
-- ==== Proof.KeysClaim.lean ====
module

public import proofs.«01_k».proof.Defs
public import proofs.«01_k».proof.Proof.KeysRef

@[expose] public section

set_option maxRecDepth 16384

noncomputable section

open Idealize.ShloMosaic Idealize.ShloMosaic.TcCoe Idealize.SL.Sem
open Idealize.ShloMosaic.Pipeline (Dat)

namespace Cert.KeysKernelIdeal.Value

open Cert.KeysKernelIdeal Cert.KeysKernelIdeal.Gen

open Cert.KeysReferenceIdeal.Value (kvA kvA_at)

variable (m : (ℓ : Loc nD τ sig) → Buf (Elt Ideal) ℓ)

theorem out_kv_eq (c : Dev nD) : (dats m 0 c).arrAt 3 cfg0.N = kvA (m ((c : Thread nD τ).loc main_arg0)) (m ((c : Thread nD τ).loc main_arg1)) (m ((c : Thread nD τ).loc main_arg2)) := by
  refine funext fun (i : S512x512.Idx) => ?_
  obtain ⟨i0, i1, rfl⟩ : ∃ i0 i1, i = (ix2 i0 i1 : S512x512.Idx) := ⟨i 0, i 1, eq_ix2 i⟩
  exact (final_kv m c i0 i1).trans (kvA_at _ _ _ i0 i1).symm

/-- The memory's keys and values: kernel and reference end with equal results. -/
theorem algebraic : Cert.algebraic_KeysKernelIdeal_KeysReferenceIdeal := by
  intro m g m' g' _ hargs
  let x := fun c : Dev nD => m' ((c.tc : Thread _ _).loc Cert.KeysReferenceIdeal.main_arg0)
  let gn := fun c : Dev nD => m' ((c.tc : Thread _ _).loc Cert.KeysReferenceIdeal.main_arg1)
  let w := fun c : Dev nD => m' ((c.tc : Thread _ _).loc Cert.KeysReferenceIdeal.main_arg2)
  refine ⟨fun c => kvA (x c) (gn c) (w c), ?_, Cert.KeysReferenceIdeal.Value.run (F := Ideal) m' g'⟩
  refine (θ_run _ _ _).mono (fun r h c => ?_) (run_blocks (F := Ideal) m g)
  obtain ⟨h0, k⟩ := h c
  obtain ⟨a0, a1, a2⟩ := hargs c
  dsimp only [x, gn, w]
  rw [a0, a1, a2]
  exact ⟨h0.trans (out_kv_eq m c), k⟩

end Cert.KeysKernelIdeal.Value

end
-- ==== Proof.lean ====
module

public import proofs.«01_k».proof.Defs
public import proofs.«01_k».proof.Proof.Gen.InKernel.Frame
public import proofs.«01_k».proof.Proof.Gen.InKernelIdeal.Frame
public import proofs.«01_k».proof.Proof.Gen.InKernelIdeal.Value
public import proofs.«01_k».proof.Proof.Gen.InReferenceIdeal.Run
public import proofs.«01_k».proof.Proof.Gen.GateKernel.Frame
public import proofs.«01_k».proof.Proof.Gen.GateKernelIdeal.Frame
public import proofs.«01_k».proof.Proof.Gen.GateKernelIdeal.Value
public import proofs.«01_k».proof.Proof.Gen.GateReferenceIdeal.Run
public import proofs.«01_k».proof.Proof.Gen.MemKernel.Frame
public import proofs.«01_k».proof.Proof.Gen.MemKernelIdeal.Frame
public import proofs.«01_k».proof.Proof.Gen.MemKernelIdeal.Value
public import proofs.«01_k».proof.Proof.Gen.MemReferenceIdeal.Run
public import proofs.«01_k».proof.Proof.Gen.ProjKernel.Frame
public import proofs.«01_k».proof.Proof.Gen.ProjKernelIdeal.Frame
public import proofs.«01_k».proof.Proof.Gen.ProjKernelIdeal.Value
public import proofs.«01_k».proof.Proof.Gen.ProjReferenceIdeal.Run
public import proofs.«01_k».proof.Proof.Gen.KeysKernel.Frame
public import proofs.«01_k».proof.Proof.Gen.KeysKernelIdeal.Frame
public import proofs.«01_k».proof.Proof.Gen.KeysKernelIdeal.Value
public import proofs.«01_k».proof.Proof.Gen.KeysReferenceIdeal.Run
public import proofs.«01_k».proof.Proof.Gen.Pre_in_finite
public import proofs.«01_k».proof.Proof.Gen.Pre_gate_finite
public import proofs.«01_k».proof.Proof.InClaim
public import proofs.«01_k».proof.Proof.GateClaim
public import proofs.«01_k».proof.Proof.MemClaim
public import proofs.«01_k».proof.Proof.ProjClaim
public import proofs.«01_k».proof.Proof.KeysClaim

@[expose] public section

noncomputable section

open Idealize.ShloMosaic

namespace Cert.Proof

/-- The reference's arguments end unchanged, and it has no semaphore. -/
theorem frame_in_reference : Cert.quiescent_InReferenceIdeal (hInReferenceIdeal := Cert.InReferenceIdeal.Gen.facts) := fun m ρ _ =>
  (θ_run Cert.InReferenceIdeal.defs _ _).mono (fun r h => ⟨fun c => (h c).2.2.2, sem_eq_zero_of_no_sems (by decide) r.2⟩) (Cert.InReferenceIdeal.Value.run m ρ)

/-- The same of the gate's reference. -/
theorem frame_gate_reference : Cert.quiescent_GateReferenceIdeal (hGateReferenceIdeal := Cert.GateReferenceIdeal.Gen.facts) := fun m ρ _ =>
  (θ_run Cert.GateReferenceIdeal.defs _ _).mono (fun r h => ⟨fun c => (h c).2.2.2.2.2, sem_eq_zero_of_no_sems (by decide) r.2⟩)
    (Cert.GateReferenceIdeal.Value.run m ρ)

/-- The same of the memory's gradient's reference. -/
theorem frame_mem_reference : Cert.quiescent_MemReferenceIdeal (hMemReferenceIdeal := Cert.MemReferenceIdeal.Gen.facts) := fun m ρ _ =>
  (θ_run Cert.MemReferenceIdeal.defs _ _).mono (fun r h => ⟨fun c => (h c).2.2, sem_eq_zero_of_no_sems (by decide) r.2⟩)
    (Cert.MemReferenceIdeal.Value.run m ρ)

/-- The same of the input projection's reference. -/
theorem frame_proj_reference : Cert.quiescent_ProjReferenceIdeal (hProjReferenceIdeal := Cert.ProjReferenceIdeal.Gen.facts) := fun m ρ _ =>
  (θ_run Cert.ProjReferenceIdeal.defs _ _).mono (fun r h => ⟨fun c => (h c).2.2.2, sem_eq_zero_of_no_sems (by decide) r.2⟩)
    (Cert.ProjReferenceIdeal.Value.run m ρ)

/-- The same of the memory's keys' and values' reference. -/
theorem frame_keys_reference : Cert.quiescent_KeysReferenceIdeal (hKeysReferenceIdeal := Cert.KeysReferenceIdeal.Gen.facts) := fun m ρ _ =>
  (θ_run Cert.KeysReferenceIdeal.defs _ _).mono (fun r h => ⟨fun c => (h c).2, sem_eq_zero_of_no_sems (by decide) r.2⟩)
    (Cert.KeysReferenceIdeal.Value.run m ρ)

theorem claim : Cert.Claim :=
  ⟨Cert.InKernel.Gen.facts, Cert.InKernelIdeal.Gen.facts, Cert.InReferenceIdeal.Gen.facts,
    Cert.GateKernel.Gen.facts, Cert.GateKernelIdeal.Gen.facts, Cert.GateReferenceIdeal.Gen.facts,
    Cert.MemKernel.Gen.facts, Cert.MemKernelIdeal.Gen.facts, Cert.MemReferenceIdeal.Gen.facts,
    Cert.ProjKernel.Gen.facts, Cert.ProjKernelIdeal.Gen.facts, Cert.ProjReferenceIdeal.Gen.facts,
    Cert.KeysKernel.Gen.facts, Cert.KeysKernelIdeal.Gen.facts, Cert.KeysReferenceIdeal.Gen.facts,
    Cert.Pre_in_finite.Gen.facts, Cert.Pre_gate_finite.Gen.facts,
    fun m ρ _ => Cert.InKernel.Gen.frame m ρ, fun m ρ _ => Cert.InKernelIdeal.Gen.frame m ρ, fun m ρ _ => Cert.InKernelIdeal.Gen.frame m ρ,
    frame_in_reference, fun m ρ _ => frame_in_reference m ρ trivial,
    fun m ρ _ => Cert.GateKernel.Gen.frame m ρ, fun m ρ _ => Cert.GateKernelIdeal.Gen.frame m ρ, fun m ρ _ => Cert.GateKernelIdeal.Gen.frame m ρ,
    frame_gate_reference, fun m ρ _ => frame_gate_reference m ρ trivial,
    fun m ρ _ => Cert.MemKernel.Gen.frame m ρ, fun m ρ _ => Cert.MemKernelIdeal.Gen.frame m ρ, frame_mem_reference,
    fun m ρ _ => Cert.ProjKernel.Gen.frame m ρ, fun m ρ _ => Cert.ProjKernelIdeal.Gen.frame m ρ, frame_proj_reference,
    fun m ρ _ => Cert.KeysKernel.Gen.frame m ρ, fun m ρ _ => Cert.KeysKernelIdeal.Gen.frame m ρ, frame_keys_reference,
    trivial, Cert.InKernelIdeal.Value.algebraic,
    Cert.GateKernelIdeal.Value.preserves, Cert.GateKernelIdeal.Value.algebraic,
    trivial, Cert.MemKernelIdeal.Value.algebraic,
    trivial, Cert.ProjKernelIdeal.Value.algebraic,
    trivial, Cert.KeysKernelIdeal.Value.algebraic⟩

end Cert.Proof

end
